-- ==== Defs.lean ====
def Pre_Kernel [hPre_short_cache : Cert.Pre_short_cache.Facts] (m : (ℓ : Loc Cert.Kernel.nD Cert.Kernel.τ Cert.Kernel.sig) → Buf (Elt Bits) ℓ) : Prop :=
  ∀ c : Dev Cert.Kernel.nD,
    (Cert.Pre_short_cache.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_short_cache : Cert.Pre_short_cache.Facts] (m : (ℓ : Loc Cert.KernelIdeal.nD Cert.KernelIdeal.τ Cert.KernelIdeal.sig) → Buf (Elt Ideal) ℓ) : Prop :=
  ∀ c : Dev Cert.KernelIdeal.nD,
    (Cert.Pre_short_cache.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_finite_keys [hPre_finite_keys : Cert.Pre_finite_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_keys [hPre_finite_keys : Cert.Pre_finite_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_short_cache : Cert.Pre_short_cache.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_short_cache : Cert.Pre_short_cache.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_keys [hKernelIdeal : Cert.KernelIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_keys [hReferenceIdeal : Cert.ReferenceIdeal.Facts] [hPre_finite_keys : Cert.Pre_finite_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale" .f32 0x3E38AA3B#32 (((1 / 8) * (Real.log 2)⁻¹ : ℝ) : EReal)

def algebraic_KernelIdeal_ReferenceIdeal_pre_finite_keys [hKernelIdeal : Cert.KernelIdeal.Facts] [hReferenceIdeal : Cert.ReferenceIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v36)) (v2 : (c : Dev Cert.KernelIdeal.nD) → Buf (Elt Ideal) ((c.tc : Thread Cert.KernelIdeal.nD Cert.KernelIdeal.τ).loc Cert.KernelIdeal.main_v38)) (v3 : (c : Dev Cert.KernelIdeal.nD) → Buf (Elt Ideal) ((c.tc : Thread Cert.KernelIdeal.nD Cert.KernelIdeal.τ).loc Cert.KernelIdeal.main_v40)) (v4 : (c : Dev Cert.KernelIdeal.nD) → Buf (Elt Ideal) ((c.tc : Thread Cert.KernelIdeal.nD Cert.KernelIdeal.τ).loc Cert.KernelIdeal.main_v41)) (v5 : (c : Dev Cert.KernelIdeal.nD) → Buf (Elt Ideal) ((c.tc : Thread Cert.KernelIdeal.nD Cert.KernelIdeal.τ).loc Cert.KernelIdeal.main_v43)) (v6 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_v38) = v2 c
          ∧ r.2.mem ((c.tc : Thread Cert.KernelIdeal.nD Cert.KernelIdeal.τ).loc Cert.KernelIdeal.main_v40) = v3 c
          ∧ r.2.mem ((c.tc : Thread Cert.KernelIdeal.nD Cert.KernelIdeal.τ).loc Cert.KernelIdeal.main_v41) = v4 c
          ∧ r.2.mem ((c.tc : Thread Cert.KernelIdeal.nD Cert.KernelIdeal.τ).loc Cert.KernelIdeal.main_v43) = v5 c
          ∧ r.2.mem ((c.tc : Thread Cert.KernelIdeal.nD Cert.KernelIdeal.τ).loc Cert.KernelIdeal.main_v45) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v211) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_v10) = v3 c
          ∧ r.2.mem ((c.tc : Thread Cert.ReferenceIdeal.nD Cert.ReferenceIdeal.τ).loc Cert.ReferenceIdeal.main_v57) = v4 c
          ∧ r.2.mem ((c.tc : Thread Cert.ReferenceIdeal.nD Cert.ReferenceIdeal.τ).loc Cert.ReferenceIdeal.main_v38) = v5 c
          ∧ r.2.mem ((c.tc : Thread Cert.ReferenceIdeal.nD Cert.ReferenceIdeal.τ).loc Cert.ReferenceIdeal.main_v39) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_short_cache : Cert.Pre_short_cache.Facts) (hPre_finite_keys : Cert.Pre_finite_keys.Facts),
    quiescent_Kernel (hKernel := hKernel) (hPre_short_cache := hPre_short_cache)
    ∧ quiescent_KernelIdeal (hKernelIdeal := hKernelIdeal) (hPre_short_cache := hPre_short_cache)
    ∧ quiescent_KernelIdeal_pre_finite_keys (hKernelIdeal := hKernelIdeal) (hPre_finite_keys := hPre_finite_keys)
    ∧ quiescent_ReferenceIdeal (hReferenceIdeal := hReferenceIdeal)
    ∧ quiescent_ReferenceIdeal_pre_finite_keys (hReferenceIdeal := hReferenceIdeal) (hPre_finite_keys := hPre_finite_keys)
    ∧ preserves_Kernel_KernelIdeal
    ∧ algebraic_KernelIdeal_ReferenceIdeal_pre_finite_keys (hKernelIdeal := hKernelIdeal) (hReferenceIdeal := hReferenceIdeal) (hPre_finite_keys := hPre_finite_keys)
-- ==== Pre_finite_keys.lean ====
abbrev S65x4x16x64 : Shape := ⟨4, ![65, 4, 16, 64]⟩
abbrev S65x4x2x64 : Shape := ⟨4, ![65, 4, 2, 64]⟩
abbrev S65x8192x2x32 : Shape := ⟨4, ![65, 8192, 2, 32]⟩
abbrev S65x8192x2x1 : Shape := ⟨4, ![65, 8192, 2, 1]⟩
abbrev S65 : Shape := ⟨1, ![65]⟩
abbrev S_ : Shape := ⟨0, ![]⟩

class Facts : Prop where
  bcast_S_S65 : S_.BroadcastsInDim S65 (![] : Fin 0 → Fin S65.rank)
  reducesTo_S65_S_d0 : S65.ReducesTo [0] S_
  h_S_ : 0 < S_.numel
  bcast_S_S65x4x16x64 : S_.BroadcastsInDim S65x4x16x64 (![] : Fin 0 → Fin S65x4x16x64.rank)
  reducesTo_S65x4x16x64_S_d0_1_2_3 : S65x4x16x64.ReducesTo [0, 1, 2, 3] S_
  bcast_S_S65x4x2x64 : S_.BroadcastsInDim S65x4x2x64 (![] : Fin 0 → Fin S65x4x2x64.rank)
  reducesTo_S65x4x2x64_S_d0_1_2_3 : S65x4x2x64.ReducesTo [0, 1, 2, 3] S_
  bcast_S_S65x8192x2x1 : S_.BroadcastsInDim S65x8192x2x1 (![] : Fin 0 → Fin S65x8192x2x1.rank)
  reducesTo_S65x8192x2x1_S_d0_1_2_3 : S65x8192x2x1.ReducesTo [0, 1, 2, 3] S_

variable [Facts]

def fn_part1 {F : FTy → Type} [FloatOps F] (main_arg5 : FVec F S65x8192x2x1 .bf16) (main_v12 : IVec S_ 1) (main_v15 : IVec S65x8192x2x1 1) (main_c_5 : IVec S_ 1) : IVec S_ 1 :=
  let main_v16 : IVec S_ 1 := (fun x v => Host.reduce IntOp.andi x v reducesTo_S65x8192x2x1_S_d0_1_2_3 h_S_) main_v15 main_c_5
  let main_v17 : IVec S_ 1 := andi main_v12 main_v16
  let main_v18 : FVec F S65x8192x2x1 .bf16 := Host.absf main_arg5
  let main_cst_6 : FVec F S_ .bf16 := constant S_ .bf16 0x7F80#16
  let main_v19 : FVec F S65x8192x2x1 .bf16 := broadcastInDim S65x8192x2x1 ![] bcast_S_S65x8192x2x1 main_cst_6
  let main_v20 : IVec S65x8192x2x1 1 := cmpf .olt main_v18 main_v19
  let main_c_7 : IVec S_ 1 := constantI S_ 1 1#1
  let main_v21 : IVec S_ 1 := (fun x v => Host.reduce IntOp.andi x v reducesTo_S65x8192x2x1_S_d0_1_2_3 h_S_) main_v20 main_c_7
  let main_v22 : IVec S_ 1 := andi main_v17 main_v21
  main_v22

def fn {F : FTy → Type} [FloatOps F] (main_arg0 : FVec F S65x4x16x64 .bf16) (main_arg1 : FVec F S65x4x2x64 .bf16) (main_arg2 : FVec F S65x4x2x64 .bf16) (main_arg3 : IVec S65x8192x2x32 8) (main_arg4 : FVec F S65x8192x2x1 .bf16) (main_arg5 : FVec F S65x8192x2x1 .bf16) (main_arg6 : IVec S65x8192x2x32 8) (main_arg7 : FVec F S65x8192x2x1 .bf16) (main_arg8 : FVec F S65x8192x2x1 .bf16) (main_arg9 : IVec S65 32) : IVec S_ 1 :=
  let main_c : IVec S_ 32 := constantI S_ 32 8192#32
  let main_v0 : IVec S65 32 := broadcastInDim S65 ![] bcast_S_S65 main_c
  let main_v1 : IVec S65 1 := cmpi .sle main_arg9 main_v0
  let main_c_0 : IVec S_ 1 := constantI S_ 1 1#1
  let main_v2 : IVec S_ 1 := (fun x v => Host.reduce IntOp.andi x v reducesTo_S65_S_d0 h_S_) main_v1 main_c_0
  let main_v3 : FVec F S65x4x16x64 .bf16 := Host.absf main_arg0
  let main_cst : FVec F S_ .bf16 := constant S_ .bf16 0x7F80#16
  let main_v4 : FVec F S65x4x16x64 .bf16 := broadcastInDim S65x4x16x64 ![] bcast_S_S65x4x16x64 main_cst
  let main_v5 : IVec S65x4x16x64 1 := cmpf .olt main_v3 main_v4
  let main_c_1 : IVec S_ 1 := constantI S_ 1 1#1
  let main_v6 : IVec S_ 1 := (fun x v => Host.reduce IntOp.andi x v reducesTo_S65x4x16x64_S_d0_1_2_3 h_S_) main_v5 main_c_1
  let main_v7 : IVec S_ 1 := andi main_v2 main_v6
  let main_v8 : FVec F S65x4x2x64 .bf16 := Host.absf main_arg1
  let main_cst_2 : FVec F S_ .bf16 := constant S_ .bf16 0x7F80#16
  let main_v9 : FVec F S65x4x2x64 .bf16 := broadcastInDim S65x4x2x64 ![] bcast_S_S65x4x2x64 main_cst_2
  let main_v10 : IVec S65x4x2x64 1 := cmpf .olt main_v8 main_v9
  let main_c_3 : IVec S_ 1 := constantI S_ 1 1#1
  let main_v11 : IVec S_ 1 := (fun x v => Host.reduce IntOp.andi x v reducesTo_S65x4x2x64_S_d0_1_2_3 h_S_) main_v10 main_c_3
  let main_v12 : IVec S_ 1 := andi main_v7 main_v11
  let main_v13 : FVec F S65x8192x2x1 .bf16 := Host.absf main_arg4
  let main_cst_4 : FVec F S_ .bf16 := constant S_ .bf16 0x7F80#16
  let main_v14 : FVec F S65x8192x2x1 .bf16 := broadcastInDim S65x8192x2x1 ![] bcast_S_S65x8192x2x1 main_cst_4
  let main_v15 : IVec S65x8192x2x1 1 := cmpf .olt main_v13 main_v14
  let main_c_5 : IVec S_ 1 := constantI S_ 1 1#1
  fn_part1 (F := F) main_arg5 main_v12 main_v15 main_c_5
-- ==== Pre_short_cache.lean ====
abbrev S65x4x16x64 : Shape := ⟨4, ![65, 4, 16, 64]⟩
abbrev S65x4x2x64 : Shape := ⟨4, ![65, 4, 2, 64]⟩
abbrev S65x8192x2x32 : Shape := ⟨4, ![65, 8192, 2, 32]⟩
abbrev S65x8192x2x1 : Shape := ⟨4, ![65, 8192, 2, 1]⟩
abbrev S65 : Shape := ⟨1, ![65]⟩
abbrev S_ : Shape := ⟨0, ![]⟩

class Facts : Prop where
  bcast_S_S65 : S_.BroadcastsInDim S65 (![] : Fin 0 → Fin S65.rank)

variable [Facts]

def fn {F : FTy → Type} [FloatOps F] (main_arg0 : FVec F S65x4x16x64 .bf16) (main_arg1 : FVec F S65x4x2x64 .bf16) (main_arg2 : FVec F S65x4x2x64 .bf16) (main_arg3 : IVec S65x8192x2x32 8) (main_arg4 : FVec F S65x8192x2x1 .bf16) (main_arg5 : FVec F S65x8192x2x1 .bf16) (main_arg6 : IVec S65x8192x2x32 8) (main_arg7 : FVec F S65x8192x2x1 .bf16) (main_arg8 : FVec F S65x8192x2x1 .bf16) (main_arg9 : IVec S65 32) : IVec S65 1 :=
  let main_c : IVec S_ 32 := constantI S_ 32 8192#32
  let main_v0 : IVec S65 32 := broadcastInDim S65 ![] bcast_S_S65 main_c
  let main_v1 : IVec S65 1 := cmpi .sle main_arg9 main_v0
  main_v1
-- ==== Kernel.lean ====
abbrev S65x4x16x64 : Shape := ⟨4, ![65, 4, 16, 64]⟩
abbrev S65x4x2x64 : Shape := ⟨4, ![65, 4, 2, 64]⟩
abbrev S65x8192x2x32 : Shape := ⟨4, ![65, 8192, 2, 32]⟩
abbrev S65x8192x2x1 : Shape := ⟨4, ![65, 8192, 2, 1]⟩
abbrev S65 : Shape := ⟨1, ![65]⟩
abbrev S4x2x64x65 : Shape := ⟨4, ![4, 2, 64, 65]⟩
abbrev S4x2x32x65 : Shape := ⟨4, ![4, 2, 32, 65]⟩
abbrev S4x2x65 : Shape := ⟨3, ![4, 2, 65]⟩
abbrev S1x1x64x65 : Shape := ⟨4, ![1, 1, 64, 65]⟩
abbrev S64x65 : Shape := ⟨2, ![64, 65]⟩
abbrev S1x65 : Shape := ⟨2, ![1, 65]⟩
abbrev S32x2x65 : Shape := ⟨3, ![32, 2, 65]⟩
abbrev S32x1x65 : Shape := ⟨3, ![32, 1, 65]⟩
abbrev S32x65 : Shape := ⟨2, ![32, 65]⟩
abbrev S1x1x32x65 : Shape := ⟨4, ![1, 1, 32, 65]⟩
abbrev S2x65 : Shape := ⟨2, ![2, 65]⟩
abbrev S1x2x65 : Shape := ⟨3, ![1, 2, 65]⟩
abbrev S65x4x128 : Shape := ⟨3, ![65, 4, 128]⟩
abbrev S_ : Shape := ⟨0, ![]⟩
abbrev S65x8x128 : Shape := ⟨3, ![65, 8, 128]⟩
abbrev S65x4x2x8x64 : Shape := ⟨5, ![65, 4, 2, 8, 64]⟩
abbrev S65x2x8x4x64 : Shape := ⟨5, ![65, 2, 8, 4, 64]⟩
abbrev S65x2x32x64 : Shape := ⟨4, ![65, 2, 32, 64]⟩
abbrev S65x1x32x64 : Shape := ⟨4, ![65, 1, 32, 64]⟩
abbrev S65x32x64 : Shape := ⟨3, ![65, 32, 64]⟩
abbrev S65x32x128 : Shape := ⟨3, ![65, 32, 128]⟩
abbrev S65x64x128 : Shape := ⟨3, ![65, 64, 128]⟩
abbrev S65x2x32x8192 : Shape := ⟨4, ![65, 2, 32, 8192]⟩
abbrev S65x8192x2 : Shape := ⟨3, ![65, 8192, 2]⟩
abbrev S65x2x8192 : Shape := ⟨3, ![65, 2, 8192]⟩
abbrev S65x64x64 : Shape := ⟨3, ![65, 64, 64]⟩
abbrev S1x64x128 : Shape := ⟨3, ![1, 64, 128]⟩
abbrev S1x8x128 : Shape := ⟨3, ![1, 8, 128]⟩
abbrev S1x2x32x8192 : Shape := ⟨4, ![1, 2, 32, 8192]⟩
abbrev S1x2x8192 : Shape := ⟨3, ![1, 2, 8192]⟩
abbrev S1x64x64 : Shape := ⟨3, ![1, 64, 64]⟩
abbrev S1 : Shape := ⟨1, ![1]⟩
abbrev S64x128 : Shape := ⟨2, ![64, 128]⟩
abbrev S8x128 : Shape := ⟨2, ![8, 128]⟩
abbrev S64x8 : Shape := ⟨2, ![64, 8]⟩
abbrev S64 : Shape := ⟨1, ![64]⟩
abbrev S64x1 : Shape := ⟨2, ![64, 1]⟩
abbrev S1x1x32x1024 : Shape := ⟨4, ![1, 1, 32, 1024]⟩
abbrev S32x1024 : Shape := ⟨2, ![32, 1024]⟩
abbrev S1x1x1024 : Shape := ⟨3, ![1, 1, 1024]⟩
abbrev S1x1024 : Shape := ⟨2, ![1, 1024]⟩
abbrev S32x1x1024 : Shape := ⟨3, ![32, 1, 1024]⟩
abbrev S32x2x1024 : Shape := ⟨3, ![32, 2, 1024]⟩
abbrev S64x1024 : Shape := ⟨2, ![64, 1024]⟩
abbrev S128x1024 : Shape := ⟨2, ![128, 1024]⟩
abbrev S32x64 : Shape := ⟨2, ![32, 64]⟩
abbrev S64x64 : Shape := ⟨2, ![64, 64]⟩
abbrev S65x4x1024 : Shape := ⟨3, ![65, 4, 1024]⟩
abbrev S65x4x2x32 : Shape := ⟨4, ![65, 4, 2, 32]⟩
abbrev S65x4x2 : Shape := ⟨3, ![65, 4, 2]⟩
abbrev S65x4x2x1 : Shape := ⟨4, ![65, 4, 2, 1]⟩

abbrev nBuf : Space → Nat
  | .hbm => 67
  | .vmem => 30
  | .smem => 1
  | _ => 0

abbrev bufTy : (tb : Table) → Fin (tcTables nBuf tb) → BufTy
  | .hbm, ⟨0, _⟩ => ⟨S65x4x16x64, .bf16⟩
  | .hbm, ⟨1, _⟩ => ⟨S65x4x2x64, .bf16⟩
  | .hbm, ⟨2, _⟩ => ⟨S65x4x2x64, .bf16⟩
  | .hbm, ⟨3, _⟩ => ⟨S65x8192x2x32, .i8⟩
  | .hbm, ⟨4, _⟩ => ⟨S65x8192x2x1, .bf16⟩
  | .hbm, ⟨5, _⟩ => ⟨S65x8192x2x1, .bf16⟩
  | .hbm, ⟨6, _⟩ => ⟨S65x8192x2x32, .i8⟩
  | .hbm, ⟨7, _⟩ => ⟨S65x8192x2x1, .bf16⟩
  | .hbm, ⟨8, _⟩ => ⟨S65x8192x2x1, .bf16⟩
  | .hbm, ⟨9, _⟩ => ⟨S4x2x64x65, .bf16⟩
  | .hbm, ⟨10, _⟩ => ⟨S4x2x64x65, .bf16⟩
  | .hbm, ⟨11, _⟩ => ⟨S4x2x32x65, .i8⟩
  | .hbm, ⟨12, _⟩ => ⟨S4x2x65, .bf16⟩
  | .hbm, ⟨13, _⟩ => ⟨S4x2x65, .bf16⟩
  | .hbm, ⟨14, _⟩ => ⟨S4x2x32x65, .i8⟩
  | .hbm, ⟨15, _⟩ => ⟨S4x2x65, .bf16⟩
  | .hbm, ⟨16, _⟩ => ⟨S4x2x65, .bf16⟩
  | .hbm, ⟨17, _⟩ => ⟨S4x2x64x65, .bf16⟩
  | .hbm, ⟨18, _⟩ => ⟨S4x2x64x65, .bf16⟩
  | .hbm, ⟨19, _⟩ => ⟨S65x4x2x64, .bf16⟩
  | .hbm, ⟨20, _⟩ => ⟨S65x4x128, .bf16⟩
  | .hbm, ⟨21, _⟩ => ⟨S_, .i32⟩
  | .hbm, ⟨22, _⟩ => ⟨S_, .bf16⟩
  | .hbm, ⟨23, _⟩ => ⟨S65x8x128, .bf16⟩
  | .hbm, ⟨24, _⟩ => ⟨S65x4x2x64, .bf16⟩
  | .hbm, ⟨25, _⟩ => ⟨S65x4x128, .bf16⟩
  | .hbm, ⟨26, _⟩ => ⟨S_, .i32⟩
  | .hbm, ⟨27, _⟩ => ⟨S_, .bf16⟩
  | .hbm, ⟨28, _⟩ => ⟨S65x8x128, .bf16⟩
  | .hbm, ⟨29, _⟩ => ⟨S65x4x2x8x64, .bf16⟩
  | .hbm, ⟨30, _⟩ => ⟨S65x2x8x4x64, .bf16⟩
  | .hbm, ⟨31, _⟩ => ⟨S65x2x32x64, .bf16⟩
  | .hbm, ⟨32, _⟩ => ⟨S65x1x32x64, .bf16⟩
  | .hbm, ⟨33, _⟩ => ⟨S65x32x64, .bf16⟩
  | .hbm, ⟨34, _⟩ => ⟨S_, .bf16⟩
  | .hbm, ⟨35, _⟩ => ⟨S65x32x64, .bf16⟩
  | .hbm, ⟨36, _⟩ => ⟨S65x1x32x64, .bf16⟩
  | .hbm, ⟨37, _⟩ => ⟨S65x32x64, .bf16⟩
  | .hbm, ⟨38, _⟩ => ⟨S65x32x128, .bf16⟩
  | .hbm, ⟨39, _⟩ => ⟨S65x1x32x64, .bf16⟩
  | .hbm, ⟨40, _⟩ => ⟨S65x32x64, .bf16⟩
  | .hbm, ⟨41, _⟩ => ⟨S65x32x128, .bf16⟩
  | .hbm, ⟨42, _⟩ => ⟨S65x64x128, .bf16⟩
  | .hbm, ⟨43, _⟩ => ⟨S65x2x32x8192, .i8⟩
  | .hbm, ⟨44, _⟩ => ⟨S65x8192x2, .bf16⟩
  | .hbm, ⟨45, _⟩ => ⟨S65x2x8192, .bf16⟩
  | .hbm, ⟨46, _⟩ => ⟨S65x8192x2, .bf16⟩
  | .hbm, ⟨47, _⟩ => ⟨S65x2x8192, .bf16⟩
  | .hbm, ⟨48, _⟩ => ⟨S65x2x32x8192, .i8⟩
  | .hbm, ⟨49, _⟩ => ⟨S65x8192x2, .bf16⟩
  | .hbm, ⟨50, _⟩ => ⟨S65x2x8192, .bf16⟩
  | .hbm, ⟨51, _⟩ => ⟨S65x8192x2, .bf16⟩
  | .hbm, ⟨52, _⟩ => ⟨S65x2x8192, .bf16⟩
  | .hbm, ⟨53, _⟩ => ⟨S65x64x64, .bf16⟩
  | .hbm, ⟨54, _⟩ => ⟨S65x2x8x4x64, .bf16⟩
  | .hbm, ⟨55, _⟩ => ⟨S65x4x2x8x64, .bf16⟩
  | .hbm, ⟨56, _⟩ => ⟨S65x4x1024, .bf16⟩
  | .hbm, ⟨57, _⟩ => ⟨S65x4x2x32, .i8⟩
  | .hbm, ⟨58, _⟩ => ⟨S65x4x2, .bf16⟩
  | .hbm, ⟨59, _⟩ => ⟨S65x4x2x1, .bf16⟩
  | .hbm, ⟨60, _⟩ => ⟨S65x4x2, .bf16⟩
  | .hbm, ⟨61, _⟩ => ⟨S65x4x2x1, .bf16⟩
  | .hbm, ⟨62, _⟩ => ⟨S65x4x2x32, .i8⟩
  | .hbm, ⟨63, _⟩ => ⟨S65x4x2, .bf16⟩
  | .hbm, ⟨64, _⟩ => ⟨S65x4x2x1, .bf16⟩
  | .hbm, ⟨65, _⟩ => ⟨S65x4x2, .bf16⟩
  | .hbm, ⟨66, _⟩ => ⟨S65x4x2x1, .bf16⟩
  | .local _ .vmem, ⟨0, _⟩ => ⟨S4x2x64x65, .bf16⟩
  | .local _ .vmem, ⟨1, _⟩ => ⟨S4x2x64x65, .bf16⟩
  | .local _ .vmem, ⟨2, _⟩ => ⟨S4x2x32x65, .i8⟩
  | .local _ .vmem, ⟨3, _⟩ => ⟨S4x2x65, .bf16⟩
  | .local _ .vmem, ⟨4, _⟩ => ⟨S4x2x65, .bf16⟩
  | .local _ .vmem, ⟨5, _⟩ => ⟨S4x2x32x65, .i8⟩
  | .local _ .vmem, ⟨6, _⟩ => ⟨S4x2x65, .bf16⟩
  | .local _ .vmem, ⟨7, _⟩ => ⟨S4x2x65, .bf16⟩
  | .local _ .vmem, ⟨8, _⟩ => ⟨S4x2x64x65, .bf16⟩
  | .local _ .vmem, ⟨9, _⟩ => ⟨S4x2x64x65, .bf16⟩
  | .local _ .vmem, ⟨10, _⟩ => ⟨S1x64x128, .bf16⟩
  | .local _ .vmem, ⟨11, _⟩ => ⟨S1x64x128, .bf16⟩
  | .local _ .vmem, ⟨12, _⟩ => ⟨S1x8x128, .bf16⟩
  | .local _ .vmem, ⟨13, _⟩ => ⟨S1x8x128, .bf16⟩
  | .local _ .vmem, ⟨14, _⟩ => ⟨S1x8x128, .bf16⟩
  | .local _ .vmem, ⟨15, _⟩ => ⟨S1x8x128, .bf16⟩
  | .local _ .vmem, ⟨16, _⟩ => ⟨S1x2x32x8192, .i8⟩
  | .local _ .vmem, ⟨17, _⟩ => ⟨S1x2x32x8192, .i8⟩
  | .local _ .vmem, ⟨18, _⟩ => ⟨S1x2x8192, .bf16⟩
  | .local _ .vmem, ⟨19, _⟩ => ⟨S1x2x8192, .bf16⟩
  | .local _ .vmem, ⟨20, _⟩ => ⟨S1x2x8192, .bf16⟩
  | .local _ .vmem, ⟨21, _⟩ => ⟨S1x2x8192, .bf16⟩
  | .local _ .vmem, ⟨22, _⟩ => ⟨S1x2x32x8192, .i8⟩
  | .local _ .vmem, ⟨23, _⟩ => ⟨S1x2x32x8192, .i8⟩
  | .local _ .vmem, ⟨24, _⟩ => ⟨S1x2x8192, .bf16⟩
  | .local _ .vmem, ⟨25, _⟩ => ⟨S1x2x8192, .bf16⟩
  | .local _ .vmem, ⟨26, _⟩ => ⟨S1x2x8192, .bf16⟩
  | .local _ .vmem, ⟨27, _⟩ => ⟨S1x2x8192, .bf16⟩
  | .local _ .vmem, ⟨28, _⟩ => ⟨S1x64x64, .bf16⟩
  | .local _ .vmem, ⟨29, _⟩ => ⟨S1x64x64, .bf16⟩
  | .local _ .smem, ⟨0, _⟩ => ⟨S65, .i32⟩
  | _, _ => ⟨S65x4x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v2_4 : Ref sig .tc := ⟨.hbm, 15, rfl⟩
abbrev main_v2_5 : Ref sig .tc := ⟨.hbm, 16, rfl⟩
abbrev main_v2_6 : Ref sig .tc := ⟨.hbm, 17, rfl⟩
abbrev main_v2_7 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_call0_v0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_0 : Ref sig .tc := ⟨.hbm, 26, rfl⟩
abbrev main_call1_v0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_arg9 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29

abbrev nD : Nat := 1
abbrev τ : Topo := Topo.v7x

variable {F : FTy → Type} [FloatOps F]

abbrev grid0 : Pipeline.Grid := .none

abbrev stage0_0 : Fin 1 → Memref sig .tc .vmem S4x2x64x65 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2x64x65 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2x32x65 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2x65 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2x65 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x2x32x65 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x2x65 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x2x65 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x2x64x65 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x2x64x65 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := ⟨1, ![65], ![false]⟩

abbrev pre1 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
@[reducible] def k1_t1_loop (v1 : BitVec 32) : Scf.Loop 32 :=
  let c0_i32_16 : BitVec 32 := 0#32
  let c1023_i32 : BitVec 32 := 1023#32
  let v41 : BitVec 32 := Scalar.addi v1 c1023_i32
  let c1024_i32 : BitVec 32 := 1024#32
  let v42 : BitVec 32 := Scalar.divsi v41 c1024_i32
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_18 : BitVec 32 := 1#32
  ⟨c0_i32_16, v47, c1_i32_18⟩

def k1_mult1 (v1 : BitVec 32) (k1_t1 : Fin (k1_t1_loop v1).trips) : BitVec 32 :=
  let c0_i32_16 : BitVec 32 := 0#32
  let c1_i32_18 : BitVec 32 := 1#32
  let arg12 : BitVec 32 := Scf.iv c0_i32_16 c1_i32_18 k1_t1
  let c1024_i32_23 : BitVec 32 := 1024#32
  let v59 : BitVec 32 := Scalar.muli arg12 c1024_i32_23
  v59
def k1_off2 (v1 : BitVec 32) (k1_t1 : Fin (k1_t1_loop v1).trips) : Fin 4 → Nat :=
  let c0_24 : Index := 0#32
  let c0_25 : Index := 0#32
  let c0_26 : Index := 0#32
  let c0_i32_16 : BitVec 32 := 0#32
  let c1_i32_18 : BitVec 32 := 1#32
  let arg12 : BitVec 32 := Scf.iv c0_i32_16 c1_i32_18 k1_t1
  let c1024_i32_23 : BitVec 32 := 1024#32
  let v59 : BitVec 32 := Scalar.muli arg12 c1024_i32_23
  let v60 : BitVec 32 := v59
  let v61 : Index := Scalar.indexCast v60
  ![0, 0, 0, v61.toNat]
def k1_off3 (v1 : BitVec 32) (k1_t1 : Fin (k1_t1_loop v1).trips) : Fin 3 → Nat :=
  let c0_27 : Index := 0#32
  let c0_28 : Index := 0#32
  let c0_i32_16 : BitVec 32 := 0#32
  let c1_i32_18 : BitVec 32 := 1#32
  let arg12 : BitVec 32 := Scf.iv c0_i32_16 c1_i32_18 k1_t1
  let c1024_i32_23 : BitVec 32 := 1024#32
  let v59 : BitVec 32 := Scalar.muli arg12 c1024_i32_23
  let v60 : BitVec 32 := v59
  let v64 : Index := Scalar.indexCast v60
  ![0, 0, v64.toNat]
def k1_off4 (v1 : BitVec 32) (k1_t1 : Fin (k1_t1_loop v1).trips) : Fin 4 → Nat :=
  let c0_32 : Index := 0#32
  let c1 : Index := 1#32
  let c0_33 : Index := 0#32
  let c0_i32_16 : BitVec 32 := 0#32
  let c1_i32_18 : BitVec 32 := 1#32
  let arg12 : BitVec 32 := Scf.iv c0_i32_16 c1_i32_18 k1_t1
  let c1024_i32_23 : BitVec 32 := 1024#32
  let v59 : BitVec 32 := Scalar.muli arg12 c1024_i32_23
  let v60 : BitVec 32 := v59
  let v84 : Index := Scalar.indexCast v60
  ![0, 1, 0, v84.toNat]
def k1_off5 (v1 : BitVec 32) (k1_t1 : Fin (k1_t1_loop v1).trips) : Fin 3 → Nat :=
  let c0_34 : Index := 0#32
  let c1_35 : Index := 1#32
  let c0_i32_16 : BitVec 32 := 0#32
  let c1_i32_18 : BitVec 32 := 1#32
  let arg12 : BitVec 32 := Scf.iv c0_i32_16 c1_i32_18 k1_t1
  let c1024_i32_23 : BitVec 32 := 1024#32
  let v59 : BitVec 32 := Scalar.muli arg12 c1024_i32_23
  let v60 : BitVec 32 := v59
  let v87 : Index := Scalar.indexCast v60
  ![0, 1, v87.toNat]
@[reducible] def k1_t2_loop (v1 : BitVec 32) : Scf.Loop 32 :=
  let c0_i32_16 : BitVec 32 := 0#32
  let c1023_i32 : BitVec 32 := 1023#32
  let v41 : BitVec 32 := Scalar.addi v1 c1023_i32
  let c1024_i32 : BitVec 32 := 1024#32
  let v42 : BitVec 32 := Scalar.divsi v41 c1024_i32
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let v44 : BitVec 32 := Scalar.addi c0_i32_16 v43
  let c1_i32_19 : BitVec 32 := 1#32
  ⟨v47, v44, c1_i32_19⟩
def k1_mult2 (v1 : BitVec 32) (k1_t2 : Fin (k1_t2_loop v1).trips) : BitVec 32 :=
  let c0_i32_16 : BitVec 32 := 0#32
  let c1023_i32 : BitVec 32 := 1023#32
  let v41 : BitVec 32 := Scalar.addi v1 c1023_i32
  let c1024_i32 : BitVec 32 := 1024#32
  let v42 : BitVec 32 := Scalar.divsi v41 c1024_i32
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg12 : BitVec 32 := Scf.iv v47 c1_i32_19 k1_t2
  let c1024_i32_23 : BitVec 32 := 1024#32
  let v59 : BitVec 32 := Scalar.muli arg12 c1024_i32_23
  v59
def k1_off6 (v1 : BitVec 32) (k1_t2 : Fin (k1_t2_loop v1).trips) : Fin 4 → Nat :=
  let c0_24 : Index := 0#32
  let c0_25 : Index := 0#32
  let c0_26 : Index := 0#32
  let c0_i32_16 : BitVec 32 := 0#32
  let c1023_i32 : BitVec 32 := 1023#32
  let v41 : BitVec 32 := Scalar.addi v1 c1023_i32
  let c1024_i32 : BitVec 32 := 1024#32
  let v42 : BitVec 32 := Scalar.divsi v41 c1024_i32
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg12 : BitVec 32 := Scf.iv v47 c1_i32_19 k1_t2
  let c1024_i32_23 : BitVec 32 := 1024#32
  let v59 : BitVec 32 := Scalar.muli arg12 c1024_i32_23
  let v60 : BitVec 32 := v59
  let v61 : Index := Scalar.indexCast v60
  ![0, 0, 0, v61.toNat]
def k1_off7 (v1 : BitVec 32) (k1_t2 : Fin (k1_t2_loop v1).trips) : Fin 3 → Nat :=
  let c0_27 : Index := 0#32
  let c0_28 : Index := 0#32
  let c0_i32_16 : BitVec 32 := 0#32
  let c1023_i32 : BitVec 32 := 1023#32
  let v41 : BitVec 32 := Scalar.addi v1 c1023_i32
  let c1024_i32 : BitVec 32 := 1024#32
  let v42 : BitVec 32 := Scalar.divsi v41 c1024_i32
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg12 : BitVec 32 := Scf.iv v47 c1_i32_19 k1_t2
  let c1024_i32_23 : BitVec 32 := 1024#32
  let v59 : BitVec 32 := Scalar.muli arg12 c1024_i32_23
  let v60 : BitVec 32 := v59
  let v64 : Index := Scalar.indexCast v60
  ![0, 0, v64.toNat]
def k1_off8 (v1 : BitVec 32) (k1_t2 : Fin (k1_t2_loop v1).trips) : Fin 4 → Nat :=
  let c0_32 : Index := 0#32
  let c1 : Index := 1#32
  let c0_33 : Index := 0#32
  let c0_i32_16 : BitVec 32 := 0#32
  let c1023_i32 : BitVec 32 := 1023#32
  let v41 : BitVec 32 := Scalar.addi v1 c1023_i32
  let c1024_i32 : BitVec 32 := 1024#32
  let v42 : BitVec 32 := Scalar.divsi v41 c1024_i32
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg12 : BitVec 32 := Scf.iv v47 c1_i32_19 k1_t2
  let c1024_i32_23 : BitVec 32 := 1024#32
  let v59 : BitVec 32 := Scalar.muli arg12 c1024_i32_23
  let v60 : BitVec 32 := v59
  let v84 : Index := Scalar.indexCast v60
  ![0, 1, 0, v84.toNat]
def k1_off9 (v1 : BitVec 32) (k1_t2 : Fin (k1_t2_loop v1).trips) : Fin 3 → Nat :=
  let c0_34 : Index := 0#32
  let c1_35 : Index := 1#32
  let c0_i32_16 : BitVec 32 := 0#32
  let c1023_i32 : BitVec 32 := 1023#32
  let v41 : BitVec 32 := Scalar.addi v1 c1023_i32
  let c1024_i32 : BitVec 32 := 1024#32
  let v42 : BitVec 32 := Scalar.divsi v41 c1024_i32
  let v43 : BitVec 32 := Scalar.subi v42 c0_i32_16
  let c1_i32_17 : BitVec 32 := 1#32
  let v45 : BitVec 32 := Scalar.divsi v43 c1_i32_17
  let v46 : BitVec 32 := Scalar.muli v45 c1_i32_17
  let v47 : BitVec 32 := Scalar.addi c0_i32_16 v46
  let c1_i32_19 : BitVec 32 := 1#32
  let arg12 : BitVec 32 := Scf.iv v47 c1_i32_19 k1_t2
  let c1024_i32_23 : BitVec 32 := 1024#32
  let v59 : BitVec 32 := Scalar.muli arg12 c1024_i32_23
  let v60 : BitVec 32 := v59
  let v87 : Index := Scalar.indexCast v60
  ![0, 1, v87.toNat]

def k1_chk1 (v1 : BitVec 32) : Prop :=
  ((k1_t1_loop v1).OK) ∧
  (∀ k1_t1 : Fin (k1_t1_loop v1).trips, 1024 ∣ (k1_mult1 v1 k1_t1).toNat) ∧
  (∀ k1_t1 : Fin (k1_t1_loop v1).trips, ∀ a, (k1_off2 v1 k1_t1) a + S1x1x32x1024.size a ≤ S1x2x32x8192.size a) ∧
  (∀ k1_t1 : Fin (k1_t1_loop v1).trips, ∀ a, (k1_off3 v1 k1_t1) a + S1x1x1024.size a ≤ S1x2x8192.size a) ∧
  (∀ k1_t1 : Fin (k1_t1_loop v1).trips, ∀ a, (k1_off4 v1 k1_t1) a + S1x1x32x1024.size a ≤ S1x2x32x8192.size a) ∧
  (∀ k1_t1 : Fin (k1_t1_loop v1).trips, ∀ a, (k1_off5 v1 k1_t1) a + S1x1x1024.size a ≤ S1x2x8192.size a) ∧
  ((k1_t2_loop v1).OK) ∧
  (∀ k1_t2 : Fin (k1_t2_loop v1).trips, 1024 ∣ (k1_mult2 v1 k1_t2).toNat) ∧
  (∀ k1_t2 : Fin (k1_t2_loop v1).trips, ∀ a, (k1_off6 v1 k1_t2) a + S1x1x32x1024.size a ≤ S1x2x32x8192.size a) ∧
  (∀ k1_t2 : Fin (k1_t2_loop v1).trips, ∀ a, (k1_off7 v1 k1_t2) a + S1x1x1024.size a ≤ S1x2x8192.size a) ∧
  (∀ k1_t2 : Fin (k1_t2_loop v1).trips, ∀ a, (k1_off8 v1 k1_t2) a + S1x1x32x1024.size a ≤ S1x2x32x8192.size a) ∧
  (∀ k1_t2 : Fin (k1_t2_loop v1).trips, ∀ a, (k1_off9 v1 k1_t2) a + S1x1x1024.size a ≤ S1x2x8192.size a)
theorem k1_t1_ok : ∀ (v1 : BitVec 32) (k1_hw1 : k1_chk1 v1), (k1_t1_loop v1).OK := fun v1 k1_hw1 => k1_hw1.1
theorem k1_mult1_dvd : ∀ (v1 : BitVec 32) (k1_hw1 : k1_chk1 v1) (k1_t1 : Fin (k1_t1_loop v1).trips), 1024 ∣ (k1_mult1 v1 k1_t1).toNat := fun v1 k1_hw1 k1_t1 => k1_hw1.2.1 k1_t1
theorem k1_off2_inb : ∀ (v1 : BitVec 32) (k1_hw1 : k1_chk1 v1) (k1_t1 : Fin (k1_t1_loop v1).trips), ∀ a, (k1_off2 v1 k1_t1) a + S1x1x32x1024.size a ≤ S1x2x32x8192.size a := fun v1 k1_hw1 k1_t1 => k1_hw1.2.2.1 k1_t1
theorem k1_off3_inb : ∀ (v1 : BitVec 32) (k1_hw1 : k1_chk1 v1) (k1_t1 : Fin (k1_t1_loop v1).trips), ∀ a, (k1_off3 v1 k1_t1) a + S1x1x1024.size a ≤ S1x2x8192.size a := fun v1 k1_hw1 k1_t1 => k1_hw1.2.2.2.1 k1_t1
theorem k1_off4_inb : ∀ (v1 : BitVec 32) (k1_hw1 : k1_chk1 v1) (k1_t1 : Fin (k1_t1_loop v1).trips), ∀ a, (k1_off4 v1 k1_t1) a + S1x1x32x1024.size a ≤ S1x2x32x8192.size a := fun v1 k1_hw1 k1_t1 => k1_hw1.2.2.2.2.1 k1_t1
theorem k1_off5_inb : ∀ (v1 : BitVec 32) (k1_hw1 : k1_chk1 v1) (k1_t1 : Fin (k1_t1_loop v1).trips), ∀ a, (k1_off5 v1 k1_t1) a + S1x1x1024.size a ≤ S1x2x8192.size a := fun v1 k1_hw1 k1_t1 => k1_hw1.2.2.2.2.2.1 k1_t1
theorem k1_t2_ok : ∀ (v1 : BitVec 32) (k1_hw1 : k1_chk1 v1), (k1_t2_loop v1).OK := fun v1 k1_hw1 => k1_hw1.2.2.2.2.2.2.1
theorem k1_mult2_dvd : ∀ (v1 : BitVec 32) (k1_hw1 : k1_chk1 v1) (k1_t2 : Fin (k1_t2_loop v1).trips), 1024 ∣ (k1_mult2 v1 k1_t2).toNat := fun v1 k1_hw1 k1_t2 => k1_hw1.2.2.2.2.2.2.2.1 k1_t2
theorem k1_off6_inb : ∀ (v1 : BitVec 32) (k1_hw1 : k1_chk1 v1) (k1_t2 : Fin (k1_t2_loop v1).trips), ∀ a, (k1_off6 v1 k1_t2) a + S1x1x32x1024.size a ≤ S1x2x32x8192.size a := fun v1 k1_hw1 k1_t2 => k1_hw1.2.2.2.2.2.2.2.2.1 k1_t2
theorem k1_off7_inb : ∀ (v1 : BitVec 32) (k1_hw1 : k1_chk1 v1) (k1_t2 : Fin (k1_t2_loop v1).trips), ∀ a, (k1_off7 v1 k1_t2) a + S1x1x1024.size a ≤ S1x2x8192.size a := fun v1 k1_hw1 k1_t2 => k1_hw1.2.2.2.2.2.2.2.2.2.1 k1_t2
theorem k1_off8_inb : ∀ (v1 : BitVec 32) (k1_hw1 : k1_chk1 v1) (k1_t2 : Fin (k1_t2_loop v1).trips), ∀ a, (k1_off8 v1 k1_t2) a + S1x1x32x1024.size a ≤ S1x2x32x8192.size a := fun v1 k1_hw1 k1_t2 => k1_hw1.2.2.2.2.2.2.2.2.2.2.1 k1_t2
theorem k1_off9_inb : ∀ (v1 : BitVec 32) (k1_hw1 : k1_chk1 v1) (k1_t2 : Fin (k1_t2_loop v1).trips), ∀ a, (k1_off9 v1 k1_t2) a + S1x1x1024.size a ≤ S1x2x8192.size a := fun v1 k1_hw1 k1_t2 => k1_hw1.2.2.2.2.2.2.2.2.2.2.2 k1_t2

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x8x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2x32x8192 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x2x8192 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x2x8192 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x2x32x8192 .i8 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x2x8192 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x2x8192 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x64x64 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== KernelIdeal.lean ====
variable {F : FTy → Type} [FloatOps F] [Named F]
def κ : String → Option EReal := fun
  | "mask" => some ⊥
  | "scale" => some (((1 / 8) * (Real.log 2)⁻¹ : ℝ) : EReal)
  | _ => none
-- ==== ReferenceIdeal.lean ====
abbrev S65x4x16x64 : Shape := ⟨4, ![65, 4, 16, 64]⟩
abbrev S65x4x2x64 : Shape := ⟨4, ![65, 4, 2, 64]⟩
abbrev S65x8192x2x32 : Shape := ⟨4, ![65, 8192, 2, 32]⟩
abbrev S65x8192x2x1 : Shape := ⟨4, ![65, 8192, 2, 1]⟩
abbrev S65 : Shape := ⟨1, ![65]⟩
abbrev S65x4x2x1x64 : Shape := ⟨5, ![65, 4, 2, 1, 64]⟩
abbrev S_ : Shape := ⟨0, ![]⟩
abbrev S65x4x2x1 : Shape := ⟨4, ![65, 4, 2, 1]⟩
abbrev S65x4x2x1x1 : Shape := ⟨5, ![65, 4, 2, 1, 1]⟩
abbrev S65x4x2x32 : Shape := ⟨4, ![65, 4, 2, 32]⟩
abbrev S65x4x2x1x32 : Shape := ⟨5, ![65, 4, 2, 1, 32]⟩
abbrev S65x8192x2x1x1 : Shape := ⟨5, ![65, 8192, 2, 1, 1]⟩
abbrev S65x8192x2x1x32 : Shape := ⟨5, ![65, 8192, 2, 1, 32]⟩
abbrev S65x4x2x8x64 : Shape := ⟨5, ![65, 4, 2, 8, 64]⟩
abbrev S65x4x2x8x32 : Shape := ⟨5, ![65, 4, 2, 8, 32]⟩
abbrev S65x2x8192x4x8 : Shape := ⟨5, ![65, 2, 8192, 4, 8]⟩
abbrev S65x2x8x4x8192 : Shape := ⟨5, ![65, 2, 8, 4, 8192]⟩
abbrev S65x2x4x4x8 : Shape := ⟨5, ![65, 2, 4, 4, 8]⟩
abbrev S65x2x8x4x4 : Shape := ⟨5, ![65, 2, 8, 4, 4]⟩
abbrev S8192 : Shape := ⟨1, ![8192]⟩
abbrev S1x8192 : Shape := ⟨2, ![1, 8192]⟩
abbrev S65x1 : Shape := ⟨2, ![65, 1]⟩
abbrev S65x8192 : Shape := ⟨2, ![65, 8192]⟩
abbrev S65x1x1x1x8192 : Shape := ⟨5, ![65, 1, 1, 1, 8192]⟩
abbrev S4 : Shape := ⟨1, ![4]⟩
abbrev S1x4 : Shape := ⟨2, ![1, 4]⟩
abbrev S4x1 : Shape := ⟨2, ![4, 1]⟩
abbrev S4x4 : Shape := ⟨2, ![4, 4]⟩
abbrev S65x2x8x4 : Shape := ⟨4, ![65, 2, 8, 4]⟩
abbrev S65x2x8x4x1 : Shape := ⟨5, ![65, 2, 8, 4, 1]⟩
abbrev S65x2x32x8x4 : Shape := ⟨5, ![65, 2, 32, 8, 4]⟩
abbrev S65x4x2x8x32x1 : Shape := ⟨6, ![65, 4, 2, 8, 32, 1]⟩
abbrev S65x4x2x8x32x2 : Shape := ⟨6, ![65, 4, 2, 8, 32, 2]⟩
abbrev S65x4x1024 : Shape := ⟨3, ![65, 4, 1024]⟩

abbrev nBuf : Space → Nat
  | .hbm => 273
  | .vmem => 0
  | .smem => 0
  | _ => 0

abbrev hbmTy0_0 (i : Nat) : BufTy := match i % 128 with
  | 0 => ⟨S65x4x16x64, .bf16⟩
  | 1 => ⟨S65x4x2x64, .bf16⟩
  | 2 => ⟨S65x4x2x64, .bf16⟩
  | 3 => ⟨S65x8192x2x32, .i8⟩
  | 4 => ⟨S65x8192x2x1, .bf16⟩
  | 5 => ⟨S65x8192x2x1, .bf16⟩
  | 6 => ⟨S65x8192x2x32, .i8⟩
  | 7 => ⟨S65x8192x2x1, .bf16⟩
  | 8 => ⟨S65x8192x2x1, .bf16⟩
  | 9 => ⟨S65, .i32⟩
  | 10 => ⟨S65x4x2x64, .f32⟩
  | 11 => ⟨S65x4x2x1x64, .f32⟩
  | 12 => ⟨S_, .f32⟩
  | 13 => ⟨S65x4x2x1, .f32⟩
  | 14 => ⟨S_, .f32⟩
  | 15 => ⟨S65x4x2x1, .f32⟩
  | 16 => ⟨S65x4x2x1, .i1⟩
  | 17 => ⟨S65x4x2x1, .f32⟩
  | 18 => ⟨S_, .f32⟩
  | 19 => ⟨S65x4x2x1, .f32⟩
  | 20 => ⟨S65x4x2x1, .f32⟩
  | 21 => ⟨S_, .f32⟩
  | 22 => ⟨S_, .f32⟩
  | 23 => ⟨S65x4x2x1, .f32⟩
  | 24 => ⟨S65x4x2x1, .f32⟩
  | 25 => ⟨S65x4x2x1, .bf16⟩
  | 26 => ⟨S65x4x2x1, .bf16⟩
  | 27 => ⟨S65x4x2x1, .f32⟩
  | 28 => ⟨S65x4x2x1x1, .f32⟩
  | 29 => ⟨S65x4x2x1x64, .f32⟩
  | 30 => ⟨S65x4x2x1x64, .f32⟩
  | 31 => ⟨S65x4x2x1, .f32⟩
  | 32 => ⟨S65x4x2x1x1, .f32⟩
  | 33 => ⟨S65x4x2x1x64, .f32⟩
  | 34 => ⟨S65x4x2x1x64, .f32⟩
  | 35 => ⟨S65x4x2x1x64, .f32⟩
  | 36 => ⟨S_, .i32⟩
  | 37 => ⟨S_, .i32⟩
  | 38 => ⟨S_, .f32⟩
  | 39 => ⟨S65x4x2x1x64, .f32⟩
  | 40 => ⟨S65x4x2x1x64, .f32⟩
  | 41 => ⟨S_, .f32⟩
  | 42 => ⟨S65x4x2x1x64, .f32⟩
  | 43 => ⟨S65x4x2x1x64, .f32⟩
  | 44 => ⟨S65x4x2x1x64, .i32⟩
  | 45 => ⟨S65x4x2x64, .i32⟩
  | 46 => ⟨S65x4x2x32, .i32⟩
  | 47 => ⟨S65x4x2x32, .i32⟩
  | 48 => ⟨S_, .i32⟩
  | 49 => ⟨S65x4x2x32, .i32⟩
  | 50 => ⟨S65x4x2x32, .i32⟩
  | 51 => ⟨S65x4x2x32, .i32⟩
  | 52 => ⟨S65x4x2x32, .i8⟩
  | 53 => ⟨S65x4x2x64, .f32⟩
  | 54 => ⟨S65x4x2x1x64, .f32⟩
  | 55 => ⟨S_, .f32⟩
  | 56 => ⟨S65x4x2x1, .f32⟩
  | 57 => ⟨S_, .f32⟩
  | 58 => ⟨S65x4x2x1, .f32⟩
  | 59 => ⟨S65x4x2x1, .i1⟩
  | 60 => ⟨S65x4x2x1, .f32⟩
  | 61 => ⟨S_, .f32⟩
  | 62 => ⟨S65x4x2x1, .f32⟩
  | 63 => ⟨S65x4x2x1, .f32⟩
  | 64 => ⟨S_, .f32⟩
  | 65 => ⟨S_, .f32⟩
  | 66 => ⟨S65x4x2x1, .f32⟩
  | 67 => ⟨S65x4x2x1, .f32⟩
  | 68 => ⟨S65x4x2x1, .bf16⟩
  | 69 => ⟨S65x4x2x1, .bf16⟩
  | 70 => ⟨S65x4x2x1, .f32⟩
  | 71 => ⟨S65x4x2x1x1, .f32⟩
  | 72 => ⟨S65x4x2x1x64, .f32⟩
  | 73 => ⟨S65x4x2x1x64, .f32⟩
  | 74 => ⟨S65x4x2x1, .f32⟩
  | 75 => ⟨S65x4x2x1x1, .f32⟩
  | 76 => ⟨S65x4x2x1x64, .f32⟩
  | 77 => ⟨S65x4x2x1x64, .f32⟩
  | 78 => ⟨S65x4x2x1x64, .f32⟩
  | 79 => ⟨S_, .i32⟩
  | 80 => ⟨S_, .i32⟩
  | 81 => ⟨S_, .f32⟩
  | 82 => ⟨S65x4x2x1x64, .f32⟩
  | 83 => ⟨S65x4x2x1x64, .f32⟩
  | 84 => ⟨S_, .f32⟩
  | 85 => ⟨S65x4x2x1x64, .f32⟩
  | 86 => ⟨S65x4x2x1x64, .f32⟩
  | 87 => ⟨S65x4x2x1x64, .i32⟩
  | 88 => ⟨S65x4x2x64, .i32⟩
  | 89 => ⟨S65x4x2x32, .i32⟩
  | 90 => ⟨S65x4x2x32, .i32⟩
  | 91 => ⟨S_, .i32⟩
  | 92 => ⟨S65x4x2x32, .i32⟩
  | 93 => ⟨S65x4x2x32, .i32⟩
  | 94 => ⟨S65x4x2x32, .i32⟩
  | 95 => ⟨S65x4x2x32, .i8⟩
  | 96 => ⟨S65x4x2x1x1, .bf16⟩
  | 97 => ⟨S65x4x2x1x1, .bf16⟩
  | 98 => ⟨S65x4x2x32, .i32⟩
  | 99 => ⟨S_, .i32⟩
  | 100 => ⟨S65x4x2x32, .i32⟩
  | 101 => ⟨S65x4x2x32, .i32⟩
  | 102 => ⟨S_, .i32⟩
  | 103 => ⟨S65x4x2x32, .i32⟩
  | 104 => ⟨S65x4x2x32, .i32⟩
  | 105 => ⟨S65x4x2x32, .bf16⟩
  | 106 => ⟨S65x4x2x1x32, .bf16⟩
  | 107 => ⟨S65x4x2x1x32, .bf16⟩
  | 108 => ⟨S65x4x2x1x32, .bf16⟩
  | 109 => ⟨S65x4x2x1x32, .bf16⟩
  | 110 => ⟨S65x4x2x1x32, .bf16⟩
  | 111 => ⟨S65x4x2x32, .bf16⟩
  | 112 => ⟨S65x4x2x32, .bf16⟩
  | 113 => ⟨S65x4x2x1x32, .bf16⟩
  | 114 => ⟨S65x4x2x1x32, .bf16⟩
  | 115 => ⟨S65x4x2x1x32, .bf16⟩
  | 116 => ⟨S65x4x2x1x32, .bf16⟩
  | 117 => ⟨S65x4x2x1x32, .bf16⟩
  | 118 => ⟨S65x4x2x32, .bf16⟩
  | 119 => ⟨S65x4x2x1x1, .bf16⟩
  | 120 => ⟨S65x4x2x1x1, .bf16⟩
  | 121 => ⟨S65x4x2x32, .i32⟩
  | 122 => ⟨S_, .i32⟩
  | 123 => ⟨S65x4x2x32, .i32⟩
  | 124 => ⟨S65x4x2x32, .i32⟩
  | 125 => ⟨S_, .i32⟩
  | 126 => ⟨S65x4x2x32, .i32⟩
  | 127 => ⟨S65x4x2x32, .i32⟩
  | _ => ⟨S65x4x16x64, .bf16⟩

abbrev hbmTy0_1 (i : Nat) : BufTy := match i % 128 with
  | 0 => ⟨S65x4x2x32, .bf16⟩
  | 1 => ⟨S65x4x2x1x32, .bf16⟩
  | 2 => ⟨S65x4x2x1x32, .bf16⟩
  | 3 => ⟨S65x4x2x1x32, .bf16⟩
  | 4 => ⟨S65x4x2x1x32, .bf16⟩
  | 5 => ⟨S65x4x2x1x32, .bf16⟩
  | 6 => ⟨S65x4x2x32, .bf16⟩
  | 7 => ⟨S65x4x2x32, .bf16⟩
  | 8 => ⟨S65x4x2x1x32, .bf16⟩
  | 9 => ⟨S65x4x2x1x32, .bf16⟩
  | 10 => ⟨S65x4x2x1x32, .bf16⟩
  | 11 => ⟨S65x4x2x1x32, .bf16⟩
  | 12 => ⟨S65x4x2x1x32, .bf16⟩
  | 13 => ⟨S65x4x2x32, .bf16⟩
  | 14 => ⟨S65x8192x2x1x1, .bf16⟩
  | 15 => ⟨S65x8192x2x1x1, .bf16⟩
  | 16 => ⟨S65x8192x2x32, .i32⟩
  | 17 => ⟨S_, .i32⟩
  | 18 => ⟨S65x8192x2x32, .i32⟩
  | 19 => ⟨S65x8192x2x32, .i32⟩
  | 20 => ⟨S_, .i32⟩
  | 21 => ⟨S65x8192x2x32, .i32⟩
  | 22 => ⟨S65x8192x2x32, .i32⟩
  | 23 => ⟨S65x8192x2x32, .bf16⟩
  | 24 => ⟨S65x8192x2x1x32, .bf16⟩
  | 25 => ⟨S65x8192x2x1x32, .bf16⟩
  | 26 => ⟨S65x8192x2x1x32, .bf16⟩
  | 27 => ⟨S65x8192x2x1x32, .bf16⟩
  | 28 => ⟨S65x8192x2x1x32, .bf16⟩
  | 29 => ⟨S65x8192x2x32, .bf16⟩
  | 30 => ⟨S65x8192x2x32, .bf16⟩
  | 31 => ⟨S65x8192x2x1x32, .bf16⟩
  | 32 => ⟨S65x8192x2x1x32, .bf16⟩
  | 33 => ⟨S65x8192x2x1x32, .bf16⟩
  | 34 => ⟨S65x8192x2x1x32, .bf16⟩
  | 35 => ⟨S65x8192x2x1x32, .bf16⟩
  | 36 => ⟨S65x8192x2x32, .bf16⟩
  | 37 => ⟨S65x8192x2x1x1, .bf16⟩
  | 38 => ⟨S65x8192x2x1x1, .bf16⟩
  | 39 => ⟨S65x8192x2x32, .i32⟩
  | 40 => ⟨S_, .i32⟩
  | 41 => ⟨S65x8192x2x32, .i32⟩
  | 42 => ⟨S65x8192x2x32, .i32⟩
  | 43 => ⟨S_, .i32⟩
  | 44 => ⟨S65x8192x2x32, .i32⟩
  | 45 => ⟨S65x8192x2x32, .i32⟩
  | 46 => ⟨S65x8192x2x32, .bf16⟩
  | 47 => ⟨S65x8192x2x1x32, .bf16⟩
  | 48 => ⟨S65x8192x2x1x32, .bf16⟩
  | 49 => ⟨S65x8192x2x1x32, .bf16⟩
  | 50 => ⟨S65x8192x2x1x32, .bf16⟩
  | 51 => ⟨S65x8192x2x1x32, .bf16⟩
  | 52 => ⟨S65x8192x2x32, .bf16⟩
  | 53 => ⟨S65x8192x2x32, .bf16⟩
  | 54 => ⟨S65x8192x2x1x32, .bf16⟩
  | 55 => ⟨S65x8192x2x1x32, .bf16⟩
  | 56 => ⟨S65x8192x2x1x32, .bf16⟩
  | 57 => ⟨S65x8192x2x1x32, .bf16⟩
  | 58 => ⟨S65x8192x2x1x32, .bf16⟩
  | 59 => ⟨S65x8192x2x32, .bf16⟩
  | 60 => ⟨S65x4x2x8x64, .bf16⟩
  | 61 => ⟨S65x4x2x8x32, .bf16⟩
  | 62 => ⟨S65x4x2x8x32, .bf16⟩
  | 63 => ⟨S65x2x8192x4x8, .f32⟩
  | 64 => ⟨S65x2x8x4x8192, .f32⟩
  | 65 => ⟨S65x2x8192x4x8, .f32⟩
  | 66 => ⟨S65x2x8x4x8192, .f32⟩
  | 67 => ⟨S65x2x8x4x8192, .f32⟩
  | 68 => ⟨S_, .f32⟩
  | 69 => ⟨S65x2x8x4x8192, .f32⟩
  | 70 => ⟨S65x2x8x4x8192, .f32⟩
  | 71 => ⟨S65x2x4x4x8, .f32⟩
  | 72 => ⟨S65x2x8x4x4, .f32⟩
  | 73 => ⟨S65x2x4x4x8, .f32⟩
  | 74 => ⟨S65x2x8x4x4, .f32⟩
  | 75 => ⟨S65x2x8x4x4, .f32⟩
  | 76 => ⟨S_, .f32⟩
  | 77 => ⟨S65x2x8x4x4, .f32⟩
  | 78 => ⟨S65x2x8x4x4, .f32⟩
  | 79 => ⟨S8192, .i32⟩
  | 80 => ⟨S1x8192, .i32⟩
  | 81 => ⟨S65x1, .i32⟩
  | 82 => ⟨S65x8192, .i32⟩
  | 83 => ⟨S65x8192, .i32⟩
  | 84 => ⟨S65x8192, .i1⟩
  | 85 => ⟨S65x1x1x1x8192, .i1⟩
  | 86 => ⟨S4, .i32⟩
  | 87 => ⟨S1x4, .i32⟩
  | 88 => ⟨S4, .i32⟩
  | 89 => ⟨S4x1, .i32⟩
  | 90 => ⟨S4x4, .i32⟩
  | 91 => ⟨S4x4, .i32⟩
  | 92 => ⟨S4x4, .i1⟩
  | 93 => ⟨S_, .f32⟩
  | 94 => ⟨S_, .f32⟩
  | 95 => ⟨S65x2x8x4x8192, .i1⟩
  | 96 => ⟨S65x2x8x4x8192, .f32⟩
  | 97 => ⟨S65x2x8x4x8192, .f32⟩
  | 98 => ⟨S_, .f32⟩
  | 99 => ⟨S_, .f32⟩
  | 100 => ⟨S65x2x8x4x4, .i1⟩
  | 101 => ⟨S65x2x8x4x4, .f32⟩
  | 102 => ⟨S65x2x8x4x4, .f32⟩
  | 103 => ⟨S_, .f32⟩
  | 104 => ⟨S65x2x8x4, .f32⟩
  | 105 => ⟨S_, .f32⟩
  | 106 => ⟨S65x2x8x4, .f32⟩
  | 107 => ⟨S65x2x8x4, .f32⟩
  | 108 => ⟨S65x2x8x4x1, .f32⟩
  | 109 => ⟨S65x2x8x4x8192, .f32⟩
  | 110 => ⟨S65x2x8x4x8192, .f32⟩
  | 111 => ⟨S65x2x8x4x8192, .f32⟩
  | 112 => ⟨S65x2x8x4x4, .f32⟩
  | 113 => ⟨S65x2x8x4x4, .f32⟩
  | 114 => ⟨S65x2x8x4x4, .f32⟩
  | 115 => ⟨S_, .f32⟩
  | 116 => ⟨S65x2x8x4, .f32⟩
  | 117 => ⟨S_, .f32⟩
  | 118 => ⟨S65x2x8x4, .f32⟩
  | 119 => ⟨S65x2x8x4, .f32⟩
  | 120 => ⟨S65x2x8x4x1, .f32⟩
  | 121 => ⟨S_, .f32⟩
  | 122 => ⟨S65x2x8x4x1, .f32⟩
  | 123 => ⟨S65x2x8x4x1, .f32⟩
  | 124 => ⟨S65x2x8x4x8192, .f32⟩
  | 125 => ⟨S65x2x8x4x8192, .f32⟩
  | 126 => ⟨S65x2x8x4x8192, .bf16⟩
  | 127 => ⟨S65x2x8x4x4, .f32⟩
  | _ => ⟨S65x4x16x64, .bf16⟩

abbrev hbmTy0_2 (i : Nat) : BufTy := match i % 128 with
  | 0 => ⟨S65x2x8x4x4, .f32⟩
  | 1 => ⟨S65x2x8x4x4, .bf16⟩
  | 2 => ⟨S65x2x32x8x4, .f32⟩
  | 3 => ⟨S65x4x2x8x32, .f32⟩
  | 4 => ⟨S65x2x32x8x4, .f32⟩
  | 5 => ⟨S65x4x2x8x32, .f32⟩
  | 6 => ⟨S65x4x2x8x32, .f32⟩
  | 7 => ⟨S65x2x32x8x4, .f32⟩
  | 8 => ⟨S65x4x2x8x32, .f32⟩
  | 9 => ⟨S65x2x32x8x4, .f32⟩
  | 10 => ⟨S65x4x2x8x32, .f32⟩
  | 11 => ⟨S65x4x2x8x32, .f32⟩
  | 12 => ⟨S65x4x2x8x32x1, .f32⟩
  | 13 => ⟨S65x4x2x8x32x1, .f32⟩
  | 14 => ⟨S65x4x2x8x32x2, .f32⟩
  | 15 => ⟨S65x4x1024, .f32⟩
  | 16 => ⟨S65x4x1024, .bf16⟩
  | _ => ⟨S65x4x16x64, .bf16⟩

abbrev hbmTy (i : Nat) : BufTy := match i / 128 with
  | 0 => hbmTy0_0 i
  | 1 => hbmTy0_1 i
  | 2 => hbmTy0_2 i
  | _ => ⟨S65x4x16x64, .bf16⟩

abbrev bufTy : (tb : Table) → Fin (tcTables nBuf tb) → BufTy
  | .hbm, ⟨i, _⟩ => hbmTy i
  | _, _ => ⟨S65x4x16x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_c_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_5 : Ref sig .tc := ⟨.hbm, 55, rfl⟩
abbrev main_v31 : Ref sig .tc := ⟨.hbm, 56, rfl⟩
abbrev main_cst_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_7 : Ref sig .tc := ⟨.hbm, 61, rfl⟩
abbrev main_v35 : Ref sig .tc := ⟨.hbm, 62, rfl⟩
abbrev main_v36 : Ref sig .tc := ⟨.hbm, 63, rfl⟩
abbrev main_cst_8 : Ref sig .tc := ⟨.hbm, 64, rfl⟩
abbrev main_call3_v0 : Ref sig .tc := ⟨.hbm, 65, rfl⟩
abbrev main_call3_v1 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_9 : Ref sig .tc := ⟨.hbm, 79, rfl⟩
abbrev main_c_10 : Ref sig .tc := ⟨.hbm, 80, rfl⟩
abbrev main_call5_v0 : Ref sig .tc := ⟨.hbm, 81, rfl⟩
abbrev main_call5_v1 : Ref sig .tc := ⟨.hbm, 82, rfl⟩
abbrev main_call5_v2 : Ref sig .tc := ⟨.hbm, 83, rfl⟩
abbrev main_call5_v3 : Ref sig .tc := ⟨.hbm, 84, rfl⟩
abbrev main_call5_v4 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_c_11 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_c_12 : Ref sig .tc := ⟨.hbm, 99, rfl⟩
abbrev main_v61 : Ref sig .tc := ⟨.hbm, 100, rfl⟩
abbrev main_v62 : Ref sig .tc := ⟨.hbm, 101, rfl⟩
abbrev main_c_13 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_c_14 : Ref sig .tc := ⟨.hbm, 122, rfl⟩
abbrev main_v82 : Ref sig .tc := ⟨.hbm, 123, rfl⟩
abbrev main_v83 : Ref sig .tc := ⟨.hbm, 124, rfl⟩
abbrev main_c_15 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_c_16 : Ref sig .tc := ⟨.hbm, 145, rfl⟩
abbrev main_v103 : Ref sig .tc := ⟨.hbm, 146, rfl⟩
abbrev main_v104 : Ref sig .tc := ⟨.hbm, 147, rfl⟩
abbrev main_c_17 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_c_18 : Ref sig .tc := ⟨.hbm, 168, rfl⟩
abbrev main_v124 : Ref sig .tc := ⟨.hbm, 169, rfl⟩
abbrev main_v125 : Ref sig .tc := ⟨.hbm, 170, rfl⟩
abbrev main_c_19 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_cst_20 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_cst_21 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_cst_22 : Ref sig .tc := ⟨.hbm, 221, rfl⟩
abbrev main_call6_v0 : Ref sig .tc := ⟨.hbm, 222, rfl⟩
abbrev main_call6_v1 : Ref sig .tc := ⟨.hbm, 223, rfl⟩
abbrev main_call6_v2 : Ref sig .tc := ⟨.hbm, 224, rfl⟩
abbrev main_v173 : Ref sig .tc := ⟨.hbm, 225, rfl⟩
abbrev main_cst_23 : Ref sig .tc := ⟨.hbm, 226, rfl⟩
abbrev main_call7_v0 : Ref sig .tc := ⟨.hbm, 227, rfl⟩
abbrev main_call7_v1 : Ref sig .tc := ⟨.hbm, 228, rfl⟩
abbrev main_call7_v2 : Ref sig .tc := ⟨.hbm, 229, rfl⟩
abbrev main_v174 : Ref sig .tc := ⟨.hbm, 230, rfl⟩
abbrev main_cst_24 : Ref sig .tc := ⟨.hbm, 231, rfl⟩
abbrev main_v175 : Ref sig .tc := ⟨.hbm, 232, rfl⟩
abbrev main_cst_25 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_cst_26 : Ref sig .tc := ⟨.hbm, 243, rfl⟩
abbrev main_v185 : Ref sig .tc := ⟨.hbm, 244, rfl⟩
abbrev main_cst_27 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_cst_28 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩

abbrev nD : Nat := 1
abbrev τ : Topo := Topo.v7x

variable {F : FTy → Type} [FloatOps F]
-- ==== Proof.Pre.lean ====
/-
  What the two preconditions say, read off their printed functions: `short_cache` bounds every count of cached tokens by
  8192; `finite_keys` does so too, and says that every query, new key, cached scale and cached zero is finite.
-/
module

public import proofs.«01_k».proof.Defs
public import proofs.«01_k».proof.Proof.Gen.Pre_short_cache
public import proofs.«01_k».proof.Proof.Gen.Pre_finite_keys
public import Idealize.ShloMosaic.Lib.ReduceAll
public import Idealize.ShloMosaic.Lib.WordCmp

@[expose] public section

noncomputable section

namespace Cert.Pre

open Idealize.ShloMosaic

/-- A word compared signed-below-or-equal to 8192 is at most 8192. -/
theorem le_of_sle {v : BitVec 32} (h : IntOp.cmpi .sle v 8192#32 = 1#1) : v.toInt ≤ 8192 := by
  have := (IntOp.cmpi_sle (x := v) (y := 8192#32)).1 h
  have h2 : (8192#32 : BitVec 32).toInt = 8192 := by decide
  rwa [h2] at this

section Short
variable {F : FTy → Type} [FloatOps F]

open Cert.Pre_short_cache in
/-- `short_cache` all ones: every count is at most 8192. -/
theorem short_of_fn {a0 : FVec F S65x4x16x64 .bf16} {a1 a2 : FVec F S65x4x2x64 .bf16} {a3 : IVec S65x8192x2x32 8}
    {a4 a5 : FVec F S65x8192x2x1 .bf16} {a6 : IVec S65x8192x2x32 8} {a7 a8 : FVec F S65x8192x2x1 .bf16} {a9 : IVec S65 32}
    (h : fn a0 a1 a2 a3 a4 a5 a6 a7 a8 a9 = fun _ => 1#1) (i : S65.Idx) : (a9 i).toInt ≤ 8192 :=
  le_of_sle (congrFun h i)

end Short

/-- An extended real whose absolute value is below the 16-bit format's infinity is a real number. -/
theorem ne_of_abs_lt {x : EReal} (h : (FloatOps.cmpf (F := Ideal) (φ := .bf16) .olt (FloatOps.absf (F := Ideal) (φ := .bf16) x)
    (FloatOps.ofBits (F := Ideal) .bf16 0x7F80#16)) = 1#1) : x ≠ ⊤ ∧ x ≠ ⊥ := by
  have ht : (FloatOps.ofBits (F := Ideal) .bf16 0x7F80#16 : EReal) = ⊤ := by
    show Ideal.ofBits .bf16 0x7F80#16 = ⊤
    simp [Ideal.ofBits, Ideal.ieee]
  have h1 : max x (-x) < (⊤ : EReal) := by
    have h2 : BitVec.ofBool (decide (max x (-x) < (FloatOps.ofBits (F := Ideal) .bf16 0x7F80#16 : EReal))) = 1#1 := h
    rw [ht] at h2
    by_contra hc
    rw [decide_eq_false hc] at h2
    exact absurd h2 (by decide)
  refine ⟨fun e => ?_, fun e => ?_⟩ <;> subst e <;> simp at h1

open Cert.Pre_finite_keys in
/-- `finite_keys` all ones. -/
theorem finite_of_fn {a0 : FVec Ideal S65x4x16x64 .bf16} {a1 a2 : FVec Ideal S65x4x2x64 .bf16} {a3 : IVec S65x8192x2x32 8}
    {a4 a5 : FVec Ideal S65x8192x2x1 .bf16} {a6 : IVec S65x8192x2x32 8} {a7 a8 : FVec Ideal S65x8192x2x1 .bf16} {a9 : IVec S65 32}
    (h : fn a0 a1 a2 a3 a4 a5 a6 a7 a8 a9 = fun _ => 1#1) :
    (∀ i, (a9 i).toInt ≤ 8192) ∧ (∀ i, (a0 i : EReal) ≠ ⊤ ∧ (a0 i : EReal) ≠ ⊥) ∧ (∀ i, (a1 i : EReal) ≠ ⊤ ∧ (a1 i : EReal) ≠ ⊥)
      ∧ (∀ i, (a4 i : EReal) ≠ ⊤ ∧ (a4 i : EReal) ≠ ⊥) ∧ (∀ i, (a5 i : EReal) ≠ ⊤ ∧ (a5 i : EReal) ≠ ⊥) := by
  have h0 := congrFun h (Shape.Idx.first Facts.h_S_)
  obtain ⟨h0, e5⟩ := IntOp.andi_eq_one.1 h0
  obtain ⟨h0, e4⟩ := IntOp.andi_eq_one.1 h0
  obtain ⟨h0, e1⟩ := IntOp.andi_eq_one.1 h0
  obtain ⟨e9, e0⟩ := IntOp.andi_eq_one.1 h0
  exact ⟨fun i => le_of_sle (Host.reduce_andi_all _ _ _ _ _ e9 i), fun i => ne_of_abs_lt (Host.reduce_andi_all _ _ _ _ _ e0 i),
    fun i => ne_of_abs_lt (Host.reduce_andi_all _ _ _ _ _ e1 i), fun i => ne_of_abs_lt (Host.reduce_andi_all _ _ _ _ _ e4 i),
    fun i => ne_of_abs_lt (Host.reduce_andi_all _ _ _ _ _ e5 i)⟩

end Cert.Pre

end
-- ==== Proof.KernelQuant.lean ====
/-
  The quantizer's region (custom_call 0 of @main), entered with the device's buffers at an arbitrary valuation `W`:
  what the kernel leaves in each of its eight results as a function of the two arrays it reads, the run of its body,
  and the pipeline's body obligation.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic

@[expose] public section

set_option maxRecDepth 16384

noncomputable section

namespace Cert.Kernel.Quant

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = W c (Proc.devRef .tc (Pipeline.arrRef spec0 0)))
    (hafter : ∀ t, dat.after 0 t = iblk W c 0 t) (t : Fin cfg0.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = W c (Proc.devRef .tc (Pipeline.arrRef spec0 1)))
    (hafter : ∀ t, dat.after 1 t = iblk W c 1 t) (t : Fin cfg0.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S4x2x64x65 := Rect.unit (s := S4x2x64x65) ![0, 0, 0, 0] S1x1x64x65.size inb_S4x2x64x65_S1x1x64x65_0_0_0_0
abbrev r0_1 : Rect S4x2x32x65 := Rect.unit (s := S4x2x32x65) ![0, 0, 0, 0] S1x1x32x65.size inb_S4x2x32x65_S1x1x32x65_0_0_0_0
abbrev r0_2 : Rect S4x2x64x65 := Rect.unit (s := S4x2x64x65) ![0, 1, 0, 0] S1x1x64x65.size inb_S4x2x64x65_S1x1x64x65_0_1_0_0
abbrev r0_3 : Rect S4x2x32x65 := Rect.unit (s := S4x2x32x65) ![0, 1, 0, 0] S1x1x32x65.size inb_S4x2x32x65_S1x1x32x65_0_1_0_0
abbrev r0_4 : Rect S4x2x65 := Rect.unit (s := S4x2x65) ![0, 0, 0] S1x2x65.size inb_S4x2x65_S1x2x65_0_0_0
abbrev r0_5 : Rect S4x2x64x65 := Rect.unit (s := S4x2x64x65) ![1, 0, 0, 0] S1x1x64x65.size inb_S4x2x64x65_S1x1x64x65_1_0_0_0
abbrev r0_6 : Rect S4x2x32x65 := Rect.unit (s := S4x2x32x65) ![1, 0, 0, 0] S1x1x32x65.size inb_S4x2x32x65_S1x1x32x65_1_0_0_0
abbrev r0_7 : Rect S4x2x64x65 := Rect.unit (s := S4x2x64x65) ![1, 1, 0, 0] S1x1x64x65.size inb_S4x2x64x65_S1x1x64x65_1_1_0_0
abbrev r0_8 : Rect S4x2x32x65 := Rect.unit (s := S4x2x32x65) ![1, 1, 0, 0] S1x1x32x65.size inb_S4x2x32x65_S1x1x32x65_1_1_0_0
abbrev r0_9 : Rect S4x2x65 := Rect.unit (s := S4x2x65) ![1, 0, 0] S1x2x65.size inb_S4x2x65_S1x2x65_1_0_0
abbrev r0_10 : Rect S4x2x64x65 := Rect.unit (s := S4x2x64x65) ![2, 0, 0, 0] S1x1x64x65.size inb_S4x2x64x65_S1x1x64x65_2_0_0_0
abbrev r0_11 : Rect S4x2x32x65 := Rect.unit (s := S4x2x32x65) ![2, 0, 0, 0] S1x1x32x65.size inb_S4x2x32x65_S1x1x32x65_2_0_0_0
abbrev r0_12 : Rect S4x2x64x65 := Rect.unit (s := S4x2x64x65) ![2, 1, 0, 0] S1x1x64x65.size inb_S4x2x64x65_S1x1x64x65_2_1_0_0
abbrev r0_13 : Rect S4x2x32x65 := Rect.unit (s := S4x2x32x65) ![2, 1, 0, 0] S1x1x32x65.size inb_S4x2x32x65_S1x1x32x65_2_1_0_0
abbrev r0_14 : Rect S4x2x65 := Rect.unit (s := S4x2x65) ![2, 0, 0] S1x2x65.size inb_S4x2x65_S1x2x65_2_0_0
abbrev r0_15 : Rect S4x2x64x65 := Rect.unit (s := S4x2x64x65) ![3, 0, 0, 0] S1x1x64x65.size inb_S4x2x64x65_S1x1x64x65_3_0_0_0
abbrev r0_16 : Rect S4x2x32x65 := Rect.unit (s := S4x2x32x65) ![3, 0, 0, 0] S1x1x32x65.size inb_S4x2x32x65_S1x1x32x65_3_0_0_0
abbrev r0_17 : Rect S4x2x64x65 := Rect.unit (s := S4x2x64x65) ![3, 1, 0, 0] S1x1x64x65.size inb_S4x2x64x65_S1x1x64x65_3_1_0_0
abbrev r0_18 : Rect S4x2x32x65 := Rect.unit (s := S4x2x32x65) ![3, 1, 0, 0] S1x1x32x65.size inb_S4x2x32x65_S1x1x32x65_3_1_0_0
abbrev r0_19 : Rect S4x2x65 := Rect.unit (s := S4x2x65) ![3, 0, 0] S1x2x65.size inb_S4x2x65_S1x2x65_3_0_0

/-! ## What the body leaves in each output window's buffer -/

/-! ### Values of the body that the stores' payloads, spelt out, would write more than once

    Each is a vector the body binds (often a part call's result), stated over the input windows' blocks and
    numbered on from the skeleton's payload functions (`quant_v150` …, after `k0_pay149`), so that
    `out0_W` and the values after it name it instead of spelling it out (`unfold_out out0_W` opens a canon
    with them, `unfold_payloads` opens them with the payloads); the comment after each is the printed function's
    name for the value (a count appended where that name is bound again). -/

def quant_v150 (x0 : Vec F S4x2x64x65 .bf16) (x1 : Vec F S4x2x64x65 .bf16) : FVec F S64x65 .f32 :=
  k0_pay21 (View.ld x0 r0_5) -- `v108`
def quant_v151 (x0 : Vec F S4x2x64x65 .bf16) (x1 : Vec F S4x2x64x65 .bf16) : FVec F S1x65 .bf16 :=
  k0_pay23 (View.ld x0 r0_5) -- `v119`
def quant_v152 (x0 : Vec F S4x2x64x65 .bf16) (x1 : Vec F S4x2x64x65 .bf16) : FVec F S1x65 .bf16 :=
  k0_pay24 (View.ld x0 r0_5) -- `v120`
def quant_v153 (x0 : Vec F S4x2x64x65 .bf16) (x1 : Vec F S4x2x64x65 .bf16) : FVec F S1x65 .f32 :=
  k0_pay25 (View.ld x0 r0_5) -- `v121`
def quant_v154 (x0 : Vec F S4x2x64x65 .bf16) (x1 : Vec F S4x2x64x65 .bf16) : FVec F S64x65 .f32 :=
  k0_pay29 (View.ld x0 r0_7) -- `v157`
def quant_v155 (x0 : Vec F S4x2x64x65 .bf16) (x1 : Vec F S4x2x64x65 .bf16) : FVec F S1x65 .f32 :=
  k0_pay30 (View.ld x0 r0_7) -- `v159`
def quant_v156 (x0 : Vec F S4x2x64x65 .bf16) (x1 : Vec F S4x2x64x65 .bf16) : FVec F S1x65 .f32 :=
  k0_pay31 (View.ld x0 r0_7) -- `v161`
def quant_v157 (x0 : Vec F S4x2x64x65 .bf16) (x1 : Vec F S4x2x64x65 .bf16) : IVec S1x65 1 :=
  k0_pay32 (View.ld x0 r0_7) -- `v162`
def quant_v158 (x0 : Vec F S4x2x64x65 .bf16) (x1 : Vec F S4x2x64x65 .bf16) : FVec F S1x65 .bf16 :=
  k0_pay51 (View.ld x0 r0_12) -- `v274`
def quant_v159 (x0 : Vec F S4x2x64x65 .bf16) (x1 : Vec F S4x2x64x65 .bf16) : FVec F S1x65 .bf16 :=
  k0_pay52 (View.ld x0 r0_12) -- `v275`
def quant_v160 (x0 : Vec F S4x2x64x65 .bf16) (x1 : Vec F S4x2x64x65 .bf16) : FVec F S64x65 .f32 :=
  k0_pay53 (View.ld x0 r0_12) -- `v288`
def quant_v161 (x0 : Vec F S4x2x64x65 .bf16) (x1 : Vec F S4x2x64x65 .bf16) : FVec F S64x65 .f32 :=
  k0_pay58 (View.ld x0 r0_15) -- `v320`
def quant_v162 (x0 : Vec F S4x2x64x65 .bf16) (x1 : Vec F S4x2x64x65 .bf16) : FVec F S1x65 .f32 :=
  k0_pay59 (View.ld x0 r0_15) -- `v322`
def quant_v163 (x0 : Vec F S4x2x64x65 .bf16) (x1 : Vec F S4x2x64x65 .bf16) : FVec F S65 .f32 :=
  k0_pay60 (View.ld x0 r0_15) -- `v323`
def quant_v164 (x0 : Vec F S4x2x64x65 .bf16) (x1 : Vec F S4x2x64x65 .bf16) : FVec F S1x65 .bf16 :=
  k0_pay78 (View.ld x1 r0_0) -- `v437`
def quant_v165 (x0 : Vec F S4x2x64x65 .bf16) (x1 : Vec F S4x2x64x65 .bf16) : FVec F S1x65 .bf16 :=
  k0_pay79 (View.ld x1 r0_0) -- `v438`
def quant_v166 (x0 : Vec F S4x2x64x65 .bf16) (x1 : Vec F S4x2x64x65 .bf16) : FVec F S64x65 .f32 :=
  k0_pay80 (View.ld x1 r0_0) -- `v448`
def quant_v167 (x0 : Vec F S4x2x64x65 .bf16) (x1 : Vec F S4x2x64x65 .bf16) : FVec F S1x65 .bf16 :=
  k0_pay87 (View.ld x1 r0_2) -- `v486`
def quant_v168 (x0 : Vec F S4x2x64x65 .bf16) (x1 : Vec F S4x2x64x65 .bf16) : FVec F S1x65 .bf16 :=
  k0_pay88 (View.ld x1 r0_2) -- `v487`
def quant_v169 (x0 : Vec F S4x2x64x65 .bf16) (x1 : Vec F S4x2x64x65 .bf16) : FVec F S64x65 .f32 :=
  k0_pay89 (View.ld x1 r0_2) -- `v490`
def quant_v170 (x0 : Vec F S4x2x64x65 .bf16) (x1 : Vec F S4x2x64x65 .bf16) : FVec F S64x65 .f32 :=
  k0_pay114 (View.ld x1 r0_10) -- `v638`
def quant_v171 (x0 : Vec F S4x2x64x65 .bf16) (x1 : Vec F S4x2x64x65 .bf16) : FVec F S1x65 .bf16 :=
  k0_pay116 (View.ld x1 r0_10) -- `v649`
def quant_v172 (x0 : Vec F S4x2x64x65 .bf16) (x1 : Vec F S4x2x64x65 .bf16) : FVec F S1x65 .bf16 :=
  k0_pay117 (View.ld x1 r0_10) -- `v650`
def quant_v173 (x0 : Vec F S4x2x64x65 .bf16) (x1 : Vec F S4x2x64x65 .bf16) : FVec F S1x65 .f32 :=
  k0_pay118 (View.ld x1 r0_10) -- `v651`
def quant_v174 (x0 : Vec F S4x2x64x65 .bf16) (x1 : Vec F S4x2x64x65 .bf16) : FVec F S64x65 .f32 :=
  k0_pay122 (View.ld x1 r0_12) -- `v687`
def quant_v175 (x0 : Vec F S4x2x64x65 .bf16) (x1 : Vec F S4x2x64x65 .bf16) : FVec F S1x65 .f32 :=
  k0_pay123 (View.ld x1 r0_12) -- `v689`
def quant_v176 (x0 : Vec F S4x2x64x65 .bf16) (x1 : Vec F S4x2x64x65 .bf16) : FVec F S1x65 .f32 :=
  k0_pay124 (View.ld x1 r0_12) -- `v691`
def quant_v177 (x0 : Vec F S4x2x64x65 .bf16) (x1 : Vec F S4x2x64x65 .bf16) : IVec S1x65 1 :=
  k0_pay125 (View.ld x1 r0_12) -- `v692`
def quant_v178 (x0 : Vec F S4x2x64x65 .bf16) (x1 : Vec F S4x2x64x65 .bf16) : FVec F S1x65 .bf16 :=
  k0_pay144 (View.ld x1 r0_17) -- `v804`
def quant_v179 (x0 : Vec F S4x2x64x65 .bf16) (x1 : Vec F S4x2x64x65 .bf16) : FVec F S1x65 .bf16 :=
  k0_pay145 (View.ld x1 r0_17) -- `v805`
def quant_v180 (x0 : Vec F S4x2x64x65 .bf16) (x1 : Vec F S4x2x64x65 .bf16) : FVec F S64x65 .f32 :=
  k0_pay146 (View.ld x1 r0_17) -- `v818`

/-- Window 2's staging buffer after the body, from the input windows' blocks: its 8 stores as pieces, LAST
    FIRST. -/
def out0_2 (x0 : Vec F S4x2x64x65 .bf16) (x1 : Vec F S4x2x64x65 .bf16) : Vec F S4x2x32x65 .i8 :=
  View.canon [⟨r0_18, k0_pay73 (k0_pay72 (View.ld x0 r0_17))⟩,
    ⟨r0_16, k0_pay65 (quant_v161 x0 x1) (quant_v162 x0 x1) (quant_v163 x0 x1)⟩,
    ⟨r0_13, k0_pay55 (quant_v160 x0 x1)⟩,
    ⟨r0_11, k0_pay48 (k0_pay45 (View.ld x0 r0_10))⟩,
    ⟨r0_8, k0_pay37 (quant_v154 x0 x1) (quant_v155 x0 x1) (quant_v156 x0 x1) (quant_v157 x0 x1)⟩,
    ⟨r0_6, k0_pay28 (quant_v150 x0 x1) (quant_v151 x0 x1) (quant_v153 x0 x1)⟩,
    ⟨r0_3, k0_pay18 (k0_pay16 (View.ld x0 r0_2))⟩,
    ⟨r0_1, k0_pay11 (k0_pay9 (View.ld x0 r0_0)) (k0_pay10 (View.ld x0 r0_0))⟩]

/-- Its stores tile the buffer (checked by evaluation), so they cover it. -/
theorem cover0_2 (p0 : Vec F S1x1x32x65 .i8) (p1 : Vec F S1x1x32x65 .i8) (p2 : Vec F S1x1x32x65 .i8) (p3 : Vec F S1x1x32x65 .i8) (p4 : Vec F S1x1x32x65 .i8) (p5 : Vec F S1x1x32x65 .i8) (p6 : Vec F S1x1x32x65 .i8) (p7 : Vec F S1x1x32x65 .i8) (y : S4x2x32x65.Idx) :
    ∃ pc ∈ ([⟨r0_18, p0⟩, ⟨r0_16, p1⟩, ⟨r0_13, p2⟩, ⟨r0_11, p3⟩, ⟨r0_8, p4⟩, ⟨r0_6, p5⟩, ⟨r0_3, p6⟩, ⟨r0_1, p7⟩] : List (View.Piece (Elt F) S4x2x32x65 .i8)), y ∈ pc.1.set :=
  View.cover_of_tiled [⟨r0_18, p0⟩, ⟨r0_16, p1⟩, ⟨r0_13, p2⟩, ⟨r0_11, p3⟩, ⟨r0_8, p4⟩, ⟨r0_6, p5⟩, ⟨r0_3, p6⟩, ⟨r0_1, p7⟩] S1x1x32x65.size (by rfl) y

/-- Window 3's staging buffer after the body, from the input windows' blocks: its 4 stores as pieces, LAST
    FIRST. -/
def out0_3 (x0 : Vec F S4x2x64x65 .bf16) (x1 : Vec F S4x2x64x65 .bf16) : Vec F S4x2x65 .bf16 :=
  View.canon [⟨r0_19, k0_pay74 (k0_pay61 (quant_v162 x0 x1) (quant_v163 x0 x1)) (k0_pay68 (View.ld x0 r0_17))⟩,
    ⟨r0_14, k0_pay56 (k0_pay43 (View.ld x0 r0_10)) (quant_v158 x0 x1)⟩,
    ⟨r0_9, k0_pay39 (k0_pay38 (quant_v151 x0 x1) (quant_v155 x0 x1) (quant_v156 x0 x1) (quant_v157 x0 x1))⟩,
    ⟨r0_4, k0_pay19 (k0_pay4 (View.ld x0 r0_0)) (k0_pay14 (View.ld x0 r0_2))⟩]

/-- Its stores tile the buffer (checked by evaluation), so they cover it. -/
theorem cover0_3 (p0 : Vec F S1x2x65 .bf16) (p1 : Vec F S1x2x65 .bf16) (p2 : Vec F S1x2x65 .bf16) (p3 : Vec F S1x2x65 .bf16) (y : S4x2x65.Idx) :
    ∃ pc ∈ ([⟨r0_19, p0⟩, ⟨r0_14, p1⟩, ⟨r0_9, p2⟩, ⟨r0_4, p3⟩] : List (View.Piece (Elt F) S4x2x65 .bf16)), y ∈ pc.1.set :=
  View.cover_of_tiled [⟨r0_19, p0⟩, ⟨r0_14, p1⟩, ⟨r0_9, p2⟩, ⟨r0_4, p3⟩] S1x2x65.size (by rfl) y

/-- Window 4's staging buffer after the body, from the input windows' blocks: its 4 stores as pieces, LAST
    FIRST. -/
def out0_4 (x0 : Vec F S4x2x64x65 .bf16) (x1 : Vec F S4x2x64x65 .bf16) : Vec F S4x2x65 .bf16 :=
  View.canon [⟨r0_19, k0_pay75 (k0_pay62 (quant_v162 x0 x1)) (k0_pay69 (View.ld x0 r0_17))⟩,
    ⟨r0_14, k0_pay57 (k0_pay44 (View.ld x0 r0_10)) (quant_v159 x0 x1)⟩,
    ⟨r0_9, k0_pay40 (quant_v152 x0 x1) (k0_pay34 (quant_v155 x0 x1))⟩,
    ⟨r0_4, k0_pay20 (k0_pay5 (View.ld x0 r0_0)) (k0_pay15 (View.ld x0 r0_2))⟩]

/-- Its stores tile the buffer (checked by evaluation), so they cover it. -/
theorem cover0_4 (p0 : Vec F S1x2x65 .bf16) (p1 : Vec F S1x2x65 .bf16) (p2 : Vec F S1x2x65 .bf16) (p3 : Vec F S1x2x65 .bf16) (y : S4x2x65.Idx) :
    ∃ pc ∈ ([⟨r0_19, p0⟩, ⟨r0_14, p1⟩, ⟨r0_9, p2⟩, ⟨r0_4, p3⟩] : List (View.Piece (Elt F) S4x2x65 .bf16)), y ∈ pc.1.set :=
  View.cover_of_tiled [⟨r0_19, p0⟩, ⟨r0_14, p1⟩, ⟨r0_9, p2⟩, ⟨r0_4, p3⟩] S1x2x65.size (by rfl) y

/-- Window 5's staging buffer after the body, from the input windows' blocks: its 8 stores as pieces, LAST
    FIRST. -/
def out0_5 (x0 : Vec F S4x2x64x65 .bf16) (x1 : Vec F S4x2x64x65 .bf16) : Vec F S4x2x32x65 .i8 :=
  View.canon [⟨r0_18, k0_pay148 (quant_v180 x0 x1)⟩,
    ⟨r0_16, k0_pay141 (k0_pay138 (View.ld x1 r0_15))⟩,
    ⟨r0_13, k0_pay130 (quant_v174 x0 x1) (quant_v175 x0 x1) (quant_v176 x0 x1) (quant_v177 x0 x1)⟩,
    ⟨r0_11, k0_pay121 (quant_v170 x0 x1) (quant_v171 x0 x1) (quant_v173 x0 x1)⟩,
    ⟨r0_8, k0_pay111 (k0_pay109 (View.ld x1 r0_7))⟩,
    ⟨r0_6, k0_pay104 (k0_pay102 (View.ld x1 r0_5)) (k0_pay103 (View.ld x1 r0_5))⟩,
    ⟨r0_3, k0_pay92 (quant_v167 x0 x1) (quant_v169 x0 x1)⟩,
    ⟨r0_1, k0_pay84 (quant_v166 x0 x1) (k0_pay81 (F := F))⟩]

/-- Its stores tile the buffer (checked by evaluation), so they cover it. -/
theorem cover0_5 (p0 : Vec F S1x1x32x65 .i8) (p1 : Vec F S1x1x32x65 .i8) (p2 : Vec F S1x1x32x65 .i8) (p3 : Vec F S1x1x32x65 .i8) (p4 : Vec F S1x1x32x65 .i8) (p5 : Vec F S1x1x32x65 .i8) (p6 : Vec F S1x1x32x65 .i8) (p7 : Vec F S1x1x32x65 .i8) (y : S4x2x32x65.Idx) :
    ∃ pc ∈ ([⟨r0_18, p0⟩, ⟨r0_16, p1⟩, ⟨r0_13, p2⟩, ⟨r0_11, p3⟩, ⟨r0_8, p4⟩, ⟨r0_6, p5⟩, ⟨r0_3, p6⟩, ⟨r0_1, p7⟩] : List (View.Piece (Elt F) S4x2x32x65 .i8)), y ∈ pc.1.set :=
  View.cover_of_tiled [⟨r0_18, p0⟩, ⟨r0_16, p1⟩, ⟨r0_13, p2⟩, ⟨r0_11, p3⟩, ⟨r0_8, p4⟩, ⟨r0_6, p5⟩, ⟨r0_3, p6⟩, ⟨r0_1, p7⟩] S1x1x32x65.size (by rfl) y

/-- Window 6's staging buffer after the body, from the input windows' blocks: its 4 stores as pieces, LAST
    FIRST. -/
def out0_6 (x0 : Vec F S4x2x64x65 .bf16) (x1 : Vec F S4x2x64x65 .bf16) : Vec F S4x2x65 .bf16 :=
  View.canon [⟨r0_19, k0_pay149 (k0_pay136 (View.ld x1 r0_15)) (quant_v178 x0 x1)⟩,
    ⟨r0_14, k0_pay132 (k0_pay131 (quant_v171 x0 x1) (quant_v175 x0 x1) (quant_v176 x0 x1) (quant_v177 x0 x1))⟩,
    ⟨r0_9, k0_pay112 (k0_pay97 (View.ld x1 r0_5)) (k0_pay107 (View.ld x1 r0_7))⟩,
    ⟨r0_4, k0_pay93 (quant_v164 x0 x1) (quant_v167 x0 x1)⟩]

/-- Its stores tile the buffer (checked by evaluation), so they cover it. -/
theorem cover0_6 (p0 : Vec F S1x2x65 .bf16) (p1 : Vec F S1x2x65 .bf16) (p2 : Vec F S1x2x65 .bf16) (p3 : Vec F S1x2x65 .bf16) (y : S4x2x65.Idx) :
    ∃ pc ∈ ([⟨r0_19, p0⟩, ⟨r0_14, p1⟩, ⟨r0_9, p2⟩, ⟨r0_4, p3⟩] : List (View.Piece (Elt F) S4x2x65 .bf16)), y ∈ pc.1.set :=
  View.cover_of_tiled [⟨r0_19, p0⟩, ⟨r0_14, p1⟩, ⟨r0_9, p2⟩, ⟨r0_4, p3⟩] S1x2x65.size (by rfl) y

/-- Window 7's staging buffer after the body, from the input windows' blocks: its 4 stores as pieces, LAST
    FIRST. -/
def out0_7 (x0 : Vec F S4x2x64x65 .bf16) (x1 : Vec F S4x2x64x65 .bf16) : Vec F S4x2x65 .bf16 :=
  View.canon [⟨r0_19, k0_pay1 (k0_pay137 (View.ld x1 r0_15)) (quant_v179 x0 x1)⟩,
    ⟨r0_14, k0_pay133 (quant_v172 x0 x1) (k0_pay127 (quant_v175 x0 x1))⟩,
    ⟨r0_9, k0_pay113 (k0_pay98 (View.ld x1 r0_5)) (k0_pay108 (View.ld x1 r0_7))⟩,
    ⟨r0_4, k0_pay94 (quant_v165 x0 x1) (quant_v168 x0 x1)⟩]

/-- Its stores tile the buffer (checked by evaluation), so they cover it. -/
theorem cover0_7 (p0 : Vec F S1x2x65 .bf16) (p1 : Vec F S1x2x65 .bf16) (p2 : Vec F S1x2x65 .bf16) (p3 : Vec F S1x2x65 .bf16) (y : S4x2x65.Idx) :
    ∃ pc ∈ ([⟨r0_19, p0⟩, ⟨r0_14, p1⟩, ⟨r0_9, p2⟩, ⟨r0_4, p3⟩] : List (View.Piece (Elt F) S4x2x65 .bf16)), y ∈ pc.1.set :=
  View.cover_of_tiled [⟨r0_19, p0⟩, ⟨r0_14, p1⟩, ⟨r0_9, p2⟩, ⟨r0_4, p3⟩] S1x2x65.size (by rfl) y

/-- Window 8's staging buffer after the body, from the input windows' blocks: its 8 stores as pieces, LAST
    FIRST. -/
def out0_8 (x0 : Vec F S4x2x64x65 .bf16) (x1 : Vec F S4x2x64x65 .bf16) : Vec F S4x2x64x65 .bf16 :=
  View.canon [⟨r0_17, k0_pay71 (View.ld x0 r0_17)⟩,
    ⟨r0_15, k0_pay64 (quant_v161 x0 x1) (quant_v162 x0 x1) (quant_v163 x0 x1)⟩,
    ⟨r0_12, k0_pay54 (quant_v158 x0 x1) (quant_v159 x0 x1) (quant_v160 x0 x1)⟩,
    ⟨r0_10, k0_pay47 (k0_pay46 (View.ld x0 r0_10))⟩,
    ⟨r0_7, k0_pay36 (quant_v154 x0 x1) (quant_v155 x0 x1) (quant_v156 x0 x1) (quant_v157 x0 x1)⟩,
    ⟨r0_5, k0_pay27 (quant_v150 x0 x1) (quant_v151 x0 x1) (quant_v152 x0 x1) (quant_v153 x0 x1)⟩,
    ⟨r0_2, k0_pay17 (View.ld x0 r0_2)⟩,
    ⟨r0_0, k0_pay7 (View.ld x0 r0_0)⟩]

/-- Its stores tile the buffer (checked by evaluation), so they cover it. -/
theorem cover0_8 (p0 : Vec F S1x1x64x65 .bf16) (p1 : Vec F S1x1x64x65 .bf16) (p2 : Vec F S1x1x64x65 .bf16) (p3 : Vec F S1x1x64x65 .bf16) (p4 : Vec F S1x1x64x65 .bf16) (p5 : Vec F S1x1x64x65 .bf16) (p6 : Vec F S1x1x64x65 .bf16) (p7 : Vec F S1x1x64x65 .bf16) (y : S4x2x64x65.Idx) :
    ∃ pc ∈ ([⟨r0_17, p0⟩, ⟨r0_15, p1⟩, ⟨r0_12, p2⟩, ⟨r0_10, p3⟩, ⟨r0_7, p4⟩, ⟨r0_5, p5⟩, ⟨r0_2, p6⟩, ⟨r0_0, p7⟩] : List (View.Piece (Elt F) S4x2x64x65 .bf16)), y ∈ pc.1.set :=
  View.cover_of_tiled [⟨r0_17, p0⟩, ⟨r0_15, p1⟩, ⟨r0_12, p2⟩, ⟨r0_10, p3⟩, ⟨r0_7, p4⟩, ⟨r0_5, p5⟩, ⟨r0_2, p6⟩, ⟨r0_0, p7⟩] S1x1x64x65.size (by rfl) y

/-- Window 9's staging buffer after the body, from the input windows' blocks: its 8 stores as pieces, LAST
    FIRST. -/
def out0_9 (x0 : Vec F S4x2x64x65 .bf16) (x1 : Vec F S4x2x64x65 .bf16) : Vec F S4x2x64x65 .bf16 :=
  View.canon [⟨r0_17, k0_pay147 (quant_v178 x0 x1) (quant_v179 x0 x1) (quant_v180 x0 x1)⟩,
    ⟨r0_15, k0_pay140 (k0_pay139 (View.ld x1 r0_15))⟩,
    ⟨r0_12, k0_pay129 (quant_v174 x0 x1) (quant_v175 x0 x1) (quant_v176 x0 x1) (quant_v177 x0 x1)⟩,
    ⟨r0_10, k0_pay120 (quant_v170 x0 x1) (quant_v171 x0 x1) (quant_v172 x0 x1) (quant_v173 x0 x1)⟩,
    ⟨r0_7, k0_pay110 (View.ld x1 r0_7)⟩,
    ⟨r0_5, k0_pay100 (View.ld x1 r0_5)⟩,
    ⟨r0_2, k0_pay91 (quant_v167 x0 x1) (quant_v168 x0 x1) (quant_v169 x0 x1)⟩,
    ⟨r0_0, k0_pay83 (quant_v164 x0 x1) (quant_v165 x0 x1) (quant_v166 x0 x1) (k0_pay81 (F := F))⟩]

/-- Its stores tile the buffer (checked by evaluation), so they cover it. -/
theorem cover0_9 (p0 : Vec F S1x1x64x65 .bf16) (p1 : Vec F S1x1x64x65 .bf16) (p2 : Vec F S1x1x64x65 .bf16) (p3 : Vec F S1x1x64x65 .bf16) (p4 : Vec F S1x1x64x65 .bf16) (p5 : Vec F S1x1x64x65 .bf16) (p6 : Vec F S1x1x64x65 .bf16) (p7 : Vec F S1x1x64x65 .bf16) (y : S4x2x64x65.Idx) :
    ∃ pc ∈ ([⟨r0_17, p0⟩, ⟨r0_15, p1⟩, ⟨r0_12, p2⟩, ⟨r0_10, p3⟩, ⟨r0_7, p4⟩, ⟨r0_5, p5⟩, ⟨r0_2, p6⟩, ⟨r0_0, p7⟩] : List (View.Piece (Elt F) S4x2x64x65 .bf16)), y ∈ pc.1.set :=
  View.cover_of_tiled [⟨r0_17, p0⟩, ⟨r0_15, p1⟩, ⟨r0_12, p2⟩, ⟨r0_10, p3⟩, ⟨r0_7, p4⟩, ⟨r0_5, p5⟩, ⟨r0_2, p6⟩, ⟨r0_0, p7⟩] S1x1x64x65.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel (c : Dev nD) (E : Set ℕ) (arg0 : Memref sig .tc .vmem S4x2x64x65 .bf16) (harg0 : arg0.IsWhole) (arg1 : Memref sig .tc .vmem S4x2x64x65 .bf16) (harg1 : arg1.IsWhole) (arg2 : Memref sig .tc .vmem S4x2x32x65 .i8) (harg2 : arg2.IsWhole) (arg3 : Memref sig .tc .vmem S4x2x65 .bf16) (harg3 : arg3.IsWhole) (arg4 : Memref sig .tc .vmem S4x2x65 .bf16) (harg4 : arg4.IsWhole) (arg5 : Memref sig .tc .vmem S4x2x32x65 .i8) (harg5 : arg5.IsWhole) (arg6 : Memref sig .tc .vmem S4x2x65 .bf16) (harg6 : arg6.IsWhole) (arg7 : Memref sig .tc .vmem S4x2x65 .bf16) (harg7 : arg7.IsWhole) (arg8 : Memref sig .tc .vmem S4x2x64x65 .bf16) (harg8 : arg8.IsWhole) (arg9 : Memref sig .tc .vmem S4x2x64x65 .bf16) (harg9 : arg9.IsWhole)
    (x0 : Vec F S4x2x64x65 .bf16) (x1 : Vec F S4x2x64x65 .bf16) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare (out0_2 x0 x1) ∗ owns (c : Thread nD τ) arg3 fullShare (out0_3 x0 x1) ∗ owns (c : Thread nD τ) arg4 fullShare (out0_4 x0 x1) ∗ owns (c : Thread nD τ) arg5 fullShare (out0_5 x0 x1) ∗ owns (c : Thread nD τ) arg6 fullShare (out0_6 x0 x1) ∗ owns (c : Thread nD τ) arg7 fullShare (out0_7 x0 x1) ∗ owns (c : Thread nD τ) arg8 fullShare (out0_8 x0 x1) ∗ owns (c : Thread nD τ) arg9 fullShare (out0_9 x0 x1)) -∗ K ⟨⟩))
      ⊢ wp frame (wpE (defs₀ (F := F)) Variants.none c none) E (cc0_quant arg0 harg0 arg1 harg1 arg2 harg2 arg3 harg3 arg4 harg4 arg5 harg5 arg6 harg6 arg7 harg7 arg8 harg8 arg9 harg9) K := by
  simp only [cc0_quant_eq_skeleton]; unfold cc0_quant_skel
  simp only [k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _ _ _ _ _ _ _ _)).trans ?_
    rfl
  isplitl [H3]
  · iexists _; isplitr
    swap; · iexact H3
    ipureintro
    refine (View.read_writes_eq_canon _ _ _ (cover0_3 _ _ _ _)).trans ?_
    rfl
  isplitl [H4]
  · iexists _; isplitr
    swap; · iexact H4
    ipureintro
    refine (View.read_writes_eq_canon _ _ _ (cover0_4 _ _ _ _)).trans ?_
    rfl
  isplitl [H5]
  · iexists _; isplitr
    swap; · iexact H5
    ipureintro
    refine (View.read_writes_eq_canon _ _ _ (cover0_5 _ _ _ _ _ _ _ _)).trans ?_
    rfl
  isplitl [H6]
  · iexists _; isplitr
    swap; · iexact H6
    ipureintro
    refine (View.read_writes_eq_canon _ _ _ (cover0_6 _ _ _ _)).trans ?_
    rfl
  isplitl [H7]
  · iexists _; isplitr
    swap; · iexact H7
    ipureintro
    refine (View.read_writes_eq_canon _ _ _ (cover0_7 _ _ _ _)).trans ?_
    rfl
  isplitl [H8]
  · iexists _; isplitr
    swap; · iexact H8
    ipureintro
    refine (View.read_writes_eq_canon _ _ _ (cover0_8 _ _ _ _ _ _ _ _)).trans ?_
    rfl
  iexists _; isplitr
  swap; · iexact H9
  ipureintro
  refine (View.read_writes_eq_canon _ _ _ (cover0_9 _ _ _ _ _ _ _ _)).trans ?_
  rfl

/-! ## The pipeline's proof data -/

/-- The proof data of the one pipeline on core `c`: the arrays as the region finds them (`V`); after the body at
    point `t` each input's buffer at its block and each output's at `out0_W` of the input blocks; the invariant the
    class's; nothing owed;
    full shares. -/
def dat (c : Dev nD) : Dat τ (Elt F) Unit ℕ (UR sig nD τ) ℕ cfg0 c where
  A w := W c (Proc.devRef .tc (Pipeline.arrRef spec0 w))
  after w t := match w with
    | ⟨0, _⟩ => iblk W c 0 t
    | ⟨1, _⟩ => iblk W c 1 t
    | ⟨2, _⟩ => out0_2 (iblk W c 0 t) (iblk W c 1 t)
    | ⟨3, _⟩ => out0_3 (iblk W c 0 t) (iblk W c 1 t)
    | ⟨4, _⟩ => out0_4 (iblk W c 0 t) (iblk W c 1 t)
    | ⟨5, _⟩ => out0_5 (iblk W c 0 t) (iblk W c 1 t)
    | ⟨6, _⟩ => out0_6 (iblk W c 0 t) (iblk W c 1 t)
    | ⟨7, _⟩ => out0_7 (iblk W c 0 t) (iblk W c 1 t)
    | ⟨8, _⟩ => out0_8 (iblk W c 0 t) (iblk W c 1 t)
    | ⟨9, _⟩ => out0_9 (iblk W c 0 t) (iblk W c 1 t)
  Φ _ := Pipeline.scopedRest spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat W c).A w = W c (Proc.devRef .tc (Pipeline.arrRef spec0 w)) := by
  dsimp only [dat]

/-- What the body leaves, window by window (the proof data's `match` reduced by `dsimp`, never `rfl`: Lib/Pipeline.lean `Dat`). -/
theorem after0_0 (c : Dev nD) (t : Fin cfg0.N) : (dat W c).after 0 t = iblk W c 0 t := by dsimp only [dat]
theorem after0_1 (c : Dev nD) (t : Fin cfg0.N) : (dat W c).after 1 t = iblk W c 1 t := by dsimp only [dat]
theorem after0_2 (c : Dev nD) (t : Fin cfg0.N) : (dat W c).after 2 t = out0_2 (iblk W c 0 t) (iblk W c 1 t) := by dsimp only [dat]
theorem after0_3 (c : Dev nD) (t : Fin cfg0.N) : (dat W c).after 3 t = out0_3 (iblk W c 0 t) (iblk W c 1 t) := by dsimp only [dat]
theorem after0_4 (c : Dev nD) (t : Fin cfg0.N) : (dat W c).after 4 t = out0_4 (iblk W c 0 t) (iblk W c 1 t) := by dsimp only [dat]
theorem after0_5 (c : Dev nD) (t : Fin cfg0.N) : (dat W c).after 5 t = out0_5 (iblk W c 0 t) (iblk W c 1 t) := by dsimp only [dat]
theorem after0_6 (c : Dev nD) (t : Fin cfg0.N) : (dat W c).after 6 t = out0_6 (iblk W c 0 t) (iblk W c 1 t) := by dsimp only [dat]
theorem after0_7 (c : Dev nD) (t : Fin cfg0.N) : (dat W c).after 7 t = out0_7 (iblk W c 0 t) (iblk W c 1 t) := by dsimp only [dat]
theorem after0_8 (c : Dev nD) (t : Fin cfg0.N) : (dat W c).after 8 t = out0_8 (iblk W c 0 t) (iblk W c 1 t) := by dsimp only [dat]
theorem after0_9 (c : Dev nD) (t : Fin cfg0.N) : (dat W c).after 9 t = out0_9 (iblk W c 0 t) (iblk W c 1 t) := by dsimp only [dat]

/-- Each input's current staging buffer holds its block at every point, fetched there or not (`beforeK_W_of`). -/
theorem before0_0 (c : Dev nD) (t : Fin cfg0.N) (d) : (dat W c).before 0 t d = iblk W c 0 t :=
  before0_0_of W (dat W c) (A_eq W c 0) (after0_0 W c) t d
theorem before0_1 (c : Dev nD) (t : Fin cfg0.N) (d) : (dat W c).before 1 t d = iblk W c 1 t :=
  before0_1_of W (dat W c) (A_eq W c 1) (after0_1 W c) t d

/-! ## The body obligation, at a generic point -/

/-- What the body is called with at point `t`, -/
def bodyPre (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d))
    ∗ (∃ d, owns (c : Thread nD τ) (st0_3 t) fullShare ((dat W c).before 3 t d))
    ∗ (∃ d, owns (c : Thread nD τ) (st0_4 t) fullShare ((dat W c).before 4 t d))
    ∗ (∃ d, owns (c : Thread nD τ) (st0_5 t) fullShare ((dat W c).before 5 t d))
    ∗ (∃ d, owns (c : Thread nD τ) (st0_6 t) fullShare ((dat W c).before 6 t d))
    ∗ (∃ d, owns (c : Thread nD τ) (st0_7 t) fullShare ((dat W c).before 7 t d))
    ∗ (∃ d, owns (c : Thread nD τ) (st0_8 t) fullShare ((dat W c).before 8 t d))
    ∗ (∃ d, owns (c : Thread nD τ) (st0_9 t) fullShare ((dat W c).before 9 t d)))

/-- and what it returns. -/
def bodyPost (c : Dev nD) (t : Fin cfg0.N) : sProp 𝕄 :=
  iprop((dat W c).Φ t.succ ∗ (dat W c).owesAt () t.succ
    ∗ owns (c : Thread nD τ) (st0_0 t) fullShare ((dat W c).after 0 t)
    ∗ owns (c : Thread nD τ) (st0_1 t) fullShare ((dat W c).after 1 t)
    ∗ owns (c : Thread nD τ) (st0_2 t) fullShare ((dat W c).after 2 t)
    ∗ owns (c : Thread nD τ) (st0_3 t) fullShare ((dat W c).after 3 t)
    ∗ owns (c : Thread nD τ) (st0_4 t) fullShare ((dat W c).after 4 t)
    ∗ owns (c : Thread nD τ) (st0_5 t) fullShare ((dat W c).after 5 t)
    ∗ owns (c : Thread nD τ) (st0_6 t) fullShare ((dat W c).after 6 t)
    ∗ owns (c : Thread nD τ) (st0_7 t) fullShare ((dat W c).after 7 t)
    ∗ owns (c : Thread nD τ) (st0_8 t) fullShare ((dat W c).after 8 t)
    ∗ owns (c : Thread nD τ) (st0_9 t) fullShare ((dat W c).after 9 t))

/-- The body at any point: the inputs' memrefs hold their blocks (`before0_W`), so `sound_kernel` applies; the invariant and
    the core's `owes` pass through unread. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before0_0, before0_1]
  rw [show (dat W c).Φ t.succ = (dat W c).Φ t.castSucc from rfl,
    show (dat W c).owesAt () t.succ = (dat W c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ (iblk W c 0 t) (iblk W c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dat (F := F) W c) (defs₀ (F := F)) Variants.none () Set.univ := fun t => by
  rw [bigSep_W0, bigSep_W0, defs₀_row]
  exact triple_restated (sound_body W c t) rfl .rfl fun _ => .rfl

end Cert.Kernel.Quant

end
-- ==== Proof.KernelAttn.lean ====
/-
  The attention kernel's region (custom_call 1 of @main), entered with the device's buffers at an arbitrary valuation
  `W` and the prefetched table at admissible contents `a`: what its body leaves in the output's block, as a function of
  the blocks of its nine inputs and the word of the table; the run of the body; the pipeline's body obligation.
-/
module

public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window 0 (operand 1 (%arg1)) is fetched at every point, at any contents of the tables (its index map reads none). -/
theorem fetch1_0 (a : (pcfg1 (F := F)).Adm) : ∀ t : Fin (cfg1 a).N, ((cfg1 a).win 0).fetch t = true :=
  (fun t => (Pipeline.Window.fetchOf_reads cc1_transform_0 reads1_0 hreads1_0 0 (by decide) (by decide) (Pipeline.Window.sep_of_coord cc1_transform_0 0 0 (fun _ => rfl) (by decide)) (P := 1) (by decide) t).mpr (Nat.mod_one _) : ∀ t : Fin grid1.N, Pipeline.Window.fetchOf grid1 false cc1_transform_0 t = true)
/-- Window 1 (operand 2 (%arg2)) is fetched at every point, at any contents of the tables (its index map reads none). -/
theorem fetch1_1 (a : (pcfg1 (F := F)).Adm) : ∀ t : Fin (cfg1 a).N, ((cfg1 a).win 1).fetch t = true :=
  (fun t => (Pipeline.Window.fetchOf_reads cc1_transform_1 reads1_1 hreads1_1 0 (by decide) (by decide) (Pipeline.Window.sep_of_coord cc1_transform_1 0 0 (fun _ => rfl) (by decide)) (P := 1) (by decide) t).mpr (Nat.mod_one _) : ∀ t : Fin grid1.N, Pipeline.Window.fetchOf grid1 false cc1_transform_1 t = true)
/-- Window 2 (operand 3 (%arg3)) is fetched at every point, at any contents of the tables (its index map reads none). -/
theorem fetch1_2 (a : (pcfg1 (F := F)).Adm) : ∀ t : Fin (cfg1 a).N, ((cfg1 a).win 2).fetch t = true :=
  (fun t => (Pipeline.Window.fetchOf_reads cc1_transform_2 reads1_2 hreads1_2 0 (by decide) (by decide) (Pipeline.Window.sep_of_coord cc1_transform_2 0 0 (fun _ => rfl) (by decide)) (P := 1) (by decide) t).mpr (Nat.mod_one _) : ∀ t : Fin grid1.N, Pipeline.Window.fetchOf grid1 false cc1_transform_2 t = true)
/-- Window 3 (operand 4 (%arg4)) is fetched at every point, at any contents of the tables (its index map reads none). -/
theorem fetch1_3 (a : (pcfg1 (F := F)).Adm) : ∀ t : Fin (cfg1 a).N, ((cfg1 a).win 3).fetch t = true :=
  (fun t => (Pipeline.Window.fetchOf_reads cc1_transform_3 reads1_3 hreads1_3 0 (by decide) (by decide) (Pipeline.Window.sep_of_coord cc1_transform_3 0 0 (fun _ => rfl) (by decide)) (P := 1) (by decide) t).mpr (Nat.mod_one _) : ∀ t : Fin grid1.N, Pipeline.Window.fetchOf grid1 false cc1_transform_3 t = true)
/-- Window 4 (operand 5 (%arg5)) is fetched at every point, at any contents of the tables (its index map reads none). -/
theorem fetch1_4 (a : (pcfg1 (F := F)).Adm) : ∀ t : Fin (cfg1 a).N, ((cfg1 a).win 4).fetch t = true :=
  (fun t => (Pipeline.Window.fetchOf_reads cc1_transform_4 reads1_4 hreads1_4 0 (by decide) (by decide) (Pipeline.Window.sep_of_coord cc1_transform_4 0 0 (fun _ => rfl) (by decide)) (P := 1) (by decide) t).mpr (Nat.mod_one _) : ∀ t : Fin grid1.N, Pipeline.Window.fetchOf grid1 false cc1_transform_4 t = true)
/-- Window 5 (operand 6 (%arg6)) is fetched at every point, at any contents of the tables (its index map reads none). -/
theorem fetch1_5 (a : (pcfg1 (F := F)).Adm) : ∀ t : Fin (cfg1 a).N, ((cfg1 a).win 5).fetch t = true :=
  (fun t => (Pipeline.Window.fetchOf_reads cc1_transform_5 reads1_5 hreads1_5 0 (by decide) (by decide) (Pipeline.Window.sep_of_coord cc1_transform_5 0 0 (fun _ => rfl) (by decide)) (P := 1) (by decide) t).mpr (Nat.mod_one _) : ∀ t : Fin grid1.N, Pipeline.Window.fetchOf grid1 false cc1_transform_5 t = true)
/-- Window 6 (operand 7 (%arg7)) is fetched at every point, at any contents of the tables (its index map reads none). -/
theorem fetch1_6 (a : (pcfg1 (F := F)).Adm) : ∀ t : Fin (cfg1 a).N, ((cfg1 a).win 6).fetch t = true :=
  (fun t => (Pipeline.Window.fetchOf_reads cc1_transform_6 reads1_6 hreads1_6 0 (by decide) (by decide) (Pipeline.Window.sep_of_coord cc1_transform_6 0 0 (fun _ => rfl) (by decide)) (P := 1) (by decide) t).mpr (Nat.mod_one _) : ∀ t : Fin grid1.N, Pipeline.Window.fetchOf grid1 false cc1_transform_6 t = true)
/-- Window 7 (operand 8 (%arg8)) is fetched at every point, at any contents of the tables (its index map reads none). -/
theorem fetch1_7 (a : (pcfg1 (F := F)).Adm) : ∀ t : Fin (cfg1 a).N, ((cfg1 a).win 7).fetch t = true :=
  (fun t => (Pipeline.Window.fetchOf_reads cc1_transform_7 reads1_7 hreads1_7 0 (by decide) (by decide) (Pipeline.Window.sep_of_coord cc1_transform_7 0 0 (fun _ => rfl) (by decide)) (P := 1) (by decide) t).mpr (Nat.mod_one _) : ∀ t : Fin grid1.N, Pipeline.Window.fetchOf grid1 false cc1_transform_7 t = true)
/-- Window 8 (operand 9 (%arg9)) is fetched at every point, at any contents of the tables (its index map reads none). -/
theorem fetch1_8 (a : (pcfg1 (F := F)).Adm) : ∀ t : Fin (cfg1 a).N, ((cfg1 a).win 8).fetch t = true :=
  (fun t => (Pipeline.Window.fetchOf_reads cc1_transform_8 reads1_8 hreads1_8 0 (by decide) (by decide) (Pipeline.Window.sep_of_coord cc1_transform_8 0 0 (fun _ => rfl) (by decide)) (P := 1) (by decide) t).mpr (Nat.mod_one _) : ∀ t : Fin grid1.N, Pipeline.Window.fetchOf grid1 false cc1_transform_8 t = true)
/-- Window 9 (result 0 (%0)) is written back at every point, at any contents of the tables (its index map reads none). -/
theorem flush1_9 (a : (pcfg1 (F := F)).Adm) : ∀ t : Fin (cfg1 a).N, ((cfg1 a).win 9).flush t = true :=
  (fun t => (Pipeline.Window.flushOf_reads cc1_transform_9 reads1_9 hreads1_9 0 (by decide) (by decide) (Pipeline.Window.sep_of_coord cc1_transform_9 0 0 (fun _ => rfl) (by decide)) (P := 1) (m := 0) (by decide) rfl t).mpr (Nat.mod_one _) : ∀ t : Fin grid1.N, Pipeline.Window.flushOf grid1 true cc1_transform_9 t = true)

/-- The current staging memref of each window at point `t`: which of its buffers it is on. -/
abbrev st1_0 (a : (pcfg1 (F := F)).Adm) (t : Fin (cfg1 a).N) := ((cfg1 a).win 0).stage ((cfg1 a).slots t 0)
abbrev st1_1 (a : (pcfg1 (F := F)).Adm) (t : Fin (cfg1 a).N) := ((cfg1 a).win 1).stage ((cfg1 a).slots t 1)
abbrev st1_2 (a : (pcfg1 (F := F)).Adm) (t : Fin (cfg1 a).N) := ((cfg1 a).win 2).stage ((cfg1 a).slots t 2)
abbrev st1_3 (a : (pcfg1 (F := F)).Adm) (t : Fin (cfg1 a).N) := ((cfg1 a).win 3).stage ((cfg1 a).slots t 3)
abbrev st1_4 (a : (pcfg1 (F := F)).Adm) (t : Fin (cfg1 a).N) := ((cfg1 a).win 4).stage ((cfg1 a).slots t 4)
abbrev st1_5 (a : (pcfg1 (F := F)).Adm) (t : Fin (cfg1 a).N) := ((cfg1 a).win 5).stage ((cfg1 a).slots t 5)
abbrev st1_6 (a : (pcfg1 (F := F)).Adm) (t : Fin (cfg1 a).N) := ((cfg1 a).win 6).stage ((cfg1 a).slots t 6)
abbrev st1_7 (a : (pcfg1 (F := F)).Adm) (t : Fin (cfg1 a).N) := ((cfg1 a).win 7).stage ((cfg1 a).slots t 7)
abbrev st1_8 (a : (pcfg1 (F := F)).Adm) (t : Fin (cfg1 a).N) := ((cfg1 a).win 8).stage ((cfg1 a).slots t 8)
abbrev st1_9 (a : (pcfg1 (F := F)).Adm) (t : Fin (cfg1 a).N) := ((cfg1 a).win 9).stage ((cfg1 a).slots t 9)

/-- The kernel body at point `t`, on what the pipeline calls it with (`defs₀`'s row at the slots). -/
abbrev bodyAt1 (a : (pcfg1 (F := F)).Adm) (t : Fin (cfg1 a).N) : Prog (TpuEff nD τ sig (Elt F) Λ₀ .tc) PUnit :=
  cc1_attn (grid1.coords t) (Memref.whole main_arg9) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (spec1_5.stage ((cfg1 a).slots t 5)) (hstage1_5 (((cfg1 a).slots t 5).cast nbuf1_5)) (spec1_6.stage ((cfg1 a).slots t 6)) (hstage1_6 (((cfg1 a).slots t 6).cast nbuf1_6)) (spec1_7.stage ((cfg1 a).slots t 7)) (hstage1_7 (((cfg1 a).slots t 7).cast nbuf1_7)) (spec1_8.stage ((cfg1 a).slots t 8)) (hstage1_8 (((cfg1 a).slots t 8).cast nbuf1_8)) (spec1_9.stage ((cfg1 a).slots t 9)) (hstage1_9 (((cfg1 a).slots t 9).cast nbuf1_9))

/-- Each table as the body is handed it: its whole buffer as a memref, and that memref's wholeness. -/
abbrev tbM1_0 : Memref sig .tc .smem S65 .i32 := Memref.whole main_arg9
abbrev htbM1_0 : tbM1_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare} f

/-- The tables' halves the region hands the body, table by table: what the body
    obligation hands the run and takes back. -/
theorem PhiT1_eq (a : (pcfg1 (F := F)).Adm) (c : Dev nD) : (Pipeline.prefHeld pre1 c (fun _ => fullShare) a.1 : sProp 𝕄) = iprop(tbPt1 c tbM1_0 (a.1 0)) := by
  unfold Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (a : (pcfg1 (F := F)).Adm) (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (W c (Proc.devRef .tc (Pipeline.arrRef spec1 w)))

/-- Input window 0's staging buffer holds its block at every point, for any proof data over `W` whose body leaves it there. -/
theorem before1_0_of (a : (pcfg1 (F := F)).Adm) {c : Dev nD} (dat : Dat τ (Elt F) Unit ℕ (UR sig nD τ) ℕ (cfg1 a) c) (hA : dat.A 0 = W c (Proc.devRef .tc (Pipeline.arrRef spec1 0)))
    (hafter : ∀ t, dat.after 0 t = iblk W a c 0 t) (t : Fin (cfg1 a).N) (d) : dat.before 0 t d = iblk W a c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for any proof data over `W` whose body leaves it there. -/
theorem before1_1_of (a : (pcfg1 (F := F)).Adm) {c : Dev nD} (dat : Dat τ (Elt F) Unit ℕ (UR sig nD τ) ℕ (cfg1 a) c) (hA : dat.A 1 = W c (Proc.devRef .tc (Pipeline.arrRef spec1 1)))
    (hafter : ∀ t, dat.after 1 t = iblk W a c 1 t) (t : Fin (cfg1 a).N) (d) : dat.before 1 t d = iblk W a c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for any proof data over `W` whose body leaves it there. -/
theorem before1_2_of (a : (pcfg1 (F := F)).Adm) {c : Dev nD} (dat : Dat τ (Elt F) Unit ℕ (UR sig nD τ) ℕ (cfg1 a) c) (hA : dat.A 2 = W c (Proc.devRef .tc (Pipeline.arrRef spec1 2)))
    (hafter : ∀ t, dat.after 2 t = iblk W a c 2 t) (t : Fin (cfg1 a).N) (d) : dat.before 2 t d = iblk W a c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for any proof data over `W` whose body leaves it there. -/
theorem before1_3_of (a : (pcfg1 (F := F)).Adm) {c : Dev nD} (dat : Dat τ (Elt F) Unit ℕ (UR sig nD τ) ℕ (cfg1 a) c) (hA : dat.A 3 = W c (Proc.devRef .tc (Pipeline.arrRef spec1 3)))
    (hafter : ∀ t, dat.after 3 t = iblk W a c 3 t) (t : Fin (cfg1 a).N) (d) : dat.before 3 t d = iblk W a c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, for any proof data over `W` whose body leaves it there. -/
theorem before1_4_of (a : (pcfg1 (F := F)).Adm) {c : Dev nD} (dat : Dat τ (Elt F) Unit ℕ (UR sig nD τ) ℕ (cfg1 a) c) (hA : dat.A 4 = W c (Proc.devRef .tc (Pipeline.arrRef spec1 4)))
    (hafter : ∀ t, dat.after 4 t = iblk W a c 4 t) (t : Fin (cfg1 a).N) (d) : dat.before 4 t d = iblk W a c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, for any proof data over `W` whose body leaves it there. -/
theorem before1_5_of (a : (pcfg1 (F := F)).Adm) {c : Dev nD} (dat : Dat τ (Elt F) Unit ℕ (UR sig nD τ) ℕ (cfg1 a) c) (hA : dat.A 5 = W c (Proc.devRef .tc (Pipeline.arrRef spec1 5)))
    (hafter : ∀ t, dat.after 5 t = iblk W a c 5 t) (t : Fin (cfg1 a).N) (d) : dat.before 5 t d = iblk W a c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, for any proof data over `W` whose body leaves it there. -/
theorem before1_6_of (a : (pcfg1 (F := F)).Adm) {c : Dev nD} (dat : Dat τ (Elt F) Unit ℕ (UR sig nD τ) ℕ (cfg1 a) c) (hA : dat.A 6 = W c (Proc.devRef .tc (Pipeline.arrRef spec1 6)))
    (hafter : ∀ t, dat.after 6 t = iblk W a c 6 t) (t : Fin (cfg1 a).N) (d) : dat.before 6 t d = iblk W a c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, for any proof data over `W` whose body leaves it there. -/
theorem before1_7_of (a : (pcfg1 (F := F)).Adm) {c : Dev nD} (dat : Dat τ (Elt F) Unit ℕ (UR sig nD τ) ℕ (cfg1 a) c) (hA : dat.A 7 = W c (Proc.devRef .tc (Pipeline.arrRef spec1 7)))
    (hafter : ∀ t, dat.after 7 t = iblk W a c 7 t) (t : Fin (cfg1 a).N) (d) : dat.before 7 t d = iblk W a c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, for any proof data over `W` whose body leaves it there. -/
theorem before1_8_of (a : (pcfg1 (F := F)).Adm) {c : Dev nD} (dat : Dat τ (Elt F) Unit ℕ (UR sig nD τ) ℕ (cfg1 a) c) (hA : dat.A 8 = W c (Proc.devRef .tc (Pipeline.arrRef spec1 8)))
    (hafter : ∀ t, dat.after 8 t = iblk W a c 8 t) (t : Fin (cfg1 a).N) (d) : dat.before 8 t d = iblk W a c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- Each window's current staging memref at point `t`, spelled as the pipeline passes it (`bodyAt1`), and its wholeness. -/
abbrev ms1_0 (a : (pcfg1 (F := F)).Adm) (t : Fin (cfg1 a).N) : Memref sig .tc .vmem S1x64x128 .bf16 := spec1_0.stage ((cfg1 a).slots t 0)
abbrev hs1_0 (a : (pcfg1 (F := F)).Adm) (t : Fin (cfg1 a).N) : (ms1_0 a t).IsWhole := hstage1_0 (((cfg1 a).slots t 0).cast nbuf1_0)
abbrev ms1_1 (a : (pcfg1 (F := F)).Adm) (t : Fin (cfg1 a).N) : Memref sig .tc .vmem S1x8x128 .bf16 := spec1_1.stage ((cfg1 a).slots t 1)
abbrev hs1_1 (a : (pcfg1 (F := F)).Adm) (t : Fin (cfg1 a).N) : (ms1_1 a t).IsWhole := hstage1_1 (((cfg1 a).slots t 1).cast nbuf1_1)
abbrev ms1_2 (a : (pcfg1 (F := F)).Adm) (t : Fin (cfg1 a).N) : Memref sig .tc .vmem S1x8x128 .bf16 := spec1_2.stage ((cfg1 a).slots t 2)
abbrev hs1_2 (a : (pcfg1 (F := F)).Adm) (t : Fin (cfg1 a).N) : (ms1_2 a t).IsWhole := hstage1_2 (((cfg1 a).slots t 2).cast nbuf1_2)
abbrev ms1_3 (a : (pcfg1 (F := F)).Adm) (t : Fin (cfg1 a).N) : Memref sig .tc .vmem S1x2x32x8192 .i8 := spec1_3.stage ((cfg1 a).slots t 3)
abbrev hs1_3 (a : (pcfg1 (F := F)).Adm) (t : Fin (cfg1 a).N) : (ms1_3 a t).IsWhole := hstage1_3 (((cfg1 a).slots t 3).cast nbuf1_3)
abbrev ms1_4 (a : (pcfg1 (F := F)).Adm) (t : Fin (cfg1 a).N) : Memref sig .tc .vmem S1x2x8192 .bf16 := spec1_4.stage ((cfg1 a).slots t 4)
abbrev hs1_4 (a : (pcfg1 (F := F)).Adm) (t : Fin (cfg1 a).N) : (ms1_4 a t).IsWhole := hstage1_4 (((cfg1 a).slots t 4).cast nbuf1_4)
abbrev ms1_5 (a : (pcfg1 (F := F)).Adm) (t : Fin (cfg1 a).N) : Memref sig .tc .vmem S1x2x8192 .bf16 := spec1_5.stage ((cfg1 a).slots t 5)
abbrev hs1_5 (a : (pcfg1 (F := F)).Adm) (t : Fin (cfg1 a).N) : (ms1_5 a t).IsWhole := hstage1_5 (((cfg1 a).slots t 5).cast nbuf1_5)
abbrev ms1_6 (a : (pcfg1 (F := F)).Adm) (t : Fin (cfg1 a).N) : Memref sig .tc .vmem S1x2x32x8192 .i8 := spec1_6.stage ((cfg1 a).slots t 6)
abbrev hs1_6 (a : (pcfg1 (F := F)).Adm) (t : Fin (cfg1 a).N) : (ms1_6 a t).IsWhole := hstage1_6 (((cfg1 a).slots t 6).cast nbuf1_6)
abbrev ms1_7 (a : (pcfg1 (F := F)).Adm) (t : Fin (cfg1 a).N) : Memref sig .tc .vmem S1x2x8192 .bf16 := spec1_7.stage ((cfg1 a).slots t 7)
abbrev hs1_7 (a : (pcfg1 (F := F)).Adm) (t : Fin (cfg1 a).N) : (ms1_7 a t).IsWhole := hstage1_7 (((cfg1 a).slots t 7).cast nbuf1_7)
abbrev ms1_8 (a : (pcfg1 (F := F)).Adm) (t : Fin (cfg1 a).N) : Memref sig .tc .vmem S1x2x8192 .bf16 := spec1_8.stage ((cfg1 a).slots t 8)
abbrev hs1_8 (a : (pcfg1 (F := F)).Adm) (t : Fin (cfg1 a).N) : (ms1_8 a t).IsWhole := hstage1_8 (((cfg1 a).slots t 8).cast nbuf1_8)
abbrev ms1_9 (a : (pcfg1 (F := F)).Adm) (t : Fin (cfg1 a).N) : Memref sig .tc .vmem S1x64x64 .bf16 := spec1_9.stage ((cfg1 a).slots t 9)
abbrev hs1_9 (a : (pcfg1 (F := F)).Adm) (t : Fin (cfg1 a).N) : (ms1_9 a t).IsWhole := hstage1_9 (((cfg1 a).slots t 9).cast nbuf1_9)

/-- The side condition the body computes from the word of `cache_len` it reads, at every point: the loop's bounds and
    offsets keep every load inside its block. -/
def Hyps (a : (pcfg1 (F := F)).Adm) : Prop :=
  ∀ t : Fin (cfg1 a).N,
    k1_chk1 (tbM1_0.view.readAt (Elt F) (Rect.unit (s := S65) (k1_off1 (grid1.coords t)) S1.size (k1_off1_inb (grid1.coords t))).toLoadRect (a.1 0) (Shape.Idx.first (numel1_S1.symm ▸ Nat.one_pos)))

/-- The running maximum, sum and weighted values over the new rows, the loop's initial value. -/
def initAttn (arg1 : Memref sig .tc .smem S65 .i32) (harg1 : arg1.IsWhole) (arg2 : Memref sig .tc .vmem S1x64x128 .bf16) (harg2 : arg2.IsWhole) (arg3 : Memref sig .tc .vmem S1x8x128 .bf16) (harg3 : arg3.IsWhole) (arg4 : Memref sig .tc .vmem S1x8x128 .bf16) (harg4 : arg4.IsWhole) (arg5 : Memref sig .tc .vmem S1x2x32x8192 .i8) (harg5 : arg5.IsWhole) (arg6 : Memref sig .tc .vmem S1x2x8192 .bf16) (harg6 : arg6.IsWhole) (arg7 : Memref sig .tc .vmem S1x2x8192 .bf16) (harg7 : arg7.IsWhole) (arg8 : Memref sig .tc .vmem S1x2x32x8192 .i8) (harg8 : arg8.IsWhole) (arg9 : Memref sig .tc .vmem S1x2x8192 .bf16) (harg9 : arg9.IsWhole) (arg10 : Memref sig .tc .vmem S1x2x8192 .bf16) (harg10 : arg10.IsWhole) (arg11 : Memref sig .tc .vmem S1x64x64 .bf16) (harg11 : arg11.IsWhole) (x0 : Vec F S1x64x128 .bf16) (x1 : Vec F S1x8x128 .bf16) (x2 : Vec F S1x8x128 .bf16) :
    FVec F S64x1 .f32 × FVec F S64x1 .f32 × FVec F S64x128 .f32 :=
  (k1_pay43 (arg2.view.readAt (Elt F) (Rect.unit (s := S1x64x128) ![0, 0, 0] S1x64x128.size inb_S1x64x128_S1x64x128_0_0_0).toLoadRect (harg2.unread x0)) (arg3.view.readAt (Elt F) (Rect.unit (s := S1x8x128) ![0, 0, 0] S1x8x128.size inb_S1x8x128_S1x8x128_0_0_0).toLoadRect (harg3.unread x1)), k1_pay1 (k1_pay45 (arg2.view.readAt (Elt F) (Rect.unit (s := S1x64x128) ![0, 0, 0] S1x64x128.size inb_S1x64x128_S1x64x128_0_0_0).toLoadRect (harg2.unread x0)) (arg3.view.readAt (Elt F) (Rect.unit (s := S1x8x128) ![0, 0, 0] S1x8x128.size inb_S1x8x128_S1x8x128_0_0_0).toLoadRect (harg3.unread x1))),
    k1_pay2 (k1_pay41 (arg4.view.readAt (Elt F) (Rect.unit (s := S1x8x128) ![0, 0, 0] S1x8x128.size inb_S1x8x128_S1x8x128_0_0_0).toLoadRect (harg4.unread x2))) (k1_pay44 (arg2.view.readAt (Elt F) (Rect.unit (s := S1x64x128) ![0, 0, 0] S1x64x128.size inb_S1x64x128_S1x64x128_0_0_0).toLoadRect (harg2.unread x0)) (arg3.view.readAt (Elt F) (Rect.unit (s := S1x8x128) ![0, 0, 0] S1x8x128.size inb_S1x8x128_S1x8x128_0_0_0).toLoadRect (harg3.unread x1))))

/-- What the counted loop over whole chunks leaves from the initial value. -/
def wholeAttn (c : Dev nD) (i : grid1.Coords) (arg1 : Memref sig .tc .smem S65 .i32) (harg1 : arg1.IsWhole) (arg2 : Memref sig .tc .vmem S1x64x128 .bf16) (harg2 : arg2.IsWhole) (arg3 : Memref sig .tc .vmem S1x8x128 .bf16) (harg3 : arg3.IsWhole) (arg4 : Memref sig .tc .vmem S1x8x128 .bf16) (harg4 : arg4.IsWhole) (arg5 : Memref sig .tc .vmem S1x2x32x8192 .i8) (harg5 : arg5.IsWhole) (arg6 : Memref sig .tc .vmem S1x2x8192 .bf16) (harg6 : arg6.IsWhole) (arg7 : Memref sig .tc .vmem S1x2x8192 .bf16) (harg7 : arg7.IsWhole) (arg8 : Memref sig .tc .vmem S1x2x32x8192 .i8) (harg8 : arg8.IsWhole) (arg9 : Memref sig .tc .vmem S1x2x8192 .bf16) (harg9 : arg9.IsWhole) (arg10 : Memref sig .tc .vmem S1x2x8192 .bf16) (harg10 : arg10.IsWhole) (arg11 : Memref sig .tc .vmem S1x64x64 .bf16) (harg11 : arg11.IsWhole)
    (x0 : Vec F S1x64x128 .bf16) (x1 : Vec F S1x8x128 .bf16) (x2 : Vec F S1x8x128 .bf16) (x3 : Vec F S1x2x32x8192 .i8) (x4 : Vec F S1x2x8192 .bf16) (x5 : Vec F S1x2x8192 .bf16) (x6 : Vec F S1x2x32x8192 .i8) (x7 : Vec F S1x2x8192 .bf16) (x8 : Vec F S1x2x8192 .bf16) (v1 : Elt F .i32) (k1_hw1 : k1_chk1 v1) :
    FVec F S64x1 .f32 × FVec F S64x1 .f32 × FVec F S64x128 .f32 :=
  st_k1_t1 Variants.none c none i arg1 harg1 arg2 harg2 arg3 harg3 arg4 harg4 arg5 harg5 arg6 harg6 arg7 harg7 arg8 harg8 arg9 harg9 arg10 harg10 arg11 harg11 v1 k1_hw1 (k1_pay40 (arg2.view.readAt (Elt F) (Rect.unit (s := S1x64x128) ![0, 0, 0] S1x64x128.size inb_S1x64x128_S1x64x128_0_0_0).toLoadRect (harg2.unread x0))) (harg5.unread x3) (harg6.unread x4) (harg7.unread x5) (harg8.unread x6) (harg9.unread x7) (harg10.unread x8)
      (initAttn arg1 harg1 arg2 harg2 arg3 harg3 arg4 harg4 arg5 harg5 arg6 harg6 arg7 harg7 arg8 harg8 arg9 harg9 arg10 harg10 arg11 harg11 x0 x1 x2) (Scf.trips (k1_t1_loop v1).lb (k1_t1_loop v1).ub (k1_t1_loop v1).st)

/-- What the two counted loops leave from the initial value: the whole chunks, then the remainder. -/
def finalAttn (c : Dev nD) (i : grid1.Coords) (arg1 : Memref sig .tc .smem S65 .i32) (harg1 : arg1.IsWhole) (arg2 : Memref sig .tc .vmem S1x64x128 .bf16) (harg2 : arg2.IsWhole) (arg3 : Memref sig .tc .vmem S1x8x128 .bf16) (harg3 : arg3.IsWhole) (arg4 : Memref sig .tc .vmem S1x8x128 .bf16) (harg4 : arg4.IsWhole) (arg5 : Memref sig .tc .vmem S1x2x32x8192 .i8) (harg5 : arg5.IsWhole) (arg6 : Memref sig .tc .vmem S1x2x8192 .bf16) (harg6 : arg6.IsWhole) (arg7 : Memref sig .tc .vmem S1x2x8192 .bf16) (harg7 : arg7.IsWhole) (arg8 : Memref sig .tc .vmem S1x2x32x8192 .i8) (harg8 : arg8.IsWhole) (arg9 : Memref sig .tc .vmem S1x2x8192 .bf16) (harg9 : arg9.IsWhole) (arg10 : Memref sig .tc .vmem S1x2x8192 .bf16) (harg10 : arg10.IsWhole) (arg11 : Memref sig .tc .vmem S1x64x64 .bf16) (harg11 : arg11.IsWhole)
    (x0 : Vec F S1x64x128 .bf16) (x1 : Vec F S1x8x128 .bf16) (x2 : Vec F S1x8x128 .bf16) (x3 : Vec F S1x2x32x8192 .i8) (x4 : Vec F S1x2x8192 .bf16) (x5 : Vec F S1x2x8192 .bf16) (x6 : Vec F S1x2x32x8192 .i8) (x7 : Vec F S1x2x8192 .bf16) (x8 : Vec F S1x2x8192 .bf16) (v1 : Elt F .i32) (k1_hw1 : k1_chk1 v1) :
    FVec F S64x1 .f32 × FVec F S64x1 .f32 × FVec F S64x128 .f32 :=
  st_k1_t2 Variants.none c none i arg1 harg1 arg2 harg2 arg3 harg3 arg4 harg4 arg5 harg5 arg6 harg6 arg7 harg7 arg8 harg8 arg9 harg9 arg10 harg10 arg11 harg11 v1 k1_hw1 (k1_pay40 (arg2.view.readAt (Elt F) (Rect.unit (s := S1x64x128) ![0, 0, 0] S1x64x128.size inb_S1x64x128_S1x64x128_0_0_0).toLoadRect (harg2.unread x0)))
    (Scalar.addi 0#32 (Scalar.muli (Scalar.divsi (Scalar.subi (Scalar.divsi (Scalar.addi v1 1023#32) 1024#32) 0#32) 1#32) 1#32))
    (harg5.unread x3) (harg6.unread x4) (harg7.unread x5) (harg8.unread x6) (harg9.unread x7) (harg10.unread x8)
    ((wholeAttn c i arg1 harg1 arg2 harg2 arg3 harg3 arg4 harg4 arg5 harg5 arg6 harg6 arg7 harg7 arg8 harg8 arg9 harg9 arg10 harg10 arg11 harg11 x0 x1 x2 x3 x4 x5 x6 x7 x8 v1 k1_hw1).1, (wholeAttn c i arg1 harg1 arg2 harg2 arg3 harg3 arg4 harg4 arg5 harg5 arg6 harg6 arg7 harg7 arg8 harg8 arg9 harg9 arg10 harg10 arg11 harg11 x0 x1 x2 x3 x4 x5 x6 x7 x8 v1 k1_hw1).2.1, (wholeAttn c i arg1 harg1 arg2 harg2 arg3 harg3 arg4 harg4 arg5 harg5 arg6 harg6 arg7 harg7 arg8 harg8 arg9 harg9 arg10 harg10 arg11 harg11 x0 x1 x2 x3 x4 x5 x6 x7 x8 v1 k1_hw1).2.2)
    (Scf.trips (k1_t2_loop v1).lb (k1_t2_loop v1).ub (k1_t2_loop v1).st)

/-- The one store of the body covers its block. -/
theorem coverAttn (p0 : Vec F S1x64x64 .bf16) (y : S1x64x64.Idx) :
    ∃ pc ∈ ([⟨Rect.unit (s := S1x64x64) ![0, 0, 0] S1x64x64.size inb_S1x64x64_S1x64x64_0_0_0, p0⟩] : List (View.Piece (Elt F) S1x64x64 .bf16)), y ∈ pc.1.set :=
  View.cover_of_tiled [⟨Rect.unit (s := S1x64x64) ![0, 0, 0] S1x64x64.size inb_S1x64x64_S1x64x64_0_0_0, p0⟩] S1x64x64.size (by rfl) y

/-- What the body leaves in the output's block: the two heads' lanes of the weighted values over the sum. -/
def outAttn (c : Dev nD) (i : grid1.Coords) (arg1 : Memref sig .tc .smem S65 .i32) (harg1 : arg1.IsWhole) (arg2 : Memref sig .tc .vmem S1x64x128 .bf16) (harg2 : arg2.IsWhole) (arg3 : Memref sig .tc .vmem S1x8x128 .bf16) (harg3 : arg3.IsWhole) (arg4 : Memref sig .tc .vmem S1x8x128 .bf16) (harg4 : arg4.IsWhole) (arg5 : Memref sig .tc .vmem S1x2x32x8192 .i8) (harg5 : arg5.IsWhole) (arg6 : Memref sig .tc .vmem S1x2x8192 .bf16) (harg6 : arg6.IsWhole) (arg7 : Memref sig .tc .vmem S1x2x8192 .bf16) (harg7 : arg7.IsWhole) (arg8 : Memref sig .tc .vmem S1x2x32x8192 .i8) (harg8 : arg8.IsWhole) (arg9 : Memref sig .tc .vmem S1x2x8192 .bf16) (harg9 : arg9.IsWhole) (arg10 : Memref sig .tc .vmem S1x2x8192 .bf16) (harg10 : arg10.IsWhole) (arg11 : Memref sig .tc .vmem S1x64x64 .bf16) (harg11 : arg11.IsWhole)
    (x0 : Vec F S1x64x128 .bf16) (x1 : Vec F S1x8x128 .bf16) (x2 : Vec F S1x8x128 .bf16) (x3 : Vec F S1x2x32x8192 .i8) (x4 : Vec F S1x2x8192 .bf16) (x5 : Vec F S1x2x8192 .bf16) (x6 : Vec F S1x2x32x8192 .i8) (x7 : Vec F S1x2x8192 .bf16) (x8 : Vec F S1x2x8192 .bf16)
    (xt0 : TbBuf1 (F := F) c tbM1_0) (k1_hw1 : k1_chk1 (tbM1_0.view.readAt (Elt F) (Rect.unit (s := S65) (k1_off1 i) S1.size (k1_off1_inb i)).toLoadRect xt0 (Shape.Idx.first (numel1_S1.symm ▸ Nat.one_pos)))) :
    Vec F S1x64x64 .bf16 :=
  View.canon [⟨Rect.unit (s := S1x64x64) ![0, 0, 0] S1x64x64.size inb_S1x64x64_S1x64x64_0_0_0,
    k1_pay15 (finalAttn c i arg1 harg1 arg2 harg2 arg3 harg3 arg4 harg4 arg5 harg5 arg6 harg6 arg7 harg7 arg8 harg8 arg9 harg9 arg10 harg10 arg11 harg11 x0 x1 x2 x3 x4 x5 x6 x7 x8 _ k1_hw1).2.1 (finalAttn c i arg1 harg1 arg2 harg2 arg3 harg3 arg4 harg4 arg5 harg5 arg6 harg6 arg7 harg7 arg8 harg8 arg9 harg9 arg10 harg10 arg11 harg11 x0 x1 x2 x3 x4 x5 x6 x7 x8 _ k1_hw1).2.2⟩]

attribute [local irreducible] st_k1_t1 st_k1_t2

-- (the run's proof term is large: checking it walks past the default budget)
set_option maxHeartbeats 1000000 in
/-- The body's triple: on whole staging memrefs — the inputs' at their contents,
    the FORGOTTEN outputs' (9) at anything, handed back at some contents nothing names —
    the body runs to the continuation holding the inputs' as they were: the printed functions are their skeletons (`Gen.*_eq_skeleton`),
    which `sl_exec` runs. -/
theorem kernelRun (c : Dev nD) (i : grid1.Coords) (arg2 : Memref sig .tc .vmem S1x64x128 .bf16) (harg2 : arg2.IsWhole) (arg3 : Memref sig .tc .vmem S1x8x128 .bf16) (harg3 : arg3.IsWhole) (arg4 : Memref sig .tc .vmem S1x8x128 .bf16) (harg4 : arg4.IsWhole) (arg5 : Memref sig .tc .vmem S1x2x32x8192 .i8) (harg5 : arg5.IsWhole) (arg6 : Memref sig .tc .vmem S1x2x8192 .bf16) (harg6 : arg6.IsWhole) (arg7 : Memref sig .tc .vmem S1x2x8192 .bf16) (harg7 : arg7.IsWhole) (arg8 : Memref sig .tc .vmem S1x2x32x8192 .i8) (harg8 : arg8.IsWhole) (arg9 : Memref sig .tc .vmem S1x2x8192 .bf16) (harg9 : arg9.IsWhole) (arg10 : Memref sig .tc .vmem S1x2x8192 .bf16) (harg10 : arg10.IsWhole) (arg11 : Memref sig .tc .vmem S1x64x64 .bf16) (harg11 : arg11.IsWhole)
    (x0 : Vec F S1x64x128 .bf16) (x1 : Vec F S1x8x128 .bf16) (x2 : Vec F S1x8x128 .bf16) (x3 : Vec F S1x2x32x8192 .i8) (x4 : Vec F S1x2x8192 .bf16) (x5 : Vec F S1x2x8192 .bf16) (x6 : Vec F S1x2x32x8192 .i8) (x7 : Vec F S1x2x8192 .bf16) (x8 : Vec F S1x2x8192 .bf16) (xt0 : TbBuf1 (F := F) c tbM1_0) (k1_hw1 : k1_chk1 (tbM1_0.view.readAt (Elt F) (Rect.unit (s := S65) (k1_off1 i) S1.size (k1_off1_inb i)).toLoadRect xt0 (Shape.Idx.first (numel1_S1.symm ▸ Nat.one_pos)))) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ tbPt1 c tbM1_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (outAttn c i tbM1_0 htbM1_0 arg2 harg2 arg3 harg3 arg4 harg4 arg5 harg5 arg6 harg6 arg7 harg7 arg8 harg8 arg9 harg9 arg10 harg10 arg11 harg11 x0 x1 x2 x3 x4 x5 x6 x7 x8 xt0 k1_hw1) ∗ tbPt1 c tbM1_0 xt0) -∗ K ⟨⟩))
          ⊢ wp frame (wpE (defs₀ (F := F)) Variants.none c none) E (cc1_attn i tbM1_0 htbM1_0 arg2 harg2 arg3 harg3 arg4 harg4 arg5 harg5 arg6 harg6 arg7 harg7 arg8 harg8 arg9 harg9 arg10 harg10 arg11 harg11) K := by
    intro E K
    simp only [cc1_attn_eq_skeleton]; unfold cc1_attn_skel
    simp only [k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact k1_hw1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro
      refine (View.read_writes_eq_canon _ _ _ (coverAttn _)).trans ?_
      unfold outAttn finalAttn wholeAttn initAttn
      rfl
    iexact HT0

/-! ## The pipeline's proof data -/

/-- What the body leaves in the output's block at point `t`. -/
def outAt (a : (pcfg1 (F := F)).Adm) (hH : Hyps a) (c : Dev nD) (t : Fin (cfg1 a).N) : Vec F S1x64x64 .bf16 :=
  outAttn c (grid1.coords t) tbM1_0 htbM1_0 (ms1_0 a t) (hs1_0 a t) (ms1_1 a t) (hs1_1 a t) (ms1_2 a t) (hs1_2 a t) (ms1_3 a t) (hs1_3 a t) (ms1_4 a t) (hs1_4 a t) (ms1_5 a t) (hs1_5 a t) (ms1_6 a t) (hs1_6 a t) (ms1_7 a t) (hs1_7 a t) (ms1_8 a t) (hs1_8 a t) (ms1_9 a t) (hs1_9 a t) (iblk W a c 0 t) (iblk W a c 1 t) (iblk W a c 2 t) (iblk W a c 3 t) (iblk W a c 4 t) (iblk W a c 5 t) (iblk W a c 6 t) (iblk W a c 7 t) (iblk W a c 8 t) (a.1 0) (hH t)

/-- The proof data of the one pipeline on core `c`: the arrays as the region finds them (`V`); after the body at
    point `t` each input's buffer at its block and the outputs, FORGOTTEN, at `Dat.unnamed`; the invariant the class's
    and the tables' halves (`ΦT`); nothing owed;
    full shares. -/
def dat (a : (pcfg1 (F := F)).Adm) (hH : Hyps a) (c : Dev nD) : Dat τ (Elt F) Unit ℕ (UR sig nD τ) ℕ (cfg1 a) c where
  A w := W c (Proc.devRef .tc (Pipeline.arrRef spec1 w))
  after w t := match w with
    | ⟨0, _⟩ => iblk W a c 0 t
    | ⟨1, _⟩ => iblk W a c 1 t
    | ⟨2, _⟩ => iblk W a c 2 t
    | ⟨3, _⟩ => iblk W a c 3 t
    | ⟨4, _⟩ => iblk W a c 4 t
    | ⟨5, _⟩ => iblk W a c 5 t
    | ⟨6, _⟩ => iblk W a c 6 t
    | ⟨7, _⟩ => iblk W a c 7 t
    | ⟨8, _⟩ => iblk W a c 8 t
    | ⟨9, _⟩ => outAt W a hH c t
  Φ _ := iprop(Pipeline.scopedRest spec1 c ∗ Pipeline.prefHeld pre1 c (fun _ => fullShare) a.1)
  q _ := fullShare
  owed _ := 0

/-- The proof data's arrays are the region-entry contents: the proof data's definition projected (`dsimp`), so that
    `V` — a fold over @main's host prefix, long for some programs — is never unfolded to check it. -/
theorem A_eq (a : (pcfg1 (F := F)).Adm) (hH : Hyps a) (c : Dev nD) (w : Fin (cfg1 a).W) : (dat W a hH c).A w = W c (Proc.devRef .tc (Pipeline.arrRef spec1 w)) := by
  dsimp only [dat]

/-- What the body leaves, window by window (the proof data's `match` reduced by `dsimp`). -/
theorem after1_0 (a : (pcfg1 (F := F)).Adm) (hH : Hyps a) (c : Dev nD) (t : Fin (cfg1 a).N) : (dat W a hH c).after 0 t = iblk W a c 0 t := by dsimp only [dat]; try rfl
theorem after1_1 (a : (pcfg1 (F := F)).Adm) (hH : Hyps a) (c : Dev nD) (t : Fin (cfg1 a).N) : (dat W a hH c).after 1 t = iblk W a c 1 t := by dsimp only [dat]; try rfl
theorem after1_2 (a : (pcfg1 (F := F)).Adm) (hH : Hyps a) (c : Dev nD) (t : Fin (cfg1 a).N) : (dat W a hH c).after 2 t = iblk W a c 2 t := by dsimp only [dat]; try rfl
theorem after1_3 (a : (pcfg1 (F := F)).Adm) (hH : Hyps a) (c : Dev nD) (t : Fin (cfg1 a).N) : (dat W a hH c).after 3 t = iblk W a c 3 t := by dsimp only [dat]; try rfl
theorem after1_4 (a : (pcfg1 (F := F)).Adm) (hH : Hyps a) (c : Dev nD) (t : Fin (cfg1 a).N) : (dat W a hH c).after 4 t = iblk W a c 4 t := by dsimp only [dat]; try rfl
theorem after1_5 (a : (pcfg1 (F := F)).Adm) (hH : Hyps a) (c : Dev nD) (t : Fin (cfg1 a).N) : (dat W a hH c).after 5 t = iblk W a c 5 t := by dsimp only [dat]; try rfl
theorem after1_6 (a : (pcfg1 (F := F)).Adm) (hH : Hyps a) (c : Dev nD) (t : Fin (cfg1 a).N) : (dat W a hH c).after 6 t = iblk W a c 6 t := by dsimp only [dat]; try rfl
theorem after1_7 (a : (pcfg1 (F := F)).Adm) (hH : Hyps a) (c : Dev nD) (t : Fin (cfg1 a).N) : (dat W a hH c).after 7 t = iblk W a c 7 t := by dsimp only [dat]; try rfl
theorem after1_8 (a : (pcfg1 (F := F)).Adm) (hH : Hyps a) (c : Dev nD) (t : Fin (cfg1 a).N) : (dat W a hH c).after 8 t = iblk W a c 8 t := by dsimp only [dat]; try rfl

theorem after1_9 (a : (pcfg1 (F := F)).Adm) (hH : Hyps a) (c : Dev nD) (t : Fin (cfg1 a).N) : (dat W a hH c).after 9 t = outAt W a hH c t := by dsimp only [dat]; try rfl

/-- Each input's current staging buffer holds its block at every point, fetched there or not. -/
theorem before1_0 (a : (pcfg1 (F := F)).Adm) (hH : Hyps a) (c : Dev nD) (t : Fin (cfg1 a).N) (d) : (dat W a hH c).before 0 t d = iblk W a c 0 t :=
  before1_0_of W a (dat W a hH c) (A_eq W a hH c 0) (after1_0 W a hH c) t d
theorem before1_1 (a : (pcfg1 (F := F)).Adm) (hH : Hyps a) (c : Dev nD) (t : Fin (cfg1 a).N) (d) : (dat W a hH c).before 1 t d = iblk W a c 1 t :=
  before1_1_of W a (dat W a hH c) (A_eq W a hH c 1) (after1_1 W a hH c) t d
theorem before1_2 (a : (pcfg1 (F := F)).Adm) (hH : Hyps a) (c : Dev nD) (t : Fin (cfg1 a).N) (d) : (dat W a hH c).before 2 t d = iblk W a c 2 t :=
  before1_2_of W a (dat W a hH c) (A_eq W a hH c 2) (after1_2 W a hH c) t d
theorem before1_3 (a : (pcfg1 (F := F)).Adm) (hH : Hyps a) (c : Dev nD) (t : Fin (cfg1 a).N) (d) : (dat W a hH c).before 3 t d = iblk W a c 3 t :=
  before1_3_of W a (dat W a hH c) (A_eq W a hH c 3) (after1_3 W a hH c) t d
theorem before1_4 (a : (pcfg1 (F := F)).Adm) (hH : Hyps a) (c : Dev nD) (t : Fin (cfg1 a).N) (d) : (dat W a hH c).before 4 t d = iblk W a c 4 t :=
  before1_4_of W a (dat W a hH c) (A_eq W a hH c 4) (after1_4 W a hH c) t d
theorem before1_5 (a : (pcfg1 (F := F)).Adm) (hH : Hyps a) (c : Dev nD) (t : Fin (cfg1 a).N) (d) : (dat W a hH c).before 5 t d = iblk W a c 5 t :=
  before1_5_of W a (dat W a hH c) (A_eq W a hH c 5) (after1_5 W a hH c) t d
theorem before1_6 (a : (pcfg1 (F := F)).Adm) (hH : Hyps a) (c : Dev nD) (t : Fin (cfg1 a).N) (d) : (dat W a hH c).before 6 t d = iblk W a c 6 t :=
  before1_6_of W a (dat W a hH c) (A_eq W a hH c 6) (after1_6 W a hH c) t d
theorem before1_7 (a : (pcfg1 (F := F)).Adm) (hH : Hyps a) (c : Dev nD) (t : Fin (cfg1 a).N) (d) : (dat W a hH c).before 7 t d = iblk W a c 7 t :=
  before1_7_of W a (dat W a hH c) (A_eq W a hH c 7) (after1_7 W a hH c) t d
theorem before1_8 (a : (pcfg1 (F := F)).Adm) (hH : Hyps a) (c : Dev nD) (t : Fin (cfg1 a).N) (d) : (dat W a hH c).before 8 t d = iblk W a c 8 t :=
  before1_8_of W a (dat W a hH c) (A_eq W a hH c 8) (after1_8 W a hH c) t d

/-! ## The body obligation, at a generic point -/

/-- What the body is called with at point `t`, -/
def bodyPre (a : (pcfg1 (F := F)).Adm) (hH : Hyps a) (c : Dev nD) (t : Fin (cfg1 a).N) : sProp 𝕄 :=
  iprop((dat W a hH c).Φ t.castSucc ∗ (dat W a hH c).owesAt () t.castSucc
    ∗ (∃ d, owns (c : Thread nD τ) (ms1_0 a t) fullShare ((dat W a hH c).before 0 t d))
    ∗ (∃ d, owns (c : Thread nD τ) (ms1_1 a t) fullShare ((dat W a hH c).before 1 t d))
    ∗ (∃ d, owns (c : Thread nD τ) (ms1_2 a t) fullShare ((dat W a hH c).before 2 t d))
    ∗ (∃ d, owns (c : Thread nD τ) (ms1_3 a t) fullShare ((dat W a hH c).before 3 t d))
    ∗ (∃ d, owns (c : Thread nD τ) (ms1_4 a t) fullShare ((dat W a hH c).before 4 t d))
    ∗ (∃ d, owns (c : Thread nD τ) (ms1_5 a t) fullShare ((dat W a hH c).before 5 t d))
    ∗ (∃ d, owns (c : Thread nD τ) (ms1_6 a t) fullShare ((dat W a hH c).before 6 t d))
    ∗ (∃ d, owns (c : Thread nD τ) (ms1_7 a t) fullShare ((dat W a hH c).before 7 t d))
    ∗ (∃ d, owns (c : Thread nD τ) (ms1_8 a t) fullShare ((dat W a hH c).before 8 t d))
    ∗ (∃ d, owns (c : Thread nD τ) (ms1_9 a t) fullShare ((dat W a hH c).before 9 t d)))

/-- and what it returns. -/
def bodyPost (a : (pcfg1 (F := F)).Adm) (hH : Hyps a) (c : Dev nD) (t : Fin (cfg1 a).N) : sProp 𝕄 :=
  iprop((dat W a hH c).Φ t.succ ∗ (dat W a hH c).owesAt () t.succ
    ∗ owns (c : Thread nD τ) (ms1_0 a t) fullShare ((dat W a hH c).after 0 t)
    ∗ owns (c : Thread nD τ) (ms1_1 a t) fullShare ((dat W a hH c).after 1 t)
    ∗ owns (c : Thread nD τ) (ms1_2 a t) fullShare ((dat W a hH c).after 2 t)
    ∗ owns (c : Thread nD τ) (ms1_3 a t) fullShare ((dat W a hH c).after 3 t)
    ∗ owns (c : Thread nD τ) (ms1_4 a t) fullShare ((dat W a hH c).after 4 t)
    ∗ owns (c : Thread nD τ) (ms1_5 a t) fullShare ((dat W a hH c).after 5 t)
    ∗ owns (c : Thread nD τ) (ms1_6 a t) fullShare ((dat W a hH c).after 6 t)
    ∗ owns (c : Thread nD τ) (ms1_7 a t) fullShare ((dat W a hH c).after 7 t)
    ∗ owns (c : Thread nD τ) (ms1_8 a t) fullShare ((dat W a hH c).after 8 t)
    ∗ owns (c : Thread nD τ) (ms1_9 a t) fullShare ((dat W a hH c).after 9 t))

set_option maxHeartbeats 800000 in
/-- The body at any point: the inputs' memrefs hold their blocks (`before1_W`); so the
    run applies; the invariant passes through unread; the core owes nothing throughout. -/
theorem sound_body (a : (pcfg1 (F := F)).Adm) (hH : Hyps a) (c : Dev nD) (t : Fin (cfg1 a).N) :
    bodyPre W a hH c t ⊢ wp frame (wpE (defs₀ (F := F)) Variants.none c none) Set.univ (bodyAt1 a t) (fun _ => bodyPost W a hH c t) := by
  unfold bodyPre bodyPost bodyAt1
  simp only [before1_0, before1_1, before1_2, before1_3, before1_4, before1_5, before1_6, before1_7, before1_8]
  rw [show (dat W a hH c).Φ t.succ = (dat W a hH c).Φ t.castSucc from rfl,
    show (dat W a hH c).owesAt () t.succ = (dat W a hH c).owesAt () t.castSucc from rfl,
    after1_0, after1_1, after1_2, after1_3, after1_4, after1_5, after1_6, after1_7, after1_8, after1_9]
  rw [show (dat W a hH c).Φ t.castSucc = iprop(Pipeline.scopedRest spec1 c ∗ Pipeline.prefHeld pre1 c (fun _ => fullShare) a.1) from rfl, PhiT1_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun c (grid1.coords t) (ms1_0 a t) (hs1_0 a t) (ms1_1 a t) (hs1_1 a t) (ms1_2 a t) (hs1_2 a t) (ms1_3 a t) (hs1_3 a t) (ms1_4 a t) (hs1_4 a t) (ms1_5 a t) (hs1_5 a t) (ms1_6 a t) (hs1_6 a t) (ms1_7 a t) (hs1_7 a t) (ms1_8 a t) (hs1_8 a t) (ms1_9 a t) (hs1_9 a t) (iblk W a c 0 t) (iblk W a c 1 t) (iblk W a c 2 t) (iblk W a c 3 t) (iblk W a c 4 t) (iblk W a c 5 t) (iblk W a c 6 t) (iblk W a c 7 t) (iblk W a c 8 t) (a.1 0) (hH t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HT0]; · iexact HT0
  iintro ⟨H0, H1, H2, H3, H4, H5, H6, H7, H8, H9, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt1` spells it. -/
theorem defs₀_row (a : (pcfg1 (F := F)).Adm) (t : Fin (cfg1 a).N) :
    defs₀ (F := F) .tc (cfg1 a).body ((cfg1 a).bodyArgs t ((cfg1 a).slots t)) = bodyAt1 a t := by
  unfold defs₀; rw [Defs.onTc_tc]

/-- The library's body obligation, at every point: the body's triple restated. -/
theorem body_obligation (a : (pcfg1 (F := F)).Adm) (hH : Hyps a) (c : Dev nD) : BodyObligation (dat W a hH c) (defs₀ (F := F)) Variants.none () Set.univ := fun t => by
  rw [bigSep_W1, bigSep_W1, defs₀_row a]
  exact triple_restated (sound_body W a hH c t) rfl .rfl fun _ => .rfl

end Cert.Kernel.Attn

end
-- ==== Proof.Words.lean ====
/-
  The words of the loop over chunks of 1024 cached tokens: how many chunks a count of cached tokens takes, and where
  each chunk starts. Shared by the kernel at machine values and at extended reals.
-/
module

public import Idealize.ShloMosaic.Lib.Scf
public import Idealize.ShloMosaic.Lib.WordCmp
public import Mathlib.Tactic.NormNum

@[expose] public section

namespace Cert.Words

open Idealize.ShloMosaic

/-- The number of chunks the kernel computes from a count of cached tokens, a word. -/
def chunkWord (v : BitVec 32) : BitVec 32 := Scalar.divsi (Scalar.addi v 1023#32) 1024#32

/-- That number: the count rounded up to chunks of 1024, and no chunk for a count that is not positive. -/
def chunks (v : BitVec 32) : ℕ := ((v.toInt + 1023).tdiv 1024).toNat

theorem toInt_chunkWord {v : BitVec 32} (h : v.toInt ≤ 8192) : (chunkWord v).toInt = (v.toInt + 1023).tdiv 1024 := by
  have hlo : -2147483648 ≤ v.toInt := by have := BitVec.le_toInt v; simpa using this
  have hadd : (v + 1023#32).toInt = v.toInt + 1023 := by
    rw [BitVec.toInt_add, show (1023#32 : BitVec 32).toInt = 1023 from by decide]
    exact Int.bmod_eq_of_le (by omega) (by omega)
  have hc : ¬ IntOp.SDivCorner (v + 1023#32) 1024#32 := by
    unfold IntOp.SDivCorner; simp
  show (IntOp.divsi .scalar (v + 1023#32) 1024#32).toInt = _
  unfold IntOp.divsi
  rw [if_neg hc, BitVec.toInt_sdiv_of_ne_or_ne _ _ (Or.inr (by decide)), hadd,
    show (1024#32 : BitVec 32).toInt = 1024 from by decide]

theorem chunks_le {v : BitVec 32} (h : v.toInt ≤ 8192) : chunks v ≤ 8 := by
  have hb : (v.toInt + 1023).tdiv 1024 ≤ (v.toInt + 1023) / 1024 + 1 ∧ (0 ≤ v.toInt + 1023 → (v.toInt + 1023).tdiv 1024 = (v.toInt + 1023) / 1024) := by
    refine ⟨?_, fun h0 => Int.tdiv_eq_ediv_of_nonneg h0⟩
    rw [Int.tdiv_eq_ediv]
    have h1 : Int.sign 1024 = 1 := by decide
    split <;> omega
  unfold chunks
  obtain ⟨h1, h2⟩ := hb
  by_cases h0 : 0 ≤ v.toInt + 1023
  · rw [h2 h0]; omega
  · omega

/-- The loop's upper bound as the kernel computes it is that word. -/
theorem upper_eq (x : BitVec 32) :
    Scalar.addi 0#32 (Scalar.muli (Scalar.divsi (Scalar.subi x 0#32) 1#32) 1#32) = x := by
  have hc : ¬ IntOp.SDivCorner (x - 0#32) 1#32 := by unfold IntOp.SDivCorner; simp
  show 0#32 + IntOp.divsi .scalar (x - 0#32) 1#32 * 1#32 = x
  unfold IntOp.divsi
  rw [if_neg hc]
  simp

theorem rest_eq (x : BitVec 32) : Scalar.addi 0#32 (Scalar.subi x 0#32) = x := by
  show 0#32 + (x - 0#32) = x
  simp

theorem trips_eq {v : BitVec 32} (h : v.toInt ≤ 8192) : Scf.trips 0#32 (chunkWord v) 1#32 = chunks v := by
  unfold Scf.trips chunks
  rw [toInt_chunkWord h, show (0#32 : BitVec 32).toInt = 0 from by decide, show (1#32 : BitVec 32).toInt = 1 from by decide]
  simp

theorem trips_self (x : BitVec 32) : Scf.trips x x 1#32 = 0 := by
  unfold Scf.trips
  rw [show (1#32 : BitVec 32).toInt = 1 from by decide]
  simp

/-- A chunk's start, a word. -/
theorem start_toNat {k : ℕ} (hk : k < 8) : (Scalar.muli (Scf.iv 0#32 1#32 k) 1024#32).toNat = 1024 * k := by
  show ((0#32 + BitVec.ofNat 32 k * 1#32) * 1024#32).toNat = _
  have : k < 2 ^ 32 := by omega
  simp [BitVec.toNat_mul, BitVec.toNat_ofNat]
  omega

end Cert.Words
-- ==== Proof.KernelRun.lean ====
/-
  The whole program's run: the two kernel regions' records over the device's buffers, chained with the host's stretches.
  From any memory whose counts of cached tokens are at most 8192, every execution ends with every buffer at the
  valuation `V9 m (outs …)`: what the host's operations and the two kernels' bodies leave.
-/
module

public import proofs.«01_k».proof.Proof.KernelQuant
public import proofs.«01_k».proof.Proof.KernelAttn
public import proofs.«01_k».proof.Proof.Words
public import proofs.«01_k».proof.Proof.Gen.Kernel.Regions
public import Idealize.ShloMosaic.Lib.Pipeline.RegionArraysTS

@[expose] public section

set_option maxRecDepth 16384

noncomputable section

namespace Cert.Kernel.Run

open Cert.Kernel Cert.Kernel.Gen Cert.Words
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg RegionSeg Seg HostSeg cellOf afterRegion)

variable {F : FTy → Type} [FloatOps F]

local notation "𝕄" => MT nD τ sig Unit (Elt F) ℕ (UR sig nD τ) ℕ

/-! ## The loop over chunks -/

theorem t1_trips {v : BitVec 32} (h : v.toInt ≤ 8192) : (k1_t1_loop v).trips = chunks v := by
  show Scf.trips 0#32 (Scalar.addi 0#32 (Scalar.muli (Scalar.divsi (Scalar.subi (chunkWord v) 0#32) 1#32) 1#32)) 1#32 = _
  rw [upper_eq, trips_eq h]

theorem t2_trips (v : BitVec 32) : (k1_t2_loop v).trips = 0 := by
  show Scf.trips (Scalar.addi 0#32 (Scalar.muli (Scalar.divsi (Scalar.subi (chunkWord v) 0#32) 1#32) 1#32))
    (Scalar.addi 0#32 (Scalar.subi (chunkWord v) 0#32)) 1#32 = _
  rw [upper_eq, rest_eq, trips_self]

theorem trip_lt {v : BitVec 32} (h : v.toInt ≤ 8192) (k : Fin (k1_t1_loop v).trips) : k.val < 8 :=
  Nat.lt_of_lt_of_le (Nat.lt_of_lt_of_eq k.isLt (t1_trips h)) (chunks_le h)

theorem k1_off2_eq {v : BitVec 32} (h : v.toInt ≤ 8192) (k : Fin (k1_t1_loop v).trips) : k1_off2 v k = ![0, 0, 0, 1024 * k.val] := by
  show ![0, 0, 0, (Scalar.muli (Scf.iv 0#32 1#32 k) 1024#32).toNat] = _
  rw [start_toNat (trip_lt h k)]

theorem k1_off3_eq {v : BitVec 32} (h : v.toInt ≤ 8192) (k : Fin (k1_t1_loop v).trips) : k1_off3 v k = ![0, 0, 1024 * k.val] := by
  show ![0, 0, (Scalar.muli (Scf.iv 0#32 1#32 k) 1024#32).toNat] = _
  rw [start_toNat (trip_lt h k)]

theorem k1_off4_eq {v : BitVec 32} (h : v.toInt ≤ 8192) (k : Fin (k1_t1_loop v).trips) : k1_off4 v k = ![0, 1, 0, 1024 * k.val] := by
  show ![0, 1, 0, (Scalar.muli (Scf.iv 0#32 1#32 k) 1024#32).toNat] = _
  rw [start_toNat (trip_lt h k)]

theorem k1_off5_eq {v : BitVec 32} (h : v.toInt ≤ 8192) (k : Fin (k1_t1_loop v).trips) : k1_off5 v k = ![0, 1, 1024 * k.val] := by
  show ![0, 1, (Scalar.muli (Scf.iv 0#32 1#32 k) 1024#32).toNat] = _
  rw [start_toNat (trip_lt h k)]

/-- A count of at most 8192 cached tokens keeps every chunk the loop visits inside its block. -/
theorem chk_of_le {v : BitVec 32} (h : v.toInt ≤ 8192) : k1_chk1 v := by
  have h8 := chunks_le h
  refine ⟨?_, ?_, ?_, ?_, ?_, ?_, ?_, fun k => (Fin.cast (t2_trips v) k).elim0, fun k => (Fin.cast (t2_trips v) k).elim0,
    fun k => (Fin.cast (t2_trips v) k).elim0, fun k => (Fin.cast (t2_trips v) k).elim0, fun k => (Fin.cast (t2_trips v) k).elim0⟩
  · refine ⟨(by decide : 0 < (1#32 : BitVec 32).toInt), ?_⟩
    show (0#32 : BitVec 32).toInt + ((k1_t1_loop v).trips : ℤ) * (1#32 : BitVec 32).toInt < _
    rw [t1_trips h, show (0#32 : BitVec 32).toInt = 0 from by decide, show (1#32 : BitVec 32).toInt = 1 from by decide]
    omega
  · intro k
    show 1024 ∣ (Scalar.muli (Scf.iv 0#32 1#32 k) 1024#32).toNat
    rw [start_toNat (trip_lt h k)]
    exact ⟨_, rfl⟩
  · intro k a
    have hk := trip_lt h k
    rw [k1_off2_eq h]
    fin_cases a
    · show 0 + 1 ≤ 1; omega
    · show 0 + 1 ≤ 2; omega
    · show 0 + 32 ≤ 32; omega
    · show 1024 * k.val + 1024 ≤ 8192; omega
  · intro k a
    have hk := trip_lt h k
    rw [k1_off3_eq h]
    fin_cases a
    · show 0 + 1 ≤ 1; omega
    · show 0 + 1 ≤ 2; omega
    · show 1024 * k.val + 1024 ≤ 8192; omega
  · intro k a
    have hk := trip_lt h k
    rw [k1_off4_eq h]
    fin_cases a
    · show 0 + 1 ≤ 1; omega
    · show 1 + 1 ≤ 2; omega
    · show 0 + 32 ≤ 32; omega
    · show 1024 * k.val + 1024 ≤ 8192; omega
  · intro k a
    have hk := trip_lt h k
    rw [k1_off5_eq h]
    fin_cases a
    · show 0 + 1 ≤ 1; omega
    · show 1 + 1 ≤ 2; omega
    · show 1024 * k.val + 1024 ≤ 8192; omega
  · refine ⟨(by decide : 0 < (1#32 : BitVec 32).toInt), ?_⟩
    show (Scalar.addi 0#32 (Scalar.muli (Scalar.divsi (Scalar.subi (chunkWord v) 0#32) 1#32) 1#32) : BitVec 32).toInt
      + ((k1_t2_loop v).trips : ℤ) * (1#32 : BitVec 32).toInt < _
    rw [t2_trips, upper_eq, toInt_chunkWord h]
    have : (v.toInt + 1023).tdiv 1024 ≤ ((v.toInt + 1023).tdiv 1024).toNat := Int.self_le_toNat _
    unfold chunks at h8
    omega

/-! ## The tables, and what the regions leave -/

variable (m : (ℓ : Loc nD τ sig) → Buf (Elt F) ℓ)

/-- Every count of cached tokens is at most the 8192 the cache holds. -/
def Short : Prop := ∀ (c : Dev nD) (i : S65.Idx), (m ((c : Thread nD τ).loc main_arg9) i : BitVec 32).toInt ≤ 8192

/-- The prefetched table's contents, as launched. -/
def tbl : pre1.Contents (Elt F) := fun j => m (((0 : Dev nD) : Thread nD τ).loc (pre1.ref j))

/-- The attention region's admissible table. -/
abbrev tab : (pcfg1 (F := F)).Adm := ⟨tbl m, trivial⟩

/-- Each region's admissible tables: the first has none. -/
abbrev tabs : (p : Fin 2) → (pcfgs (F := F) p).Adm := fun
  | ⟨0, _⟩ => cfg0.toPCfg_adm
  | ⟨1, _⟩ => tab m

theorem hyps (h : Short m) : Attn.Hyps (tab m) := fun t => chk_of_le (h 0 _)

/-- What the quantiser's region leaves in its arrays. -/
def outsQ : Outs (F := F) := fun _ r c => afterRegion (Quant.dat (V1 m) c) (V1 m c) (Proc.devRef .tc r)

/-- What the two regions leave in their arrays. -/
def outs (h : Short m) : Outs (F := F)
  | 2, r, c => outsQ m 2 r c
  | _, r, c => afterRegion (Attn.dat (V7 m (outsQ m)) (tab m) (hyps m h) c) (V7 m (outsQ m) c) (Proc.devRef .tc r)

/-- The two pipelines' proof data. -/
abbrev pdats (h : Short m) : (p : Fin 2) → (c : Dev nD) → Dat τ (Elt F) Unit ℕ (UR sig nD τ) ℕ (Pipeline.pin (pcfgs (F := F)) (tabs m) p) c := fun
  | ⟨0, _⟩ => fun c => Quant.dat (V1 m) c
  | ⟨1, _⟩ => fun c => Attn.dat (V7 m (outsQ m)) (tab m) (hyps m h) c

theorem V2_eq (h : Short m) (c : Dev nD) : V2 m (outs m h) c = V2 m (outsQ m) c := rfl
theorem V7_eq (h : Short m) (c : Dev nD) : V7 m (outs m h) c = V7 m (outsQ m) c := rfl

/-- The table is untouched when the attention region is entered. -/
theorem V7_table (c : Dev nD) : V7 m (outsQ m) c main_arg9 = m ((c : Thread nD τ).loc main_arg9) :=
  (V7_of m _ c main_arg9 (by decide)).trans <| (V6_of m _ c main_arg9 (by decide)).trans <| (V5_of m _ c main_arg9 (by decide)).trans <| (V4_of m _ c main_arg9 (by decide)).trans <| (V3_of m _ c main_arg9 (by decide)).trans <| (V2_of m _ c main_arg9 (by decide)).trans <| (V1_of m c main_arg9 (by decide)).trans rfl

/-- After the quantiser's region the buffers are at `V2`. -/
theorem after_quant (h : Short m) (c : Dev nD) (r : Ref sig .tc) :
    afterRegion (Quant.dat (V1 m) c) (V1 m c) (Proc.devRef .tc r) = V2 m (outs m h) c r := by
  by_cases hr : r ∈ ([main_v2_0, main_v2_1, main_v2_2, main_v2_3, main_v2_4, main_v2_5, main_v2_6, main_v2_7] : List (Ref sig .tc))
  · simp only [List.mem_cons, List.not_mem_nil, or_false] at hr
    rcases hr with rfl | rfl | rfl | rfl | rfl | rfl | rfl | rfl
    · delta V2; rw [Function.update_of_ne (StableHlo.devRef_ne_of_ne (by decide : (main_v2_0 : Ref sig .tc) ≠ main_v2_7))]; rw [Function.update_of_ne (StableHlo.devRef_ne_of_ne (by decide : (main_v2_0 : Ref sig .tc) ≠ main_v2_6))]; rw [Function.update_of_ne (StableHlo.devRef_ne_of_ne (by decide : (main_v2_0 : Ref sig .tc) ≠ main_v2_5))]; rw [Function.update_of_ne (StableHlo.devRef_ne_of_ne (by decide : (main_v2_0 : Ref sig .tc) ≠ main_v2_4))]; rw [Function.update_of_ne (StableHlo.devRef_ne_of_ne (by decide : (main_v2_0 : Ref sig .tc) ≠ main_v2_3))]; rw [Function.update_of_ne (StableHlo.devRef_ne_of_ne (by decide : (main_v2_0 : Ref sig .tc) ≠ main_v2_2))]; rw [Function.update_of_ne (StableHlo.devRef_ne_of_ne (by decide : (main_v2_0 : Ref sig .tc) ≠ main_v2_1))]; rw [Function.update_self]
      rfl
    · delta V2; rw [Function.update_of_ne (StableHlo.devRef_ne_of_ne (by decide : (main_v2_1 : Ref sig .tc) ≠ main_v2_7))]; rw [Function.update_of_ne (StableHlo.devRef_ne_of_ne (by decide : (main_v2_1 : Ref sig .tc) ≠ main_v2_6))]; rw [Function.update_of_ne (StableHlo.devRef_ne_of_ne (by decide : (main_v2_1 : Ref sig .tc) ≠ main_v2_5))]; rw [Function.update_of_ne (StableHlo.devRef_ne_of_ne (by decide : (main_v2_1 : Ref sig .tc) ≠ main_v2_4))]; rw [Function.update_of_ne (StableHlo.devRef_ne_of_ne (by decide : (main_v2_1 : Ref sig .tc) ≠ main_v2_3))]; rw [Function.update_of_ne (StableHlo.devRef_ne_of_ne (by decide : (main_v2_1 : Ref sig .tc) ≠ main_v2_2))]; rw [Function.update_self]
      rfl
    · delta V2; rw [Function.update_of_ne (StableHlo.devRef_ne_of_ne (by decide : (main_v2_2 : Ref sig .tc) ≠ main_v2_7))]; rw [Function.update_of_ne (StableHlo.devRef_ne_of_ne (by decide : (main_v2_2 : Ref sig .tc) ≠ main_v2_6))]; rw [Function.update_of_ne (StableHlo.devRef_ne_of_ne (by decide : (main_v2_2 : Ref sig .tc) ≠ main_v2_5))]; rw [Function.update_of_ne (StableHlo.devRef_ne_of_ne (by decide : (main_v2_2 : Ref sig .tc) ≠ main_v2_4))]; rw [Function.update_of_ne (StableHlo.devRef_ne_of_ne (by decide : (main_v2_2 : Ref sig .tc) ≠ main_v2_3))]; rw [Function.update_self]
      rfl
    · delta V2; rw [Function.update_of_ne (StableHlo.devRef_ne_of_ne (by decide : (main_v2_3 : Ref sig .tc) ≠ main_v2_7))]; rw [Function.update_of_ne (StableHlo.devRef_ne_of_ne (by decide : (main_v2_3 : Ref sig .tc) ≠ main_v2_6))]; rw [Function.update_of_ne (StableHlo.devRef_ne_of_ne (by decide : (main_v2_3 : Ref sig .tc) ≠ main_v2_5))]; rw [Function.update_of_ne (StableHlo.devRef_ne_of_ne (by decide : (main_v2_3 : Ref sig .tc) ≠ main_v2_4))]; rw [Function.update_self]
      rfl
    · delta V2; rw [Function.update_of_ne (StableHlo.devRef_ne_of_ne (by decide : (main_v2_4 : Ref sig .tc) ≠ main_v2_7))]; rw [Function.update_of_ne (StableHlo.devRef_ne_of_ne (by decide : (main_v2_4 : Ref sig .tc) ≠ main_v2_6))]; rw [Function.update_of_ne (StableHlo.devRef_ne_of_ne (by decide : (main_v2_4 : Ref sig .tc) ≠ main_v2_5))]; rw [Function.update_self]
      rfl
    · delta V2; rw [Function.update_of_ne (StableHlo.devRef_ne_of_ne (by decide : (main_v2_5 : Ref sig .tc) ≠ main_v2_7))]; rw [Function.update_of_ne (StableHlo.devRef_ne_of_ne (by decide : (main_v2_5 : Ref sig .tc) ≠ main_v2_6))]; rw [Function.update_self]
      rfl
    · delta V2; rw [Function.update_of_ne (StableHlo.devRef_ne_of_ne (by decide : (main_v2_6 : Ref sig .tc) ≠ main_v2_7))]; rw [Function.update_self]
      rfl
    · delta V2; rw [Function.update_self]
      rfl
  · rw [V2_of m _ c r hr]
    refine Pipeline.afterRegion_keeps _ _ winFacts0.arr_inj (fun _ => rfl) r (fun w hw => ?_)
    by_contra hout
    refine hr (hw ▸ ?_)
    clear hw hr
    revert hout
    revert w
    show ∀ w : Fin 10, ¬ (spec0 w).isOut = false → Pipeline.arrRef spec0 w ∈ [main_v2_0, main_v2_1, main_v2_2, main_v2_3, main_v2_4, main_v2_5, main_v2_6, main_v2_7]
    decide

/-- After the attention region the buffers are at `V8`. -/
theorem after_attn (h : Short m) (c : Dev nD) (r : Ref sig .tc) :
    afterRegion (Attn.dat (V7 m (outsQ m)) (tab m) (hyps m h) c) (V7 m (outsQ m) c) (Proc.devRef .tc r) = V8 m (outs m h) c r := by
  by_cases hr : r ∈ ([main_v32] : List (Ref sig .tc))
  · simp only [List.mem_cons, List.not_mem_nil, or_false] at hr
    subst hr
    delta V8; rw [Function.update_self]
    rfl
  · rw [V8_of m _ c r hr]
    refine Pipeline.afterRegion_keeps _ _ winFacts1.arr_inj (fun _ => rfl) r (fun w hw => ?_)
    by_contra hout
    refine hr (hw ▸ ?_)
    clear hw hr
    revert hout
    revert w
    show ∀ w : Fin 10, ¬ (spec1 w).isOut = false → Pipeline.arrRef spec1 w ∈ [main_v32]
    decide

theorem held_quant (h : Short m) (c : Dev nD) :
    (StableHlo.held (c : Thread nD τ) (Pipeline.ucRefs τ sig) (afterRegion (pdats m h 0 c) (V1 m c)) : sProp 𝕄)
      = StableHlo.held (c : Thread nD τ) (Pipeline.ucRefs τ sig) (V2 m (outs m h) c) :=
  StableHlo.held_congr _ fun b hb => by
    obtain ⟨r, -, rfl⟩ := Finset.mem_map.mp (Finset.mem_filter.mp hb).1
    exact after_quant m h c r

theorem held_attn (h : Short m) (c : Dev nD) :
    (StableHlo.held (c : Thread nD τ) (Pipeline.ucRefs τ sig) (afterRegion (pdats m h 1 c) (V7 m (outsQ m) c)) : sProp 𝕄)
      = StableHlo.held (c : Thread nD τ) (Pipeline.ucRefs τ sig) (V8 m (outs m h) c) :=
  StableHlo.held_congr _ fun b hb => by
    obtain ⟨r, -, rfl⟩ := Finset.mem_map.mp (Finset.mem_filter.mp hb).1
    exact after_attn m h c r

/-! ## The regions' records -/

/-- Every cell of a core's semaphores may be waited on at the one level. -/
abbrev L : GSem nD τ sig → Finset Unit := fun g => if g.1.2 = .tc then {()} else ∅
abbrev lv : GSem nD τ sig → Unit → ℕ := fun _ _ => 0

theorem cut (p : Fin 2) : Pipeline.LevelCut (pcfgs (F := F)) (tabs m) () L lv p (fun _ => 0) (fun _ => 0) where
  hι _ _ _ := Finset.mem_singleton.mpr rfl
  hιb _ _ _ := le_rfl
  hD _ _ _ h := absurd h (lt_irrefl _)

set_option backward.isDefEq.respectTransparency.types false in
/-- The quantiser's region, entered with the buffers at `V1`. -/
def R0 (h : Short m) : RegionSeg (pcfgs (F := F)) (tabs m) (pdats m h) () (defs₀ (F := F)) Variants.none L lv 0 :=
  Pipeline.RegionSeg.ofHeldIn (pcfgs (F := F)) (tabs m) (pdats m h) () defs₀ Variants.none L lv 0 (fun _ => 0) (Pipeline.ucRefs τ sig)
    (fun _ => iprop(emp)) (fun _ => iprop(emp)) launch0 rfl
    (fun c => (Quant.body_obligation (V1 m) c).loose) (fun _ _ => rfl) (fun _ => rfl)
    (fun c w => (Quant.dat (V1 m) c).share_full (fun _ => rfl) w)
    (fun c => by
      show _ ⊢ Pipeline.scopedRest spec0 c
      iintro ⟨H, -⟩; iexact H)
    (fun c => by
      show Pipeline.scopedRest spec0 c ⊢ _
      iintro H; isplitl [H]; · iexact H
      iempintro)
    (fun _ => 0) (cut m 0) (fun _ => iprop(emp)) (fun c => V1 m c) (fun c w => rfl)

set_option backward.isDefEq.respectTransparency.types false in
/-- The attention region, entered with the buffers at `V7`. -/
def R1 (h : Short m) : RegionSeg (pcfgs (F := F)) (tabs m) (pdats m h) () (defs₀ (F := F)) Variants.none L lv 1 :=
  Pipeline.RegionSeg.ofHeldInT (pcfgs (F := F)) (tabs m) (pdats m h) () defs₀ Variants.none L lv 1 (fun _ => 0) (Pipeline.ucRefs τ sig)
    (fun _ => iprop(emp)) (fun _ => iprop(emp)) launch1
    (fun c => (Attn.body_obligation (V7 m (outsQ m)) (tab m) (hyps m h) c).loose) (fun _ _ => rfl) (fun _ => rfl)
    (fun c w => (Attn.dat (V7 m (outsQ m)) (tab m) (hyps m h) c).share_full (fun _ => rfl) w)
    (fun c => by
      show _ ⊢ iprop(Pipeline.scopedRest spec1 c ∗ Pipeline.prefHeld pre1 c (fun _ => fullShare) (tab m).1)
      iintro ⟨⟨H, -⟩, HT⟩
      isplitl [H]; · iexact H
      iexact HT)
    (fun c => by
      show iprop(Pipeline.scopedRest spec1 c ∗ Pipeline.prefHeld pre1 c (fun _ => fullShare) (tab m).1) ⊢ _
      iintro ⟨H, HT⟩
      isplitl [H]
      · isplitl [H]; · iexact H
        iempintro
      iexact HT)
    (fun _ => 0) (cut m 1) (fun _ => iprop(emp)) (fun c => V7 m (outsQ m) c) (fun c w => rfl)
    (fun c k => by
      obtain rfl : c = 0 := Subsingleton.elim _ _
      obtain rfl : k = (0 : Fin 1) := Subsingleton.elim (α := Fin 1) _ _
      exact (V7_table m 0).symm)

/-- The regions' arrays and tables are unscoped. -/
theorem arrs0 : Pipeline.arrRefs (τ := τ) spec0 ⊆ Pipeline.ucRefs τ sig := Pipeline.arrRefs_sub_ucRefs spec0 (by decide)
theorem arrs1 : Pipeline.arrRefs (τ := τ) spec1 ⊆ Pipeline.ucRefs τ sig := Pipeline.arrRefs_sub_ucRefs spec1 (by decide)
theorem tbls1 : Pipeline.tblRefs (τ := τ) pre1 ⊆ Pipeline.ucRefs τ sig := Pipeline.tblRefs_sub_ucRefs pre1 (by decide)

set_option backward.isDefEq.respectTransparency.types false in
theorem R0_pre (h : Short m) (c : Dev nD) :
    iprop(StableHlo.held (c.tc : Thread nD τ) (Pipeline.ucRefs τ sig) (V1 m c) ∗ ((∃ Wd, owes (c : Thread nD τ) (0 : CellTallies nD τ sig Unit) Wd) ∗ emp ∗ emp))
      ⊢ ((R0 m h).pre c : sProp 𝕄) := by
  unfold R0
  refine BIBase.Entails.trans ?_ (Pipeline.RegionSeg.ofHeldIn_pre (pcs := pcfgs (F := F)) (p := 0) (a := tabs m) (pdats := pdats m h) (ι := ()) (defs₀ := defs₀ (F := F)) (𝒱₀ := Variants.none) (L := L) (lv := lv) (D := fun _ => 0) (X := fun _ => iprop(emp)) (Y := fun _ => iprop(emp)) (R := fun _ => iprop(emp)) (W := fun c => V1 m c) arrs0 c)
  exact BIBase.Entails.rfl

set_option backward.isDefEq.respectTransparency.types false in
theorem R0_post (h : Short m) (c : Dev nD) :
    ((R0 m h).post c : sProp 𝕄) ⊢ iprop(StableHlo.held (c.tc : Thread nD τ) (Pipeline.ucRefs τ sig) (afterRegion (pdats m h 0 c) (V1 m c))
      ∗ ((∃ Wd, owes (c : Thread nD τ) (0 : CellTallies nD τ sig Unit) Wd) ∗ emp ∗ emp)) := by
  unfold R0
  exact Pipeline.RegionSeg.ofHeldIn_post (pcs := pcfgs (F := F)) (p := 0) (a := tabs m) (pdats := pdats m h) (ι := ()) (defs₀ := defs₀ (F := F)) (𝒱₀ := Variants.none) (L := L) (lv := lv) (D := fun _ => 0) (X := fun _ => iprop(emp)) (Y := fun _ => iprop(emp)) (R := fun _ => iprop(emp)) (W := fun c => V1 m c) arrs0 c

set_option backward.isDefEq.respectTransparency.types false in
theorem R1_pre (h : Short m) (c : Dev nD) :
    iprop(StableHlo.held (c.tc : Thread nD τ) (Pipeline.ucRefs τ sig) (V7 m (outsQ m) c) ∗ ((∃ Wd, owes (c : Thread nD τ) (0 : CellTallies nD τ sig Unit) Wd) ∗ emp ∗ emp))
      ⊢ ((R1 m h).pre c : sProp 𝕄) := by
  unfold R1
  refine BIBase.Entails.trans ?_ (Pipeline.RegionSeg.ofHeldInT_pre (pcs := pcfgs (F := F)) (p := 1) (a := tabs m) (pdats := pdats m h) (ι := ()) (defs₀ := defs₀ (F := F)) (𝒱₀ := Variants.none) (L := L) (lv := lv) (D := fun _ => 0) (X := fun _ => iprop(emp)) (Y := fun _ => iprop(emp)) (R := fun _ => iprop(emp)) (W := fun c => V7 m (outsQ m) c) arrs1 tbls1 c)
  exact BIBase.Entails.rfl

set_option backward.isDefEq.respectTransparency.types false in
theorem R1_post (h : Short m) (c : Dev nD) :
    ((R1 m h).post c : sProp 𝕄) ⊢ iprop(StableHlo.held (c.tc : Thread nD τ) (Pipeline.ucRefs τ sig) (afterRegion (pdats m h 1 c) (V7 m (outsQ m) c))
      ∗ ((∃ Wd, owes (c : Thread nD τ) (0 : CellTallies nD τ sig Unit) Wd) ∗ emp ∗ emp)) := by
  unfold R1
  exact Pipeline.RegionSeg.ofHeldInT_post (pcs := pcfgs (F := F)) (p := 1) (a := tabs m) (pdats := pdats m h) (ι := ()) (defs₀ := defs₀ (F := F)) (𝒱₀ := Variants.none) (L := L) (lv := lv) (D := fun _ => 0) (X := fun _ => iprop(emp)) (Y := fun _ => iprop(emp)) (R := fun _ => iprop(emp)) (W := fun c => V7 m (outsQ m) c) arrs1 tbls1 c

/-! ## The run -/

set_option backward.isDefEq.respectTransparency.types false in
/-- The run of the program, given the two regions' records: every unscoped buffer ends at `V9`. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 2) → (pcfgs (F := F) p).Adm)
    (pdats : (p : Fin 2) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => (∀ c : Dev nD, ∀ b ∈ Pipeline.ucRefs τ sig, r.2.mem (c, b) = V9 m outs c b)
      ∧ r.2.sem = fun _ => 0) := by
  refine Pipeline.θ_run_regions_kit_dev_sems (pcfgs (F := F)) a pdats ι (cellOf_inj a) EP defs₀ 𝒱₀ L lv m ρ main
    (segs m outs 𝒱₀ L lv E ι a pdats R0 R1)
    (fun c Q => by
      rewrite [main_chain c, Seg.run_eq_chain,
        show (segs m outs 𝒱₀ L lv E ι a pdats R0 R1 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, hpre0 c, hpost0 c, .rfl, .rfl, .rfl, .rfl, hpre1 c, hpost1 c, sep_mono .rfl (hE2 c)⟩)
    (hinit := ?_) (QY := fun c s => ∀ b ∈ Pipeline.ucRefs τ sig, s.mem (c, b) = V9 m outs c b)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact h
    · iexact HSI

set_option backward.isDefEq.respectTransparency.types false in
/-- From any memory whose counts are at most 8192, every execution ends, with every semaphore at zero and every unscoped
    buffer at `V9`. -/
theorem run (h : Short m) (ρ : Dev nD → PrngReg) :
    θ_run defs (onTc (τ := τ) (main (F := F))) ⟨m, fun _ => 0, ρ⟩ (fun r =>
      (∀ c : Dev nD, ∀ b ∈ Pipeline.ucRefs τ sig, r.2.mem (c, b) = V9 m (outs m h) c b) ∧ r.2.sem = fun _ => 0) := by
  refine run_cond m (Ix := Unit) (U := UR sig nD τ) (Lvl := ℕ) emb₁ () Variants.none L lv (fun g hg => if_neg hg) ρ (outs m h) (tabs m)
    (pdats m h) 0 (fun _ => iprop(emp))
    (initOf (Pipeline.cells (Pipeline.pin (pcfgs (F := F)) (tabs m)) (cellOf_inj (tabs m))) (Pipeline.launchToks (Pipeline.pin (pcfgs (F := F)) (tabs m)) (cellOf_inj (tabs m))))
    ?_ (fun _ c => iprop(∃ Wd, owes (c : Thread nD τ) (0 : CellTallies nD τ sig Unit) Wd)) ?_ (fun c => .rfl)
    (R0 m h) (fun c => ?_) (fun c => ?_) (R1 m h) (fun c => ?_) (fun c => ?_)
  · iintro Hu; imodintro
    isplitl [Hu]
    · iapply (show (ownU _ : sProp 𝕄) ⊢ BI.own (emb₁ (initOf (Pipeline.cells (Pipeline.pin (pcfgs (F := F)) (tabs m)) (cellOf_inj (tabs m))) (Pipeline.launchToks (Pipeline.pin (pcfgs (F := F)) (tabs m)) (cellOf_inj (tabs m))))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    iintro ⟨⟨-, HO, -⟩, -⟩
    imodintro
    iexists _; iexact HO
  · refine BIBase.Entails.trans ?_ (R0_pre m h c)
    iintro ⟨Hh, HO⟩
    isplitl [Hh]; · iexact Hh
    isplitl [HO]; · iexact HO
    isplitl []; · iempintro
    iempintro
  · refine BIBase.Entails.trans (R0_post m h c) ?_
    rw [← held_quant m h c]
    iintro ⟨Hh, HO, -, -⟩
    isplitl [Hh]; · iexact Hh
    iexact HO
  · refine BIBase.Entails.trans ?_ (R1_pre m h c)
    iintro ⟨Hh, HO⟩
    isplitl [Hh]; · iexact Hh
    isplitl [HO]; · iexact HO
    isplitl []; · iempintro
    iempintro
  · refine BIBase.Entails.trans (R1_post m h c) ?_
    rw [← held_attn m h c]
    iintro ⟨Hh, HO, -, -⟩
    isplitl [Hh]; · iexact Hh
    iexact HO

end Cert.Kernel.Run

end
-- ==== Proof.KernelIdealQuant.lean ====
/-
  The quantizer's region (custom_call 0 of @main), entered with the device's buffers at an arbitrary valuation `W`:
  what the kernel leaves in each of its eight results as a function of the two arrays it reads, the run of its body,
  and the pipeline's body obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.KernelIdeal.Quant

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = W c (Proc.devRef .tc (Pipeline.arrRef spec0 0)))
    (hafter : ∀ t, dat.after 0 t = iblk W c 0 t) (t : Fin cfg0.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = W c (Proc.devRef .tc (Pipeline.arrRef spec0 1)))
    (hafter : ∀ t, dat.after 1 t = iblk W c 1 t) (t : Fin cfg0.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S4x2x64x65 := Rect.unit (s := S4x2x64x65) ![0, 0, 0, 0] S1x1x64x65.size inb_S4x2x64x65_S1x1x64x65_0_0_0_0
abbrev r0_1 : Rect S4x2x32x65 := Rect.unit (s := S4x2x32x65) ![0, 0, 0, 0] S1x1x32x65.size inb_S4x2x32x65_S1x1x32x65_0_0_0_0
abbrev r0_2 : Rect S4x2x64x65 := Rect.unit (s := S4x2x64x65) ![0, 1, 0, 0] S1x1x64x65.size inb_S4x2x64x65_S1x1x64x65_0_1_0_0
abbrev r0_3 : Rect S4x2x32x65 := Rect.unit (s := S4x2x32x65) ![0, 1, 0, 0] S1x1x32x65.size inb_S4x2x32x65_S1x1x32x65_0_1_0_0
abbrev r0_4 : Rect S4x2x65 := Rect.unit (s := S4x2x65) ![0, 0, 0] S1x2x65.size inb_S4x2x65_S1x2x65_0_0_0
abbrev r0_5 : Rect S4x2x64x65 := Rect.unit (s := S4x2x64x65) ![1, 0, 0, 0] S1x1x64x65.size inb_S4x2x64x65_S1x1x64x65_1_0_0_0
abbrev r0_6 : Rect S4x2x32x65 := Rect.unit (s := S4x2x32x65) ![1, 0, 0, 0] S1x1x32x65.size inb_S4x2x32x65_S1x1x32x65_1_0_0_0
abbrev r0_7 : Rect S4x2x64x65 := Rect.unit (s := S4x2x64x65) ![1, 1, 0, 0] S1x1x64x65.size inb_S4x2x64x65_S1x1x64x65_1_1_0_0
abbrev r0_8 : Rect S4x2x32x65 := Rect.unit (s := S4x2x32x65) ![1, 1, 0, 0] S1x1x32x65.size inb_S4x2x32x65_S1x1x32x65_1_1_0_0
abbrev r0_9 : Rect S4x2x65 := Rect.unit (s := S4x2x65) ![1, 0, 0] S1x2x65.size inb_S4x2x65_S1x2x65_1_0_0
abbrev r0_10 : Rect S4x2x64x65 := Rect.unit (s := S4x2x64x65) ![2, 0, 0, 0] S1x1x64x65.size inb_S4x2x64x65_S1x1x64x65_2_0_0_0
abbrev r0_11 : Rect S4x2x32x65 := Rect.unit (s := S4x2x32x65) ![2, 0, 0, 0] S1x1x32x65.size inb_S4x2x32x65_S1x1x32x65_2_0_0_0
abbrev r0_12 : Rect S4x2x64x65 := Rect.unit (s := S4x2x64x65) ![2, 1, 0, 0] S1x1x64x65.size inb_S4x2x64x65_S1x1x64x65_2_1_0_0
abbrev r0_13 : Rect S4x2x32x65 := Rect.unit (s := S4x2x32x65) ![2, 1, 0, 0] S1x1x32x65.size inb_S4x2x32x65_S1x1x32x65_2_1_0_0
abbrev r0_14 : Rect S4x2x65 := Rect.unit (s := S4x2x65) ![2, 0, 0] S1x2x65.size inb_S4x2x65_S1x2x65_2_0_0
abbrev r0_15 : Rect S4x2x64x65 := Rect.unit (s := S4x2x64x65) ![3, 0, 0, 0] S1x1x64x65.size inb_S4x2x64x65_S1x1x64x65_3_0_0_0
abbrev r0_16 : Rect S4x2x32x65 := Rect.unit (s := S4x2x32x65) ![3, 0, 0, 0] S1x1x32x65.size inb_S4x2x32x65_S1x1x32x65_3_0_0_0
abbrev r0_17 : Rect S4x2x64x65 := Rect.unit (s := S4x2x64x65) ![3, 1, 0, 0] S1x1x64x65.size inb_S4x2x64x65_S1x1x64x65_3_1_0_0
abbrev r0_18 : Rect S4x2x32x65 := Rect.unit (s := S4x2x32x65) ![3, 1, 0, 0] S1x1x32x65.size inb_S4x2x32x65_S1x1x32x65_3_1_0_0
abbrev r0_19 : Rect S4x2x65 := Rect.unit (s := S4x2x65) ![3, 0, 0] S1x2x65.size inb_S4x2x65_S1x2x65_3_0_0

/-! ## What the body leaves in each output window's buffer -/

/-! ### Values of the body that the stores' payloads, spelt out, would write more than once

    Each is a vector the body binds (often a part call's result), stated over the input windows' blocks and
    numbered on from the skeleton's payload functions (`quant_v150` …, after `k0_pay149`), so that
    `out0_W` and the values after it name it instead of spelling it out (`unfold_out out0_W` opens a canon
    with them, `unfold_payloads` opens them with the payloads); the comment after each is the printed function's
    name for the value (a count appended where that name is bound again). -/

def quant_v150 (x0 : Vec F S4x2x64x65 .bf16) (x1 : Vec F S4x2x64x65 .bf16) : FVec F S64x65 .f32 :=
  k0_pay21 (View.ld x0 r0_5) -- `v108`
def quant_v151 (x0 : Vec F S4x2x64x65 .bf16) (x1 : Vec F S4x2x64x65 .bf16) : FVec F S1x65 .bf16 :=
  k0_pay23 (View.ld x0 r0_5) -- `v119`
def quant_v152 (x0 : Vec F S4x2x64x65 .bf16) (x1 : Vec F S4x2x64x65 .bf16) : FVec F S1x65 .bf16 :=
  k0_pay24 (View.ld x0 r0_5) -- `v120`
def quant_v153 (x0 : Vec F S4x2x64x65 .bf16) (x1 : Vec F S4x2x64x65 .bf16) : FVec F S1x65 .f32 :=
  k0_pay25 (View.ld x0 r0_5) -- `v121`
def quant_v154 (x0 : Vec F S4x2x64x65 .bf16) (x1 : Vec F S4x2x64x65 .bf16) : FVec F S64x65 .f32 :=
  k0_pay29 (View.ld x0 r0_7) -- `v157`
def quant_v155 (x0 : Vec F S4x2x64x65 .bf16) (x1 : Vec F S4x2x64x65 .bf16) : FVec F S1x65 .f32 :=
  k0_pay30 (View.ld x0 r0_7) -- `v159`
def quant_v156 (x0 : Vec F S4x2x64x65 .bf16) (x1 : Vec F S4x2x64x65 .bf16) : FVec F S1x65 .f32 :=
  k0_pay31 (View.ld x0 r0_7) -- `v161`
def quant_v157 (x0 : Vec F S4x2x64x65 .bf16) (x1 : Vec F S4x2x64x65 .bf16) : IVec S1x65 1 :=
  k0_pay32 (View.ld x0 r0_7) -- `v162`
def quant_v158 (x0 : Vec F S4x2x64x65 .bf16) (x1 : Vec F S4x2x64x65 .bf16) : FVec F S1x65 .bf16 :=
  k0_pay51 (View.ld x0 r0_12) -- `v274`
def quant_v159 (x0 : Vec F S4x2x64x65 .bf16) (x1 : Vec F S4x2x64x65 .bf16) : FVec F S1x65 .bf16 :=
  k0_pay52 (View.ld x0 r0_12) -- `v275`
def quant_v160 (x0 : Vec F S4x2x64x65 .bf16) (x1 : Vec F S4x2x64x65 .bf16) : FVec F S64x65 .f32 :=
  k0_pay53 (View.ld x0 r0_12) -- `v288`
def quant_v161 (x0 : Vec F S4x2x64x65 .bf16) (x1 : Vec F S4x2x64x65 .bf16) : FVec F S64x65 .f32 :=
  k0_pay58 (View.ld x0 r0_15) -- `v320`
def quant_v162 (x0 : Vec F S4x2x64x65 .bf16) (x1 : Vec F S4x2x64x65 .bf16) : FVec F S1x65 .f32 :=
  k0_pay59 (View.ld x0 r0_15) -- `v322`
def quant_v163 (x0 : Vec F S4x2x64x65 .bf16) (x1 : Vec F S4x2x64x65 .bf16) : FVec F S65 .f32 :=
  k0_pay60 (View.ld x0 r0_15) -- `v323`
def quant_v164 (x0 : Vec F S4x2x64x65 .bf16) (x1 : Vec F S4x2x64x65 .bf16) : FVec F S1x65 .bf16 :=
  k0_pay78 (View.ld x1 r0_0) -- `v437`
def quant_v165 (x0 : Vec F S4x2x64x65 .bf16) (x1 : Vec F S4x2x64x65 .bf16) : FVec F S1x65 .bf16 :=
  k0_pay79 (View.ld x1 r0_0) -- `v438`
def quant_v166 (x0 : Vec F S4x2x64x65 .bf16) (x1 : Vec F S4x2x64x65 .bf16) : FVec F S64x65 .f32 :=
  k0_pay80 (View.ld x1 r0_0) -- `v448`
def quant_v167 (x0 : Vec F S4x2x64x65 .bf16) (x1 : Vec F S4x2x64x65 .bf16) : FVec F S1x65 .bf16 :=
  k0_pay87 (View.ld x1 r0_2) -- `v486`
def quant_v168 (x0 : Vec F S4x2x64x65 .bf16) (x1 : Vec F S4x2x64x65 .bf16) : FVec F S1x65 .bf16 :=
  k0_pay88 (View.ld x1 r0_2) -- `v487`
def quant_v169 (x0 : Vec F S4x2x64x65 .bf16) (x1 : Vec F S4x2x64x65 .bf16) : FVec F S64x65 .f32 :=
  k0_pay89 (View.ld x1 r0_2) -- `v490`
def quant_v170 (x0 : Vec F S4x2x64x65 .bf16) (x1 : Vec F S4x2x64x65 .bf16) : FVec F S64x65 .f32 :=
  k0_pay114 (View.ld x1 r0_10) -- `v638`
def quant_v171 (x0 : Vec F S4x2x64x65 .bf16) (x1 : Vec F S4x2x64x65 .bf16) : FVec F S1x65 .bf16 :=
  k0_pay116 (View.ld x1 r0_10) -- `v649`
def quant_v172 (x0 : Vec F S4x2x64x65 .bf16) (x1 : Vec F S4x2x64x65 .bf16) : FVec F S1x65 .bf16 :=
  k0_pay117 (View.ld x1 r0_10) -- `v650`
def quant_v173 (x0 : Vec F S4x2x64x65 .bf16) (x1 : Vec F S4x2x64x65 .bf16) : FVec F S1x65 .f32 :=
  k0_pay118 (View.ld x1 r0_10) -- `v651`
def quant_v174 (x0 : Vec F S4x2x64x65 .bf16) (x1 : Vec F S4x2x64x65 .bf16) : FVec F S64x65 .f32 :=
  k0_pay122 (View.ld x1 r0_12) -- `v687`
def quant_v175 (x0 : Vec F S4x2x64x65 .bf16) (x1 : Vec F S4x2x64x65 .bf16) : FVec F S1x65 .f32 :=
  k0_pay123 (View.ld x1 r0_12) -- `v689`
def quant_v176 (x0 : Vec F S4x2x64x65 .bf16) (x1 : Vec F S4x2x64x65 .bf16) : FVec F S1x65 .f32 :=
  k0_pay124 (View.ld x1 r0_12) -- `v691`
def quant_v177 (x0 : Vec F S4x2x64x65 .bf16) (x1 : Vec F S4x2x64x65 .bf16) : IVec S1x65 1 :=
  k0_pay125 (View.ld x1 r0_12) -- `v692`
def quant_v178 (x0 : Vec F S4x2x64x65 .bf16) (x1 : Vec F S4x2x64x65 .bf16) : FVec F S1x65 .bf16 :=
  k0_pay144 (View.ld x1 r0_17) -- `v804`
def quant_v179 (x0 : Vec F S4x2x64x65 .bf16) (x1 : Vec F S4x2x64x65 .bf16) : FVec F S1x65 .bf16 :=
  k0_pay145 (View.ld x1 r0_17) -- `v805`
def quant_v180 (x0 : Vec F S4x2x64x65 .bf16) (x1 : Vec F S4x2x64x65 .bf16) : FVec F S64x65 .f32 :=
  k0_pay146 (View.ld x1 r0_17) -- `v818`

/-- Window 2's staging buffer after the body, from the input windows' blocks: its 8 stores as pieces, LAST
    FIRST. -/
def out0_2 (x0 : Vec F S4x2x64x65 .bf16) (x1 : Vec F S4x2x64x65 .bf16) : Vec F S4x2x32x65 .i8 :=
  View.canon [⟨r0_18, k0_pay73 (k0_pay72 (View.ld x0 r0_17))⟩,
    ⟨r0_16, k0_pay65 (quant_v161 x0 x1) (quant_v162 x0 x1) (quant_v163 x0 x1)⟩,
    ⟨r0_13, k0_pay55 (quant_v160 x0 x1)⟩,
    ⟨r0_11, k0_pay48 (k0_pay45 (View.ld x0 r0_10))⟩,
    ⟨r0_8, k0_pay37 (quant_v154 x0 x1) (quant_v155 x0 x1) (quant_v156 x0 x1) (quant_v157 x0 x1)⟩,
    ⟨r0_6, k0_pay28 (quant_v150 x0 x1) (quant_v151 x0 x1) (quant_v153 x0 x1)⟩,
    ⟨r0_3, k0_pay18 (k0_pay16 (View.ld x0 r0_2))⟩,
    ⟨r0_1, k0_pay11 (k0_pay9 (View.ld x0 r0_0)) (k0_pay10 (View.ld x0 r0_0))⟩]

/-- Its stores tile the buffer (checked by evaluation), so they cover it. -/
theorem cover0_2 (p0 : Vec F S1x1x32x65 .i8) (p1 : Vec F S1x1x32x65 .i8) (p2 : Vec F S1x1x32x65 .i8) (p3 : Vec F S1x1x32x65 .i8) (p4 : Vec F S1x1x32x65 .i8) (p5 : Vec F S1x1x32x65 .i8) (p6 : Vec F S1x1x32x65 .i8) (p7 : Vec F S1x1x32x65 .i8) (y : S4x2x32x65.Idx) :
    ∃ pc ∈ ([⟨r0_18, p0⟩, ⟨r0_16, p1⟩, ⟨r0_13, p2⟩, ⟨r0_11, p3⟩, ⟨r0_8, p4⟩, ⟨r0_6, p5⟩, ⟨r0_3, p6⟩, ⟨r0_1, p7⟩] : List (View.Piece (Elt F) S4x2x32x65 .i8)), y ∈ pc.1.set :=
  View.cover_of_tiled [⟨r0_18, p0⟩, ⟨r0_16, p1⟩, ⟨r0_13, p2⟩, ⟨r0_11, p3⟩, ⟨r0_8, p4⟩, ⟨r0_6, p5⟩, ⟨r0_3, p6⟩, ⟨r0_1, p7⟩] S1x1x32x65.size (by rfl) y

/-- Window 3's staging buffer after the body, from the input windows' blocks: its 4 stores as pieces, LAST
    FIRST. -/
def out0_3 (x0 : Vec F S4x2x64x65 .bf16) (x1 : Vec F S4x2x64x65 .bf16) : Vec F S4x2x65 .bf16 :=
  View.canon [⟨r0_19, k0_pay74 (k0_pay61 (quant_v162 x0 x1) (quant_v163 x0 x1)) (k0_pay68 (View.ld x0 r0_17))⟩,
    ⟨r0_14, k0_pay56 (k0_pay43 (View.ld x0 r0_10)) (quant_v158 x0 x1)⟩,
    ⟨r0_9, k0_pay39 (k0_pay38 (quant_v151 x0 x1) (quant_v155 x0 x1) (quant_v156 x0 x1) (quant_v157 x0 x1))⟩,
    ⟨r0_4, k0_pay19 (k0_pay4 (View.ld x0 r0_0)) (k0_pay14 (View.ld x0 r0_2))⟩]

/-- Its stores tile the buffer (checked by evaluation), so they cover it. -/
theorem cover0_3 (p0 : Vec F S1x2x65 .bf16) (p1 : Vec F S1x2x65 .bf16) (p2 : Vec F S1x2x65 .bf16) (p3 : Vec F S1x2x65 .bf16) (y : S4x2x65.Idx) :
    ∃ pc ∈ ([⟨r0_19, p0⟩, ⟨r0_14, p1⟩, ⟨r0_9, p2⟩, ⟨r0_4, p3⟩] : List (View.Piece (Elt F) S4x2x65 .bf16)), y ∈ pc.1.set :=
  View.cover_of_tiled [⟨r0_19, p0⟩, ⟨r0_14, p1⟩, ⟨r0_9, p2⟩, ⟨r0_4, p3⟩] S1x2x65.size (by rfl) y

/-- Window 4's staging buffer after the body, from the input windows' blocks: its 4 stores as pieces, LAST
    FIRST. -/
def out0_4 (x0 : Vec F S4x2x64x65 .bf16) (x1 : Vec F S4x2x64x65 .bf16) : Vec F S4x2x65 .bf16 :=
  View.canon [⟨r0_19, k0_pay75 (k0_pay62 (quant_v162 x0 x1)) (k0_pay69 (View.ld x0 r0_17))⟩,
    ⟨r0_14, k0_pay57 (k0_pay44 (View.ld x0 r0_10)) (quant_v159 x0 x1)⟩,
    ⟨r0_9, k0_pay40 (quant_v152 x0 x1) (k0_pay34 (quant_v155 x0 x1))⟩,
    ⟨r0_4, k0_pay20 (k0_pay5 (View.ld x0 r0_0)) (k0_pay15 (View.ld x0 r0_2))⟩]

/-- Its stores tile the buffer (checked by evaluation), so they cover it. -/
theorem cover0_4 (p0 : Vec F S1x2x65 .bf16) (p1 : Vec F S1x2x65 .bf16) (p2 : Vec F S1x2x65 .bf16) (p3 : Vec F S1x2x65 .bf16) (y : S4x2x65.Idx) :
    ∃ pc ∈ ([⟨r0_19, p0⟩, ⟨r0_14, p1⟩, ⟨r0_9, p2⟩, ⟨r0_4, p3⟩] : List (View.Piece (Elt F) S4x2x65 .bf16)), y ∈ pc.1.set :=
  View.cover_of_tiled [⟨r0_19, p0⟩, ⟨r0_14, p1⟩, ⟨r0_9, p2⟩, ⟨r0_4, p3⟩] S1x2x65.size (by rfl) y

/-- Window 5's staging buffer after the body, from the input windows' blocks: its 8 stores as pieces, LAST
    FIRST. -/
def out0_5 (x0 : Vec F S4x2x64x65 .bf16) (x1 : Vec F S4x2x64x65 .bf16) : Vec F S4x2x32x65 .i8 :=
  View.canon [⟨r0_18, k0_pay148 (quant_v180 x0 x1)⟩,
    ⟨r0_16, k0_pay141 (k0_pay138 (View.ld x1 r0_15))⟩,
    ⟨r0_13, k0_pay130 (quant_v174 x0 x1) (quant_v175 x0 x1) (quant_v176 x0 x1) (quant_v177 x0 x1)⟩,
    ⟨r0_11, k0_pay121 (quant_v170 x0 x1) (quant_v171 x0 x1) (quant_v173 x0 x1)⟩,
    ⟨r0_8, k0_pay111 (k0_pay109 (View.ld x1 r0_7))⟩,
    ⟨r0_6, k0_pay104 (k0_pay102 (View.ld x1 r0_5)) (k0_pay103 (View.ld x1 r0_5))⟩,
    ⟨r0_3, k0_pay92 (quant_v167 x0 x1) (quant_v169 x0 x1)⟩,
    ⟨r0_1, k0_pay84 (quant_v166 x0 x1) (k0_pay81 (F := F))⟩]

/-- Its stores tile the buffer (checked by evaluation), so they cover it. -/
theorem cover0_5 (p0 : Vec F S1x1x32x65 .i8) (p1 : Vec F S1x1x32x65 .i8) (p2 : Vec F S1x1x32x65 .i8) (p3 : Vec F S1x1x32x65 .i8) (p4 : Vec F S1x1x32x65 .i8) (p5 : Vec F S1x1x32x65 .i8) (p6 : Vec F S1x1x32x65 .i8) (p7 : Vec F S1x1x32x65 .i8) (y : S4x2x32x65.Idx) :
    ∃ pc ∈ ([⟨r0_18, p0⟩, ⟨r0_16, p1⟩, ⟨r0_13, p2⟩, ⟨r0_11, p3⟩, ⟨r0_8, p4⟩, ⟨r0_6, p5⟩, ⟨r0_3, p6⟩, ⟨r0_1, p7⟩] : List (View.Piece (Elt F) S4x2x32x65 .i8)), y ∈ pc.1.set :=
  View.cover_of_tiled [⟨r0_18, p0⟩, ⟨r0_16, p1⟩, ⟨r0_13, p2⟩, ⟨r0_11, p3⟩, ⟨r0_8, p4⟩, ⟨r0_6, p5⟩, ⟨r0_3, p6⟩, ⟨r0_1, p7⟩] S1x1x32x65.size (by rfl) y

/-- Window 6's staging buffer after the body, from the input windows' blocks: its 4 stores as pieces, LAST
    FIRST. -/
def out0_6 (x0 : Vec F S4x2x64x65 .bf16) (x1 : Vec F S4x2x64x65 .bf16) : Vec F S4x2x65 .bf16 :=
  View.canon [⟨r0_19, k0_pay149 (k0_pay136 (View.ld x1 r0_15)) (quant_v178 x0 x1)⟩,
    ⟨r0_14, k0_pay132 (k0_pay131 (quant_v171 x0 x1) (quant_v175 x0 x1) (quant_v176 x0 x1) (quant_v177 x0 x1))⟩,
    ⟨r0_9, k0_pay112 (k0_pay97 (View.ld x1 r0_5)) (k0_pay107 (View.ld x1 r0_7))⟩,
    ⟨r0_4, k0_pay93 (quant_v164 x0 x1) (quant_v167 x0 x1)⟩]

/-- Its stores tile the buffer (checked by evaluation), so they cover it. -/
theorem cover0_6 (p0 : Vec F S1x2x65 .bf16) (p1 : Vec F S1x2x65 .bf16) (p2 : Vec F S1x2x65 .bf16) (p3 : Vec F S1x2x65 .bf16) (y : S4x2x65.Idx) :
    ∃ pc ∈ ([⟨r0_19, p0⟩, ⟨r0_14, p1⟩, ⟨r0_9, p2⟩, ⟨r0_4, p3⟩] : List (View.Piece (Elt F) S4x2x65 .bf16)), y ∈ pc.1.set :=
  View.cover_of_tiled [⟨r0_19, p0⟩, ⟨r0_14, p1⟩, ⟨r0_9, p2⟩, ⟨r0_4, p3⟩] S1x2x65.size (by rfl) y

/-- Window 7's staging buffer after the body, from the input windows' blocks: its 4 stores as pieces, LAST
    FIRST. -/
def out0_7 (x0 : Vec F S4x2x64x65 .bf16) (x1 : Vec F S4x2x64x65 .bf16) : Vec F S4x2x65 .bf16 :=
  View.canon [⟨r0_19, k0_pay1 (k0_pay137 (View.ld x1 r0_15)) (quant_v179 x0 x1)⟩,
    ⟨r0_14, k0_pay133 (quant_v172 x0 x1) (k0_pay127 (quant_v175 x0 x1))⟩,
    ⟨r0_9, k0_pay113 (k0_pay98 (View.ld x1 r0_5)) (k0_pay108 (View.ld x1 r0_7))⟩,
    ⟨r0_4, k0_pay94 (quant_v165 x0 x1) (quant_v168 x0 x1)⟩]

/-- Its stores tile the buffer (checked by evaluation), so they cover it. -/
theorem cover0_7 (p0 : Vec F S1x2x65 .bf16) (p1 : Vec F S1x2x65 .bf16) (p2 : Vec F S1x2x65 .bf16) (p3 : Vec F S1x2x65 .bf16) (y : S4x2x65.Idx) :
    ∃ pc ∈ ([⟨r0_19, p0⟩, ⟨r0_14, p1⟩, ⟨r0_9, p2⟩, ⟨r0_4, p3⟩] : List (View.Piece (Elt F) S4x2x65 .bf16)), y ∈ pc.1.set :=
  View.cover_of_tiled [⟨r0_19, p0⟩, ⟨r0_14, p1⟩, ⟨r0_9, p2⟩, ⟨r0_4, p3⟩] S1x2x65.size (by rfl) y

/-- Window 8's staging buffer after the body, from the input windows' blocks: its 8 stores as pieces, LAST
    FIRST. -/
def out0_8 (x0 : Vec F S4x2x64x65 .bf16) (x1 : Vec F S4x2x64x65 .bf16) : Vec F S4x2x64x65 .bf16 :=
  View.canon [⟨r0_17, k0_pay71 (View.ld x0 r0_17)⟩,
    ⟨r0_15, k0_pay64 (quant_v161 x0 x1) (quant_v162 x0 x1) (quant_v163 x0 x1)⟩,
    ⟨r0_12, k0_pay54 (quant_v158 x0 x1) (quant_v159 x0 x1) (quant_v160 x0 x1)⟩,
    ⟨r0_10, k0_pay47 (k0_pay46 (View.ld x0 r0_10))⟩,
    ⟨r0_7, k0_pay36 (quant_v154 x0 x1) (quant_v155 x0 x1) (quant_v156 x0 x1) (quant_v157 x0 x1)⟩,
    ⟨r0_5, k0_pay27 (quant_v150 x0 x1) (quant_v151 x0 x1) (quant_v152 x0 x1) (quant_v153 x0 x1)⟩,
    ⟨r0_2, k0_pay17 (View.ld x0 r0_2)⟩,
    ⟨r0_0, k0_pay7 (View.ld x0 r0_0)⟩]

/-- Its stores tile the buffer (checked by evaluation), so they cover it. -/
theorem cover0_8 (p0 : Vec F S1x1x64x65 .bf16) (p1 : Vec F S1x1x64x65 .bf16) (p2 : Vec F S1x1x64x65 .bf16) (p3 : Vec F S1x1x64x65 .bf16) (p4 : Vec F S1x1x64x65 .bf16) (p5 : Vec F S1x1x64x65 .bf16) (p6 : Vec F S1x1x64x65 .bf16) (p7 : Vec F S1x1x64x65 .bf16) (y : S4x2x64x65.Idx) :
    ∃ pc ∈ ([⟨r0_17, p0⟩, ⟨r0_15, p1⟩, ⟨r0_12, p2⟩, ⟨r0_10, p3⟩, ⟨r0_7, p4⟩, ⟨r0_5, p5⟩, ⟨r0_2, p6⟩, ⟨r0_0, p7⟩] : List (View.Piece (Elt F) S4x2x64x65 .bf16)), y ∈ pc.1.set :=
  View.cover_of_tiled [⟨r0_17, p0⟩, ⟨r0_15, p1⟩, ⟨r0_12, p2⟩, ⟨r0_10, p3⟩, ⟨r0_7, p4⟩, ⟨r0_5, p5⟩, ⟨r0_2, p6⟩, ⟨r0_0, p7⟩] S1x1x64x65.size (by rfl) y

/-- Window 9's staging buffer after the body, from the input windows' blocks: its 8 stores as pieces, LAST
    FIRST. -/
def out0_9 (x0 : Vec F S4x2x64x65 .bf16) (x1 : Vec F S4x2x64x65 .bf16) : Vec F S4x2x64x65 .bf16 :=
  View.canon [⟨r0_17, k0_pay147 (quant_v178 x0 x1) (quant_v179 x0 x1) (quant_v180 x0 x1)⟩,
    ⟨r0_15, k0_pay140 (k0_pay139 (View.ld x1 r0_15))⟩,
    ⟨r0_12, k0_pay129 (quant_v174 x0 x1) (quant_v175 x0 x1) (quant_v176 x0 x1) (quant_v177 x0 x1)⟩,
    ⟨r0_10, k0_pay120 (quant_v170 x0 x1) (quant_v171 x0 x1) (quant_v172 x0 x1) (quant_v173 x0 x1)⟩,
    ⟨r0_7, k0_pay110 (View.ld x1 r0_7)⟩,
    ⟨r0_5, k0_pay100 (View.ld x1 r0_5)⟩,
    ⟨r0_2, k0_pay91 (quant_v167 x0 x1) (quant_v168 x0 x1) (quant_v169 x0 x1)⟩,
    ⟨r0_0, k0_pay83 (quant_v164 x0 x1) (quant_v165 x0 x1) (quant_v166 x0 x1) (k0_pay81 (F := F))⟩]

/-- Its stores tile the buffer (checked by evaluation), so they cover it. -/
theorem cover0_9 (p0 : Vec F S1x1x64x65 .bf16) (p1 : Vec F S1x1x64x65 .bf16) (p2 : Vec F S1x1x64x65 .bf16) (p3 : Vec F S1x1x64x65 .bf16) (p4 : Vec F S1x1x64x65 .bf16) (p5 : Vec F S1x1x64x65 .bf16) (p6 : Vec F S1x1x64x65 .bf16) (p7 : Vec F S1x1x64x65 .bf16) (y : S4x2x64x65.Idx) :
    ∃ pc ∈ ([⟨r0_17, p0⟩, ⟨r0_15, p1⟩, ⟨r0_12, p2⟩, ⟨r0_10, p3⟩, ⟨r0_7, p4⟩, ⟨r0_5, p5⟩, ⟨r0_2, p6⟩, ⟨r0_0, p7⟩] : List (View.Piece (Elt F) S4x2x64x65 .bf16)), y ∈ pc.1.set :=
  View.cover_of_tiled [⟨r0_17, p0⟩, ⟨r0_15, p1⟩, ⟨r0_12, p2⟩, ⟨r0_10, p3⟩, ⟨r0_7, p4⟩, ⟨r0_5, p5⟩, ⟨r0_2, p6⟩, ⟨r0_0, p7⟩] S1x1x64x65.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel (c : Dev nD) (E : Set ℕ) (arg0 : Memref sig .tc .vmem S4x2x64x65 .bf16) (harg0 : arg0.IsWhole) (arg1 : Memref sig .tc .vmem S4x2x64x65 .bf16) (harg1 : arg1.IsWhole) (arg2 : Memref sig .tc .vmem S4x2x32x65 .i8) (harg2 : arg2.IsWhole) (arg3 : Memref sig .tc .vmem S4x2x65 .bf16) (harg3 : arg3.IsWhole) (arg4 : Memref sig .tc .vmem S4x2x65 .bf16) (harg4 : arg4.IsWhole) (arg5 : Memref sig .tc .vmem S4x2x32x65 .i8) (harg5 : arg5.IsWhole) (arg6 : Memref sig .tc .vmem S4x2x65 .bf16) (harg6 : arg6.IsWhole) (arg7 : Memref sig .tc .vmem S4x2x65 .bf16) (harg7 : arg7.IsWhole) (arg8 : Memref sig .tc .vmem S4x2x64x65 .bf16) (harg8 : arg8.IsWhole) (arg9 : Memref sig .tc .vmem S4x2x64x65 .bf16) (harg9 : arg9.IsWhole)
    (x0 : Vec F S4x2x64x65 .bf16) (x1 : Vec F S4x2x64x65 .bf16) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare (out0_2 x0 x1) ∗ owns (c : Thread nD τ) arg3 fullShare (out0_3 x0 x1) ∗ owns (c : Thread nD τ) arg4 fullShare (out0_4 x0 x1) ∗ owns (c : Thread nD τ) arg5 fullShare (out0_5 x0 x1) ∗ owns (c : Thread nD τ) arg6 fullShare (out0_6 x0 x1) ∗ owns (c : Thread nD τ) arg7 fullShare (out0_7 x0 x1) ∗ owns (c : Thread nD τ) arg8 fullShare (out0_8 x0 x1) ∗ owns (c : Thread nD τ) arg9 fullShare (out0_9 x0 x1)) -∗ K ⟨⟩))
      ⊢ wp frame (wpE (defs₀ (F := F)) Variants.none c none) E (cc0_quant arg0 harg0 arg1 harg1 arg2 harg2 arg3 harg3 arg4 harg4 arg5 harg5 arg6 harg6 arg7 harg7 arg8 harg8 arg9 harg9) K := by
  simp only [cc0_quant_eq_skeleton]; unfold cc0_quant_skel
  simp only [k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _ _ _ _ _ _ _ _)).trans ?_
    rfl
  isplitl [H3]
  · iexists _; isplitr
    swap; · iexact H3
    ipureintro
    refine (View.read_writes_eq_canon _ _ _ (cover0_3 _ _ _ _)).trans ?_
    rfl
  isplitl [H4]
  · iexists _; isplitr
    swap; · iexact H4
    ipureintro
    refine (View.read_writes_eq_canon _ _ _ (cover0_4 _ _ _ _)).trans ?_
    rfl
  isplitl [H5]
  · iexists _; isplitr
    swap; · iexact H5
    ipureintro
    refine (View.read_writes_eq_canon _ _ _ (cover0_5 _ _ _ _ _ _ _ _)).trans ?_
    rfl
  isplitl [H6]
  · iexists _; isplitr
    swap; · iexact H6
    ipureintro
    refine (View.read_writes_eq_canon _ _ _ (cover0_6 _ _ _ _)).trans ?_
    rfl
  isplitl [H7]
  · iexists _; isplitr
    swap; · iexact H7
    ipureintro
    refine (View.read_writes_eq_canon _ _ _ (cover0_7 _ _ _ _)).trans ?_
    rfl
  isplitl [H8]
  · iexists _; isplitr
    swap; · iexact H8
    ipureintro
    refine (View.read_writes_eq_canon _ _ _ (cover0_8 _ _ _ _ _ _ _ _)).trans ?_
    rfl
  iexists _; isplitr
  swap; · iexact H9
  ipureintro
  refine (View.read_writes_eq_canon _ _ _ (cover0_9 _ _ _ _ _ _ _ _)).trans ?_
  rfl

/-! ## The pipeline's proof data -/

/-- The proof data of the one pipeline on core `c`: the arrays as the region finds them (`V`); after the body at
    point `t` each input's buffer at its block and each output's at `out0_W` of the input blocks; the invariant the
    class's; nothing owed;
    full shares. -/
def dat (c : Dev nD) : Dat τ (Elt F) Unit ℕ (UR sig nD τ) ℕ cfg0 c where
  A w := W c (Proc.devRef .tc (Pipeline.arrRef spec0 w))
  after w t := match w with
    | ⟨0, _⟩ => iblk W c 0 t
    | ⟨1, _⟩ => iblk W c 1 t
    | ⟨2, _⟩ => out0_2 (iblk W c 0 t) (iblk W c 1 t)
    | ⟨3, _⟩ => out0_3 (iblk W c 0 t) (iblk W c 1 t)
    | ⟨4, _⟩ => out0_4 (iblk W c 0 t) (iblk W c 1 t)
    | ⟨5, _⟩ => out0_5 (iblk W c 0 t) (iblk W c 1 t)
    | ⟨6, _⟩ => out0_6 (iblk W c 0 t) (iblk W c 1 t)
    | ⟨7, _⟩ => out0_7 (iblk W c 0 t) (iblk W c 1 t)
    | ⟨8, _⟩ => out0_8 (iblk W c 0 t) (iblk W c 1 t)
    | ⟨9, _⟩ => out0_9 (iblk W c 0 t) (iblk W c 1 t)
  Φ _ := Pipeline.scopedRest spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat W c).A w = W c (Proc.devRef .tc (Pipeline.arrRef spec0 w)) := by
  dsimp only [dat]

/-- What the body leaves, window by window (the proof data's `match` reduced by `dsimp`, never `rfl`: Lib/Pipeline.lean `Dat`). -/
theorem after0_0 (c : Dev nD) (t : Fin cfg0.N) : (dat W c).after 0 t = iblk W c 0 t := by dsimp only [dat]
theorem after0_1 (c : Dev nD) (t : Fin cfg0.N) : (dat W c).after 1 t = iblk W c 1 t := by dsimp only [dat]
theorem after0_2 (c : Dev nD) (t : Fin cfg0.N) : (dat W c).after 2 t = out0_2 (iblk W c 0 t) (iblk W c 1 t) := by dsimp only [dat]
theorem after0_3 (c : Dev nD) (t : Fin cfg0.N) : (dat W c).after 3 t = out0_3 (iblk W c 0 t) (iblk W c 1 t) := by dsimp only [dat]
theorem after0_4 (c : Dev nD) (t : Fin cfg0.N) : (dat W c).after 4 t = out0_4 (iblk W c 0 t) (iblk W c 1 t) := by dsimp only [dat]
theorem after0_5 (c : Dev nD) (t : Fin cfg0.N) : (dat W c).after 5 t = out0_5 (iblk W c 0 t) (iblk W c 1 t) := by dsimp only [dat]
theorem after0_6 (c : Dev nD) (t : Fin cfg0.N) : (dat W c).after 6 t = out0_6 (iblk W c 0 t) (iblk W c 1 t) := by dsimp only [dat]
theorem after0_7 (c : Dev nD) (t : Fin cfg0.N) : (dat W c).after 7 t = out0_7 (iblk W c 0 t) (iblk W c 1 t) := by dsimp only [dat]
theorem after0_8 (c : Dev nD) (t : Fin cfg0.N) : (dat W c).after 8 t = out0_8 (iblk W c 0 t) (iblk W c 1 t) := by dsimp only [dat]
theorem after0_9 (c : Dev nD) (t : Fin cfg0.N) : (dat W c).after 9 t = out0_9 (iblk W c 0 t) (iblk W c 1 t) := by dsimp only [dat]

/-- Each input's current staging buffer holds its block at every point, fetched there or not (`beforeK_W_of`). -/
theorem before0_0 (c : Dev nD) (t : Fin cfg0.N) (d) : (dat W c).before 0 t d = iblk W c 0 t :=
  before0_0_of W (dat W c) (A_eq W c 0) (after0_0 W c) t d
theorem before0_1 (c : Dev nD) (t : Fin cfg0.N) (d) : (dat W c).before 1 t d = iblk W c 1 t :=
  before0_1_of W (dat W c) (A_eq W c 1) (after0_1 W c) t d

/-! ## The body obligation, at a generic point -/

/-- What the body is called with at point `t`, -/
def bodyPre (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d))
    ∗ (∃ d, owns (c : Thread nD τ) (st0_3 t) fullShare ((dat W c).before 3 t d))
    ∗ (∃ d, owns (c : Thread nD τ) (st0_4 t) fullShare ((dat W c).before 4 t d))
    ∗ (∃ d, owns (c : Thread nD τ) (st0_5 t) fullShare ((dat W c).before 5 t d))
    ∗ (∃ d, owns (c : Thread nD τ) (st0_6 t) fullShare ((dat W c).before 6 t d))
    ∗ (∃ d, owns (c : Thread nD τ) (st0_7 t) fullShare ((dat W c).before 7 t d))
    ∗ (∃ d, owns (c : Thread nD τ) (st0_8 t) fullShare ((dat W c).before 8 t d))
    ∗ (∃ d, owns (c : Thread nD τ) (st0_9 t) fullShare ((dat W c).before 9 t d)))

/-- and what it returns. -/
def bodyPost (c : Dev nD) (t : Fin cfg0.N) : sProp 𝕄 :=
  iprop((dat W c).Φ t.succ ∗ (dat W c).owesAt () t.succ
    ∗ owns (c : Thread nD τ) (st0_0 t) fullShare ((dat W c).after 0 t)
    ∗ owns (c : Thread nD τ) (st0_1 t) fullShare ((dat W c).after 1 t)
    ∗ owns (c : Thread nD τ) (st0_2 t) fullShare ((dat W c).after 2 t)
    ∗ owns (c : Thread nD τ) (st0_3 t) fullShare ((dat W c).after 3 t)
    ∗ owns (c : Thread nD τ) (st0_4 t) fullShare ((dat W c).after 4 t)
    ∗ owns (c : Thread nD τ) (st0_5 t) fullShare ((dat W c).after 5 t)
    ∗ owns (c : Thread nD τ) (st0_6 t) fullShare ((dat W c).after 6 t)
    ∗ owns (c : Thread nD τ) (st0_7 t) fullShare ((dat W c).after 7 t)
    ∗ owns (c : Thread nD τ) (st0_8 t) fullShare ((dat W c).after 8 t)
    ∗ owns (c : Thread nD τ) (st0_9 t) fullShare ((dat W c).after 9 t))

/-- The body at any point: the inputs' memrefs hold their blocks (`before0_W`), so `sound_kernel` applies; the invariant and
    the core's `owes` pass through unread. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before0_0, before0_1]
  rw [show (dat W c).Φ t.succ = (dat W c).Φ t.castSucc from rfl,
    show (dat W c).owesAt () t.succ = (dat W c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ _ _ _ _ _ _ _ _ _ _ _ _ _ _ _ _ _ _ _ _ (iblk W c 0 t) (iblk W c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dat (F := F) W c) (defs₀ (F := F)) Variants.none () Set.univ := fun t => by
  rw [bigSep_W0, bigSep_W0, defs₀_row]
  exact triple_restated (sound_body W c t) rfl .rfl fun _ => .rfl

end Cert.KernelIdeal.Quant

end
-- ==== Proof.KernelIdealAttn.lean ====
/-
  The attention kernel's region (custom_call 1 of @main), entered with the device's buffers at an arbitrary valuation
  `W` and the prefetched table at admissible contents `a`: what its body leaves in the output's block, as a function of
  the blocks of its nine inputs and the word of the table; the run of the body; the pipeline's body obligation.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (W : Dev nD → Valuation τ sig (Elt F))

/-- Window 0 (operand 1 (%arg1)) is fetched at every point, at any contents of the tables (its index map reads none). -/
theorem fetch1_0 (a : (pcfg1 (F := F)).Adm) : ∀ t : Fin (cfg1 a).N, ((cfg1 a).win 0).fetch t = true :=
  (fun t => (Pipeline.Window.fetchOf_reads cc1_transform_0 reads1_0 hreads1_0 0 (by decide) (by decide) (Pipeline.Window.sep_of_coord cc1_transform_0 0 0 (fun _ => rfl) (by decide)) (P := 1) (by decide) t).mpr (Nat.mod_one _) : ∀ t : Fin grid1.N, Pipeline.Window.fetchOf grid1 false cc1_transform_0 t = true)
/-- Window 1 (operand 2 (%arg2)) is fetched at every point, at any contents of the tables (its index map reads none). -/
theorem fetch1_1 (a : (pcfg1 (F := F)).Adm) : ∀ t : Fin (cfg1 a).N, ((cfg1 a).win 1).fetch t = true :=
  (fun t => (Pipeline.Window.fetchOf_reads cc1_transform_1 reads1_1 hreads1_1 0 (by decide) (by decide) (Pipeline.Window.sep_of_coord cc1_transform_1 0 0 (fun _ => rfl) (by decide)) (P := 1) (by decide) t).mpr (Nat.mod_one _) : ∀ t : Fin grid1.N, Pipeline.Window.fetchOf grid1 false cc1_transform_1 t = true)
/-- Window 2 (operand 3 (%arg3)) is fetched at every point, at any contents of the tables (its index map reads none). -/
theorem fetch1_2 (a : (pcfg1 (F := F)).Adm) : ∀ t : Fin (cfg1 a).N, ((cfg1 a).win 2).fetch t = true :=
  (fun t => (Pipeline.Window.fetchOf_reads cc1_transform_2 reads1_2 hreads1_2 0 (by decide) (by decide) (Pipeline.Window.sep_of_coord cc1_transform_2 0 0 (fun _ => rfl) (by decide)) (P := 1) (by decide) t).mpr (Nat.mod_one _) : ∀ t : Fin grid1.N, Pipeline.Window.fetchOf grid1 false cc1_transform_2 t = true)
/-- Window 3 (operand 4 (%arg4)) is fetched at every point, at any contents of the tables (its index map reads none). -/
theorem fetch1_3 (a : (pcfg1 (F := F)).Adm) : ∀ t : Fin (cfg1 a).N, ((cfg1 a).win 3).fetch t = true :=
  (fun t => (Pipeline.Window.fetchOf_reads cc1_transform_3 reads1_3 hreads1_3 0 (by decide) (by decide) (Pipeline.Window.sep_of_coord cc1_transform_3 0 0 (fun _ => rfl) (by decide)) (P := 1) (by decide) t).mpr (Nat.mod_one _) : ∀ t : Fin grid1.N, Pipeline.Window.fetchOf grid1 false cc1_transform_3 t = true)
/-- Window 4 (operand 5 (%arg5)) is fetched at every point, at any contents of the tables (its index map reads none). -/
theorem fetch1_4 (a : (pcfg1 (F := F)).Adm) : ∀ t : Fin (cfg1 a).N, ((cfg1 a).win 4).fetch t = true :=
  (fun t => (Pipeline.Window.fetchOf_reads cc1_transform_4 reads1_4 hreads1_4 0 (by decide) (by decide) (Pipeline.Window.sep_of_coord cc1_transform_4 0 0 (fun _ => rfl) (by decide)) (P := 1) (by decide) t).mpr (Nat.mod_one _) : ∀ t : Fin grid1.N, Pipeline.Window.fetchOf grid1 false cc1_transform_4 t = true)
/-- Window 5 (operand 6 (%arg6)) is fetched at every point, at any contents of the tables (its index map reads none). -/
theorem fetch1_5 (a : (pcfg1 (F := F)).Adm) : ∀ t : Fin (cfg1 a).N, ((cfg1 a).win 5).fetch t = true :=
  (fun t => (Pipeline.Window.fetchOf_reads cc1_transform_5 reads1_5 hreads1_5 0 (by decide) (by decide) (Pipeline.Window.sep_of_coord cc1_transform_5 0 0 (fun _ => rfl) (by decide)) (P := 1) (by decide) t).mpr (Nat.mod_one _) : ∀ t : Fin grid1.N, Pipeline.Window.fetchOf grid1 false cc1_transform_5 t = true)
/-- Window 6 (operand 7 (%arg7)) is fetched at every point, at any contents of the tables (its index map reads none). -/
theorem fetch1_6 (a : (pcfg1 (F := F)).Adm) : ∀ t : Fin (cfg1 a).N, ((cfg1 a).win 6).fetch t = true :=
  (fun t => (Pipeline.Window.fetchOf_reads cc1_transform_6 reads1_6 hreads1_6 0 (by decide) (by decide) (Pipeline.Window.sep_of_coord cc1_transform_6 0 0 (fun _ => rfl) (by decide)) (P := 1) (by decide) t).mpr (Nat.mod_one _) : ∀ t : Fin grid1.N, Pipeline.Window.fetchOf grid1 false cc1_transform_6 t = true)
/-- Window 7 (operand 8 (%arg8)) is fetched at every point, at any contents of the tables (its index map reads none). -/
theorem fetch1_7 (a : (pcfg1 (F := F)).Adm) : ∀ t : Fin (cfg1 a).N, ((cfg1 a).win 7).fetch t = true :=
  (fun t => (Pipeline.Window.fetchOf_reads cc1_transform_7 reads1_7 hreads1_7 0 (by decide) (by decide) (Pipeline.Window.sep_of_coord cc1_transform_7 0 0 (fun _ => rfl) (by decide)) (P := 1) (by decide) t).mpr (Nat.mod_one _) : ∀ t : Fin grid1.N, Pipeline.Window.fetchOf grid1 false cc1_transform_7 t = true)
/-- Window 8 (operand 9 (%arg9)) is fetched at every point, at any contents of the tables (its index map reads none). -/
theorem fetch1_8 (a : (pcfg1 (F := F)).Adm) : ∀ t : Fin (cfg1 a).N, ((cfg1 a).win 8).fetch t = true :=
  (fun t => (Pipeline.Window.fetchOf_reads cc1_transform_8 reads1_8 hreads1_8 0 (by decide) (by decide) (Pipeline.Window.sep_of_coord cc1_transform_8 0 0 (fun _ => rfl) (by decide)) (P := 1) (by decide) t).mpr (Nat.mod_one _) : ∀ t : Fin grid1.N, Pipeline.Window.fetchOf grid1 false cc1_transform_8 t = true)
/-- Window 9 (result 0 (%0)) is written back at every point, at any contents of the tables (its index map reads none). -/
theorem flush1_9 (a : (pcfg1 (F := F)).Adm) : ∀ t : Fin (cfg1 a).N, ((cfg1 a).win 9).flush t = true :=
  (fun t => (Pipeline.Window.flushOf_reads cc1_transform_9 reads1_9 hreads1_9 0 (by decide) (by decide) (Pipeline.Window.sep_of_coord cc1_transform_9 0 0 (fun _ => rfl) (by decide)) (P := 1) (m := 0) (by decide) rfl t).mpr (Nat.mod_one _) : ∀ t : Fin grid1.N, Pipeline.Window.flushOf grid1 true cc1_transform_9 t = true)

/-- The current staging memref of each window at point `t`: which of its buffers it is on. -/
abbrev st1_0 (a : (pcfg1 (F := F)).Adm) (t : Fin (cfg1 a).N) := ((cfg1 a).win 0).stage ((cfg1 a).slots t 0)
abbrev st1_1 (a : (pcfg1 (F := F)).Adm) (t : Fin (cfg1 a).N) := ((cfg1 a).win 1).stage ((cfg1 a).slots t 1)
abbrev st1_2 (a : (pcfg1 (F := F)).Adm) (t : Fin (cfg1 a).N) := ((cfg1 a).win 2).stage ((cfg1 a).slots t 2)
abbrev st1_3 (a : (pcfg1 (F := F)).Adm) (t : Fin (cfg1 a).N) := ((cfg1 a).win 3).stage ((cfg1 a).slots t 3)
abbrev st1_4 (a : (pcfg1 (F := F)).Adm) (t : Fin (cfg1 a).N) := ((cfg1 a).win 4).stage ((cfg1 a).slots t 4)
abbrev st1_5 (a : (pcfg1 (F := F)).Adm) (t : Fin (cfg1 a).N) := ((cfg1 a).win 5).stage ((cfg1 a).slots t 5)
abbrev st1_6 (a : (pcfg1 (F := F)).Adm) (t : Fin (cfg1 a).N) := ((cfg1 a).win 6).stage ((cfg1 a).slots t 6)
abbrev st1_7 (a : (pcfg1 (F := F)).Adm) (t : Fin (cfg1 a).N) := ((cfg1 a).win 7).stage ((cfg1 a).slots t 7)
abbrev st1_8 (a : (pcfg1 (F := F)).Adm) (t : Fin (cfg1 a).N) := ((cfg1 a).win 8).stage ((cfg1 a).slots t 8)
abbrev st1_9 (a : (pcfg1 (F := F)).Adm) (t : Fin (cfg1 a).N) := ((cfg1 a).win 9).stage ((cfg1 a).slots t 9)

/-- The kernel body at point `t`, on what the pipeline calls it with (`defs₀`'s row at the slots). -/
abbrev bodyAt1 (a : (pcfg1 (F := F)).Adm) (t : Fin (cfg1 a).N) : Prog (TpuEff nD τ sig (Elt F) Λ₀ .tc) PUnit :=
  cc1_attn (grid1.coords t) (Memref.whole main_arg9) (Memref.isWhole_whole _) (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (spec1_5.stage ((cfg1 a).slots t 5)) (hstage1_5 (((cfg1 a).slots t 5).cast nbuf1_5)) (spec1_6.stage ((cfg1 a).slots t 6)) (hstage1_6 (((cfg1 a).slots t 6).cast nbuf1_6)) (spec1_7.stage ((cfg1 a).slots t 7)) (hstage1_7 (((cfg1 a).slots t 7).cast nbuf1_7)) (spec1_8.stage ((cfg1 a).slots t 8)) (hstage1_8 (((cfg1 a).slots t 8).cast nbuf1_8)) (spec1_9.stage ((cfg1 a).slots t 9)) (hstage1_9 (((cfg1 a).slots t 9).cast nbuf1_9))

/-- Each table as the body is handed it: its whole buffer as a memref, and that memref's wholeness. -/
abbrev tbM1_0 : Memref sig .tc .smem S65 .i32 := Memref.whole main_arg9
abbrev htbM1_0 : tbM1_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare} f

/-- The tables' halves the region hands the body, table by table: what the body
    obligation hands the run and takes back. -/
theorem PhiT1_eq (a : (pcfg1 (F := F)).Adm) (c : Dev nD) : (Pipeline.prefHeld pre1 c (fun _ => fullShare) a.1 : sProp 𝕄) = iprop(tbPt1 c tbM1_0 (a.1 0)) := by
  unfold Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (a : (pcfg1 (F := F)).Adm) (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (W c (Proc.devRef .tc (Pipeline.arrRef spec1 w)))

/-- Input window 0's staging buffer holds its block at every point, for any proof data over `W` whose body leaves it there. -/
theorem before1_0_of (a : (pcfg1 (F := F)).Adm) {c : Dev nD} (dat : Dat τ (Elt F) Unit ℕ (UR sig nD τ) ℕ (cfg1 a) c) (hA : dat.A 0 = W c (Proc.devRef .tc (Pipeline.arrRef spec1 0)))
    (hafter : ∀ t, dat.after 0 t = iblk W a c 0 t) (t : Fin (cfg1 a).N) (d) : dat.before 0 t d = iblk W a c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, for any proof data over `W` whose body leaves it there. -/
theorem before1_1_of (a : (pcfg1 (F := F)).Adm) {c : Dev nD} (dat : Dat τ (Elt F) Unit ℕ (UR sig nD τ) ℕ (cfg1 a) c) (hA : dat.A 1 = W c (Proc.devRef .tc (Pipeline.arrRef spec1 1)))
    (hafter : ∀ t, dat.after 1 t = iblk W a c 1 t) (t : Fin (cfg1 a).N) (d) : dat.before 1 t d = iblk W a c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, for any proof data over `W` whose body leaves it there. -/
theorem before1_2_of (a : (pcfg1 (F := F)).Adm) {c : Dev nD} (dat : Dat τ (Elt F) Unit ℕ (UR sig nD τ) ℕ (cfg1 a) c) (hA : dat.A 2 = W c (Proc.devRef .tc (Pipeline.arrRef spec1 2)))
    (hafter : ∀ t, dat.after 2 t = iblk W a c 2 t) (t : Fin (cfg1 a).N) (d) : dat.before 2 t d = iblk W a c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, for any proof data over `W` whose body leaves it there. -/
theorem before1_3_of (a : (pcfg1 (F := F)).Adm) {c : Dev nD} (dat : Dat τ (Elt F) Unit ℕ (UR sig nD τ) ℕ (cfg1 a) c) (hA : dat.A 3 = W c (Proc.devRef .tc (Pipeline.arrRef spec1 3)))
    (hafter : ∀ t, dat.after 3 t = iblk W a c 3 t) (t : Fin (cfg1 a).N) (d) : dat.before 3 t d = iblk W a c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, for any proof data over `W` whose body leaves it there. -/
theorem before1_4_of (a : (pcfg1 (F := F)).Adm) {c : Dev nD} (dat : Dat τ (Elt F) Unit ℕ (UR sig nD τ) ℕ (cfg1 a) c) (hA : dat.A 4 = W c (Proc.devRef .tc (Pipeline.arrRef spec1 4)))
    (hafter : ∀ t, dat.after 4 t = iblk W a c 4 t) (t : Fin (cfg1 a).N) (d) : dat.before 4 t d = iblk W a c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, for any proof data over `W` whose body leaves it there. -/
theorem before1_5_of (a : (pcfg1 (F := F)).Adm) {c : Dev nD} (dat : Dat τ (Elt F) Unit ℕ (UR sig nD τ) ℕ (cfg1 a) c) (hA : dat.A 5 = W c (Proc.devRef .tc (Pipeline.arrRef spec1 5)))
    (hafter : ∀ t, dat.after 5 t = iblk W a c 5 t) (t : Fin (cfg1 a).N) (d) : dat.before 5 t d = iblk W a c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, for any proof data over `W` whose body leaves it there. -/
theorem before1_6_of (a : (pcfg1 (F := F)).Adm) {c : Dev nD} (dat : Dat τ (Elt F) Unit ℕ (UR sig nD τ) ℕ (cfg1 a) c) (hA : dat.A 6 = W c (Proc.devRef .tc (Pipeline.arrRef spec1 6)))
    (hafter : ∀ t, dat.after 6 t = iblk W a c 6 t) (t : Fin (cfg1 a).N) (d) : dat.before 6 t d = iblk W a c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, for any proof data over `W` whose body leaves it there. -/
theorem before1_7_of (a : (pcfg1 (F := F)).Adm) {c : Dev nD} (dat : Dat τ (Elt F) Unit ℕ (UR sig nD τ) ℕ (cfg1 a) c) (hA : dat.A 7 = W c (Proc.devRef .tc (Pipeline.arrRef spec1 7)))
    (hafter : ∀ t, dat.after 7 t = iblk W a c 7 t) (t : Fin (cfg1 a).N) (d) : dat.before 7 t d = iblk W a c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, for any proof data over `W` whose body leaves it there. -/
theorem before1_8_of (a : (pcfg1 (F := F)).Adm) {c : Dev nD} (dat : Dat τ (Elt F) Unit ℕ (UR sig nD τ) ℕ (cfg1 a) c) (hA : dat.A 8 = W c (Proc.devRef .tc (Pipeline.arrRef spec1 8)))
    (hafter : ∀ t, dat.after 8 t = iblk W a c 8 t) (t : Fin (cfg1 a).N) (d) : dat.before 8 t d = iblk W a c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- Each window's current staging memref at point `t`, spelled as the pipeline passes it (`bodyAt1`), and its wholeness. -/
abbrev ms1_0 (a : (pcfg1 (F := F)).Adm) (t : Fin (cfg1 a).N) : Memref sig .tc .vmem S1x64x128 .bf16 := spec1_0.stage ((cfg1 a).slots t 0)
abbrev hs1_0 (a : (pcfg1 (F := F)).Adm) (t : Fin (cfg1 a).N) : (ms1_0 a t).IsWhole := hstage1_0 (((cfg1 a).slots t 0).cast nbuf1_0)
abbrev ms1_1 (a : (pcfg1 (F := F)).Adm) (t : Fin (cfg1 a).N) : Memref sig .tc .vmem S1x8x128 .bf16 := spec1_1.stage ((cfg1 a).slots t 1)
abbrev hs1_1 (a : (pcfg1 (F := F)).Adm) (t : Fin (cfg1 a).N) : (ms1_1 a t).IsWhole := hstage1_1 (((cfg1 a).slots t 1).cast nbuf1_1)
abbrev ms1_2 (a : (pcfg1 (F := F)).Adm) (t : Fin (cfg1 a).N) : Memref sig .tc .vmem S1x8x128 .bf16 := spec1_2.stage ((cfg1 a).slots t 2)
abbrev hs1_2 (a : (pcfg1 (F := F)).Adm) (t : Fin (cfg1 a).N) : (ms1_2 a t).IsWhole := hstage1_2 (((cfg1 a).slots t 2).cast nbuf1_2)
abbrev ms1_3 (a : (pcfg1 (F := F)).Adm) (t : Fin (cfg1 a).N) : Memref sig .tc .vmem S1x2x32x8192 .i8 := spec1_3.stage ((cfg1 a).slots t 3)
abbrev hs1_3 (a : (pcfg1 (F := F)).Adm) (t : Fin (cfg1 a).N) : (ms1_3 a t).IsWhole := hstage1_3 (((cfg1 a).slots t 3).cast nbuf1_3)
abbrev ms1_4 (a : (pcfg1 (F := F)).Adm) (t : Fin (cfg1 a).N) : Memref sig .tc .vmem S1x2x8192 .bf16 := spec1_4.stage ((cfg1 a).slots t 4)
abbrev hs1_4 (a : (pcfg1 (F := F)).Adm) (t : Fin (cfg1 a).N) : (ms1_4 a t).IsWhole := hstage1_4 (((cfg1 a).slots t 4).cast nbuf1_4)
abbrev ms1_5 (a : (pcfg1 (F := F)).Adm) (t : Fin (cfg1 a).N) : Memref sig .tc .vmem S1x2x8192 .bf16 := spec1_5.stage ((cfg1 a).slots t 5)
abbrev hs1_5 (a : (pcfg1 (F := F)).Adm) (t : Fin (cfg1 a).N) : (ms1_5 a t).IsWhole := hstage1_5 (((cfg1 a).slots t 5).cast nbuf1_5)
abbrev ms1_6 (a : (pcfg1 (F := F)).Adm) (t : Fin (cfg1 a).N) : Memref sig .tc .vmem S1x2x32x8192 .i8 := spec1_6.stage ((cfg1 a).slots t 6)
abbrev hs1_6 (a : (pcfg1 (F := F)).Adm) (t : Fin (cfg1 a).N) : (ms1_6 a t).IsWhole := hstage1_6 (((cfg1 a).slots t 6).cast nbuf1_6)
abbrev ms1_7 (a : (pcfg1 (F := F)).Adm) (t : Fin (cfg1 a).N) : Memref sig .tc .vmem S1x2x8192 .bf16 := spec1_7.stage ((cfg1 a).slots t 7)
abbrev hs1_7 (a : (pcfg1 (F := F)).Adm) (t : Fin (cfg1 a).N) : (ms1_7 a t).IsWhole := hstage1_7 (((cfg1 a).slots t 7).cast nbuf1_7)
abbrev ms1_8 (a : (pcfg1 (F := F)).Adm) (t : Fin (cfg1 a).N) : Memref sig .tc .vmem S1x2x8192 .bf16 := spec1_8.stage ((cfg1 a).slots t 8)
abbrev hs1_8 (a : (pcfg1 (F := F)).Adm) (t : Fin (cfg1 a).N) : (ms1_8 a t).IsWhole := hstage1_8 (((cfg1 a).slots t 8).cast nbuf1_8)
abbrev ms1_9 (a : (pcfg1 (F := F)).Adm) (t : Fin (cfg1 a).N) : Memref sig .tc .vmem S1x64x64 .bf16 := spec1_9.stage ((cfg1 a).slots t 9)
abbrev hs1_9 (a : (pcfg1 (F := F)).Adm) (t : Fin (cfg1 a).N) : (ms1_9 a t).IsWhole := hstage1_9 (((cfg1 a).slots t 9).cast nbuf1_9)

/-- The side condition the body computes from the word of `cache_len` it reads, at every point: the loop's bounds and
    offsets keep every load inside its block. -/
def Hyps (a : (pcfg1 (F := F)).Adm) : Prop :=
  ∀ t : Fin (cfg1 a).N,
    k1_chk1 (tbM1_0.view.readAt (Elt F) (Rect.unit (s := S65) (k1_off1 (grid1.coords t)) S1.size (k1_off1_inb (grid1.coords t))).toLoadRect (a.1 0) (Shape.Idx.first (numel1_S1.symm ▸ Nat.one_pos)))

/-- The running maximum, sum and weighted values over the new rows, the loop's initial value. -/
def initAttn (arg1 : Memref sig .tc .smem S65 .i32) (harg1 : arg1.IsWhole) (arg2 : Memref sig .tc .vmem S1x64x128 .bf16) (harg2 : arg2.IsWhole) (arg3 : Memref sig .tc .vmem S1x8x128 .bf16) (harg3 : arg3.IsWhole) (arg4 : Memref sig .tc .vmem S1x8x128 .bf16) (harg4 : arg4.IsWhole) (arg5 : Memref sig .tc .vmem S1x2x32x8192 .i8) (harg5 : arg5.IsWhole) (arg6 : Memref sig .tc .vmem S1x2x8192 .bf16) (harg6 : arg6.IsWhole) (arg7 : Memref sig .tc .vmem S1x2x8192 .bf16) (harg7 : arg7.IsWhole) (arg8 : Memref sig .tc .vmem S1x2x32x8192 .i8) (harg8 : arg8.IsWhole) (arg9 : Memref sig .tc .vmem S1x2x8192 .bf16) (harg9 : arg9.IsWhole) (arg10 : Memref sig .tc .vmem S1x2x8192 .bf16) (harg10 : arg10.IsWhole) (arg11 : Memref sig .tc .vmem S1x64x64 .bf16) (harg11 : arg11.IsWhole) (x0 : Vec F S1x64x128 .bf16) (x1 : Vec F S1x8x128 .bf16) (x2 : Vec F S1x8x128 .bf16) :
    FVec F S64x1 .f32 × FVec F S64x1 .f32 × FVec F S64x128 .f32 :=
  (k1_pay43 (arg2.view.readAt (Elt F) (Rect.unit (s := S1x64x128) ![0, 0, 0] S1x64x128.size inb_S1x64x128_S1x64x128_0_0_0).toLoadRect (harg2.unread x0)) (arg3.view.readAt (Elt F) (Rect.unit (s := S1x8x128) ![0, 0, 0] S1x8x128.size inb_S1x8x128_S1x8x128_0_0_0).toLoadRect (harg3.unread x1)), k1_pay1 (k1_pay45 (arg2.view.readAt (Elt F) (Rect.unit (s := S1x64x128) ![0, 0, 0] S1x64x128.size inb_S1x64x128_S1x64x128_0_0_0).toLoadRect (harg2.unread x0)) (arg3.view.readAt (Elt F) (Rect.unit (s := S1x8x128) ![0, 0, 0] S1x8x128.size inb_S1x8x128_S1x8x128_0_0_0).toLoadRect (harg3.unread x1))),
    k1_pay2 (k1_pay41 (arg4.view.readAt (Elt F) (Rect.unit (s := S1x8x128) ![0, 0, 0] S1x8x128.size inb_S1x8x128_S1x8x128_0_0_0).toLoadRect (harg4.unread x2))) (k1_pay44 (arg2.view.readAt (Elt F) (Rect.unit (s := S1x64x128) ![0, 0, 0] S1x64x128.size inb_S1x64x128_S1x64x128_0_0_0).toLoadRect (harg2.unread x0)) (arg3.view.readAt (Elt F) (Rect.unit (s := S1x8x128) ![0, 0, 0] S1x8x128.size inb_S1x8x128_S1x8x128_0_0_0).toLoadRect (harg3.unread x1))))

/-- What the counted loop over whole chunks leaves from the initial value. -/
def wholeAttn (c : Dev nD) (i : grid1.Coords) (arg1 : Memref sig .tc .smem S65 .i32) (harg1 : arg1.IsWhole) (arg2 : Memref sig .tc .vmem S1x64x128 .bf16) (harg2 : arg2.IsWhole) (arg3 : Memref sig .tc .vmem S1x8x128 .bf16) (harg3 : arg3.IsWhole) (arg4 : Memref sig .tc .vmem S1x8x128 .bf16) (harg4 : arg4.IsWhole) (arg5 : Memref sig .tc .vmem S1x2x32x8192 .i8) (harg5 : arg5.IsWhole) (arg6 : Memref sig .tc .vmem S1x2x8192 .bf16) (harg6 : arg6.IsWhole) (arg7 : Memref sig .tc .vmem S1x2x8192 .bf16) (harg7 : arg7.IsWhole) (arg8 : Memref sig .tc .vmem S1x2x32x8192 .i8) (harg8 : arg8.IsWhole) (arg9 : Memref sig .tc .vmem S1x2x8192 .bf16) (harg9 : arg9.IsWhole) (arg10 : Memref sig .tc .vmem S1x2x8192 .bf16) (harg10 : arg10.IsWhole) (arg11 : Memref sig .tc .vmem S1x64x64 .bf16) (harg11 : arg11.IsWhole)
    (x0 : Vec F S1x64x128 .bf16) (x1 : Vec F S1x8x128 .bf16) (x2 : Vec F S1x8x128 .bf16) (x3 : Vec F S1x2x32x8192 .i8) (x4 : Vec F S1x2x8192 .bf16) (x5 : Vec F S1x2x8192 .bf16) (x6 : Vec F S1x2x32x8192 .i8) (x7 : Vec F S1x2x8192 .bf16) (x8 : Vec F S1x2x8192 .bf16) (v1 : Elt F .i32) (k1_hw1 : k1_chk1 v1) :
    FVec F S64x1 .f32 × FVec F S64x1 .f32 × FVec F S64x128 .f32 :=
  st_k1_t1 Variants.none c none i arg1 harg1 arg2 harg2 arg3 harg3 arg4 harg4 arg5 harg5 arg6 harg6 arg7 harg7 arg8 harg8 arg9 harg9 arg10 harg10 arg11 harg11 v1 k1_hw1 (k1_pay40 (arg2.view.readAt (Elt F) (Rect.unit (s := S1x64x128) ![0, 0, 0] S1x64x128.size inb_S1x64x128_S1x64x128_0_0_0).toLoadRect (harg2.unread x0))) (harg5.unread x3) (harg6.unread x4) (harg7.unread x5) (harg8.unread x6) (harg9.unread x7) (harg10.unread x8)
      (initAttn arg1 harg1 arg2 harg2 arg3 harg3 arg4 harg4 arg5 harg5 arg6 harg6 arg7 harg7 arg8 harg8 arg9 harg9 arg10 harg10 arg11 harg11 x0 x1 x2) (Scf.trips (k1_t1_loop v1).lb (k1_t1_loop v1).ub (k1_t1_loop v1).st)

/-- What the two counted loops leave from the initial value: the whole chunks, then the remainder. -/
def finalAttn (c : Dev nD) (i : grid1.Coords) (arg1 : Memref sig .tc .smem S65 .i32) (harg1 : arg1.IsWhole) (arg2 : Memref sig .tc .vmem S1x64x128 .bf16) (harg2 : arg2.IsWhole) (arg3 : Memref sig .tc .vmem S1x8x128 .bf16) (harg3 : arg3.IsWhole) (arg4 : Memref sig .tc .vmem S1x8x128 .bf16) (harg4 : arg4.IsWhole) (arg5 : Memref sig .tc .vmem S1x2x32x8192 .i8) (harg5 : arg5.IsWhole) (arg6 : Memref sig .tc .vmem S1x2x8192 .bf16) (harg6 : arg6.IsWhole) (arg7 : Memref sig .tc .vmem S1x2x8192 .bf16) (harg7 : arg7.IsWhole) (arg8 : Memref sig .tc .vmem S1x2x32x8192 .i8) (harg8 : arg8.IsWhole) (arg9 : Memref sig .tc .vmem S1x2x8192 .bf16) (harg9 : arg9.IsWhole) (arg10 : Memref sig .tc .vmem S1x2x8192 .bf16) (harg10 : arg10.IsWhole) (arg11 : Memref sig .tc .vmem S1x64x64 .bf16) (harg11 : arg11.IsWhole)
    (x0 : Vec F S1x64x128 .bf16) (x1 : Vec F S1x8x128 .bf16) (x2 : Vec F S1x8x128 .bf16) (x3 : Vec F S1x2x32x8192 .i8) (x4 : Vec F S1x2x8192 .bf16) (x5 : Vec F S1x2x8192 .bf16) (x6 : Vec F S1x2x32x8192 .i8) (x7 : Vec F S1x2x8192 .bf16) (x8 : Vec F S1x2x8192 .bf16) (v1 : Elt F .i32) (k1_hw1 : k1_chk1 v1) :
    FVec F S64x1 .f32 × FVec F S64x1 .f32 × FVec F S64x128 .f32 :=
  st_k1_t2 Variants.none c none i arg1 harg1 arg2 harg2 arg3 harg3 arg4 harg4 arg5 harg5 arg6 harg6 arg7 harg7 arg8 harg8 arg9 harg9 arg10 harg10 arg11 harg11 v1 k1_hw1 (k1_pay40 (arg2.view.readAt (Elt F) (Rect.unit (s := S1x64x128) ![0, 0, 0] S1x64x128.size inb_S1x64x128_S1x64x128_0_0_0).toLoadRect (harg2.unread x0)))
    (Scalar.addi 0#32 (Scalar.muli (Scalar.divsi (Scalar.subi (Scalar.divsi (Scalar.addi v1 1023#32) 1024#32) 0#32) 1#32) 1#32))
    (harg5.unread x3) (harg6.unread x4) (harg7.unread x5) (harg8.unread x6) (harg9.unread x7) (harg10.unread x8)
    ((wholeAttn c i arg1 harg1 arg2 harg2 arg3 harg3 arg4 harg4 arg5 harg5 arg6 harg6 arg7 harg7 arg8 harg8 arg9 harg9 arg10 harg10 arg11 harg11 x0 x1 x2 x3 x4 x5 x6 x7 x8 v1 k1_hw1).1, (wholeAttn c i arg1 harg1 arg2 harg2 arg3 harg3 arg4 harg4 arg5 harg5 arg6 harg6 arg7 harg7 arg8 harg8 arg9 harg9 arg10 harg10 arg11 harg11 x0 x1 x2 x3 x4 x5 x6 x7 x8 v1 k1_hw1).2.1, (wholeAttn c i arg1 harg1 arg2 harg2 arg3 harg3 arg4 harg4 arg5 harg5 arg6 harg6 arg7 harg7 arg8 harg8 arg9 harg9 arg10 harg10 arg11 harg11 x0 x1 x2 x3 x4 x5 x6 x7 x8 v1 k1_hw1).2.2)
    (Scf.trips (k1_t2_loop v1).lb (k1_t2_loop v1).ub (k1_t2_loop v1).st)

/-- The one store of the body covers its block. -/
theorem coverAttn (p0 : Vec F S1x64x64 .bf16) (y : S1x64x64.Idx) :
    ∃ pc ∈ ([⟨Rect.unit (s := S1x64x64) ![0, 0, 0] S1x64x64.size inb_S1x64x64_S1x64x64_0_0_0, p0⟩] : List (View.Piece (Elt F) S1x64x64 .bf16)), y ∈ pc.1.set :=
  View.cover_of_tiled [⟨Rect.unit (s := S1x64x64) ![0, 0, 0] S1x64x64.size inb_S1x64x64_S1x64x64_0_0_0, p0⟩] S1x64x64.size (by rfl) y

/-- What the body leaves in the output's block: the two heads' lanes of the weighted values over the sum. -/
def outAttn (c : Dev nD) (i : grid1.Coords) (arg1 : Memref sig .tc .smem S65 .i32) (harg1 : arg1.IsWhole) (arg2 : Memref sig .tc .vmem S1x64x128 .bf16) (harg2 : arg2.IsWhole) (arg3 : Memref sig .tc .vmem S1x8x128 .bf16) (harg3 : arg3.IsWhole) (arg4 : Memref sig .tc .vmem S1x8x128 .bf16) (harg4 : arg4.IsWhole) (arg5 : Memref sig .tc .vmem S1x2x32x8192 .i8) (harg5 : arg5.IsWhole) (arg6 : Memref sig .tc .vmem S1x2x8192 .bf16) (harg6 : arg6.IsWhole) (arg7 : Memref sig .tc .vmem S1x2x8192 .bf16) (harg7 : arg7.IsWhole) (arg8 : Memref sig .tc .vmem S1x2x32x8192 .i8) (harg8 : arg8.IsWhole) (arg9 : Memref sig .tc .vmem S1x2x8192 .bf16) (harg9 : arg9.IsWhole) (arg10 : Memref sig .tc .vmem S1x2x8192 .bf16) (harg10 : arg10.IsWhole) (arg11 : Memref sig .tc .vmem S1x64x64 .bf16) (harg11 : arg11.IsWhole)
    (x0 : Vec F S1x64x128 .bf16) (x1 : Vec F S1x8x128 .bf16) (x2 : Vec F S1x8x128 .bf16) (x3 : Vec F S1x2x32x8192 .i8) (x4 : Vec F S1x2x8192 .bf16) (x5 : Vec F S1x2x8192 .bf16) (x6 : Vec F S1x2x32x8192 .i8) (x7 : Vec F S1x2x8192 .bf16) (x8 : Vec F S1x2x8192 .bf16)
    (xt0 : TbBuf1 (F := F) c tbM1_0) (k1_hw1 : k1_chk1 (tbM1_0.view.readAt (Elt F) (Rect.unit (s := S65) (k1_off1 i) S1.size (k1_off1_inb i)).toLoadRect xt0 (Shape.Idx.first (numel1_S1.symm ▸ Nat.one_pos)))) :
    Vec F S1x64x64 .bf16 :=
  View.canon [⟨Rect.unit (s := S1x64x64) ![0, 0, 0] S1x64x64.size inb_S1x64x64_S1x64x64_0_0_0,
    k1_pay15 (finalAttn c i arg1 harg1 arg2 harg2 arg3 harg3 arg4 harg4 arg5 harg5 arg6 harg6 arg7 harg7 arg8 harg8 arg9 harg9 arg10 harg10 arg11 harg11 x0 x1 x2 x3 x4 x5 x6 x7 x8 _ k1_hw1).2.1 (finalAttn c i arg1 harg1 arg2 harg2 arg3 harg3 arg4 harg4 arg5 harg5 arg6 harg6 arg7 harg7 arg8 harg8 arg9 harg9 arg10 harg10 arg11 harg11 x0 x1 x2 x3 x4 x5 x6 x7 x8 _ k1_hw1).2.2⟩]

attribute [local irreducible] st_k1_t1 st_k1_t2

-- (the run's proof term is large: checking it walks past the default budget)
set_option maxHeartbeats 1000000 in
/-- The body's triple: on whole staging memrefs — the inputs' at their contents,
    the FORGOTTEN outputs' (9) at anything, handed back at some contents nothing names —
    the body runs to the continuation holding the inputs' as they were: the printed functions are their skeletons (`Gen.*_eq_skeleton`),
    which `sl_exec` runs. -/
theorem kernelRun (c : Dev nD) (i : grid1.Coords) (arg2 : Memref sig .tc .vmem S1x64x128 .bf16) (harg2 : arg2.IsWhole) (arg3 : Memref sig .tc .vmem S1x8x128 .bf16) (harg3 : arg3.IsWhole) (arg4 : Memref sig .tc .vmem S1x8x128 .bf16) (harg4 : arg4.IsWhole) (arg5 : Memref sig .tc .vmem S1x2x32x8192 .i8) (harg5 : arg5.IsWhole) (arg6 : Memref sig .tc .vmem S1x2x8192 .bf16) (harg6 : arg6.IsWhole) (arg7 : Memref sig .tc .vmem S1x2x8192 .bf16) (harg7 : arg7.IsWhole) (arg8 : Memref sig .tc .vmem S1x2x32x8192 .i8) (harg8 : arg8.IsWhole) (arg9 : Memref sig .tc .vmem S1x2x8192 .bf16) (harg9 : arg9.IsWhole) (arg10 : Memref sig .tc .vmem S1x2x8192 .bf16) (harg10 : arg10.IsWhole) (arg11 : Memref sig .tc .vmem S1x64x64 .bf16) (harg11 : arg11.IsWhole)
    (x0 : Vec F S1x64x128 .bf16) (x1 : Vec F S1x8x128 .bf16) (x2 : Vec F S1x8x128 .bf16) (x3 : Vec F S1x2x32x8192 .i8) (x4 : Vec F S1x2x8192 .bf16) (x5 : Vec F S1x2x8192 .bf16) (x6 : Vec F S1x2x32x8192 .i8) (x7 : Vec F S1x2x8192 .bf16) (x8 : Vec F S1x2x8192 .bf16) (xt0 : TbBuf1 (F := F) c tbM1_0) (k1_hw1 : k1_chk1 (tbM1_0.view.readAt (Elt F) (Rect.unit (s := S65) (k1_off1 i) S1.size (k1_off1_inb i)).toLoadRect xt0 (Shape.Idx.first (numel1_S1.symm ▸ Nat.one_pos)))) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ tbPt1 c tbM1_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (outAttn c i tbM1_0 htbM1_0 arg2 harg2 arg3 harg3 arg4 harg4 arg5 harg5 arg6 harg6 arg7 harg7 arg8 harg8 arg9 harg9 arg10 harg10 arg11 harg11 x0 x1 x2 x3 x4 x5 x6 x7 x8 xt0 k1_hw1) ∗ tbPt1 c tbM1_0 xt0) -∗ K ⟨⟩))
          ⊢ wp frame (wpE (defs₀ (F := F)) Variants.none c none) E (cc1_attn i tbM1_0 htbM1_0 arg2 harg2 arg3 harg3 arg4 harg4 arg5 harg5 arg6 harg6 arg7 harg7 arg8 harg8 arg9 harg9 arg10 harg10 arg11 harg11) K := by
    intro E K
    simp only [cc1_attn_eq_skeleton]; unfold cc1_attn_skel
    simp only [k1_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact k1_hw1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro
      refine (View.read_writes_eq_canon _ _ _ (coverAttn _)).trans ?_
      unfold outAttn finalAttn wholeAttn initAttn
      rfl
    iexact HT0

/-! ## The pipeline's proof data -/

/-- What the body leaves in the output's block at point `t`. -/
def outAt (a : (pcfg1 (F := F)).Adm) (hH : Hyps a) (c : Dev nD) (t : Fin (cfg1 a).N) : Vec F S1x64x64 .bf16 :=
  outAttn c (grid1.coords t) tbM1_0 htbM1_0 (ms1_0 a t) (hs1_0 a t) (ms1_1 a t) (hs1_1 a t) (ms1_2 a t) (hs1_2 a t) (ms1_3 a t) (hs1_3 a t) (ms1_4 a t) (hs1_4 a t) (ms1_5 a t) (hs1_5 a t) (ms1_6 a t) (hs1_6 a t) (ms1_7 a t) (hs1_7 a t) (ms1_8 a t) (hs1_8 a t) (ms1_9 a t) (hs1_9 a t) (iblk W a c 0 t) (iblk W a c 1 t) (iblk W a c 2 t) (iblk W a c 3 t) (iblk W a c 4 t) (iblk W a c 5 t) (iblk W a c 6 t) (iblk W a c 7 t) (iblk W a c 8 t) (a.1 0) (hH t)

/-- The proof data of the one pipeline on core `c`: the arrays as the region finds them (`V`); after the body at
    point `t` each input's buffer at its block and the outputs, FORGOTTEN, at `Dat.unnamed`; the invariant the class's
    and the tables' halves (`ΦT`); nothing owed;
    full shares. -/
def dat (a : (pcfg1 (F := F)).Adm) (hH : Hyps a) (c : Dev nD) : Dat τ (Elt F) Unit ℕ (UR sig nD τ) ℕ (cfg1 a) c where
  A w := W c (Proc.devRef .tc (Pipeline.arrRef spec1 w))
  after w t := match w with
    | ⟨0, _⟩ => iblk W a c 0 t
    | ⟨1, _⟩ => iblk W a c 1 t
    | ⟨2, _⟩ => iblk W a c 2 t
    | ⟨3, _⟩ => iblk W a c 3 t
    | ⟨4, _⟩ => iblk W a c 4 t
    | ⟨5, _⟩ => iblk W a c 5 t
    | ⟨6, _⟩ => iblk W a c 6 t
    | ⟨7, _⟩ => iblk W a c 7 t
    | ⟨8, _⟩ => iblk W a c 8 t
    | ⟨9, _⟩ => outAt W a hH c t
  Φ _ := iprop(Pipeline.scopedRest spec1 c ∗ Pipeline.prefHeld pre1 c (fun _ => fullShare) a.1)
  q _ := fullShare
  owed _ := 0

/-- The proof data's arrays are the region-entry contents: the proof data's definition projected (`dsimp`), so that
    `V` — a fold over @main's host prefix, long for some programs — is never unfolded to check it. -/
theorem A_eq (a : (pcfg1 (F := F)).Adm) (hH : Hyps a) (c : Dev nD) (w : Fin (cfg1 a).W) : (dat W a hH c).A w = W c (Proc.devRef .tc (Pipeline.arrRef spec1 w)) := by
  dsimp only [dat]

/-- What the body leaves, window by window (the proof data's `match` reduced by `dsimp`). -/
theorem after1_0 (a : (pcfg1 (F := F)).Adm) (hH : Hyps a) (c : Dev nD) (t : Fin (cfg1 a).N) : (dat W a hH c).after 0 t = iblk W a c 0 t := by dsimp only [dat]; try rfl
theorem after1_1 (a : (pcfg1 (F := F)).Adm) (hH : Hyps a) (c : Dev nD) (t : Fin (cfg1 a).N) : (dat W a hH c).after 1 t = iblk W a c 1 t := by dsimp only [dat]; try rfl
theorem after1_2 (a : (pcfg1 (F := F)).Adm) (hH : Hyps a) (c : Dev nD) (t : Fin (cfg1 a).N) : (dat W a hH c).after 2 t = iblk W a c 2 t := by dsimp only [dat]; try rfl
theorem after1_3 (a : (pcfg1 (F := F)).Adm) (hH : Hyps a) (c : Dev nD) (t : Fin (cfg1 a).N) : (dat W a hH c).after 3 t = iblk W a c 3 t := by dsimp only [dat]; try rfl
theorem after1_4 (a : (pcfg1 (F := F)).Adm) (hH : Hyps a) (c : Dev nD) (t : Fin (cfg1 a).N) : (dat W a hH c).after 4 t = iblk W a c 4 t := by dsimp only [dat]; try rfl
theorem after1_5 (a : (pcfg1 (F := F)).Adm) (hH : Hyps a) (c : Dev nD) (t : Fin (cfg1 a).N) : (dat W a hH c).after 5 t = iblk W a c 5 t := by dsimp only [dat]; try rfl
theorem after1_6 (a : (pcfg1 (F := F)).Adm) (hH : Hyps a) (c : Dev nD) (t : Fin (cfg1 a).N) : (dat W a hH c).after 6 t = iblk W a c 6 t := by dsimp only [dat]; try rfl
theorem after1_7 (a : (pcfg1 (F := F)).Adm) (hH : Hyps a) (c : Dev nD) (t : Fin (cfg1 a).N) : (dat W a hH c).after 7 t = iblk W a c 7 t := by dsimp only [dat]; try rfl
theorem after1_8 (a : (pcfg1 (F := F)).Adm) (hH : Hyps a) (c : Dev nD) (t : Fin (cfg1 a).N) : (dat W a hH c).after 8 t = iblk W a c 8 t := by dsimp only [dat]; try rfl

theorem after1_9 (a : (pcfg1 (F := F)).Adm) (hH : Hyps a) (c : Dev nD) (t : Fin (cfg1 a).N) : (dat W a hH c).after 9 t = outAt W a hH c t := by dsimp only [dat]; try rfl

/-- Each input's current staging buffer holds its block at every point, fetched there or not. -/
theorem before1_0 (a : (pcfg1 (F := F)).Adm) (hH : Hyps a) (c : Dev nD) (t : Fin (cfg1 a).N) (d) : (dat W a hH c).before 0 t d = iblk W a c 0 t :=
  before1_0_of W a (dat W a hH c) (A_eq W a hH c 0) (after1_0 W a hH c) t d
theorem before1_1 (a : (pcfg1 (F := F)).Adm) (hH : Hyps a) (c : Dev nD) (t : Fin (cfg1 a).N) (d) : (dat W a hH c).before 1 t d = iblk W a c 1 t :=
  before1_1_of W a (dat W a hH c) (A_eq W a hH c 1) (after1_1 W a hH c) t d
theorem before1_2 (a : (pcfg1 (F := F)).Adm) (hH : Hyps a) (c : Dev nD) (t : Fin (cfg1 a).N) (d) : (dat W a hH c).before 2 t d = iblk W a c 2 t :=
  before1_2_of W a (dat W a hH c) (A_eq W a hH c 2) (after1_2 W a hH c) t d
theorem before1_3 (a : (pcfg1 (F := F)).Adm) (hH : Hyps a) (c : Dev nD) (t : Fin (cfg1 a).N) (d) : (dat W a hH c).before 3 t d = iblk W a c 3 t :=
  before1_3_of W a (dat W a hH c) (A_eq W a hH c 3) (after1_3 W a hH c) t d
theorem before1_4 (a : (pcfg1 (F := F)).Adm) (hH : Hyps a) (c : Dev nD) (t : Fin (cfg1 a).N) (d) : (dat W a hH c).before 4 t d = iblk W a c 4 t :=
  before1_4_of W a (dat W a hH c) (A_eq W a hH c 4) (after1_4 W a hH c) t d
theorem before1_5 (a : (pcfg1 (F := F)).Adm) (hH : Hyps a) (c : Dev nD) (t : Fin (cfg1 a).N) (d) : (dat W a hH c).before 5 t d = iblk W a c 5 t :=
  before1_5_of W a (dat W a hH c) (A_eq W a hH c 5) (after1_5 W a hH c) t d
theorem before1_6 (a : (pcfg1 (F := F)).Adm) (hH : Hyps a) (c : Dev nD) (t : Fin (cfg1 a).N) (d) : (dat W a hH c).before 6 t d = iblk W a c 6 t :=
  before1_6_of W a (dat W a hH c) (A_eq W a hH c 6) (after1_6 W a hH c) t d
theorem before1_7 (a : (pcfg1 (F := F)).Adm) (hH : Hyps a) (c : Dev nD) (t : Fin (cfg1 a).N) (d) : (dat W a hH c).before 7 t d = iblk W a c 7 t :=
  before1_7_of W a (dat W a hH c) (A_eq W a hH c 7) (after1_7 W a hH c) t d
theorem before1_8 (a : (pcfg1 (F := F)).Adm) (hH : Hyps a) (c : Dev nD) (t : Fin (cfg1 a).N) (d) : (dat W a hH c).before 8 t d = iblk W a c 8 t :=
  before1_8_of W a (dat W a hH c) (A_eq W a hH c 8) (after1_8 W a hH c) t d

/-! ## The body obligation, at a generic point -/

/-- What the body is called with at point `t`, -/
def bodyPre (a : (pcfg1 (F := F)).Adm) (hH : Hyps a) (c : Dev nD) (t : Fin (cfg1 a).N) : sProp 𝕄 :=
  iprop((dat W a hH c).Φ t.castSucc ∗ (dat W a hH c).owesAt () t.castSucc
    ∗ (∃ d, owns (c : Thread nD τ) (ms1_0 a t) fullShare ((dat W a hH c).before 0 t d))
    ∗ (∃ d, owns (c : Thread nD τ) (ms1_1 a t) fullShare ((dat W a hH c).before 1 t d))
    ∗ (∃ d, owns (c : Thread nD τ) (ms1_2 a t) fullShare ((dat W a hH c).before 2 t d))
    ∗ (∃ d, owns (c : Thread nD τ) (ms1_3 a t) fullShare ((dat W a hH c).before 3 t d))
    ∗ (∃ d, owns (c : Thread nD τ) (ms1_4 a t) fullShare ((dat W a hH c).before 4 t d))
    ∗ (∃ d, owns (c : Thread nD τ) (ms1_5 a t) fullShare ((dat W a hH c).before 5 t d))
    ∗ (∃ d, owns (c : Thread nD τ) (ms1_6 a t) fullShare ((dat W a hH c).before 6 t d))
    ∗ (∃ d, owns (c : Thread nD τ) (ms1_7 a t) fullShare ((dat W a hH c).before 7 t d))
    ∗ (∃ d, owns (c : Thread nD τ) (ms1_8 a t) fullShare ((dat W a hH c).before 8 t d))
    ∗ (∃ d, owns (c : Thread nD τ) (ms1_9 a t) fullShare ((dat W a hH c).before 9 t d)))

/-- and what it returns. -/
def bodyPost (a : (pcfg1 (F := F)).Adm) (hH : Hyps a) (c : Dev nD) (t : Fin (cfg1 a).N) : sProp 𝕄 :=
  iprop((dat W a hH c).Φ t.succ ∗ (dat W a hH c).owesAt () t.succ
    ∗ owns (c : Thread nD τ) (ms1_0 a t) fullShare ((dat W a hH c).after 0 t)
    ∗ owns (c : Thread nD τ) (ms1_1 a t) fullShare ((dat W a hH c).after 1 t)
    ∗ owns (c : Thread nD τ) (ms1_2 a t) fullShare ((dat W a hH c).after 2 t)
    ∗ owns (c : Thread nD τ) (ms1_3 a t) fullShare ((dat W a hH c).after 3 t)
    ∗ owns (c : Thread nD τ) (ms1_4 a t) fullShare ((dat W a hH c).after 4 t)
    ∗ owns (c : Thread nD τ) (ms1_5 a t) fullShare ((dat W a hH c).after 5 t)
    ∗ owns (c : Thread nD τ) (ms1_6 a t) fullShare ((dat W a hH c).after 6 t)
    ∗ owns (c : Thread nD τ) (ms1_7 a t) fullShare ((dat W a hH c).after 7 t)
    ∗ owns (c : Thread nD τ) (ms1_8 a t) fullShare ((dat W a hH c).after 8 t)
    ∗ owns (c : Thread nD τ) (ms1_9 a t) fullShare ((dat W a hH c).after 9 t))

set_option maxHeartbeats 800000 in
/-- The body at any point: the inputs' memrefs hold their blocks (`before1_W`); so the
    run applies; the invariant passes through unread; the core owes nothing throughout. -/
theorem sound_body (a : (pcfg1 (F := F)).Adm) (hH : Hyps a) (c : Dev nD) (t : Fin (cfg1 a).N) :
    bodyPre W a hH c t ⊢ wp frame (wpE (defs₀ (F := F)) Variants.none c none) Set.univ (bodyAt1 a t) (fun _ => bodyPost W a hH c t) := by
  unfold bodyPre bodyPost bodyAt1
  simp only [before1_0, before1_1, before1_2, before1_3, before1_4, before1_5, before1_6, before1_7, before1_8]
  rw [show (dat W a hH c).Φ t.succ = (dat W a hH c).Φ t.castSucc from rfl,
    show (dat W a hH c).owesAt () t.succ = (dat W a hH c).owesAt () t.castSucc from rfl,
    after1_0, after1_1, after1_2, after1_3, after1_4, after1_5, after1_6, after1_7, after1_8, after1_9]
  rw [show (dat W a hH c).Φ t.castSucc = iprop(Pipeline.scopedRest spec1 c ∗ Pipeline.prefHeld pre1 c (fun _ => fullShare) a.1) from rfl, PhiT1_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun c (grid1.coords t) (ms1_0 a t) (hs1_0 a t) (ms1_1 a t) (hs1_1 a t) (ms1_2 a t) (hs1_2 a t) (ms1_3 a t) (hs1_3 a t) (ms1_4 a t) (hs1_4 a t) (ms1_5 a t) (hs1_5 a t) (ms1_6 a t) (hs1_6 a t) (ms1_7 a t) (hs1_7 a t) (ms1_8 a t) (hs1_8 a t) (ms1_9 a t) (hs1_9 a t) (iblk W a c 0 t) (iblk W a c 1 t) (iblk W a c 2 t) (iblk W a c 3 t) (iblk W a c 4 t) (iblk W a c 5 t) (iblk W a c 6 t) (iblk W a c 7 t) (iblk W a c 8 t) (a.1 0) (hH t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HT0]; · iexact HT0
  iintro ⟨H0, H1, H2, H3, H4, H5, H6, H7, H8, H9, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt1` spells it. -/
theorem defs₀_row (a : (pcfg1 (F := F)).Adm) (t : Fin (cfg1 a).N) :
    defs₀ (F := F) .tc (cfg1 a).body ((cfg1 a).bodyArgs t ((cfg1 a).slots t)) = bodyAt1 a t := by
  unfold defs₀; rw [Defs.onTc_tc]

/-- The library's body obligation, at every point: the body's triple restated. -/
theorem body_obligation (a : (pcfg1 (F := F)).Adm) (hH : Hyps a) (c : Dev nD) : BodyObligation (dat W a hH c) (defs₀ (F := F)) Variants.none () Set.univ := fun t => by
  rw [bigSep_W1, bigSep_W1, defs₀_row a]
  exact triple_restated (sound_body W a hH c t) rfl .rfl fun _ => .rfl

end Cert.KernelIdeal.Attn

end
-- ==== Proof.KernelIdealRun.lean ====
/-
  The whole program's run: the two kernel regions' records over the device's buffers, chained with the host's stretches.
  From any memory whose counts of cached tokens are at most 8192, every execution ends with every buffer at the
  valuation `V9 m (outs …)`: what the host's operations and the two kernels' bodies leave.
-/
module

public import proofs.«01_k».proof.Proof.KernelIdealQuant
public import proofs.«01_k».proof.Proof.KernelIdealAttn
public import proofs.«01_k».proof.Proof.Words
public import proofs.«01_k».proof.Proof.Gen.KernelIdeal.Regions
public import Idealize.ShloMosaic.Lib.Pipeline.RegionArraysTS

@[expose] public section

set_option maxRecDepth 16384

noncomputable section

namespace Cert.KernelIdeal.Run

open Cert.KernelIdeal Cert.KernelIdeal.Gen Cert.Words
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg RegionSeg Seg HostSeg cellOf afterRegion)

variable {F : FTy → Type} [FloatOps F] [Named F]

local notation "𝕄" => MT nD τ sig Unit (Elt F) ℕ (UR sig nD τ) ℕ

/-! ## The loop over chunks -/

theorem t1_trips {v : BitVec 32} (h : v.toInt ≤ 8192) : (k1_t1_loop v).trips = chunks v := by
  show Scf.trips 0#32 (Scalar.addi 0#32 (Scalar.muli (Scalar.divsi (Scalar.subi (chunkWord v) 0#32) 1#32) 1#32)) 1#32 = _
  rw [upper_eq, trips_eq h]

theorem t2_trips (v : BitVec 32) : (k1_t2_loop v).trips = 0 := by
  show Scf.trips (Scalar.addi 0#32 (Scalar.muli (Scalar.divsi (Scalar.subi (chunkWord v) 0#32) 1#32) 1#32))
    (Scalar.addi 0#32 (Scalar.subi (chunkWord v) 0#32)) 1#32 = _
  rw [upper_eq, rest_eq, trips_self]

theorem trip_lt {v : BitVec 32} (h : v.toInt ≤ 8192) (k : Fin (k1_t1_loop v).trips) : k.val < 8 :=
  Nat.lt_of_lt_of_le (Nat.lt_of_lt_of_eq k.isLt (t1_trips h)) (chunks_le h)

theorem k1_off2_eq {v : BitVec 32} (h : v.toInt ≤ 8192) (k : Fin (k1_t1_loop v).trips) : k1_off2 v k = ![0, 0, 0, 1024 * k.val] := by
  show ![0, 0, 0, (Scalar.muli (Scf.iv 0#32 1#32 k) 1024#32).toNat] = _
  rw [start_toNat (trip_lt h k)]

theorem k1_off3_eq {v : BitVec 32} (h : v.toInt ≤ 8192) (k : Fin (k1_t1_loop v).trips) : k1_off3 v k = ![0, 0, 1024 * k.val] := by
  show ![0, 0, (Scalar.muli (Scf.iv 0#32 1#32 k) 1024#32).toNat] = _
  rw [start_toNat (trip_lt h k)]

theorem k1_off4_eq {v : BitVec 32} (h : v.toInt ≤ 8192) (k : Fin (k1_t1_loop v).trips) : k1_off4 v k = ![0, 1, 0, 1024 * k.val] := by
  show ![0, 1, 0, (Scalar.muli (Scf.iv 0#32 1#32 k) 1024#32).toNat] = _
  rw [start_toNat (trip_lt h k)]

theorem k1_off5_eq {v : BitVec 32} (h : v.toInt ≤ 8192) (k : Fin (k1_t1_loop v).trips) : k1_off5 v k = ![0, 1, 1024 * k.val] := by
  show ![0, 1, (Scalar.muli (Scf.iv 0#32 1#32 k) 1024#32).toNat] = _
  rw [start_toNat (trip_lt h k)]

/-- A count of at most 8192 cached tokens keeps every chunk the loop visits inside its block. -/
theorem chk_of_le {v : BitVec 32} (h : v.toInt ≤ 8192) : k1_chk1 v := by
  have h8 := chunks_le h
  refine ⟨?_, ?_, ?_, ?_, ?_, ?_, ?_, fun k => (Fin.cast (t2_trips v) k).elim0, fun k => (Fin.cast (t2_trips v) k).elim0,
    fun k => (Fin.cast (t2_trips v) k).elim0, fun k => (Fin.cast (t2_trips v) k).elim0, fun k => (Fin.cast (t2_trips v) k).elim0⟩
  · refine ⟨(by decide : 0 < (1#32 : BitVec 32).toInt), ?_⟩
    show (0#32 : BitVec 32).toInt + ((k1_t1_loop v).trips : ℤ) * (1#32 : BitVec 32).toInt < _
    rw [t1_trips h, show (0#32 : BitVec 32).toInt = 0 from by decide, show (1#32 : BitVec 32).toInt = 1 from by decide]
    omega
  · intro k
    show 1024 ∣ (Scalar.muli (Scf.iv 0#32 1#32 k) 1024#32).toNat
    rw [start_toNat (trip_lt h k)]
    exact ⟨_, rfl⟩
  · intro k a
    have hk := trip_lt h k
    rw [k1_off2_eq h]
    fin_cases a
    · show 0 + 1 ≤ 1; omega
    · show 0 + 1 ≤ 2; omega
    · show 0 + 32 ≤ 32; omega
    · show 1024 * k.val + 1024 ≤ 8192; omega
  · intro k a
    have hk := trip_lt h k
    rw [k1_off3_eq h]
    fin_cases a
    · show 0 + 1 ≤ 1; omega
    · show 0 + 1 ≤ 2; omega
    · show 1024 * k.val + 1024 ≤ 8192; omega
  · intro k a
    have hk := trip_lt h k
    rw [k1_off4_eq h]
    fin_cases a
    · show 0 + 1 ≤ 1; omega
    · show 1 + 1 ≤ 2; omega
    · show 0 + 32 ≤ 32; omega
    · show 1024 * k.val + 1024 ≤ 8192; omega
  · intro k a
    have hk := trip_lt h k
    rw [k1_off5_eq h]
    fin_cases a
    · show 0 + 1 ≤ 1; omega
    · show 1 + 1 ≤ 2; omega
    · show 1024 * k.val + 1024 ≤ 8192; omega
  · refine ⟨(by decide : 0 < (1#32 : BitVec 32).toInt), ?_⟩
    show (Scalar.addi 0#32 (Scalar.muli (Scalar.divsi (Scalar.subi (chunkWord v) 0#32) 1#32) 1#32) : BitVec 32).toInt
      + ((k1_t2_loop v).trips : ℤ) * (1#32 : BitVec 32).toInt < _
    rw [t2_trips, upper_eq, toInt_chunkWord h]
    have : (v.toInt + 1023).tdiv 1024 ≤ ((v.toInt + 1023).tdiv 1024).toNat := Int.self_le_toNat _
    unfold chunks at h8
    omega

/-! ## The tables, and what the regions leave -/

variable (m : (ℓ : Loc nD τ sig) → Buf (Elt F) ℓ)

/-- Every count of cached tokens is at most the 8192 the cache holds. -/
def Short : Prop := ∀ (c : Dev nD) (i : S65.Idx), (m ((c : Thread nD τ).loc main_arg9) i : BitVec 32).toInt ≤ 8192

/-- The prefetched table's contents, as launched. -/
def tbl : pre1.Contents (Elt F) := fun j => m (((0 : Dev nD) : Thread nD τ).loc (pre1.ref j))

/-- The attention region's admissible table. -/
abbrev tab : (pcfg1 (F := F)).Adm := ⟨tbl m, trivial⟩

/-- Each region's admissible tables: the first has none. -/
abbrev tabs : (p : Fin 2) → (pcfgs (F := F) p).Adm := fun
  | ⟨0, _⟩ => cfg0.toPCfg_adm
  | ⟨1, _⟩ => tab m

theorem hyps (h : Short m) : Attn.Hyps (tab m) := fun t => chk_of_le (h 0 _)

/-- What the quantiser's region leaves in its arrays. -/
def outsQ : Outs (F := F) := fun _ r c => afterRegion (Quant.dat (V1 m) c) (V1 m c) (Proc.devRef .tc r)

/-- What the two regions leave in their arrays. -/
def outs (h : Short m) : Outs (F := F)
  | 2, r, c => outsQ m 2 r c
  | _, r, c => afterRegion (Attn.dat (V7 m (outsQ m)) (tab m) (hyps m h) c) (V7 m (outsQ m) c) (Proc.devRef .tc r)

/-- The two pipelines' proof data. -/
abbrev pdats (h : Short m) : (p : Fin 2) → (c : Dev nD) → Dat τ (Elt F) Unit ℕ (UR sig nD τ) ℕ (Pipeline.pin (pcfgs (F := F)) (tabs m) p) c := fun
  | ⟨0, _⟩ => fun c => Quant.dat (V1 m) c
  | ⟨1, _⟩ => fun c => Attn.dat (V7 m (outsQ m)) (tab m) (hyps m h) c

theorem V2_eq (h : Short m) (c : Dev nD) : V2 m (outs m h) c = V2 m (outsQ m) c := rfl
theorem V7_eq (h : Short m) (c : Dev nD) : V7 m (outs m h) c = V7 m (outsQ m) c := rfl

/-- The table is untouched when the attention region is entered. -/
theorem V7_table (c : Dev nD) : V7 m (outsQ m) c main_arg9 = m ((c : Thread nD τ).loc main_arg9) :=
  (V7_of m _ c main_arg9 (by decide)).trans <| (V6_of m _ c main_arg9 (by decide)).trans <| (V5_of m _ c main_arg9 (by decide)).trans <| (V4_of m _ c main_arg9 (by decide)).trans <| (V3_of m _ c main_arg9 (by decide)).trans <| (V2_of m _ c main_arg9 (by decide)).trans <| (V1_of m c main_arg9 (by decide)).trans rfl

/-- After the quantiser's region the buffers are at `V2`. -/
theorem after_quant (h : Short m) (c : Dev nD) (r : Ref sig .tc) :
    afterRegion (Quant.dat (V1 m) c) (V1 m c) (Proc.devRef .tc r) = V2 m (outs m h) c r := by
  by_cases hr : r ∈ ([main_v2_0, main_v2_1, main_v2_2, main_v2_3, main_v2_4, main_v2_5, main_v2_6, main_v2_7] : List (Ref sig .tc))
  · simp only [List.mem_cons, List.not_mem_nil, or_false] at hr
    rcases hr with rfl | rfl | rfl | rfl | rfl | rfl | rfl | rfl
    · delta V2; rw [Function.update_of_ne (StableHlo.devRef_ne_of_ne (by decide : (main_v2_0 : Ref sig .tc) ≠ main_v2_7))]; rw [Function.update_of_ne (StableHlo.devRef_ne_of_ne (by decide : (main_v2_0 : Ref sig .tc) ≠ main_v2_6))]; rw [Function.update_of_ne (StableHlo.devRef_ne_of_ne (by decide : (main_v2_0 : Ref sig .tc) ≠ main_v2_5))]; rw [Function.update_of_ne (StableHlo.devRef_ne_of_ne (by decide : (main_v2_0 : Ref sig .tc) ≠ main_v2_4))]; rw [Function.update_of_ne (StableHlo.devRef_ne_of_ne (by decide : (main_v2_0 : Ref sig .tc) ≠ main_v2_3))]; rw [Function.update_of_ne (StableHlo.devRef_ne_of_ne (by decide : (main_v2_0 : Ref sig .tc) ≠ main_v2_2))]; rw [Function.update_of_ne (StableHlo.devRef_ne_of_ne (by decide : (main_v2_0 : Ref sig .tc) ≠ main_v2_1))]; rw [Function.update_self]
      rfl
    · delta V2; rw [Function.update_of_ne (StableHlo.devRef_ne_of_ne (by decide : (main_v2_1 : Ref sig .tc) ≠ main_v2_7))]; rw [Function.update_of_ne (StableHlo.devRef_ne_of_ne (by decide : (main_v2_1 : Ref sig .tc) ≠ main_v2_6))]; rw [Function.update_of_ne (StableHlo.devRef_ne_of_ne (by decide : (main_v2_1 : Ref sig .tc) ≠ main_v2_5))]; rw [Function.update_of_ne (StableHlo.devRef_ne_of_ne (by decide : (main_v2_1 : Ref sig .tc) ≠ main_v2_4))]; rw [Function.update_of_ne (StableHlo.devRef_ne_of_ne (by decide : (main_v2_1 : Ref sig .tc) ≠ main_v2_3))]; rw [Function.update_of_ne (StableHlo.devRef_ne_of_ne (by decide : (main_v2_1 : Ref sig .tc) ≠ main_v2_2))]; rw [Function.update_self]
      rfl
    · delta V2; rw [Function.update_of_ne (StableHlo.devRef_ne_of_ne (by decide : (main_v2_2 : Ref sig .tc) ≠ main_v2_7))]; rw [Function.update_of_ne (StableHlo.devRef_ne_of_ne (by decide : (main_v2_2 : Ref sig .tc) ≠ main_v2_6))]; rw [Function.update_of_ne (StableHlo.devRef_ne_of_ne (by decide : (main_v2_2 : Ref sig .tc) ≠ main_v2_5))]; rw [Function.update_of_ne (StableHlo.devRef_ne_of_ne (by decide : (main_v2_2 : Ref sig .tc) ≠ main_v2_4))]; rw [Function.update_of_ne (StableHlo.devRef_ne_of_ne (by decide : (main_v2_2 : Ref sig .tc) ≠ main_v2_3))]; rw [Function.update_self]
      rfl
    · delta V2; rw [Function.update_of_ne (StableHlo.devRef_ne_of_ne (by decide : (main_v2_3 : Ref sig .tc) ≠ main_v2_7))]; rw [Function.update_of_ne (StableHlo.devRef_ne_of_ne (by decide : (main_v2_3 : Ref sig .tc) ≠ main_v2_6))]; rw [Function.update_of_ne (StableHlo.devRef_ne_of_ne (by decide : (main_v2_3 : Ref sig .tc) ≠ main_v2_5))]; rw [Function.update_of_ne (StableHlo.devRef_ne_of_ne (by decide : (main_v2_3 : Ref sig .tc) ≠ main_v2_4))]; rw [Function.update_self]
      rfl
    · delta V2; rw [Function.update_of_ne (StableHlo.devRef_ne_of_ne (by decide : (main_v2_4 : Ref sig .tc) ≠ main_v2_7))]; rw [Function.update_of_ne (StableHlo.devRef_ne_of_ne (by decide : (main_v2_4 : Ref sig .tc) ≠ main_v2_6))]; rw [Function.update_of_ne (StableHlo.devRef_ne_of_ne (by decide : (main_v2_4 : Ref sig .tc) ≠ main_v2_5))]; rw [Function.update_self]
      rfl
    · delta V2; rw [Function.update_of_ne (StableHlo.devRef_ne_of_ne (by decide : (main_v2_5 : Ref sig .tc) ≠ main_v2_7))]; rw [Function.update_of_ne (StableHlo.devRef_ne_of_ne (by decide : (main_v2_5 : Ref sig .tc) ≠ main_v2_6))]; rw [Function.update_self]
      rfl
    · delta V2; rw [Function.update_of_ne (StableHlo.devRef_ne_of_ne (by decide : (main_v2_6 : Ref sig .tc) ≠ main_v2_7))]; rw [Function.update_self]
      rfl
    · delta V2; rw [Function.update_self]
      rfl
  · rw [V2_of m _ c r hr]
    refine Pipeline.afterRegion_keeps _ _ winFacts0.arr_inj (fun _ => rfl) r (fun w hw => ?_)
    by_contra hout
    refine hr (hw ▸ ?_)
    clear hw hr
    revert hout
    revert w
    show ∀ w : Fin 10, ¬ (spec0 w).isOut = false → Pipeline.arrRef spec0 w ∈ [main_v2_0, main_v2_1, main_v2_2, main_v2_3, main_v2_4, main_v2_5, main_v2_6, main_v2_7]
    decide

/-- After the attention region the buffers are at `V8`. -/
theorem after_attn (h : Short m) (c : Dev nD) (r : Ref sig .tc) :
    afterRegion (Attn.dat (V7 m (outsQ m)) (tab m) (hyps m h) c) (V7 m (outsQ m) c) (Proc.devRef .tc r) = V8 m (outs m h) c r := by
  by_cases hr : r ∈ ([main_v32] : List (Ref sig .tc))
  · simp only [List.mem_cons, List.not_mem_nil, or_false] at hr
    subst hr
    delta V8; rw [Function.update_self]
    rfl
  · rw [V8_of m _ c r hr]
    refine Pipeline.afterRegion_keeps _ _ winFacts1.arr_inj (fun _ => rfl) r (fun w hw => ?_)
    by_contra hout
    refine hr (hw ▸ ?_)
    clear hw hr
    revert hout
    revert w
    show ∀ w : Fin 10, ¬ (spec1 w).isOut = false → Pipeline.arrRef spec1 w ∈ [main_v32]
    decide

theorem held_quant (h : Short m) (c : Dev nD) :
    (StableHlo.held (c : Thread nD τ) (Pipeline.ucRefs τ sig) (afterRegion (pdats m h 0 c) (V1 m c)) : sProp 𝕄)
      = StableHlo.held (c : Thread nD τ) (Pipeline.ucRefs τ sig) (V2 m (outs m h) c) :=
  StableHlo.held_congr _ fun b hb => by
    obtain ⟨r, -, rfl⟩ := Finset.mem_map.mp (Finset.mem_filter.mp hb).1
    exact after_quant m h c r

theorem held_attn (h : Short m) (c : Dev nD) :
    (StableHlo.held (c : Thread nD τ) (Pipeline.ucRefs τ sig) (afterRegion (pdats m h 1 c) (V7 m (outsQ m) c)) : sProp 𝕄)
      = StableHlo.held (c : Thread nD τ) (Pipeline.ucRefs τ sig) (V8 m (outs m h) c) :=
  StableHlo.held_congr _ fun b hb => by
    obtain ⟨r, -, rfl⟩ := Finset.mem_map.mp (Finset.mem_filter.mp hb).1
    exact after_attn m h c r

/-! ## The regions' records -/

/-- Every cell of a core's semaphores may be waited on at the one level. -/
abbrev L : GSem nD τ sig → Finset Unit := fun g => if g.1.2 = .tc then {()} else ∅
abbrev lv : GSem nD τ sig → Unit → ℕ := fun _ _ => 0

theorem cut (p : Fin 2) : Pipeline.LevelCut (pcfgs (F := F)) (tabs m) () L lv p (fun _ => 0) (fun _ => 0) where
  hι _ _ _ := Finset.mem_singleton.mpr rfl
  hιb _ _ _ := le_rfl
  hD _ _ _ h := absurd h (lt_irrefl _)

set_option backward.isDefEq.respectTransparency.types false in
/-- The quantiser's region, entered with the buffers at `V1`. -/
def R0 (h : Short m) : RegionSeg (pcfgs (F := F)) (tabs m) (pdats m h) () (defs₀ (F := F)) Variants.none L lv 0 :=
  Pipeline.RegionSeg.ofHeldIn (pcfgs (F := F)) (tabs m) (pdats m h) () defs₀ Variants.none L lv 0 (fun _ => 0) (Pipeline.ucRefs τ sig)
    (fun _ => iprop(emp)) (fun _ => iprop(emp)) launch0 rfl
    (fun c => (Quant.body_obligation (V1 m) c).loose) (fun _ _ => rfl) (fun _ => rfl)
    (fun c w => (Quant.dat (V1 m) c).share_full (fun _ => rfl) w)
    (fun c => by
      show _ ⊢ Pipeline.scopedRest spec0 c
      iintro ⟨H, -⟩; iexact H)
    (fun c => by
      show Pipeline.scopedRest spec0 c ⊢ _
      iintro H; isplitl [H]; · iexact H
      iempintro)
    (fun _ => 0) (cut m 0) (fun _ => iprop(emp)) (fun c => V1 m c) (fun c w => rfl)

set_option backward.isDefEq.respectTransparency.types false in
/-- The attention region, entered with the buffers at `V7`. -/
def R1 (h : Short m) : RegionSeg (pcfgs (F := F)) (tabs m) (pdats m h) () (defs₀ (F := F)) Variants.none L lv 1 :=
  Pipeline.RegionSeg.ofHeldInT (pcfgs (F := F)) (tabs m) (pdats m h) () defs₀ Variants.none L lv 1 (fun _ => 0) (Pipeline.ucRefs τ sig)
    (fun _ => iprop(emp)) (fun _ => iprop(emp)) launch1
    (fun c => (Attn.body_obligation (V7 m (outsQ m)) (tab m) (hyps m h) c).loose) (fun _ _ => rfl) (fun _ => rfl)
    (fun c w => (Attn.dat (V7 m (outsQ m)) (tab m) (hyps m h) c).share_full (fun _ => rfl) w)
    (fun c => by
      show _ ⊢ iprop(Pipeline.scopedRest spec1 c ∗ Pipeline.prefHeld pre1 c (fun _ => fullShare) (tab m).1)
      iintro ⟨⟨H, -⟩, HT⟩
      isplitl [H]; · iexact H
      iexact HT)
    (fun c => by
      show iprop(Pipeline.scopedRest spec1 c ∗ Pipeline.prefHeld pre1 c (fun _ => fullShare) (tab m).1) ⊢ _
      iintro ⟨H, HT⟩
      isplitl [H]
      · isplitl [H]; · iexact H
        iempintro
      iexact HT)
    (fun _ => 0) (cut m 1) (fun _ => iprop(emp)) (fun c => V7 m (outsQ m) c) (fun c w => rfl)
    (fun c k => by
      obtain rfl : c = 0 := Subsingleton.elim _ _
      obtain rfl : k = (0 : Fin 1) := Subsingleton.elim (α := Fin 1) _ _
      exact (V7_table m 0).symm)

/-- The regions' arrays and tables are unscoped. -/
theorem arrs0 : Pipeline.arrRefs (τ := τ) spec0 ⊆ Pipeline.ucRefs τ sig := Pipeline.arrRefs_sub_ucRefs spec0 (by decide)
theorem arrs1 : Pipeline.arrRefs (τ := τ) spec1 ⊆ Pipeline.ucRefs τ sig := Pipeline.arrRefs_sub_ucRefs spec1 (by decide)
theorem tbls1 : Pipeline.tblRefs (τ := τ) pre1 ⊆ Pipeline.ucRefs τ sig := Pipeline.tblRefs_sub_ucRefs pre1 (by decide)

set_option backward.isDefEq.respectTransparency.types false in
theorem R0_pre (h : Short m) (c : Dev nD) :
    iprop(StableHlo.held (c.tc : Thread nD τ) (Pipeline.ucRefs τ sig) (V1 m c) ∗ ((∃ Wd, owes (c : Thread nD τ) (0 : CellTallies nD τ sig Unit) Wd) ∗ emp ∗ emp))
      ⊢ ((R0 m h).pre c : sProp 𝕄) := by
  unfold R0
  refine BIBase.Entails.trans ?_ (Pipeline.RegionSeg.ofHeldIn_pre (pcs := pcfgs (F := F)) (p := 0) (a := tabs m) (pdats := pdats m h) (ι := ()) (defs₀ := defs₀ (F := F)) (𝒱₀ := Variants.none) (L := L) (lv := lv) (D := fun _ => 0) (X := fun _ => iprop(emp)) (Y := fun _ => iprop(emp)) (R := fun _ => iprop(emp)) (W := fun c => V1 m c) arrs0 c)
  exact BIBase.Entails.rfl

set_option backward.isDefEq.respectTransparency.types false in
theorem R0_post (h : Short m) (c : Dev nD) :
    ((R0 m h).post c : sProp 𝕄) ⊢ iprop(StableHlo.held (c.tc : Thread nD τ) (Pipeline.ucRefs τ sig) (afterRegion (pdats m h 0 c) (V1 m c))
      ∗ ((∃ Wd, owes (c : Thread nD τ) (0 : CellTallies nD τ sig Unit) Wd) ∗ emp ∗ emp)) := by
  unfold R0
  exact Pipeline.RegionSeg.ofHeldIn_post (pcs := pcfgs (F := F)) (p := 0) (a := tabs m) (pdats := pdats m h) (ι := ()) (defs₀ := defs₀ (F := F)) (𝒱₀ := Variants.none) (L := L) (lv := lv) (D := fun _ => 0) (X := fun _ => iprop(emp)) (Y := fun _ => iprop(emp)) (R := fun _ => iprop(emp)) (W := fun c => V1 m c) arrs0 c

set_option backward.isDefEq.respectTransparency.types false in
theorem R1_pre (h : Short m) (c : Dev nD) :
    iprop(StableHlo.held (c.tc : Thread nD τ) (Pipeline.ucRefs τ sig) (V7 m (outsQ m) c) ∗ ((∃ Wd, owes (c : Thread nD τ) (0 : CellTallies nD τ sig Unit) Wd) ∗ emp ∗ emp))
      ⊢ ((R1 m h).pre c : sProp 𝕄) := by
  unfold R1
  refine BIBase.Entails.trans ?_ (Pipeline.RegionSeg.ofHeldInT_pre (pcs := pcfgs (F := F)) (p := 1) (a := tabs m) (pdats := pdats m h) (ι := ()) (defs₀ := defs₀ (F := F)) (𝒱₀ := Variants.none) (L := L) (lv := lv) (D := fun _ => 0) (X := fun _ => iprop(emp)) (Y := fun _ => iprop(emp)) (R := fun _ => iprop(emp)) (W := fun c => V7 m (outsQ m) c) arrs1 tbls1 c)
  exact BIBase.Entails.rfl

set_option backward.isDefEq.respectTransparency.types false in
theorem R1_post (h : Short m) (c : Dev nD) :
    ((R1 m h).post c : sProp 𝕄) ⊢ iprop(StableHlo.held (c.tc : Thread nD τ) (Pipeline.ucRefs τ sig) (afterRegion (pdats m h 1 c) (V7 m (outsQ m) c))
      ∗ ((∃ Wd, owes (c : Thread nD τ) (0 : CellTallies nD τ sig Unit) Wd) ∗ emp ∗ emp)) := by
  unfold R1
  exact Pipeline.RegionSeg.ofHeldInT_post (pcs := pcfgs (F := F)) (p := 1) (a := tabs m) (pdats := pdats m h) (ι := ()) (defs₀ := defs₀ (F := F)) (𝒱₀ := Variants.none) (L := L) (lv := lv) (D := fun _ => 0) (X := fun _ => iprop(emp)) (Y := fun _ => iprop(emp)) (R := fun _ => iprop(emp)) (W := fun c => V7 m (outsQ m) c) arrs1 tbls1 c

/-! ## The run -/

set_option backward.isDefEq.respectTransparency.types false in
/-- The run of the program, given the two regions' records: every unscoped buffer ends at `V9`. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 2) → (pcfgs (F := F) p).Adm)
    (pdats : (p : Fin 2) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c)) :
    θ_run defs (onTc (τ := τ) (main (F := F))) ⟨m, fun _ => 0, ρ⟩ (fun r => (∀ c : Dev nD, ∀ b ∈ Pipeline.ucRefs τ sig, r.2.mem (c, b) = V9 m outs c b)
      ∧ r.2.sem = fun _ => 0) := by
  refine Pipeline.θ_run_regions_kit_dev_sems (pcfgs (F := F)) a pdats ι (cellOf_inj a) EP defs₀ 𝒱₀ L lv m ρ main
    (segs m outs 𝒱₀ L lv E ι a pdats R0 R1)
    (fun c Q => by
      rewrite [main_chain c, Seg.run_eq_chain,
        show (segs m outs 𝒱₀ L lv E ι a pdats R0 R1 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs c))
    (hch := fun c => ⟨.rfl, hpre0 c, hpost0 c, .rfl, .rfl, .rfl, .rfl, hpre1 c, hpost1 c, sep_mono .rfl (hE2 c)⟩)
    (hinit := ?_) (QY := fun c s => ∀ b ∈ Pipeline.ucRefs τ sig, s.mem (c, b) = V9 m outs c b)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V9 m outs c) s') $$ [Hh HSI]
    · isplitl [Hh] <;> iassumption
    icases Hr with ⟨%h, HSI⟩
    imodintro
    isplitr
    · ipureintro
      exact h
    · iexact HSI

set_option backward.isDefEq.respectTransparency.types false in
/-- From any memory whose counts are at most 8192, every execution ends, with every semaphore at zero and every unscoped
    buffer at `V9`. -/
theorem run (h : Short m) (ρ : Dev nD → PrngReg) :
    θ_run defs (onTc (τ := τ) (main (F := F))) ⟨m, fun _ => 0, ρ⟩ (fun r =>
      (∀ c : Dev nD, ∀ b ∈ Pipeline.ucRefs τ sig, r.2.mem (c, b) = V9 m (outs m h) c b) ∧ r.2.sem = fun _ => 0) := by
  refine run_cond m (Ix := Unit) (U := UR sig nD τ) (Lvl := ℕ) emb₁ () Variants.none L lv (fun g hg => if_neg hg) ρ (outs m h) (tabs m)
    (pdats m h) 0 (fun _ => iprop(emp))
    (initOf (Pipeline.cells (Pipeline.pin (pcfgs (F := F)) (tabs m)) (cellOf_inj (tabs m))) (Pipeline.launchToks (Pipeline.pin (pcfgs (F := F)) (tabs m)) (cellOf_inj (tabs m))))
    ?_ (fun _ c => iprop(∃ Wd, owes (c : Thread nD τ) (0 : CellTallies nD τ sig Unit) Wd)) ?_ (fun c => .rfl)
    (R0 m h) (fun c => ?_) (fun c => ?_) (R1 m h) (fun c => ?_) (fun c => ?_)
  · iintro Hu; imodintro
    isplitl [Hu]
    · iapply (show (ownU _ : sProp 𝕄) ⊢ BI.own (emb₁ (initOf (Pipeline.cells (Pipeline.pin (pcfgs (F := F)) (tabs m)) (cellOf_inj (tabs m))) (Pipeline.launchToks (Pipeline.pin (pcfgs (F := F)) (tabs m)) (cellOf_inj (tabs m))))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    iintro ⟨⟨-, HO, -⟩, -⟩
    imodintro
    iexists _; iexact HO
  · refine BIBase.Entails.trans ?_ (R0_pre m h c)
    iintro ⟨Hh, HO⟩
    isplitl [Hh]; · iexact Hh
    isplitl [HO]; · iexact HO
    isplitl []; · iempintro
    iempintro
  · refine BIBase.Entails.trans (R0_post m h c) ?_
    rw [← held_quant m h c]
    iintro ⟨Hh, HO, -, -⟩
    isplitl [Hh]; · iexact Hh
    iexact HO
  · refine BIBase.Entails.trans ?_ (R1_pre m h c)
    iintro ⟨Hh, HO⟩
    isplitl [Hh]; · iexact Hh
    isplitl [HO]; · iexact HO
    isplitl []; · iempintro
    iempintro
  · refine BIBase.Entails.trans (R1_post m h c) ?_
    rw [← held_attn m h c]
    iintro ⟨Hh, HO, -, -⟩
    isplitl [Hh]; · iexact Hh
    iexact HO

end Cert.KernelIdeal.Run

end
-- ==== Proof.Frames.lean ====
/-
  The frames of the three programs, and the two named constants' statement: each program runs without a fault, leaves its
  argument arrays as they were, and ends with every counter at zero.
-/
module

public import proofs.«01_k».proof.Proof.Pre
public import proofs.«01_k».proof.Proof.KernelRun
public import proofs.«01_k».proof.Proof.KernelIdealRun
public import proofs.«01_k».proof.Proof.Gen.ReferenceIdeal.Run
public import Idealize.ShloMosaic.Init

@[expose] public section

set_option maxRecDepth 16384

noncomputable section

namespace Cert.Kernel.Run

open Cert.Kernel Cert.Kernel.Gen Idealize.ShloMosaic Idealize.ShloMosaic.TcCoe Idealize.SL.Sem

variable {F : FTy → Type} [FloatOps F]

/-- Under the bound on the counts the program runs, ends with its arguments unchanged and every counter at zero. -/
theorem frame {m : (ℓ : Loc nD τ sig) → Buf (Elt F) ℓ} (h : Short m) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r hr => ⟨fun c => ⟨
    (hr.1 c (Proc.devRef .tc main_arg0) (Finset.mem_filter.mpr ⟨StableHlo.devRef_mem_tcRefs main_arg0, by decide⟩)).trans (V9_main_arg0 m (outs m h) c),
    (hr.1 c (Proc.devRef .tc main_arg1) (Finset.mem_filter.mpr ⟨StableHlo.devRef_mem_tcRefs main_arg1, by decide⟩)).trans (V9_main_arg1 m (outs m h) c),
    (hr.1 c (Proc.devRef .tc main_arg2) (Finset.mem_filter.mpr ⟨StableHlo.devRef_mem_tcRefs main_arg2, by decide⟩)).trans (V9_main_arg2 m (outs m h) c),
    (hr.1 c (Proc.devRef .tc main_arg3) (Finset.mem_filter.mpr ⟨StableHlo.devRef_mem_tcRefs main_arg3, by decide⟩)).trans (V9_main_arg3 m (outs m h) c),
    (hr.1 c (Proc.devRef .tc main_arg4) (Finset.mem_filter.mpr ⟨StableHlo.devRef_mem_tcRefs main_arg4, by decide⟩)).trans (V9_main_arg4 m (outs m h) c),
    (hr.1 c (Proc.devRef .tc main_arg5) (Finset.mem_filter.mpr ⟨StableHlo.devRef_mem_tcRefs main_arg5, by decide⟩)).trans (V9_main_arg5 m (outs m h) c),
    (hr.1 c (Proc.devRef .tc main_arg6) (Finset.mem_filter.mpr ⟨StableHlo.devRef_mem_tcRefs main_arg6, by decide⟩)).trans (V9_main_arg6 m (outs m h) c),
    (hr.1 c (Proc.devRef .tc main_arg7) (Finset.mem_filter.mpr ⟨StableHlo.devRef_mem_tcRefs main_arg7, by decide⟩)).trans (V9_main_arg7 m (outs m h) c),
    (hr.1 c (Proc.devRef .tc main_arg8) (Finset.mem_filter.mpr ⟨StableHlo.devRef_mem_tcRefs main_arg8, by decide⟩)).trans (V9_main_arg8 m (outs m h) c),
    (hr.1 c (Proc.devRef .tc main_arg9) (Finset.mem_filter.mpr ⟨StableHlo.devRef_mem_tcRefs main_arg9, by decide⟩)).trans (V9_main_arg9 m (outs m h) c)⟩, hr.2⟩) (run m h ρ)

end Cert.Kernel.Run

namespace Cert.KernelIdeal.Run

open Cert.KernelIdeal Cert.KernelIdeal.Gen Idealize.ShloMosaic Idealize.ShloMosaic.TcCoe Idealize.SL.Sem

variable {F : FTy → Type} [FloatOps F] [Named F]

/-- The ten arguments are as they were, read off the final valuation. -/
theorem args_eq {m : (ℓ : Loc nD τ sig) → Buf (Elt F) ℓ} (h : Short m) {μ : (ℓ : Loc nD τ sig) → Buf (Elt F) ℓ}
    (hr : ∀ c : Dev nD, ∀ b ∈ Pipeline.ucRefs τ sig, μ (c, b) = V9 m (outs m h) c b) (c : Dev nD) :
      μ ((c.tc : Thread nD τ).loc main_arg0) = m ((c.tc : Thread nD τ).loc main_arg0)
      ∧ μ ((c.tc : Thread nD τ).loc main_arg1) = m ((c.tc : Thread nD τ).loc main_arg1)
      ∧ μ ((c.tc : Thread nD τ).loc main_arg2) = m ((c.tc : Thread nD τ).loc main_arg2)
      ∧ μ ((c.tc : Thread nD τ).loc main_arg3) = m ((c.tc : Thread nD τ).loc main_arg3)
      ∧ μ ((c.tc : Thread nD τ).loc main_arg4) = m ((c.tc : Thread nD τ).loc main_arg4)
      ∧ μ ((c.tc : Thread nD τ).loc main_arg5) = m ((c.tc : Thread nD τ).loc main_arg5)
      ∧ μ ((c.tc : Thread nD τ).loc main_arg6) = m ((c.tc : Thread nD τ).loc main_arg6)
      ∧ μ ((c.tc : Thread nD τ).loc main_arg7) = m ((c.tc : Thread nD τ).loc main_arg7)
      ∧ μ ((c.tc : Thread nD τ).loc main_arg8) = m ((c.tc : Thread nD τ).loc main_arg8)
      ∧ μ ((c.tc : Thread nD τ).loc main_arg9) = m ((c.tc : Thread nD τ).loc main_arg9) :=
  ⟨
    (hr c (Proc.devRef .tc main_arg0) (Finset.mem_filter.mpr ⟨StableHlo.devRef_mem_tcRefs main_arg0, by decide⟩)).trans (V9_main_arg0 m (outs m h) c),
    (hr c (Proc.devRef .tc main_arg1) (Finset.mem_filter.mpr ⟨StableHlo.devRef_mem_tcRefs main_arg1, by decide⟩)).trans (V9_main_arg1 m (outs m h) c),
    (hr c (Proc.devRef .tc main_arg2) (Finset.mem_filter.mpr ⟨StableHlo.devRef_mem_tcRefs main_arg2, by decide⟩)).trans (V9_main_arg2 m (outs m h) c),
    (hr c (Proc.devRef .tc main_arg3) (Finset.mem_filter.mpr ⟨StableHlo.devRef_mem_tcRefs main_arg3, by decide⟩)).trans (V9_main_arg3 m (outs m h) c),
    (hr c (Proc.devRef .tc main_arg4) (Finset.mem_filter.mpr ⟨StableHlo.devRef_mem_tcRefs main_arg4, by decide⟩)).trans (V9_main_arg4 m (outs m h) c),
    (hr c (Proc.devRef .tc main_arg5) (Finset.mem_filter.mpr ⟨StableHlo.devRef_mem_tcRefs main_arg5, by decide⟩)).trans (V9_main_arg5 m (outs m h) c),
    (hr c (Proc.devRef .tc main_arg6) (Finset.mem_filter.mpr ⟨StableHlo.devRef_mem_tcRefs main_arg6, by decide⟩)).trans (V9_main_arg6 m (outs m h) c),
    (hr c (Proc.devRef .tc main_arg7) (Finset.mem_filter.mpr ⟨StableHlo.devRef_mem_tcRefs main_arg7, by decide⟩)).trans (V9_main_arg7 m (outs m h) c),
    (hr c (Proc.devRef .tc main_arg8) (Finset.mem_filter.mpr ⟨StableHlo.devRef_mem_tcRefs main_arg8, by decide⟩)).trans (V9_main_arg8 m (outs m h) c),
    (hr c (Proc.devRef .tc main_arg9) (Finset.mem_filter.mpr ⟨StableHlo.devRef_mem_tcRefs main_arg9, by decide⟩)).trans (V9_main_arg9 m (outs m h) c)⟩

/-- Under the bound on the counts the program runs, ends with its arguments unchanged and every counter at zero. -/
theorem frame {m : (ℓ : Loc nD τ sig) → Buf (Elt F) ℓ} (h : Short m) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r hr => ⟨fun c => args_eq h hr.1 c, hr.2⟩) (run m h ρ)

end Cert.KernelIdeal.Run

namespace Cert.Claims

open Idealize.ShloMosaic Idealize.ShloMosaic.TcCoe Idealize.SL.Sem

theorem frame_p : Cert.quiescent_Kernel := fun m ρ hpre =>
  Cert.Kernel.Run.frame (F := Bits) (fun c i => Cert.Pre.short_of_fn (hpre c) i) ρ

theorem frame_pi : Cert.quiescent_KernelIdeal := fun m ρ hpre =>
  Cert.KernelIdeal.Run.frame (F := Ideal) (fun c i => Cert.Pre.short_of_fn (hpre c) i) ρ

/-- The bound on the counts, off `finite_keys`. -/
theorem short_of_finite {m : (ℓ : Loc Cert.KernelIdeal.nD Cert.KernelIdeal.τ Cert.KernelIdeal.sig) → Buf (Elt Ideal) ℓ}
    (hpre : Cert.Pre_KernelIdeal_finite_keys m) : Cert.KernelIdeal.Run.Short (F := Ideal) m :=
  fun c i => (Cert.Pre.finite_of_fn (hpre c)).1 i

theorem frame_pi_finite : Cert.quiescent_KernelIdeal_pre_finite_keys := fun m ρ hpre =>
  Cert.KernelIdeal.Run.frame (F := Ideal) (short_of_finite hpre) ρ

theorem frame_ri : Cert.quiescent_ReferenceIdeal := fun m ρ _ =>
  (θ_run Cert.ReferenceIdeal.defs _ _).mono (fun r h => ⟨fun c => (h c).2.2.2.2.2.2.2, sem_eq_zero_of_no_sems (by decide) r.2⟩)
    (Cert.ReferenceIdeal.Value.run (F := Ideal) m ρ)

theorem frame_ri_finite : Cert.quiescent_ReferenceIdeal_pre_finite_keys := fun m ρ _ => frame_ri m ρ trivial

theorem preserves : Cert.preserves_Kernel_KernelIdeal :=
  ⟨IdealRules.named_const.statement Cert.KernelIdeal.κ "mask" .f32 0xF149F2CA#32 ⊥ rfl,
   IdealRules.named_const.statement Cert.KernelIdeal.κ "scale" .f32 0x3E38AA3B#32 (((1 / 8) * (Real.log 2)⁻¹ : ℝ) : EReal) rfl⟩

end Cert.Claims

end
-- ==== Proof.Spec.lean ====
/-
  The mathematics of the quantiser, over one row of 64 numbers: the extrema, the scale, the clipped and rounded
  quotient, the two four-bit codes packed in one byte, and the number read back. Both programs are shown to compute
  these.
-/
module

public import Idealize.ShloMosaic.Lib.Pointwise

@[expose] public section

noncomputable section

namespace Cert.Spec

open Idealize.ShloMosaic

/-- Two numbers per axis: the even lane `2d` of a row of 64. -/
def ev (d : Fin 32) : Fin 64 := ⟨d.val * 2, by omega⟩

/-- The odd lane `2d + 1` of a row of 64. -/
def od (d : Fin 32) : Fin 64 := ⟨d.val * 2 + 1, by omega⟩

/-- The least entry of a row. -/
def rowMin (r : Fin 64 → EReal) : EReal := Finset.fold min (Ideal.ofBits .f32 2139095040#32) r Finset.univ

/-- The greatest entry of a row. -/
def rowMax (r : Fin 64 → EReal) : EReal := Finset.fold max (Ideal.ofBits .f32 4286578688#32) r Finset.univ

/-- A fifteenth of the row's range, or 1 where the range is a point. -/
def scale (r : Fin 64 → EReal) : EReal :=
  if rowMax r = rowMin r then 1 else Ideal.div (rowMax r - rowMin r) (Ideal.ofBits .f32 1097859072#32)

/-- The clipped and rounded quotient of one entry of a row. -/
def level (r : Fin 64 → EReal) (d : Fin 64) : EReal :=
  min ((((15#32 : BitVec 32).toInt : ℝ)) : EReal) (max ((((0#32 : BitVec 32).toInt : ℝ)) : EReal)
    (Ideal.liftRound Ideal.roundHalfEven (Ideal.div (r d - rowMin r) (scale r))))

/-- The level as a 32-bit word. -/
def word (r : Fin 64 → EReal) (d : Fin 64) : BitVec 32 := FloatOps.fptosi (F := Ideal) (φ := .f32) 32 (level r d)

/-- Two levels in one byte, the even lane in the low half. -/
def byte (r : Fin 64 → EReal) (d : Fin 32) : BitVec 8 :=
  BitVec.setWidth 8 (IntOp.ori (word r (ev d)) (IntOp.shli ArithUnit.vector (word r (od d)) 4#32))

/-- The number a level stands for. -/
def back (r : Fin 64 → EReal) (d : Fin 64) : EReal := level r d * scale r + rowMin r

end Cert.Spec
-- ==== Proof.KernelIdealOut.lean ====
/-
  The quantiser kernel's eight outputs at an index, in terms of the row of 64 numbers they come from.
-/
module

public import proofs.«01_k».proof.Proof.KernelIdealQuant
public import proofs.«01_k».proof.Proof.Spec
public import Idealize.ShloMosaic.Lib.Pipeline.ValueKit.Tiles
public import Idealize.ShloMosaic.Lib.Pipeline.Value

@[expose] public section

noncomputable section

namespace Cert.KernelIdeal.Out

open Cert.KernelIdeal Cert.KernelIdeal.Gen Idealize.ShloMosaic Cert.KernelIdeal.Quant

/-- The row of 64 numbers of group `g`, head `h`, batch row `b`. -/
def row (X : Vec Ideal S4x2x64x65 .bf16) (g : Fin 4) (h : Fin 2) (b : Fin 65) : Fin 64 → EReal := fun k => X (ix4 g h k b)

/-- The row of a loaded slab. -/
def slab (x : Vec Ideal S1x1x64x65 .bf16) (b : Fin 65) : Fin 64 → EReal := fun k => x (ix4 0 0 k b)

theorem slab_ld (X : Vec Ideal S4x2x64x65 .bf16) (g h : Nat) (hg : g < 4) (hh : h < 2) (inb) (b : Fin 65) :
    slab (View.ld X (Rect.unit (s := S4x2x64x65) ![g, h, 0, 0] S1x1x64x65.size inb)) b = row X ⟨g, hg⟩ ⟨h, hh⟩ b := by
  funext k
  refine View.ld_unit_apply_of X _ _ inb _ (ix4 ⟨g, hg⟩ ⟨h, hh⟩ k b) fun a => ?_
  fin_cases a <;> simp [ix4]

theorem pay3_apply (x : Vec Ideal S1x1x64x65 .bf16) (b : Fin 65) : k0_pay3 x (ix2 0 b) = Spec.rowMin (slab x b) := by
  pointwise [k0_pay3, k0_pay2]
  rfl

theorem pay5_apply (x : Vec Ideal S1x1x64x65 .bf16) (b : Fin 65) : k0_pay5 x (ix2 0 b) = Spec.rowMin (slab x b) := by
  pointwise [k0_pay5, k0_pay3, k0_pay2]
  rfl

theorem pay4_apply (x : Vec Ideal S1x1x64x65 .bf16) (b : Fin 65) : k0_pay4 x (ix2 0 b) = Spec.scale (slab x b) := by
  pointwise [k0_pay4, k0_pay3, k0_pay2]
  rfl

theorem pay6_apply (x : Vec Ideal S1x1x64x65 .bf16) (d : Fin 64) (b : Fin 65) :
    k0_pay6 x (ix2 d b) = Spec.level (slab x b) d := by
  pointwise [k0_pay6, k0_pay2]
  rw [pay5_apply, pay4_apply]
  rfl

theorem pay7_apply (x : Vec Ideal S1x1x64x65 .bf16) (j : S1x1x64x65.Idx) :
    k0_pay7 x j = Spec.back (slab x (j 3)) (j 2) := by
  obtain ⟨a, e, d, b, rfl⟩ : ∃ a e d b, j = ix4 a e d b := ⟨j 0, j 1, j 2, j 3, by funext i; fin_cases i <;> rfl⟩
  pointwise [k0_pay7]
  rw [pay6_apply, pay5_apply, pay4_apply]
  rfl

theorem pay11_apply (x : Vec Ideal S1x1x64x65 .bf16) (j : S1x1x32x65.Idx) :
    k0_pay11 (k0_pay9 x) (k0_pay10 x) j = Spec.byte (slab x (j 3)) (j 2) := by
  obtain ⟨a, e, d, b, rfl⟩ : ∃ a e d b, j = ix4 a e d b := ⟨j 0, j 1, j 2, j 3, by funext i; fin_cases i <;> rfl⟩
  pointwise [k0_pay11, k0_pay9, k0_pay10, k0_pay8]
  rw [pay6_apply, pay6_apply]
  rfl

theorem pay19_apply (u : Fin 2 → Fin 65 → EReal) (x y : FVec Ideal S1x65 .bf16) (hx : ∀ b, x (ix2 0 b) = u 0 b) (hy : ∀ b, y (ix2 0 b) = u 1 b)
    (j : S1x2x65.Idx) : k0_pay19 (F := Ideal) x y j = u (j 1) (j 2) := by
  obtain ⟨a, e, b, rfl⟩ : ∃ a e b, j = ix3 a e b := ⟨j 0, j 1, j 2, by funext i; fin_cases i <;> rfl⟩
  pointwise [k0_pay19]
  fin_cases e
  · exact hx b
  · exact hy b

theorem back_piece (X : Vec Ideal S4x2x64x65 .bf16) (g h : Nat) (hg : g < 4) (hh : h < 2) (inb) (j : S1x1x64x65.Idx) :
    k0_pay7 (View.ld X (Rect.unit (s := S4x2x64x65) ![g, h, 0, 0] S1x1x64x65.size inb)) j =
      (fun y : S4x2x64x65.Idx => Spec.back (row X (y 0) (y 1) (y 3)) (y 2))
        ((Rect.unit (s := S4x2x64x65) ![g, h, 0, 0] S1x1x64x65.size inb).emb j) := by
  have e : (Rect.unit (s := S4x2x64x65) ![g, h, 0, 0] S1x1x64x65.size inb).emb j = ix4 ⟨g, hg⟩ ⟨h, hh⟩ (j 2) (j 3) := by
    funext a; apply Fin.ext
    refine (Rect.idx_unit_val _ _ inb j a).trans ?_
    have h0 : (j 0).val = 0 := by have := (j 0).isLt; change _ < 1 at this; omega
    have h1 : (j 1).val = 0 := by have := (j 1).isLt; change _ < 1 at this; omega
    fin_cases a <;> simp [ix4, h0, h1]
  refine (pay7_apply _ j).trans ((congrArg (Spec.back · (j 2)) (slab_ld X g h hg hh inb (j 3))).trans ?_)
  rw [e]
  rfl

theorem byte_piece (X : Vec Ideal S4x2x64x65 .bf16) (g h : Nat) (hg : g < 4) (hh : h < 2) (inb) (inb') (j : S1x1x32x65.Idx) :
    k0_pay11 (k0_pay9 (View.ld X (Rect.unit (s := S4x2x64x65) ![g, h, 0, 0] S1x1x64x65.size inb)))
        (k0_pay10 (View.ld X (Rect.unit (s := S4x2x64x65) ![g, h, 0, 0] S1x1x64x65.size inb))) j =
      (fun y : S4x2x32x65.Idx => Spec.byte (row X (y 0) (y 1) (y 3)) (y 2))
        ((Rect.unit (s := S4x2x32x65) ![g, h, 0, 0] S1x1x32x65.size inb').emb j) := by
  have e : (Rect.unit (s := S4x2x32x65) ![g, h, 0, 0] S1x1x32x65.size inb').emb j = ix4 ⟨g, hg⟩ ⟨h, hh⟩ (j 2) (j 3) := by
    funext a; apply Fin.ext
    refine (Rect.idx_unit_val _ _ inb' j a).trans ?_
    have h0 : (j 0).val = 0 := by have := (j 0).isLt; change _ < 1 at this; omega
    have h1 : (j 1).val = 0 := by have := (j 1).isLt; change _ < 1 at this; omega
    fin_cases a <;> simp [ix4, h0, h1]
  refine (pay11_apply _ j).trans ((congrArg (Spec.byte · (j 2)) (slab_ld X g h hg hh inb (j 3))).trans ?_)
  rw [e]
  rfl

theorem emb3 (g : Nat) (hg : g < 4) (inb) (j : S1x2x65.Idx) :
    (Rect.unit (s := S4x2x65) ![g, 0, 0] S1x2x65.size inb).emb j = ix3 ⟨g, hg⟩ (j 1) (j 2) := by
  funext a; apply Fin.ext
  refine (Rect.idx_unit_val _ _ inb j a).trans ?_
  have h0 : (j 0).val = 0 := by have := (j 0).isLt; change _ < 1 at this; omega
  fin_cases a <;> simp [ix3, h0]

theorem scale_piece (X : Vec Ideal S4x2x64x65 .bf16) (g : Nat) (hg : g < 4) (i0) (i1) (inb) (j : S1x2x65.Idx) :
    k0_pay19 (k0_pay4 (View.ld X (Rect.unit (s := S4x2x64x65) ![g, 0, 0, 0] S1x1x64x65.size i0)))
        (k0_pay4 (View.ld X (Rect.unit (s := S4x2x64x65) ![g, 1, 0, 0] S1x1x64x65.size i1))) j =
      (fun y : S4x2x65.Idx => Spec.scale (row X (y 0) (y 1) (y 2)))
        ((Rect.unit (s := S4x2x65) ![g, 0, 0] S1x2x65.size inb).emb j) := by
  rw [emb3 g hg]
  refine (pay19_apply (fun h b => Spec.scale (row X ⟨g, hg⟩ h b)) _ _ (fun b => ?_) (fun b => ?_) j).trans rfl
  · rw [pay4_apply, slab_ld X g 0 hg (by decide)]; rfl
  · rw [pay4_apply, slab_ld X g 1 hg (by decide)]; rfl

theorem rowMin_piece (X : Vec Ideal S4x2x64x65 .bf16) (g : Nat) (hg : g < 4) (i0) (i1) (inb) (j : S1x2x65.Idx) :
    k0_pay19 (k0_pay5 (View.ld X (Rect.unit (s := S4x2x64x65) ![g, 0, 0, 0] S1x1x64x65.size i0)))
        (k0_pay5 (View.ld X (Rect.unit (s := S4x2x64x65) ![g, 1, 0, 0] S1x1x64x65.size i1))) j =
      (fun y : S4x2x65.Idx => Spec.rowMin (row X (y 0) (y 1) (y 2)))
        ((Rect.unit (s := S4x2x65) ![g, 0, 0] S1x2x65.size inb).emb j) := by
  rw [emb3 g hg]
  refine (pay19_apply (fun h b => Spec.rowMin (row X ⟨g, hg⟩ h b)) _ _ (fun b => ?_) (fun b => ?_) j).trans rfl
  · rw [pay5_apply, slab_ld X g 0 hg (by decide)]; rfl
  · rw [pay5_apply, slab_ld X g 1 hg (by decide)]; rfl

theorem out0_8_apply (x0 x1 : Vec Ideal S4x2x64x65 .bf16) (y : S4x2x64x65.Idx) :
    out0_8 x0 x1 y = Spec.back (row x0 (y 0) (y 1) (y 3)) (y 2) := by
  refine (congrFun (show out0_8 x0 x1 = View.canon (Val := Elt Ideal) [⟨r0_17, k0_pay7 (View.ld x0 r0_17)⟩, ⟨r0_15, k0_pay7 (View.ld x0 r0_15)⟩, ⟨r0_12, k0_pay7 (View.ld x0 r0_12)⟩, ⟨r0_10, k0_pay7 (View.ld x0 r0_10)⟩, ⟨r0_7, k0_pay7 (View.ld x0 r0_7)⟩, ⟨r0_5, k0_pay7 (View.ld x0 r0_5)⟩, ⟨r0_2, k0_pay7 (View.ld x0 r0_2)⟩, ⟨r0_0, k0_pay7 (View.ld x0 r0_0)⟩] from rfl) y).trans ?_
  refine View.canon_apply_of_pieces (Val := Elt Ideal) (fun y => Spec.back (row x0 (y 0) (y 1) (y 3)) (y 2)) _ (fun p hp j => ?_) y (cover0_8 _ _ _ _ _ _ _ _ y)
  simp only [List.mem_cons, List.not_mem_nil, or_false] at hp
  rcases hp with rfl | rfl | rfl | rfl | rfl | rfl | rfl | rfl
  · exact back_piece x0 3 1 (by decide) (by decide) _ j
  · exact back_piece x0 3 0 (by decide) (by decide) _ j
  · exact back_piece x0 2 1 (by decide) (by decide) _ j
  · exact back_piece x0 2 0 (by decide) (by decide) _ j
  · exact back_piece x0 1 1 (by decide) (by decide) _ j
  · exact back_piece x0 1 0 (by decide) (by decide) _ j
  · exact back_piece x0 0 1 (by decide) (by decide) _ j
  · exact back_piece x0 0 0 (by decide) (by decide) _ j

theorem out0_9_apply (x0 x1 : Vec Ideal S4x2x64x65 .bf16) (y : S4x2x64x65.Idx) :
    out0_9 x0 x1 y = Spec.back (row x1 (y 0) (y 1) (y 3)) (y 2) := by
  refine (congrFun (show out0_9 x0 x1 = View.canon (Val := Elt Ideal) [⟨r0_17, k0_pay7 (View.ld x1 r0_17)⟩, ⟨r0_15, k0_pay7 (View.ld x1 r0_15)⟩, ⟨r0_12, k0_pay7 (View.ld x1 r0_12)⟩, ⟨r0_10, k0_pay7 (View.ld x1 r0_10)⟩, ⟨r0_7, k0_pay7 (View.ld x1 r0_7)⟩, ⟨r0_5, k0_pay7 (View.ld x1 r0_5)⟩, ⟨r0_2, k0_pay7 (View.ld x1 r0_2)⟩, ⟨r0_0, k0_pay7 (View.ld x1 r0_0)⟩] from rfl) y).trans ?_
  refine View.canon_apply_of_pieces (Val := Elt Ideal) (fun y => Spec.back (row x1 (y 0) (y 1) (y 3)) (y 2)) _ (fun p hp j => ?_) y (cover0_9 _ _ _ _ _ _ _ _ y)
  simp only [List.mem_cons, List.not_mem_nil, or_false] at hp
  rcases hp with rfl | rfl | rfl | rfl | rfl | rfl | rfl | rfl
  · exact back_piece x1 3 1 (by decide) (by decide) _ j
  · exact back_piece x1 3 0 (by decide) (by decide) _ j
  · exact back_piece x1 2 1 (by decide) (by decide) _ j
  · exact back_piece x1 2 0 (by decide) (by decide) _ j
  · exact back_piece x1 1 1 (by decide) (by decide) _ j
  · exact back_piece x1 1 0 (by decide) (by decide) _ j
  · exact back_piece x1 0 1 (by decide) (by decide) _ j
  · exact back_piece x1 0 0 (by decide) (by decide) _ j

theorem out0_2_apply (x0 x1 : Vec Ideal S4x2x64x65 .bf16) (y : S4x2x32x65.Idx) :
    out0_2 x0 x1 y = Spec.byte (row x0 (y 0) (y 1) (y 3)) (y 2) := by
  refine (congrFun (show out0_2 x0 x1 = View.canon (Val := Elt Ideal) [⟨r0_18, k0_pay11 (k0_pay9 (F := Ideal) (View.ld x0 r0_17)) (k0_pay10 (F := Ideal) (View.ld x0 r0_17))⟩, ⟨r0_16, k0_pay11 (k0_pay9 (F := Ideal) (View.ld x0 r0_15)) (k0_pay10 (F := Ideal) (View.ld x0 r0_15))⟩, ⟨r0_13, k0_pay11 (k0_pay9 (F := Ideal) (View.ld x0 r0_12)) (k0_pay10 (F := Ideal) (View.ld x0 r0_12))⟩, ⟨r0_11, k0_pay11 (k0_pay9 (F := Ideal) (View.ld x0 r0_10)) (k0_pay10 (F := Ideal) (View.ld x0 r0_10))⟩, ⟨r0_8, k0_pay11 (k0_pay9 (F := Ideal) (View.ld x0 r0_7)) (k0_pay10 (F := Ideal) (View.ld x0 r0_7))⟩, ⟨r0_6, k0_pay11 (k0_pay9 (F := Ideal) (View.ld x0 r0_5)) (k0_pay10 (F := Ideal) (View.ld x0 r0_5))⟩, ⟨r0_3, k0_pay11 (k0_pay9 (F := Ideal) (View.ld x0 r0_2)) (k0_pay10 (F := Ideal) (View.ld x0 r0_2))⟩, ⟨r0_1, k0_pay11 (k0_pay9 (F := Ideal) (View.ld x0 r0_0)) (k0_pay10 (F := Ideal) (View.ld x0 r0_0))⟩] from rfl) y).trans ?_
  refine View.canon_apply_of_pieces (Val := Elt Ideal) (fun y => Spec.byte (row x0 (y 0) (y 1) (y 3)) (y 2)) _ (fun p hp j => ?_) y (cover0_2 _ _ _ _ _ _ _ _ y)
  simp only [List.mem_cons, List.not_mem_nil, or_false] at hp
  rcases hp with rfl | rfl | rfl | rfl | rfl | rfl | rfl | rfl
  · exact byte_piece x0 3 1 (by decide) (by decide) inb_S4x2x64x65_S1x1x64x65_3_1_0_0 inb_S4x2x32x65_S1x1x32x65_3_1_0_0 j
  · exact byte_piece x0 3 0 (by decide) (by decide) inb_S4x2x64x65_S1x1x64x65_3_0_0_0 inb_S4x2x32x65_S1x1x32x65_3_0_0_0 j
  · exact byte_piece x0 2 1 (by decide) (by decide) inb_S4x2x64x65_S1x1x64x65_2_1_0_0 inb_S4x2x32x65_S1x1x32x65_2_1_0_0 j
  · exact byte_piece x0 2 0 (by decide) (by decide) inb_S4x2x64x65_S1x1x64x65_2_0_0_0 inb_S4x2x32x65_S1x1x32x65_2_0_0_0 j
  · exact byte_piece x0 1 1 (by decide) (by decide) inb_S4x2x64x65_S1x1x64x65_1_1_0_0 inb_S4x2x32x65_S1x1x32x65_1_1_0_0 j
  · exact byte_piece x0 1 0 (by decide) (by decide) inb_S4x2x64x65_S1x1x64x65_1_0_0_0 inb_S4x2x32x65_S1x1x32x65_1_0_0_0 j
  · exact byte_piece x0 0 1 (by decide) (by decide) inb_S4x2x64x65_S1x1x64x65_0_1_0_0 inb_S4x2x32x65_S1x1x32x65_0_1_0_0 j
  · exact byte_piece x0 0 0 (by decide) (by decide) inb_S4x2x64x65_S1x1x64x65_0_0_0_0 inb_S4x2x32x65_S1x1x32x65_0_0_0_0 j

theorem out0_5_apply (x0 x1 : Vec Ideal S4x2x64x65 .bf16) (y : S4x2x32x65.Idx) :
    out0_5 x0 x1 y = Spec.byte (row x1 (y 0) (y 1) (y 3)) (y 2) := by
  refine (congrFun (show out0_5 x0 x1 = View.canon (Val := Elt Ideal) [⟨r0_18, k0_pay11 (k0_pay9 (F := Ideal) (View.ld x1 r0_17)) (k0_pay10 (F := Ideal) (View.ld x1 r0_17))⟩, ⟨r0_16, k0_pay11 (k0_pay9 (F := Ideal) (View.ld x1 r0_15)) (k0_pay10 (F := Ideal) (View.ld x1 r0_15))⟩, ⟨r0_13, k0_pay11 (k0_pay9 (F := Ideal) (View.ld x1 r0_12)) (k0_pay10 (F := Ideal) (View.ld x1 r0_12))⟩, ⟨r0_11, k0_pay11 (k0_pay9 (F := Ideal) (View.ld x1 r0_10)) (k0_pay10 (F := Ideal) (View.ld x1 r0_10))⟩, ⟨r0_8, k0_pay11 (k0_pay9 (F := Ideal) (View.ld x1 r0_7)) (k0_pay10 (F := Ideal) (View.ld x1 r0_7))⟩, ⟨r0_6, k0_pay11 (k0_pay9 (F := Ideal) (View.ld x1 r0_5)) (k0_pay10 (F := Ideal) (View.ld x1 r0_5))⟩, ⟨r0_3, k0_pay11 (k0_pay9 (F := Ideal) (View.ld x1 r0_2)) (k0_pay10 (F := Ideal) (View.ld x1 r0_2))⟩, ⟨r0_1, k0_pay11 (k0_pay9 (F := Ideal) (View.ld x1 r0_0)) (k0_pay10 (F := Ideal) (View.ld x1 r0_0))⟩] from rfl) y).trans ?_
  refine View.canon_apply_of_pieces (Val := Elt Ideal) (fun y => Spec.byte (row x1 (y 0) (y 1) (y 3)) (y 2)) _ (fun p hp j => ?_) y (cover0_5 _ _ _ _ _ _ _ _ y)
  simp only [List.mem_cons, List.not_mem_nil, or_false] at hp
  rcases hp with rfl | rfl | rfl | rfl | rfl | rfl | rfl | rfl
  · exact byte_piece x1 3 1 (by decide) (by decide) inb_S4x2x64x65_S1x1x64x65_3_1_0_0 inb_S4x2x32x65_S1x1x32x65_3_1_0_0 j
  · exact byte_piece x1 3 0 (by decide) (by decide) inb_S4x2x64x65_S1x1x64x65_3_0_0_0 inb_S4x2x32x65_S1x1x32x65_3_0_0_0 j
  · exact byte_piece x1 2 1 (by decide) (by decide) inb_S4x2x64x65_S1x1x64x65_2_1_0_0 inb_S4x2x32x65_S1x1x32x65_2_1_0_0 j
  · exact byte_piece x1 2 0 (by decide) (by decide) inb_S4x2x64x65_S1x1x64x65_2_0_0_0 inb_S4x2x32x65_S1x1x32x65_2_0_0_0 j
  · exact byte_piece x1 1 1 (by decide) (by decide) inb_S4x2x64x65_S1x1x64x65_1_1_0_0 inb_S4x2x32x65_S1x1x32x65_1_1_0_0 j
  · exact byte_piece x1 1 0 (by decide) (by decide) inb_S4x2x64x65_S1x1x64x65_1_0_0_0 inb_S4x2x32x65_S1x1x32x65_1_0_0_0 j
  · exact byte_piece x1 0 1 (by decide) (by decide) inb_S4x2x64x65_S1x1x64x65_0_1_0_0 inb_S4x2x32x65_S1x1x32x65_0_1_0_0 j
  · exact byte_piece x1 0 0 (by decide) (by decide) inb_S4x2x64x65_S1x1x64x65_0_0_0_0 inb_S4x2x32x65_S1x1x32x65_0_0_0_0 j

theorem out0_3_apply (x0 x1 : Vec Ideal S4x2x64x65 .bf16) (y : S4x2x65.Idx) :
    out0_3 x0 x1 y = Spec.scale (row x0 (y 0) (y 1) (y 2)) := by
  refine (congrFun (show out0_3 x0 x1 = View.canon (Val := Elt Ideal) [⟨r0_19, k0_pay19 (k0_pay4 (View.ld x0 r0_15)) (k0_pay4 (View.ld x0 r0_17))⟩, ⟨r0_14, k0_pay19 (k0_pay4 (View.ld x0 r0_10)) (k0_pay4 (View.ld x0 r0_12))⟩, ⟨r0_9, k0_pay19 (k0_pay4 (View.ld x0 r0_5)) (k0_pay4 (View.ld x0 r0_7))⟩, ⟨r0_4, k0_pay19 (k0_pay4 (View.ld x0 r0_0)) (k0_pay4 (View.ld x0 r0_2))⟩] from rfl) y).trans ?_
  refine View.canon_apply_of_pieces (Val := Elt Ideal) (fun y => Spec.scale (row x0 (y 0) (y 1) (y 2))) _ (fun p hp j => ?_) y (cover0_3 _ _ _ _ y)
  simp only [List.mem_cons, List.not_mem_nil, or_false] at hp
  rcases hp with rfl | rfl | rfl | rfl
  · exact scale_piece x0 3 (by decide) inb_S4x2x64x65_S1x1x64x65_3_0_0_0 inb_S4x2x64x65_S1x1x64x65_3_1_0_0 inb_S4x2x65_S1x2x65_3_0_0 j
  · exact scale_piece x0 2 (by decide) inb_S4x2x64x65_S1x1x64x65_2_0_0_0 inb_S4x2x64x65_S1x1x64x65_2_1_0_0 inb_S4x2x65_S1x2x65_2_0_0 j
  · exact scale_piece x0 1 (by decide) inb_S4x2x64x65_S1x1x64x65_1_0_0_0 inb_S4x2x64x65_S1x1x64x65_1_1_0_0 inb_S4x2x65_S1x2x65_1_0_0 j
  · exact scale_piece x0 0 (by decide) inb_S4x2x64x65_S1x1x64x65_0_0_0_0 inb_S4x2x64x65_S1x1x64x65_0_1_0_0 inb_S4x2x65_S1x2x65_0_0_0 j

theorem out0_4_apply (x0 x1 : Vec Ideal S4x2x64x65 .bf16) (y : S4x2x65.Idx) :
    out0_4 x0 x1 y = Spec.rowMin (row x0 (y 0) (y 1) (y 2)) := by
  refine (congrFun (show out0_4 x0 x1 = View.canon (Val := Elt Ideal) [⟨r0_19, k0_pay19 (k0_pay5 (View.ld x0 r0_15)) (k0_pay5 (View.ld x0 r0_17))⟩, ⟨r0_14, k0_pay19 (k0_pay5 (View.ld x0 r0_10)) (k0_pay5 (View.ld x0 r0_12))⟩, ⟨r0_9, k0_pay19 (k0_pay5 (View.ld x0 r0_5)) (k0_pay5 (View.ld x0 r0_7))⟩, ⟨r0_4, k0_pay19 (k0_pay5 (View.ld x0 r0_0)) (k0_pay5 (View.ld x0 r0_2))⟩] from rfl) y).trans ?_
  refine View.canon_apply_of_pieces (Val := Elt Ideal) (fun y => Spec.rowMin (row x0 (y 0) (y 1) (y 2))) _ (fun p hp j => ?_) y (cover0_4 _ _ _ _ y)
  simp only [List.mem_cons, List.not_mem_nil, or_false] at hp
  rcases hp with rfl | rfl | rfl | rfl
  · exact rowMin_piece x0 3 (by decide) inb_S4x2x64x65_S1x1x64x65_3_0_0_0 inb_S4x2x64x65_S1x1x64x65_3_1_0_0 inb_S4x2x65_S1x2x65_3_0_0 j
  · exact rowMin_piece x0 2 (by decide) inb_S4x2x64x65_S1x1x64x65_2_0_0_0 inb_S4x2x64x65_S1x1x64x65_2_1_0_0 inb_S4x2x65_S1x2x65_2_0_0 j
  · exact rowMin_piece x0 1 (by decide) inb_S4x2x64x65_S1x1x64x65_1_0_0_0 inb_S4x2x64x65_S1x1x64x65_1_1_0_0 inb_S4x2x65_S1x2x65_1_0_0 j
  · exact rowMin_piece x0 0 (by decide) inb_S4x2x64x65_S1x1x64x65_0_0_0_0 inb_S4x2x64x65_S1x1x64x65_0_1_0_0 inb_S4x2x65_S1x2x65_0_0_0 j

theorem out0_6_apply (x0 x1 : Vec Ideal S4x2x64x65 .bf16) (y : S4x2x65.Idx) :
    out0_6 x0 x1 y = Spec.scale (row x1 (y 0) (y 1) (y 2)) := by
  refine (congrFun (show out0_6 x0 x1 = View.canon (Val := Elt Ideal) [⟨r0_19, k0_pay19 (k0_pay4 (View.ld x1 r0_15)) (k0_pay4 (View.ld x1 r0_17))⟩, ⟨r0_14, k0_pay19 (k0_pay4 (View.ld x1 r0_10)) (k0_pay4 (View.ld x1 r0_12))⟩, ⟨r0_9, k0_pay19 (k0_pay4 (View.ld x1 r0_5)) (k0_pay4 (View.ld x1 r0_7))⟩, ⟨r0_4, k0_pay19 (k0_pay4 (View.ld x1 r0_0)) (k0_pay4 (View.ld x1 r0_2))⟩] from rfl) y).trans ?_
  refine View.canon_apply_of_pieces (Val := Elt Ideal) (fun y => Spec.scale (row x1 (y 0) (y 1) (y 2))) _ (fun p hp j => ?_) y (cover0_6 _ _ _ _ y)
  simp only [List.mem_cons, List.not_mem_nil, or_false] at hp
  rcases hp with rfl | rfl | rfl | rfl
  · exact scale_piece x1 3 (by decide) inb_S4x2x64x65_S1x1x64x65_3_0_0_0 inb_S4x2x64x65_S1x1x64x65_3_1_0_0 inb_S4x2x65_S1x2x65_3_0_0 j
  · exact scale_piece x1 2 (by decide) inb_S4x2x64x65_S1x1x64x65_2_0_0_0 inb_S4x2x64x65_S1x1x64x65_2_1_0_0 inb_S4x2x65_S1x2x65_2_0_0 j
  · exact scale_piece x1 1 (by decide) inb_S4x2x64x65_S1x1x64x65_1_0_0_0 inb_S4x2x64x65_S1x1x64x65_1_1_0_0 inb_S4x2x65_S1x2x65_1_0_0 j
  · exact scale_piece x1 0 (by decide) inb_S4x2x64x65_S1x1x64x65_0_0_0_0 inb_S4x2x64x65_S1x1x64x65_0_1_0_0 inb_S4x2x65_S1x2x65_0_0_0 j

theorem out0_7_apply (x0 x1 : Vec Ideal S4x2x64x65 .bf16) (y : S4x2x65.Idx) :
    out0_7 x0 x1 y = Spec.rowMin (row x1 (y 0) (y 1) (y 2)) := by
  refine (congrFun (show out0_7 x0 x1 = View.canon (Val := Elt Ideal) [⟨r0_19, k0_pay19 (k0_pay5 (View.ld x1 r0_15)) (k0_pay5 (View.ld x1 r0_17))⟩, ⟨r0_14, k0_pay19 (k0_pay5 (View.ld x1 r0_10)) (k0_pay5 (View.ld x1 r0_12))⟩, ⟨r0_9, k0_pay19 (k0_pay5 (View.ld x1 r0_5)) (k0_pay5 (View.ld x1 r0_7))⟩, ⟨r0_4, k0_pay19 (k0_pay5 (View.ld x1 r0_0)) (k0_pay5 (View.ld x1 r0_2))⟩] from rfl) y).trans ?_
  refine View.canon_apply_of_pieces (Val := Elt Ideal) (fun y => Spec.rowMin (row x1 (y 0) (y 1) (y 2))) _ (fun p hp j => ?_) y (cover0_7 _ _ _ _ y)
  simp only [List.mem_cons, List.not_mem_nil, or_false] at hp
  rcases hp with rfl | rfl | rfl | rfl
  · exact rowMin_piece x1 3 (by decide) inb_S4x2x64x65_S1x1x64x65_3_0_0_0 inb_S4x2x64x65_S1x1x64x65_3_1_0_0 inb_S4x2x65_S1x2x65_3_0_0 j
  · exact rowMin_piece x1 2 (by decide) inb_S4x2x64x65_S1x1x64x65_2_0_0_0 inb_S4x2x64x65_S1x1x64x65_2_1_0_0 inb_S4x2x65_S1x2x65_2_0_0 j
  · exact rowMin_piece x1 1 (by decide) inb_S4x2x64x65_S1x1x64x65_1_0_0_0 inb_S4x2x64x65_S1x1x64x65_1_1_0_0 inb_S4x2x65_S1x2x65_1_0_0 j
  · exact rowMin_piece x1 0 (by decide) inb_S4x2x64x65_S1x1x64x65_0_0_0_0 inb_S4x2x64x65_S1x1x64x65_0_1_0_0 inb_S4x2x65_S1x2x65_0_0_0 j

end Cert.KernelIdeal.Out
-- ==== Proof.KernelIdealRes.lean ====
/-
  The six arrays the host returns of the quantiser's outputs, at an index, in terms of the launched rows.
-/
module

public import proofs.«01_k».proof.Proof.KernelIdealRun
public import proofs.«01_k».proof.Proof.KernelIdealOut
public import Idealize.ShloMosaic.Lib.Pipeline.ValueKit

@[expose] public section

noncomputable section

namespace Cert.KernelIdeal.Res

open Cert.KernelIdeal Cert.KernelIdeal.Gen Cert.KernelIdeal.Run
open Idealize.ShloMosaic Idealize.ShloMosaic.TcCoe Idealize.SL.Sem
open Idealize.ShloMosaic.Pipeline (afterRegion)

variable (m : (ℓ : Loc nD τ sig) → Buf (Elt Ideal) ℓ)

/-- The launched row of new keys of batch row `b`, token `s`, head `h`. -/
def krow (c : Dev nD) (b : Fin 65) (s : Fin 4) (h : Fin 2) : Fin 64 → EReal := fun k =>
  (m ((c : Thread nD τ).loc main_arg1) : S65x4x2x64.Idx → EReal) (ix4 b s h k)

/-- The launched row of new values. -/
def vrow (c : Dev nD) (b : Fin 65) (s : Fin 4) (h : Fin 2) : Fin 64 → EReal := fun k =>
  (m ((c : Thread nD τ).loc main_arg2) : S65x4x2x64.Idx → EReal) (ix4 b s h k)

theorem idx : ∀ t : Fin cfg0.N, win0_0.index t = ![0, 0, 0, 0] ∧ win0_1.index t = ![0, 0, 0, 0] :=
  (by decide +kernel : ∀ t : Fin grid0.N, _)

theorem iblk0 (c : Dev nD) (t : Fin cfg0.N) : Quant.iblk (V1 m) c 0 t = V1 m c (Proc.devRef .tc main_v0) := by
  blk_ext! [Quant.iblk, idx t]

theorem iblk1 (c : Dev nD) (t : Fin cfg0.N) : Quant.iblk (V1 m) c 1 t = V1 m c (Proc.devRef .tc main_v1) := by
  blk_ext! [Quant.iblk, idx t]

theorem row_v0 (c : Dev nD) (s : Fin 4) (h : Fin 2) (b : Fin 65) :
    Out.row (V1 m c (Proc.devRef .tc main_v0)) s h b = krow m c b s h := by
  funext k
  refine (congrFun (show (V1 m c (Proc.devRef .tc main_v0) : S4x2x64x65.Idx → EReal) =
    transpose S4x2x64x65 [1, 2, 3, 0] (m ((c : Thread nD τ).loc main_arg1)) transposes_S65x4x2x64_S4x2x64x65_1_2_3_0 from rfl) (ix4 s h k b)).trans ?_
  pointwise
  rfl

theorem row_v1 (c : Dev nD) (s : Fin 4) (h : Fin 2) (b : Fin 65) :
    Out.row (V1 m c (Proc.devRef .tc main_v1)) s h b = vrow m c b s h := by
  funext k
  refine (congrFun (show (V1 m c (Proc.devRef .tc main_v1) : S4x2x64x65.Idx → EReal) =
    transpose S4x2x64x65 [1, 2, 3, 0] (m ((c : Thread nD τ).loc main_arg2)) transposes_S65x4x2x64_S4x2x64x65_1_2_3_0 from rfl) (ix4 s h k b)).trans ?_
  pointwise
  rfl

theorem arr2 (c : Dev nD) :
    (Quant.dat (V1 m) c).arrAt 2 cfg0.N = Quant.out0_2 (V1 m c (Proc.devRef .tc main_v0)) (V1 m c (Proc.devRef .tc main_v1)) := by
  refine (Quant.dat (V1 m) c).arrAt_eq_of_after_last 2 t0_0 (by decide +kernel) _ fun j => ?_
  blk_simp
  rw [Quant.after0_2, iblk0, iblk1]

theorem outs2 (c : Dev nD) :
    outsQ m 2 main_v2_0 c = Quant.out0_2 (V1 m c (Proc.devRef .tc main_v0)) (V1 m c (Proc.devRef .tc main_v1)) :=
  (Pipeline.afterRegion_arr (Quant.dat (V1 m) c) (V1 m c) winFacts0.arr_inj 2).trans (arr2 m c)

theorem arr3 (c : Dev nD) :
    (Quant.dat (V1 m) c).arrAt 3 cfg0.N = Quant.out0_3 (V1 m c (Proc.devRef .tc main_v0)) (V1 m c (Proc.devRef .tc main_v1)) := by
  refine (Quant.dat (V1 m) c).arrAt_eq_of_after_last 3 t0_0 (by decide +kernel) _ fun j => ?_
  blk_simp
  rw [Quant.after0_3, iblk0, iblk1]

theorem outs3 (c : Dev nD) :
    outsQ m 2 main_v2_1 c = Quant.out0_3 (V1 m c (Proc.devRef .tc main_v0)) (V1 m c (Proc.devRef .tc main_v1)) :=
  (Pipeline.afterRegion_arr (Quant.dat (V1 m) c) (V1 m c) winFacts0.arr_inj 3).trans (arr3 m c)

theorem arr4 (c : Dev nD) :
    (Quant.dat (V1 m) c).arrAt 4 cfg0.N = Quant.out0_4 (V1 m c (Proc.devRef .tc main_v0)) (V1 m c (Proc.devRef .tc main_v1)) := by
  refine (Quant.dat (V1 m) c).arrAt_eq_of_after_last 4 t0_0 (by decide +kernel) _ fun j => ?_
  blk_simp
  rw [Quant.after0_4, iblk0, iblk1]

theorem outs4 (c : Dev nD) :
    outsQ m 2 main_v2_2 c = Quant.out0_4 (V1 m c (Proc.devRef .tc main_v0)) (V1 m c (Proc.devRef .tc main_v1)) :=
  (Pipeline.afterRegion_arr (Quant.dat (V1 m) c) (V1 m c) winFacts0.arr_inj 4).trans (arr4 m c)

theorem arr5 (c : Dev nD) :
    (Quant.dat (V1 m) c).arrAt 5 cfg0.N = Quant.out0_5 (V1 m c (Proc.devRef .tc main_v0)) (V1 m c (Proc.devRef .tc main_v1)) := by
  refine (Quant.dat (V1 m) c).arrAt_eq_of_after_last 5 t0_0 (by decide +kernel) _ fun j => ?_
  blk_simp
  rw [Quant.after0_5, iblk0, iblk1]

theorem outs5 (c : Dev nD) :
    outsQ m 2 main_v2_3 c = Quant.out0_5 (V1 m c (Proc.devRef .tc main_v0)) (V1 m c (Proc.devRef .tc main_v1)) :=
  (Pipeline.afterRegion_arr (Quant.dat (V1 m) c) (V1 m c) winFacts0.arr_inj 5).trans (arr5 m c)

theorem arr6 (c : Dev nD) :
    (Quant.dat (V1 m) c).arrAt 6 cfg0.N = Quant.out0_6 (V1 m c (Proc.devRef .tc main_v0)) (V1 m c (Proc.devRef .tc main_v1)) := by
  refine (Quant.dat (V1 m) c).arrAt_eq_of_after_last 6 t0_0 (by decide +kernel) _ fun j => ?_
  blk_simp
  rw [Quant.after0_6, iblk0, iblk1]

theorem outs6 (c : Dev nD) :
    outsQ m 2 main_v2_4 c = Quant.out0_6 (V1 m c (Proc.devRef .tc main_v0)) (V1 m c (Proc.devRef .tc main_v1)) :=
  (Pipeline.afterRegion_arr (Quant.dat (V1 m) c) (V1 m c) winFacts0.arr_inj 6).trans (arr6 m c)

theorem arr7 (c : Dev nD) :
    (Quant.dat (V1 m) c).arrAt 7 cfg0.N = Quant.out0_7 (V1 m c (Proc.devRef .tc main_v0)) (V1 m c (Proc.devRef .tc main_v1)) := by
  refine (Quant.dat (V1 m) c).arrAt_eq_of_after_last 7 t0_0 (by decide +kernel) _ fun j => ?_
  blk_simp
  rw [Quant.after0_7, iblk0, iblk1]

theorem outs7 (c : Dev nD) :
    outsQ m 2 main_v2_5 c = Quant.out0_7 (V1 m c (Proc.devRef .tc main_v0)) (V1 m c (Proc.devRef .tc main_v1)) :=
  (Pipeline.afterRegion_arr (Quant.dat (V1 m) c) (V1 m c) winFacts0.arr_inj 7).trans (arr7 m c)

theorem arr8 (c : Dev nD) :
    (Quant.dat (V1 m) c).arrAt 8 cfg0.N = Quant.out0_8 (V1 m c (Proc.devRef .tc main_v0)) (V1 m c (Proc.devRef .tc main_v1)) := by
  refine (Quant.dat (V1 m) c).arrAt_eq_of_after_last 8 t0_0 (by decide +kernel) _ fun j => ?_
  blk_simp
  rw [Quant.after0_8, iblk0, iblk1]

theorem outs8 (c : Dev nD) :
    outsQ m 2 main_v2_6 c = Quant.out0_8 (V1 m c (Proc.devRef .tc main_v0)) (V1 m c (Proc.devRef .tc main_v1)) :=
  (Pipeline.afterRegion_arr (Quant.dat (V1 m) c) (V1 m c) winFacts0.arr_inj 8).trans (arr8 m c)

theorem arr9 (c : Dev nD) :
    (Quant.dat (V1 m) c).arrAt 9 cfg0.N = Quant.out0_9 (V1 m c (Proc.devRef .tc main_v0)) (V1 m c (Proc.devRef .tc main_v1)) := by
  refine (Quant.dat (V1 m) c).arrAt_eq_of_after_last 9 t0_0 (by decide +kernel) _ fun j => ?_
  blk_simp
  rw [Quant.after0_9, iblk0, iblk1]

theorem outs9 (c : Dev nD) :
    outsQ m 2 main_v2_7 c = Quant.out0_9 (V1 m c (Proc.devRef .tc main_v0)) (V1 m c (Proc.devRef .tc main_v1)) :=
  (Pipeline.afterRegion_arr (Quant.dat (V1 m) c) (V1 m c) winFacts0.arr_inj 9).trans (arr9 m c)

variable (h : Short m)

theorem v36_apply (c : Dev nD) (b : Fin 65) (s : Fin 4) (g : Fin 2) (d : Fin 32) :
    (V9 m (outs m h) c (Proc.devRef .tc main_v36) : S65x4x2x32.Idx → BitVec 8) (ix4 b s g d) = Spec.byte (krow m c b s g) d := by
  refine (congrFun (show (V9 m (outs m h) c (Proc.devRef .tc main_v36) : S65x4x2x32.Idx → BitVec 8) =
    transpose S65x4x2x32 [3, 0, 1, 2] (outsQ m 2 main_v2_0 c) transposes_S4x2x32x65_S65x4x2x32_3_0_1_2 from rfl) (ix4 b s g d)).trans ?_
  rw [outs2]
  pointwise
  refine (Out.out0_2_apply _ _ (ix4 s g d b)).trans ?_
  exact congrArg (Spec.byte · d) (row_v0 m c s g b)

theorem v38_apply (c : Dev nD) (b : Fin 65) (s : Fin 4) (g : Fin 2) :
    (V9 m (outs m h) c (Proc.devRef .tc main_v38) : S65x4x2x1.Idx → EReal) (ix4 b s g 0) = Spec.scale (krow m c b s g) := by
  refine (congrFun (show (V9 m (outs m h) c (Proc.devRef .tc main_v38) : S65x4x2x1.Idx → EReal) =
    broadcastInDim S65x4x2x1 ![0, 1, 2] bcast_S65x4x2_S65x4x2x1_0_1_2
      (transpose S65x4x2 [2, 0, 1] (outsQ m 2 main_v2_1 c) transposes_S4x2x65_S65x4x2_2_0_1) from rfl) (ix4 b s g 0)).trans ?_
  rw [outs3]
  pointwise
  refine (Out.out0_3_apply _ _ (ix3 s g b)).trans ?_
  exact congrArg Spec.scale (row_v0 m c s g b)

theorem v40_apply (c : Dev nD) (b : Fin 65) (s : Fin 4) (g : Fin 2) :
    (V9 m (outs m h) c (Proc.devRef .tc main_v40) : S65x4x2x1.Idx → EReal) (ix4 b s g 0) = Spec.rowMin (krow m c b s g) := by
  refine (congrFun (show (V9 m (outs m h) c (Proc.devRef .tc main_v40) : S65x4x2x1.Idx → EReal) =
    broadcastInDim S65x4x2x1 ![0, 1, 2] bcast_S65x4x2_S65x4x2x1_0_1_2
      (transpose S65x4x2 [2, 0, 1] (outsQ m 2 main_v2_2 c) transposes_S4x2x65_S65x4x2_2_0_1) from rfl) (ix4 b s g 0)).trans ?_
  rw [outs4]
  pointwise
  refine (Out.out0_4_apply _ _ (ix3 s g b)).trans ?_
  exact congrArg Spec.rowMin (row_v0 m c s g b)

theorem v41_apply (c : Dev nD) (b : Fin 65) (s : Fin 4) (g : Fin 2) (d : Fin 32) :
    (V9 m (outs m h) c (Proc.devRef .tc main_v41) : S65x4x2x32.Idx → BitVec 8) (ix4 b s g d) = Spec.byte (vrow m c b s g) d := by
  refine (congrFun (show (V9 m (outs m h) c (Proc.devRef .tc main_v41) : S65x4x2x32.Idx → BitVec 8) =
    transpose S65x4x2x32 [3, 0, 1, 2] (outsQ m 2 main_v2_3 c) transposes_S4x2x32x65_S65x4x2x32_3_0_1_2 from rfl) (ix4 b s g d)).trans ?_
  rw [outs5]
  pointwise
  refine (Out.out0_5_apply _ _ (ix4 s g d b)).trans ?_
  exact congrArg (Spec.byte · d) (row_v1 m c s g b)

theorem v43_apply (c : Dev nD) (b : Fin 65) (s : Fin 4) (g : Fin 2) :
    (V9 m (outs m h) c (Proc.devRef .tc main_v43) : S65x4x2x1.Idx → EReal) (ix4 b s g 0) = Spec.scale (vrow m c b s g) := by
  refine (congrFun (show (V9 m (outs m h) c (Proc.devRef .tc main_v43) : S65x4x2x1.Idx → EReal) =
    broadcastInDim S65x4x2x1 ![0, 1, 2] bcast_S65x4x2_S65x4x2x1_0_1_2
      (transpose S65x4x2 [2, 0, 1] (outsQ m 2 main_v2_4 c) transposes_S4x2x65_S65x4x2_2_0_1) from rfl) (ix4 b s g 0)).trans ?_
  rw [outs6]
  pointwise
  refine (Out.out0_6_apply _ _ (ix3 s g b)).trans ?_
  exact congrArg Spec.scale (row_v1 m c s g b)

theorem v45_apply (c : Dev nD) (b : Fin 65) (s : Fin 4) (g : Fin 2) :
    (V9 m (outs m h) c (Proc.devRef .tc main_v45) : S65x4x2x1.Idx → EReal) (ix4 b s g 0) = Spec.rowMin (vrow m c b s g) := by
  refine (congrFun (show (V9 m (outs m h) c (Proc.devRef .tc main_v45) : S65x4x2x1.Idx → EReal) =
    broadcastInDim S65x4x2x1 ![0, 1, 2] bcast_S65x4x2_S65x4x2x1_0_1_2
      (transpose S65x4x2 [2, 0, 1] (outsQ m 2 main_v2_5 c) transposes_S4x2x65_S65x4x2_2_0_1) from rfl) (ix4 b s g 0)).trans ?_
  rw [outs7]
  pointwise
  refine (Out.out0_7_apply _ _ (ix3 s g b)).trans ?_
  exact congrArg Spec.rowMin (row_v1 m c s g b)

end Cert.KernelIdeal.Res
-- ==== Proof.Softmax.lean ====
/-
  The softmax-weighted sum over the extended reals, in the two forms the programs compute it in. A score is a number or
  `⊥` (masked); the values it weighs may be infinite. The kernel keeps a running maximum, a running sum and a running
  weighted sum, rescaling the two sums whenever the maximum moves; the reference divides every weight by their sum
  first. Both are the weighted sum over the sum of the weights `exp (score / 8)`, whatever number the scores are
  shifted by.
-/
module

public import Idealize.ShloMosaic.Lib.Pointwise

@[expose] public section

noncomputable section

namespace Cert.Softmax

open Idealize.ShloMosaic

/-- A score's weight, unshifted. -/
def W (x : EReal) : ℝ := if x = ⊥ then 0 else Real.exp (x.toReal / 8)

theorem W_nonneg (x : EReal) : 0 ≤ W x := by unfold W; split; exacts [le_rfl, (Real.exp_pos _).le]

theorem W_bot : W ⊥ = 0 := if_pos rfl

theorem W_coe (r : ℝ) : W (r : EReal) = Real.exp (r / 8) := by
  unfold W; rw [if_neg (EReal.coe_ne_bot r), EReal.toReal_coe]

theorem W_pos (x : EReal) (hb : x ≠ ⊥) : 0 < W x := by unfold W; rw [if_neg hb]; exact Real.exp_pos _

/-- The kernel's scale: an eighth, for a power of two. -/
abbrev cs : EReal := (((1 / 8) * (Real.log 2)⁻¹ : ℝ) : EReal)

theorem exp2_coe (r : ℝ) : Ideal.exp2 (r : EReal) = (Real.exp (r * Real.log 2) : ℝ) := by
  show ((Real.rpow 2 r : ℝ) : EReal) = _
  rw [show Real.rpow 2 r = (2 : ℝ) ^ r from rfl, Real.rpow_def_of_pos (by norm_num), mul_comm]

theorem log2_ne : Real.log 2 ≠ 0 := (Real.log_pos (by norm_num)).ne'

theorem kexp (x : EReal) (hx : x ≠ ⊤) (μ : ℝ) :
    Ideal.exp2 ((x - (μ : EReal)) * cs) = ((Real.exp (-μ / 8) * W x : ℝ) : EReal) := by
  induction x with
  | bot =>
    have hc : (0 : ℝ) < (1 / 8) * (Real.log 2)⁻¹ := by
      have := Real.log_pos (show (1 : ℝ) < 2 by norm_num); positivity
    rw [show (⊥ : EReal) - (μ : EReal) = ⊥ from EReal.bot_sub _, EReal.bot_mul_coe_of_pos hc, W_bot, mul_zero]
    rfl
  | top => exact absurd rfl hx
  | coe r =>
    rw [← EReal.coe_sub, ← EReal.coe_mul, exp2_coe, W_coe, ← Real.exp_add]
    congr 2
    field_simp [log2_ne]
    ring

theorem krescale (μ ν : ℝ) : Ideal.exp2 (((μ : EReal) - (ν : EReal)) * cs) = ((Real.exp ((μ - ν) / 8) : ℝ) : EReal) := by
  rw [← EReal.coe_sub, ← EReal.coe_mul, exp2_coe]
  congr 2
  field_simp [log2_ne]

theorem rexp (x : EReal) (hx : x ≠ ⊤) (M : ℝ) :
    Ideal.exp (x * ((1 / 8 : ℝ) : EReal) - (M : EReal)) = ((Real.exp (-M) * W x : ℝ) : EReal) := by
  induction x with
  | bot =>
    rw [EReal.bot_mul_coe_of_pos (by norm_num), show (⊥ : EReal) - (M : EReal) = ⊥ from EReal.bot_sub _, W_bot, mul_zero]
    rfl
  | top => exact absurd rfl hx
  | coe r =>
    rw [← EReal.coe_mul, ← EReal.coe_sub, W_coe, ← Real.exp_add]
    show ((Real.exp _ : ℝ) : EReal) = _
    congr 2
    ring

theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem mul_sum {ι : Type*} (r : ℝ) (hr : 0 ≤ r) (s : Finset ι) (v : ι → EReal) :
    (r : EReal) * ∑ i ∈ s, v i = ∑ i ∈ s, (r : EReal) * v i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

theorem fold_max_ne_top {ι : Type*} (s : Finset ι) (f : ι → EReal) (hf : ∀ i, f i ≠ ⊤) : Finset.fold max ⊥ f s ≠ ⊤ :=
  ne_of_lt ((Finset.fold_max_lt ⊤).2 ⟨bot_lt_top, fun i _ => lt_top_iff_ne_top.2 (hf i)⟩)

theorem le_fold_max {ι : Type*} (s : Finset ι) (f : ι → EReal) (i : ι) (hi : i ∈ s) : f i ≤ Finset.fold max ⊥ f s :=
  (Finset.le_fold_max _).2 (Or.inr ⟨i, hi, le_rfl⟩)

/-- A maximum, a sum and a weighted sum over scores of total weight `A` and total weighted value `B`, shifted by the
    maximum. -/
def Inv (m l acc : EReal) (A : ℝ) (B : EReal) : Prop :=
  ∃ μ : ℝ, m = μ ∧ l = ((Real.exp (-μ / 8) * A : ℝ) : EReal) ∧ acc = ((Real.exp (-μ / 8) : ℝ) : EReal) * B

theorem sum_shift {n : Nat} (f v : Fin n → EReal) (hf : ∀ i, f i ≠ ⊤) (μ : ℝ) :
    (∑ i, Ideal.exp2 ((f i - (μ : EReal)) * cs)) = ((Real.exp (-μ / 8) * ∑ i, W (f i) : ℝ) : EReal) ∧
    (∑ i, Ideal.exp2 ((f i - (μ : EReal)) * cs) * v i) = ((Real.exp (-μ / 8) : ℝ) : EReal) * ∑ i, (W (f i) : EReal) * v i := by
  constructor
  · rw [Finset.mul_sum, ← sum_coe]
    exact Finset.sum_congr rfl fun i _ => kexp _ (hf i) μ
  · rw [mul_sum _ (Real.exp_pos _).le]
    refine Finset.sum_congr rfl fun i _ => ?_
    rw [kexp _ (hf i) μ, EReal.coe_mul, mul_assoc]

theorem init {n : Nat} (f v : Fin n → EReal) (hf : ∀ i, f i ≠ ⊤) (i₀ : Fin n) (h₀ : f i₀ ≠ ⊥) :
    Inv (Finset.fold max ⊥ f Finset.univ)
      (∑ i, Ideal.exp2 ((f i - Finset.fold max ⊥ f Finset.univ) * cs))
      (∑ i, Ideal.exp2 ((f i - Finset.fold max ⊥ f Finset.univ) * cs) * v i)
      (∑ i, W (f i)) (∑ i, (W (f i) : EReal) * v i) := by
  have ht := fold_max_ne_top Finset.univ f hf
  have hb : Finset.fold max ⊥ f Finset.univ ≠ ⊥ :=
    fun e => h₀ (le_bot_iff.1 (e ▸ le_fold_max Finset.univ f i₀ (Finset.mem_univ _)))
  generalize Finset.fold max ⊥ f Finset.univ = m at ht hb
  lift m to ℝ using ⟨ht, hb⟩ with μ
  exact ⟨μ, rfl, (sum_shift f v hf μ).1, (sum_shift f v hf μ).2⟩

theorem step {n : Nat} (f v : Fin n → EReal) (hf : ∀ i, f i ≠ ⊤) {m l acc : EReal} {A : ℝ} {B : EReal} (hA : 0 ≤ A)
    (h : Inv m l acc A B) :
    Inv (max m (Finset.fold max ⊥ f Finset.univ))
      (l * Ideal.exp2 ((m - max m (Finset.fold max ⊥ f Finset.univ)) * cs) +
        ∑ i, Ideal.exp2 ((f i - max m (Finset.fold max ⊥ f Finset.univ)) * cs))
      (acc * Ideal.exp2 ((m - max m (Finset.fold max ⊥ f Finset.univ)) * cs) +
        ∑ i, Ideal.exp2 ((f i - max m (Finset.fold max ⊥ f Finset.univ)) * cs) * v i)
      (A + ∑ i, W (f i)) (B + ∑ i, (W (f i) : EReal) * v i) := by
  obtain ⟨μ, rfl, rfl, rfl⟩ := h
  have ht : max (μ : EReal) (Finset.fold max ⊥ f Finset.univ) ≠ ⊤ := by
    rcases max_choice (μ : EReal) (Finset.fold max ⊥ f Finset.univ) with e | e <;> rw [e]
    exacts [EReal.coe_ne_top μ, fold_max_ne_top Finset.univ f hf]
  have hb : max (μ : EReal) (Finset.fold max ⊥ f Finset.univ) ≠ ⊥ :=
    fun e => EReal.coe_ne_bot μ (le_bot_iff.1 (e ▸ le_max_left _ _))
  generalize max (μ : EReal) (Finset.fold max ⊥ f Finset.univ) = m at ht hb
  lift m to ℝ using ⟨ht, hb⟩ with ν
  have key : Real.exp (-μ / 8) * Real.exp ((μ - ν) / 8) = Real.exp (-ν / 8) := by
    rw [← Real.exp_add]; congr 1; ring
  refine ⟨ν, rfl, ?_, ?_⟩
  · rw [krescale, (sum_shift f v hf ν).1, ← EReal.coe_mul, ← EReal.coe_add]
    congr 1
    rw [mul_add, mul_right_comm, key]
  · rw [krescale, (sum_shift f v hf ν).2, mul_right_comm, ← EReal.coe_mul, key,
      EReal.left_distrib_of_nonneg_of_ne_top (by exact_mod_cast (Real.exp_pos _).le) (EReal.coe_ne_top _)]

theorem div_coe (x : EReal) (r : ℝ) (hr : r ≠ 0) : Ideal.div x (r : EReal) = x * ((r⁻¹ : ℝ) : EReal) := by
  unfold Ideal.div
  rw [if_neg (by exact_mod_cast hr), EReal.coe_inv]

theorem final {m l acc : EReal} {A : ℝ} {B : EReal} (hA : 0 < A) (h : Inv m l acc A B) :
    Ideal.div acc l = B * ((A⁻¹ : ℝ) : EReal) := by
  obtain ⟨μ, rfl, rfl, rfl⟩ := h
  have he := Real.exp_pos (-μ / 8)
  rw [div_coe _ _ (mul_pos he hA).ne', mul_right_comm, ← EReal.coe_mul, mul_comm]
  congr 2
  field_simp

/-- The reference's form: each weight divided by the sum first. -/
theorem reference {a b : Nat} (fN vN : Fin a → EReal) (fC vC : Fin b → EReal) (hN : ∀ i, fN i ≠ ⊤) (hC : ∀ i, fC i ≠ ⊤)
    (hpos : 0 < (∑ i, W (fN i)) + ∑ i, W (fC i)) (M : ℝ) :
    (∑ t, (Ideal.exp (fC t * ((1 / 8 : ℝ) : EReal) - (M : EReal)) *
        Ideal.div 1 ((∑ t, Ideal.exp (fC t * ((1 / 8 : ℝ) : EReal) - (M : EReal))) + ∑ u, Ideal.exp (fN u * ((1 / 8 : ℝ) : EReal) - (M : EReal)))) * vC t) +
      (∑ u, (Ideal.exp (fN u * ((1 / 8 : ℝ) : EReal) - (M : EReal)) *
        Ideal.div 1 ((∑ t, Ideal.exp (fC t * ((1 / 8 : ℝ) : EReal) - (M : EReal))) + ∑ u, Ideal.exp (fN u * ((1 / 8 : ℝ) : EReal) - (M : EReal)))) * vN u) =
    ((∑ i, (W (fN i) : EReal) * vN i) + ∑ i, (W (fC i) : EReal) * vC i) * ((((∑ i, W (fN i)) + ∑ i, W (fC i))⁻¹ : ℝ) : EReal) := by
  have he := Real.exp_pos (-M)
  have eN : ∀ u, Ideal.exp (fN u * ((1 / 8 : ℝ) : EReal) - (M : EReal)) = ((Real.exp (-M) * W (fN u) : ℝ) : EReal) := fun u => rexp _ (hN u) M
  have eC : ∀ u, Ideal.exp (fC u * ((1 / 8 : ℝ) : EReal) - (M : EReal)) = ((Real.exp (-M) * W (fC u) : ℝ) : EReal) := fun u => rexp _ (hC u) M
  simp only [eN, eC, sum_coe, ← EReal.coe_add, ← Finset.mul_sum]
  rw [← mul_add, add_comm (∑ i, W (fC i)), div_coe _ _ (mul_pos he hpos).ne', one_mul]
  set A := (∑ i, W (fN i)) + ∑ i, W (fC i) with hAdef
  have e1 : ∀ w : ℝ, ((Real.exp (-M) * w : ℝ) : EReal) * (((Real.exp (-M) * A)⁻¹ : ℝ) : EReal) = ((A⁻¹ : ℝ) : EReal) * (w : EReal) := by
    intro w
    rw [← EReal.coe_mul, ← EReal.coe_mul]
    congr 1
    have := hpos.ne'
    field_simp
  simp only [e1, mul_assoc]
  rw [← mul_sum _ (inv_nonneg.2 hpos.le), ← mul_sum _ (inv_nonneg.2 hpos.le),
    ← EReal.left_distrib_of_nonneg_of_ne_top (by exact_mod_cast inv_nonneg.2 hpos.le) (EReal.coe_ne_top _), mul_comm, add_comm]

end Cert.Softmax
-- ==== Proof.Unpack.lean ====
/-
  Reading a packed row back: the two codes of a byte, and the number each stands for. A row packed by the quantiser
  reads back as its levels; every number read back from finite data is finite.
-/
module

public import proofs.«01_k».proof.Proof.Spec

@[expose] public section

noncomputable section

namespace Cert.Spec

open Idealize.ShloMosaic

/-- The code of lane `d` of a packed row. -/
def unpack (codes : Fin 32 → BitVec 8) (d : Fin 64) : BitVec 32 :=
  if d.val % 2 < 1 then IntOp.andi (BitVec.setWidth 32 (codes ⟨d.val / 2, by omega⟩)) 15#32
  else IntOp.shrsi ArithUnit.vector (BitVec.setWidth 32 (codes ⟨d.val / 2, by omega⟩)) 4#32

/-- The number of lane `d` of a packed row. -/
def deq (codes : Fin 32 → BitVec 8) (sc ze : EReal) (d : Fin 64) : EReal := (((unpack codes d).toInt : ℝ) : EReal) * sc + ze

/-- A level is a whole number from 0 to 15, whatever the row. -/
theorem level_nat (r : Fin 64 → EReal) (d : Fin 64) : ∃ n : Fin 16, level r d = ((n.val : ℝ) : EReal) := by
  unfold level
  have h15 : ((((15#32 : BitVec 32).toInt : ℝ)) : EReal) = (((15 : ℤ) : ℝ) : EReal) := by
    rw [show (15#32 : BitVec 32).toInt = 15 by decide]
  have h0 : ((((0#32 : BitVec 32).toInt : ℝ)) : EReal) = (((0 : ℤ) : ℝ) : EReal) := by
    rw [show (0#32 : BitVec 32).toInt = 0 by decide]
  rw [h15, h0]
  generalize Ideal.div (r d - rowMin r) (scale r) = x
  induction x with
  | bot =>
    refine ⟨0, ?_⟩
    rw [show Ideal.liftRound Ideal.roundHalfEven ⊥ = ⊥ from rfl, max_bot_right, min_eq_right (by exact_mod_cast (by norm_num : (0 : ℤ) ≤ 15))]
    simp
  | top =>
    refine ⟨15, ?_⟩
    rw [show Ideal.liftRound Ideal.roundHalfEven ⊤ = ⊤ from rfl, max_top_right, min_top_right]
    norm_cast
  | coe q =>
    rw [show Ideal.liftRound Ideal.roundHalfEven (q : EReal) = (((Ideal.roundHalfEven q : ℤ) : ℝ) : EReal) from rfl]
    generalize Ideal.roundHalfEven q = z
    have e : min ((((15 : ℤ) : ℝ)) : EReal) (max ((((0 : ℤ) : ℝ)) : EReal) (((z : ℤ) : ℝ) : EReal)) = (((min 15 (max 0 z) : ℤ) : ℝ) : EReal) := by
      rw [← EReal.coe_strictMono.monotone.map_max, ← EReal.coe_strictMono.monotone.map_min]
      push_cast
      rfl
    refine ⟨⟨(min 15 (max 0 z)).toNat, by omega⟩, e.trans ?_⟩
    congr 1
    have : ((min 15 (max 0 z)).toNat : ℤ) = min 15 (max 0 z) := Int.toNat_of_nonneg (by omega)
    exact_mod_cast congrArg (Int.cast : ℤ → ℝ) this.symm

theorem fptosi_nat (n : Fin 16) : FloatOps.fptosi (F := Ideal) (φ := .f32) 32 (((n.val : ℝ) : EReal)) = BitVec.ofNat 32 n.val := by
  show BitVec.ofInt 32 (Ideal.toIntClamped _ _ (((n.val : ℝ) : EReal))) = _
  have e : Ideal.toIntClamped (-(2 ^ (32 - 1) : Nat)) ((2 ^ (32 - 1) : Nat) - 1) (((n.val : ℝ) : EReal)) = (n.val : ℤ) := by
    show max _ (min _ (if (0 : ℝ) ≤ (n.val : ℝ) then ⌊(n.val : ℝ)⌋ else ⌈(n.val : ℝ)⌉)) = _
    rw [if_pos (Nat.cast_nonneg _), Int.floor_natCast]
    have := n.isLt
    omega
  rw [e, BitVec.ofInt_natCast]

theorem low_nibble : ∀ n k : Fin 16, (IntOp.andi (BitVec.setWidth 32 (BitVec.setWidth 8 (IntOp.ori (BitVec.ofNat 32 n.val)
    (IntOp.shli ArithUnit.vector (BitVec.ofNat 32 k.val) 4#32)))) 15#32).toInt = n.val := by decide +kernel

theorem high_nibble : ∀ n k : Fin 16, (IntOp.shrsi ArithUnit.vector (BitVec.setWidth 32 (BitVec.setWidth 8 (IntOp.ori (BitVec.ofNat 32 n.val)
    (IntOp.shli ArithUnit.vector (BitVec.ofNat 32 k.val) 4#32)))) 4#32).toInt = k.val := by decide +kernel

theorem unpack_byte (r : Fin 64 → EReal) (d : Fin 64) : (((unpack (byte r) d).toInt : ℝ) : EReal) = level r d := by
  unfold unpack byte word
  obtain ⟨n, hn⟩ := level_nat r (ev ⟨d.val / 2, by omega⟩)
  obtain ⟨k, hk⟩ := level_nat r (od ⟨d.val / 2, by omega⟩)
  simp only [hn, hk, fptosi_nat]
  split
  · rename_i h
    rw [low_nibble, show d = ev ⟨d.val / 2, by omega⟩ from Fin.ext (by show d.val = d.val / 2 * 2; omega), hn]
    norm_cast
  · rename_i h
    rw [high_nibble, show d = od ⟨d.val / 2, by omega⟩ from Fin.ext (by show d.val = d.val / 2 * 2 + 1; omega), hk]
    norm_cast

/-- A row packed by the quantiser reads back as the quantiser reads it back. -/
theorem deq_byte (r : Fin 64 → EReal) (d : Fin 64) : deq (byte r) (scale r) (rowMin r) d = back r d := by
  unfold deq back; rw [unpack_byte]

/-! ## Finite data -/

/-- A finite extended real. -/
def Fin' (x : EReal) : Prop := x ≠ ⊤ ∧ x ≠ ⊥

theorem fin_coe (r : ℝ) : Fin' (r : EReal) := ⟨EReal.coe_ne_top r, EReal.coe_ne_bot r⟩

theorem fin_iff {x : EReal} : Fin' x ↔ ∃ r : ℝ, x = (r : EReal) :=
  ⟨fun h => by lift x to ℝ using h with r; exact ⟨r, rfl⟩, by rintro ⟨r, rfl⟩; exact fin_coe r⟩

theorem Fin'.add {x y : EReal} (hx : Fin' x) (hy : Fin' y) : Fin' (x + y) := by
  obtain ⟨a, rfl⟩ := fin_iff.1 hx; obtain ⟨b, rfl⟩ := fin_iff.1 hy; rw [← EReal.coe_add]; exact fin_coe _

theorem Fin'.sub {x y : EReal} (hx : Fin' x) (hy : Fin' y) : Fin' (x - y) := by
  obtain ⟨a, rfl⟩ := fin_iff.1 hx; obtain ⟨b, rfl⟩ := fin_iff.1 hy; rw [← EReal.coe_sub]; exact fin_coe _

theorem Fin'.mul {x y : EReal} (hx : Fin' x) (hy : Fin' y) : Fin' (x * y) := by
  obtain ⟨a, rfl⟩ := fin_iff.1 hx; obtain ⟨b, rfl⟩ := fin_iff.1 hy; rw [← EReal.coe_mul]; exact fin_coe _

theorem Fin'.sum {ι : Type*} (s : Finset ι) (f : ι → EReal) (h : ∀ i, Fin' (f i)) : Fin' (∑ i ∈ s, f i) := by
  classical
  induction s using Finset.induction_on with
  | empty => simpa using fin_coe 0
  | insert a s ha ih => rw [Finset.sum_insert ha]; exact (h a).add ih

theorem rowMin_fin (r : Fin 64 → EReal) (h : ∀ k, Fin' (r k)) : Fin' (rowMin r) := by
  have e : Ideal.ofBits .f32 2139095040#32 = ⊤ := by simp [Ideal.ofBits, Ideal.ieee]
  unfold rowMin; rw [e]
  exact ⟨ne_of_lt ((Finset.fold_min_lt ⊤).2 (Or.inr ⟨0, Finset.mem_univ _, lt_top_iff_ne_top.2 (h 0).1⟩)),
    ne_of_gt ((Finset.lt_fold_min ⊥).2 ⟨bot_lt_top, fun k _ => bot_lt_iff_ne_bot.2 (h k).2⟩)⟩

theorem rowMax_fin (r : Fin 64 → EReal) (h : ∀ k, Fin' (r k)) : Fin' (rowMax r) := by
  have e : Ideal.ofBits .f32 4286578688#32 = ⊥ := by simp [Ideal.ofBits, Ideal.ieee]
  unfold rowMax; rw [e]
  exact ⟨ne_of_lt ((Finset.fold_max_lt ⊤).2 ⟨bot_lt_top, fun k _ => lt_top_iff_ne_top.2 (h k).1⟩),
    ne_of_gt ((Finset.lt_fold_max ⊥).2 (Or.inr ⟨0, Finset.mem_univ _, bot_lt_iff_ne_bot.2 (h 0).2⟩))⟩

theorem ofBits_15 : Ideal.ofBits .f32 1097859072#32 = ((15 : ℝ) : EReal) := by
  simp [Ideal.ofBits, Ideal.ieee]
  rw [← EReal.coe_mul]
  norm_num

theorem scale_fin (r : Fin 64 → EReal) (h : ∀ k, Fin' (r k)) : Fin' (scale r) := by
  unfold scale
  split
  · exact_mod_cast fin_coe 1
  · obtain ⟨a, ha⟩ := fin_iff.1 ((rowMax_fin r h).sub (rowMin_fin r h))
    rw [ha, ofBits_15]
    unfold Ideal.div
    rw [if_neg (by exact_mod_cast (by norm_num : (15 : ℝ) ≠ 0)), ← EReal.coe_inv, ← EReal.coe_mul]
    exact fin_coe _

theorem back_fin (r : Fin 64 → EReal) (h : ∀ k, Fin' (r k)) (d : Fin 64) : Fin' (back r d) := by
  obtain ⟨n, hn⟩ := level_nat r d
  unfold back; rw [hn]
  exact ((fin_coe _).mul (scale_fin r h)).add (rowMin_fin r h)

theorem deq_fin (codes : Fin 32 → BitVec 8) {sc ze : EReal} (hs : Fin' sc) (hz : Fin' ze) (d : Fin 64) : Fin' (deq codes sc ze d) :=
  ((fin_coe _).mul hs).add hz

end Cert.Spec
-- ==== Proof.KernelIdealTrip.lean ====
/-
  One trip of the attention kernel's loop, over the extended reals and at an index. A trip reads 1024 cached tokens: it
  scores them, moves the running maximum, and adds their weights and their weighted values to the running sums.
-/
module

public import proofs.«01_k».proof.Proof.KernelIdealRun
public import proofs.«01_k».proof.Proof.Softmax
public import proofs.«01_k».proof.Proof.Unpack
public import Idealize.ShloMosaic.Lib.Pipeline.ValueKit.Tiles

@[expose] public section

set_option maxRecDepth 16384

noncomputable section

namespace Cert.KernelIdeal.Trip

open Cert.KernelIdeal Cert.KernelIdeal.Gen Cert.KernelIdeal.Run Cert.Words
open Idealize.ShloMosaic Idealize.ShloMosaic.TcCoe Idealize.SL.Sem

/-! ## The cached tokens, dequantised -/

/-- Lane `d` of head `h` of cached token `t`. -/
def lane (xc : Vec Ideal S1x2x32x8192 .i8) (xs xz : Vec Ideal S1x2x8192 .bf16) (h : Fin 2) (d : Fin 64) (t : Fin 8192) : EReal :=
  Spec.deq (fun j => xc (ix4 0 h j t)) (xs (ix3 0 h t)) (xz (ix3 0 h t)) d

/-- Lane `e` of the two heads of cached token `t` side by side. -/
def cell (xc : Vec Ideal S1x2x32x8192 .i8) (xs xz : Vec Ideal S1x2x8192 .bf16) (e : Fin 128) (t : Fin 8192) : EReal :=
  if h : e.val < 64 then lane xc xs xz 0 ⟨e.val, h⟩ t else lane xc xs xz 1 ⟨e.val - 64, by omega⟩ t

/-- The score of cached token `t` against row `r` of the queries: `⊥` past the cached tokens. -/
def score (v : BitVec 32) (q : FVec Ideal S64x128 .bf16) (xc : Vec Ideal S1x2x32x8192 .i8) (xs xz : Vec Ideal S1x2x8192 .bf16)
    (r : Fin 64) (t : Fin 8192) : EReal :=
  if (t.val : ℤ) < v.toInt then ∑ e : Fin 128, q (ix2 r e) * cell xc xs xz e t else ⊥

/-- Token `x` of chunk `k`. -/
def tok {v : BitVec 32} (h : v.toInt ≤ 8192) (k : Fin (k1_t1_loop v).trips) (x : Fin 1024) : Fin 8192 :=
  ⟨1024 * k.val + x.val, by have := trip_lt h k; omega⟩

/-! ## The loads -/

/-- A chunk of head 0's codes, as loaded. -/
abbrev ld_c0 (M : Memref sig .tc .vmem S1x2x32x8192 .i8) (v : Elt Ideal .i32) (hw : k1_chk1 v) (X : BufTy.Contents (Elt Ideal) M.view.ty)
    (k : Fin (k1_t1_loop v).trips) : Vec Ideal S1x1x32x1024 .i8 :=
  View.readAt (Elt Ideal) M.view (Rect.unit (s := S1x2x32x8192) (k1_off2 v k) S1x1x32x1024.size (k1_off2_inb v hw k)).toLoadRect X

theorem ld_c0_apply (M : Memref sig .tc .vmem S1x2x32x8192 .i8) (hM : M.IsWhole) (v : Elt Ideal .i32) (h : BitVec.toInt v ≤ 8192) (hw : k1_chk1 v)
    (X : Vec Ideal S1x2x32x8192 .i8) (k : Fin (k1_t1_loop v).trips) (j : Fin 32) (x : Fin 1024) :
    ld_c0 M v hw (hM.unread X) k (ix4 0 0 j x) = X (ix4 0 0 j (tok h k x)) := by
  unfold ld_c0
  rw [View.readAt_eq_ld, Memref.IsWhole.read_unread]
  refine View.ld_unit_apply_of X _ _ _ _ (ix4 0 0 j (tok h k x)) fun a => ?_
  refine Eq.trans ?_ (congrArg (· + ((ix4 0 0 j x : S1x1x32x1024.Idx) a : ℕ)) (congrFun (k1_off2_eq h k) a)).symm
  fin_cases a <;> simp [ix4, tok]

/-- A chunk of head 0's scales or zero points, as loaded. -/
abbrev ld_s0 (M : Memref sig .tc .vmem S1x2x8192 .bf16) (v : Elt Ideal .i32) (hw : k1_chk1 v) (X : BufTy.Contents (Elt Ideal) M.view.ty)
    (k : Fin (k1_t1_loop v).trips) : Vec Ideal S1x1x1024 .bf16 :=
  View.readAt (Elt Ideal) M.view (Rect.unit (s := S1x2x8192) (k1_off3 v k) S1x1x1024.size (k1_off3_inb v hw k)).toLoadRect X

theorem ld_s0_apply (M : Memref sig .tc .vmem S1x2x8192 .bf16) (hM : M.IsWhole) (v : Elt Ideal .i32) (h : BitVec.toInt v ≤ 8192) (hw : k1_chk1 v)
    (X : Vec Ideal S1x2x8192 .bf16) (k : Fin (k1_t1_loop v).trips) (x : Fin 1024) :
    ld_s0 M v hw (hM.unread X) k (ix3 0 0 x) = X (ix3 0 0 (tok h k x)) := by
  unfold ld_s0
  rw [View.readAt_eq_ld, Memref.IsWhole.read_unread]
  refine View.ld_unit_apply_of X _ _ _ _ (ix3 0 0 (tok h k x)) fun a => ?_
  refine Eq.trans ?_ (congrArg (· + ((ix3 0 0 x : S1x1x1024.Idx) a : ℕ)) (congrFun (k1_off3_eq h k) a)).symm
  fin_cases a <;> simp [ix3, tok]

/-- A chunk of head 1's codes, as loaded. -/
abbrev ld_c1 (M : Memref sig .tc .vmem S1x2x32x8192 .i8) (v : Elt Ideal .i32) (hw : k1_chk1 v) (X : BufTy.Contents (Elt Ideal) M.view.ty)
    (k : Fin (k1_t1_loop v).trips) : Vec Ideal S1x1x32x1024 .i8 :=
  View.readAt (Elt Ideal) M.view (Rect.unit (s := S1x2x32x8192) (k1_off4 v k) S1x1x32x1024.size (k1_off4_inb v hw k)).toLoadRect X

theorem ld_c1_apply (M : Memref sig .tc .vmem S1x2x32x8192 .i8) (hM : M.IsWhole) (v : Elt Ideal .i32) (h : BitVec.toInt v ≤ 8192) (hw : k1_chk1 v)
    (X : Vec Ideal S1x2x32x8192 .i8) (k : Fin (k1_t1_loop v).trips) (j : Fin 32) (x : Fin 1024) :
    ld_c1 M v hw (hM.unread X) k (ix4 0 0 j x) = X (ix4 0 1 j (tok h k x)) := by
  unfold ld_c1
  rw [View.readAt_eq_ld, Memref.IsWhole.read_unread]
  refine View.ld_unit_apply_of X _ _ _ _ (ix4 0 1 j (tok h k x)) fun a => ?_
  refine Eq.trans ?_ (congrArg (· + ((ix4 0 0 j x : S1x1x32x1024.Idx) a : ℕ)) (congrFun (k1_off4_eq h k) a)).symm
  fin_cases a <;> simp [ix4, tok]

/-- A chunk of head 1's scales or zero points, as loaded. -/
abbrev ld_s1 (M : Memref sig .tc .vmem S1x2x8192 .bf16) (v : Elt Ideal .i32) (hw : k1_chk1 v) (X : BufTy.Contents (Elt Ideal) M.view.ty)
    (k : Fin (k1_t1_loop v).trips) : Vec Ideal S1x1x1024 .bf16 :=
  View.readAt (Elt Ideal) M.view (Rect.unit (s := S1x2x8192) (k1_off5 v k) S1x1x1024.size (k1_off5_inb v hw k)).toLoadRect X

theorem ld_s1_apply (M : Memref sig .tc .vmem S1x2x8192 .bf16) (hM : M.IsWhole) (v : Elt Ideal .i32) (h : BitVec.toInt v ≤ 8192) (hw : k1_chk1 v)
    (X : Vec Ideal S1x2x8192 .bf16) (k : Fin (k1_t1_loop v).trips) (x : Fin 1024) :
    ld_s1 M v hw (hM.unread X) k (ix3 0 0 x) = X (ix3 0 1 (tok h k x)) := by
  unfold ld_s1
  rw [View.readAt_eq_ld, Memref.IsWhole.read_unread]
  refine View.ld_unit_apply_of X _ _ _ _ (ix3 0 1 (tok h k x)) fun a => ?_
  refine Eq.trans ?_ (congrArg (· + ((ix3 0 0 x : S1x1x1024.Idx) a : ℕ)) (congrFun (k1_off5_eq h k) a)).symm
  fin_cases a <;> simp [ix3, tok]

/-! ## The payloads at an index -/

theorem unpack_flat (c : Fin 32 → BitVec 8) (d : Fin 64) :
    (if d.val % 2 < 1 then IntOp.andi (BitVec.setWidth 32 (c ⟨d.val / 2, by omega⟩)) 15#32
      else IntOp.shrsi ArithUnit.vector (BitVec.setWidth 32 (c ⟨d.val / 2, by omega⟩)) 4#32) = Spec.unpack c d := rfl

theorem pay16_apply (c : Vec Ideal S1x1x32x1024 .i8) (s z : Vec Ideal S1x1x1024 .bf16) (d : Fin 64) (x : Fin 1024) :
    k1_pay16 c s z (ix2 d x) = Spec.deq (fun j => c (ix4 0 0 j x)) (s (ix3 0 0 x)) (z (ix3 0 0 x)) d := by
  pointwise [k1_pay16]
  rfl

theorem pay23_apply (c : Vec Ideal S1x1x32x1024 .i8) (s z : Vec Ideal S1x1x1024 .bf16) (d : Fin 64) (x : Fin 1024) :
    k1_pay23 c s z (ix2 d x) = Spec.deq (fun j => c (ix4 0 0 j x)) (s (ix3 0 0 x)) (z (ix3 0 0 x)) d := by
  pointwise [k1_pay23]
  rfl

/-- The keys of a chunk, as one trip assembles them from its loads. -/
def keys (c0 c1 : Vec Ideal S1x1x32x1024 .i8) (s0 z0 s1 z1 : Vec Ideal S1x1x1024 .bf16) : FVec Ideal S128x1024 .bf16 :=
  k1_pay22 (k1_pay16 c0 s0 z0) (k1_pay17 s1) (k1_pay18 z1) (k1_pay20 (F := Ideal) c1) (k1_pay21 (F := Ideal) c1)

theorem keys_apply (c0 c1 : Vec Ideal S1x1x32x1024 .i8) (s0 z0 s1 z1 : Vec Ideal S1x1x1024 .bf16) (e : Fin 128) (x : Fin 1024) :
    keys c0 c1 s0 z0 s1 z1 (ix2 e x)
      = if h : e.val < 64 then Spec.deq (fun j => c0 (ix4 0 0 j x)) (s0 (ix3 0 0 x)) (z0 (ix3 0 0 x)) ⟨e.val, h⟩
        else Spec.deq (fun j => c1 (ix4 0 0 j x)) (s1 (ix3 0 0 x)) (z1 (ix3 0 0 x)) ⟨e.val - 64, by omega⟩ := by
  unfold keys
  pointwise [k1_pay22]
  split
  · exact pay16_apply c0 s0 z0 _ x
  · pointwise [k1_pay17, k1_pay18, k1_pay20, k1_pay21, k1_pay19]
    rfl

/-- The values of a chunk, from a trip's loads. -/
def vals (c0 c1 : Vec Ideal S1x1x32x1024 .i8) (s0 z0 s1 z1 : Vec Ideal S1x1x1024 .bf16) (e : Fin 128) (x : Fin 1024) : EReal :=
  if h : e.val < 64 then Spec.deq (fun j => c0 (ix4 0 0 j x)) (s0 (ix3 0 0 x)) (z0 (ix3 0 0 x)) ⟨e.val, h⟩
  else Spec.deq (fun j => c1 (ix4 0 0 j x)) (s1 (ix3 0 0 x)) (z1 (ix3 0 0 x)) ⟨e.val - 64, by omega⟩

theorem mask_eq : Named.named (F := Ideal) (φ := .f32) Cert.KernelIdeal.κ "mask" 4048155338#32 = (⊥ : EReal) := rfl

theorem scale_eq : Named.named (F := Ideal) (φ := .f32) Cert.KernelIdeal.κ "scale" 1043900987#32 = Softmax.cs := rfl

theorem lowest : Ideal.ofBits .f32 4286578688#32 = ⊥ := by simp [Ideal.ofBits, Ideal.ieee]

theorem pay4_apply (v : Elt Ideal .i32) (q : FVec Ideal S64x128 .bf16) (m : FVec Ideal S64x1 .f32) (w : BitVec 32)
    (K : FVec Ideal S128x1024 .bf16) (r : Fin 64) :
    k1_pay4 v q m w K (ix2 r 0) = max (m (ix2 r 0)) (Finset.fold max ⊥ (fun x => k1_pay3 v q w K (ix2 r x)) Finset.univ) := by
  pointwise [k1_pay4]
  rw [lowest]

theorem pay7_apply (v : Elt Ideal .i32) (q : FVec Ideal S64x128 .bf16) (m l : FVec Ideal S64x1 .f32) (w : BitVec 32)
    (K : FVec Ideal S128x1024 .bf16) (r : Fin 64) :
    k1_pay7 v q m l w K (ix2 r 0) = l (ix2 r 0) * Ideal.exp2 ((m (ix2 r 0) - k1_pay4 v q m w K (ix2 r 0)) * Softmax.cs)
      + ∑ x : Fin 1024, Ideal.exp2 ((k1_pay3 v q w K (ix2 r x) - k1_pay4 v q m w K (ix2 r 0)) * Softmax.cs) := by
  pointwise [k1_pay7, k1_pay5, k1_pay6]
  rfl

theorem pay8_apply (v : Elt Ideal .i32) (q : FVec Ideal S64x128 .bf16) (m : FVec Ideal S64x1 .f32) (a : FVec Ideal S64x128 .f32)
    (w : BitVec 32) (K : FVec Ideal S128x1024 .bf16) (c0 c1 : Vec Ideal S1x1x32x1024 .i8)
    (s0 z0 s1 z1 : Vec Ideal S1x1x1024 .bf16) (r : Fin 64) (e : Fin 128) :
    k1_pay8 v q m a w K (k1_pay23 c0 s0 z0) (k1_pay24 s1) (k1_pay25 z1) (k1_pay26 (F := Ideal) c1) k1_pay27 (ix2 r e)
      = a (ix2 r e) * Ideal.exp2 ((m (ix2 r 0) - k1_pay4 v q m w K (ix2 r 0)) * Softmax.cs)
        + ∑ x : Fin 1024, Ideal.exp2 ((k1_pay3 v q w K (ix2 r x) - k1_pay4 v q m w K (ix2 r 0)) * Softmax.cs)
            * vals c0 c1 s0 z0 s1 z1 e x := by
  pointwise [k1_pay8, k1_pay5, k1_pay6]
  refine congrArg₂ (fun y z : EReal => y + z) rfl (Finset.sum_congr rfl fun x _ => congrArg₂ (fun y z : EReal => y * z) rfl ?_)
  unfold vals
  split
  · exact pay23_apply c0 s0 z0 _ x
  · pointwise [k1_pay24, k1_pay25, k1_pay26, k1_pay27]
    rfl

theorem pay3_raw (v w : BitVec 32) (q : FVec Ideal S64x128 .bf16) (K : FVec Ideal S128x1024 .bf16) (r : Fin 64) (x : Fin 1024) :
    k1_pay3 (F := Ideal) v q w K (ix2 r x)
      = Scalar.select (IntOp.cmpi .slt (IntOp.addi w (BitVec.ofNat 32 x.val)) v) (∑ e : Fin 128, q (ix2 r e) * K (ix2 e x)) (⊥ : EReal) := by
  pointwise [k1_pay3]
  rfl

theorem pay3_apply {v : BitVec 32} (h : v.toInt ≤ 8192) (q : FVec Ideal S64x128 .bf16) (k : Fin (k1_t1_loop v).trips)
    (K : FVec Ideal S128x1024 .bf16) (r : Fin 64) (x : Fin 1024) :
    k1_pay3 (F := Ideal) v q (Scalar.muli (Scf.iv 0#32 1#32 k) 1024#32) K (ix2 r x)
      = if ((tok h k x).val : ℤ) < v.toInt then ∑ e : Fin 128, q (ix2 r e) * K (ix2 e x) else ⊥ := by
  have hk := trip_lt h k
  have hs := start_toNat hk
  refine (pay3_raw v _ q K r x).trans ?_
  generalize Scalar.muli (Scf.iv 0#32 1#32 k) 1024#32 = w at hs ⊢
  have e1 : (IntOp.addi w (BitVec.ofNat 32 x.val)).toInt = ((tok h k x).val : ℤ) := by
    show (w + BitVec.ofNat 32 x.val).toInt = ((1024 * k.val + x.val : ℕ) : ℤ)
    have hx := x.isLt
    have en : (w + BitVec.ofNat 32 x.val).toNat = 1024 * k.val + x.val := by
      rw [BitVec.toNat_add, hs, BitVec.toNat_ofNat]; omega
    rw [BitVec.toInt_eq_toNat_cond, en, if_pos (by omega)]
  by_cases hlt : ((tok h k x).val : ℤ) < v.toInt
  · rw [if_pos hlt]
    have : IntOp.cmpi .slt (IntOp.addi w (BitVec.ofNat 32 x.val)) v = 1#1 := by
      unfold IntOp.cmpi
      simp [BitVec.slt, e1, hlt]
    rw [this]
    rfl
  · rw [if_neg hlt]
    have : IntOp.cmpi .slt (IntOp.addi w (BitVec.ofNat 32 x.val)) v = 0#1 := by
      unfold IntOp.cmpi
      simp [BitVec.slt, e1, hlt]
    rw [this]
    rfl

theorem trip_eq (𝒱 : Variants) (c : Dev nD) (bd : Option 𝒱.V) (i : grid1.Coords) (arg1 : Memref sig .tc .smem S65 .i32) (harg1 : arg1.IsWhole) (arg2 : Memref sig .tc .vmem S1x64x128 .bf16) (harg2 : arg2.IsWhole) (arg3 : Memref sig .tc .vmem S1x8x128 .bf16) (harg3 : arg3.IsWhole) (arg4 : Memref sig .tc .vmem S1x8x128 .bf16) (harg4 : arg4.IsWhole) (arg5 : Memref sig .tc .vmem S1x2x32x8192 .i8) (harg5 : arg5.IsWhole) (arg6 : Memref sig .tc .vmem S1x2x8192 .bf16) (harg6 : arg6.IsWhole) (arg7 : Memref sig .tc .vmem S1x2x8192 .bf16) (harg7 : arg7.IsWhole) (arg8 : Memref sig .tc .vmem S1x2x32x8192 .i8) (harg8 : arg8.IsWhole) (arg9 : Memref sig .tc .vmem S1x2x8192 .bf16) (harg9 : arg9.IsWhole) (arg10 : Memref sig .tc .vmem S1x2x8192 .bf16) (harg10 : arg10.IsWhole) (arg11 : Memref sig .tc .vmem S1x64x64 .bf16) (harg11 : arg11.IsWhole) (v1 : Elt Ideal .i32) (k1_hw1 : k1_chk1 v1) (v3 : FVec Ideal S64x128 .bf16) (x3 : Vec Ideal S1x2x32x8192 .i8) (x4 x5 : Vec Ideal S1x2x8192 .bf16) (x6 : Vec Ideal S1x2x32x8192 .i8) (x7 x8 : Vec Ideal S1x2x8192 .bf16) (k : Fin (k1_t1_loop v1).trips) (acc : FVec Ideal S64x1 .f32 × FVec Ideal S64x1 .f32 × FVec Ideal S64x128 .f32) :
    tripR_k1_t1 (F := Ideal) 𝒱 c bd i arg1 harg1 arg2 harg2 arg3 harg3 arg4 harg4 arg5 harg5 arg6 harg6 arg7 harg7 arg8 harg8 arg9 harg9 arg10 harg10 arg11 harg11 v1 k1_hw1 v3 (harg5.unread x3) (harg6.unread x4) (harg7.unread x5) (harg8.unread x6) (harg9.unread x7) (harg10.unread x8) k acc
      = (k1_pay4 v1 v3 acc.1 (Scalar.muli (Scf.iv 0#32 1#32 k) 1024#32) (keys (ld_c0 arg5 v1 k1_hw1 (harg5.unread x3) k) (ld_c1 arg5 v1 k1_hw1 (harg5.unread x3) k) (ld_s0 arg6 v1 k1_hw1 (harg6.unread x4) k) (ld_s0 arg7 v1 k1_hw1 (harg7.unread x5) k) (ld_s1 arg6 v1 k1_hw1 (harg6.unread x4) k) (ld_s1 arg7 v1 k1_hw1 (harg7.unread x5) k)),
        k1_pay7 v1 v3 acc.1 acc.2.1 (Scalar.muli (Scf.iv 0#32 1#32 k) 1024#32) (keys (ld_c0 arg5 v1 k1_hw1 (harg5.unread x3) k) (ld_c1 arg5 v1 k1_hw1 (harg5.unread x3) k) (ld_s0 arg6 v1 k1_hw1 (harg6.unread x4) k) (ld_s0 arg7 v1 k1_hw1 (harg7.unread x5) k) (ld_s1 arg6 v1 k1_hw1 (harg6.unread x4) k) (ld_s1 arg7 v1 k1_hw1 (harg7.unread x5) k)),
        k1_pay8 v1 v3 acc.1 acc.2.2 (Scalar.muli (Scf.iv 0#32 1#32 k) 1024#32) (keys (ld_c0 arg5 v1 k1_hw1 (harg5.unread x3) k) (ld_c1 arg5 v1 k1_hw1 (harg5.unread x3) k) (ld_s0 arg6 v1 k1_hw1 (harg6.unread x4) k) (ld_s0 arg7 v1 k1_hw1 (harg7.unread x5) k) (ld_s1 arg6 v1 k1_hw1 (harg6.unread x4) k) (ld_s1 arg7 v1 k1_hw1 (harg7.unread x5) k))
          (k1_pay23 (ld_c0 arg8 v1 k1_hw1 (harg8.unread x6) k) (ld_s0 arg9 v1 k1_hw1 (harg9.unread x7) k) (ld_s0 arg10 v1 k1_hw1 (harg10.unread x8) k))
          (k1_pay24 (ld_s1 arg9 v1 k1_hw1 (harg9.unread x7) k)) (k1_pay25 (ld_s1 arg10 v1 k1_hw1 (harg10.unread x8) k))
          (k1_pay26 (F := Ideal) (ld_c1 arg8 v1 k1_hw1 (harg8.unread x6) k)) k1_pay27) := by
  unfold tripR_k1_t1 trip_k1_t1
  rfl

theorem keys_cell {v : BitVec 32} (h : v.toInt ≤ 8192) (hw : k1_chk1 v) (arg5 : Memref sig .tc .vmem S1x2x32x8192 .i8) (harg5 : arg5.IsWhole)
    (arg6 : Memref sig .tc .vmem S1x2x8192 .bf16) (harg6 : arg6.IsWhole) (arg7 : Memref sig .tc .vmem S1x2x8192 .bf16) (harg7 : arg7.IsWhole)
    (x3 : Vec Ideal S1x2x32x8192 .i8) (x4 x5 : Vec Ideal S1x2x8192 .bf16) (k : Fin (k1_t1_loop v).trips) (e : Fin 128) (x : Fin 1024) :
    vals (ld_c0 arg5 v hw (harg5.unread x3) k) (ld_c1 arg5 v hw (harg5.unread x3) k) (ld_s0 arg6 v hw (harg6.unread x4) k)
      (ld_s0 arg7 v hw (harg7.unread x5) k) (ld_s1 arg6 v hw (harg6.unread x4) k) (ld_s1 arg7 v hw (harg7.unread x5) k) e x
      = cell x3 x4 x5 e (tok h k x) := by
  unfold vals cell lane
  simp only [ld_c0_apply _ _ v h hw, ld_c1_apply _ _ v h hw, ld_s0_apply _ _ v h hw, ld_s1_apply _ _ v h hw]

/-- One trip takes the running state over its chunk. -/
theorem trip_step (𝒱 : Variants) (c : Dev nD) (bd : Option 𝒱.V) (i : grid1.Coords) (arg1 : Memref sig .tc .smem S65 .i32) (harg1 : arg1.IsWhole) (arg2 : Memref sig .tc .vmem S1x64x128 .bf16) (harg2 : arg2.IsWhole) (arg3 : Memref sig .tc .vmem S1x8x128 .bf16) (harg3 : arg3.IsWhole) (arg4 : Memref sig .tc .vmem S1x8x128 .bf16) (harg4 : arg4.IsWhole) (arg5 : Memref sig .tc .vmem S1x2x32x8192 .i8) (harg5 : arg5.IsWhole) (arg6 : Memref sig .tc .vmem S1x2x8192 .bf16) (harg6 : arg6.IsWhole) (arg7 : Memref sig .tc .vmem S1x2x8192 .bf16) (harg7 : arg7.IsWhole) (arg8 : Memref sig .tc .vmem S1x2x32x8192 .i8) (harg8 : arg8.IsWhole) (arg9 : Memref sig .tc .vmem S1x2x8192 .bf16) (harg9 : arg9.IsWhole) (arg10 : Memref sig .tc .vmem S1x2x8192 .bf16) (harg10 : arg10.IsWhole) (arg11 : Memref sig .tc .vmem S1x64x64 .bf16) (harg11 : arg11.IsWhole) (v1 : BitVec 32) (k1_hw1 : k1_chk1 v1) (v3 : FVec Ideal S64x128 .bf16) (x3 : Vec Ideal S1x2x32x8192 .i8) (x4 x5 : Vec Ideal S1x2x8192 .bf16) (x6 : Vec Ideal S1x2x32x8192 .i8) (x7 x8 : Vec Ideal S1x2x8192 .bf16) (k : Fin (k1_t1_loop v1).trips) (acc : FVec Ideal S64x1 .f32 × FVec Ideal S64x1 .f32 × FVec Ideal S64x128 .f32) (h : v1.toInt ≤ 8192) (r : Fin 64) (e : Fin 128)
    (hs : ∀ t, score v1 v3 x3 x4 x5 r t ≠ ⊤) {A : ℝ} {B : EReal} (hA : 0 ≤ A)
    (hi : Softmax.Inv (acc.1 (ix2 r 0)) (acc.2.1 (ix2 r 0)) (acc.2.2 (ix2 r e)) A B) :
    Softmax.Inv ((tripR_k1_t1 (F := Ideal) 𝒱 c bd i arg1 harg1 arg2 harg2 arg3 harg3 arg4 harg4 arg5 harg5 arg6 harg6 arg7 harg7 arg8 harg8 arg9 harg9 arg10 harg10 arg11 harg11 v1 k1_hw1 v3 (harg5.unread x3) (harg6.unread x4) (harg7.unread x5) (harg8.unread x6) (harg9.unread x7) (harg10.unread x8) k acc).1 (ix2 r 0)) ((tripR_k1_t1 (F := Ideal) 𝒱 c bd i arg1 harg1 arg2 harg2 arg3 harg3 arg4 harg4 arg5 harg5 arg6 harg6 arg7 harg7 arg8 harg8 arg9 harg9 arg10 harg10 arg11 harg11 v1 k1_hw1 v3 (harg5.unread x3) (harg6.unread x4) (harg7.unread x5) (harg8.unread x6) (harg9.unread x7) (harg10.unread x8) k acc).2.1 (ix2 r 0)) ((tripR_k1_t1 (F := Ideal) 𝒱 c bd i arg1 harg1 arg2 harg2 arg3 harg3 arg4 harg4 arg5 harg5 arg6 harg6 arg7 harg7 arg8 harg8 arg9 harg9 arg10 harg10 arg11 harg11 v1 k1_hw1 v3 (harg5.unread x3) (harg6.unread x4) (harg7.unread x5) (harg8.unread x6) (harg9.unread x7) (harg10.unread x8) k acc).2.2 (ix2 r e))
      (A + ∑ x : Fin 1024, Softmax.W (score v1 v3 x3 x4 x5 r (tok h k x)))
      (B + ∑ x : Fin 1024, (Softmax.W (score v1 v3 x3 x4 x5 r (tok h k x)) : EReal) * cell x6 x7 x8 e (tok h k x)) := by
  rw [trip_eq]
  have e3 : ∀ x : Fin 1024, k1_pay3 (F := Ideal) v1 v3 (Scalar.muli (Scf.iv 0#32 1#32 k) 1024#32) (keys (ld_c0 arg5 v1 k1_hw1 (harg5.unread x3) k) (ld_c1 arg5 v1 k1_hw1 (harg5.unread x3) k) (ld_s0 arg6 v1 k1_hw1 (harg6.unread x4) k) (ld_s0 arg7 v1 k1_hw1 (harg7.unread x5) k) (ld_s1 arg6 v1 k1_hw1 (harg6.unread x4) k) (ld_s1 arg7 v1 k1_hw1 (harg7.unread x5) k)) (ix2 r x) = score v1 v3 x3 x4 x5 r (tok h k x) := by
    intro x
    refine (pay3_apply h _ k _ r x).trans ?_
    unfold score
    refine if_congr Iff.rfl (Finset.sum_congr rfl fun y _ => congrArg (fun z : EReal => v3 (ix2 r y) * z) ?_) rfl
    exact (keys_apply _ _ _ _ _ _ y x).trans (keys_cell h k1_hw1 arg5 harg5 arg6 harg6 arg7 harg7 x3 x4 x5 k y x)
  generalize (keys (ld_c0 arg5 v1 k1_hw1 (harg5.unread x3) k) (ld_c1 arg5 v1 k1_hw1 (harg5.unread x3) k) (ld_s0 arg6 v1 k1_hw1 (harg6.unread x4) k) (ld_s0 arg7 v1 k1_hw1 (harg7.unread x5) k) (ld_s1 arg6 v1 k1_hw1 (harg6.unread x4) k) (ld_s1 arg7 v1 k1_hw1 (harg7.unread x5) k)) = K at e3 ⊢
  generalize Scalar.muli (Scf.iv 0#32 1#32 k) 1024#32 = w at e3 ⊢
  dsimp only
  have e4 : k1_pay4 (F := Ideal) v1 v3 acc.1 w K (ix2 r 0)
      = max (acc.1 (ix2 r 0)) (Finset.fold max ⊥ (fun x => score v1 v3 x3 x4 x5 r (tok h k x)) Finset.univ) := by
    refine (pay4_apply _ _ _ _ _ _).trans ?_
    rw [funext e3]
  have e5 := keys_cell h k1_hw1 arg8 harg8 arg9 harg9 arg10 harg10 x6 x7 x8 k e
  rw [pay7_apply, pay8_apply, e4]
  simp only [e3, e5]
  exact Softmax.step _ _ (fun x => hs _) hA hi

/-- The weight of token `t`, and its weighted lane: nothing past the window. -/
def gA (v : BitVec 32) (q : FVec Ideal S64x128 .bf16) (xc : Vec Ideal S1x2x32x8192 .i8) (xs xz : Vec Ideal S1x2x8192 .bf16)
    (r : Fin 64) (t : ℕ) : ℝ := if ht : t < 8192 then Softmax.W (score v q xc xs xz r ⟨t, ht⟩) else 0

def gB (v : BitVec 32) (q : FVec Ideal S64x128 .bf16) (xc : Vec Ideal S1x2x32x8192 .i8) (xs xz : Vec Ideal S1x2x8192 .bf16)
    (yc : Vec Ideal S1x2x32x8192 .i8) (ys yz : Vec Ideal S1x2x8192 .bf16) (r : Fin 64) (e : Fin 128) (t : ℕ) : EReal :=
  if ht : t < 8192 then (Softmax.W (score v q xc xs xz r ⟨t, ht⟩) : EReal) * cell yc ys yz e ⟨t, ht⟩ else 0

theorem loop (𝒱 : Variants) (c : Dev nD) (bd : Option 𝒱.V) (i : grid1.Coords) (arg1 : Memref sig .tc .smem S65 .i32) (harg1 : arg1.IsWhole) (arg2 : Memref sig .tc .vmem S1x64x128 .bf16) (harg2 : arg2.IsWhole) (arg3 : Memref sig .tc .vmem S1x8x128 .bf16) (harg3 : arg3.IsWhole) (arg4 : Memref sig .tc .vmem S1x8x128 .bf16) (harg4 : arg4.IsWhole) (arg5 : Memref sig .tc .vmem S1x2x32x8192 .i8) (harg5 : arg5.IsWhole) (arg6 : Memref sig .tc .vmem S1x2x8192 .bf16) (harg6 : arg6.IsWhole) (arg7 : Memref sig .tc .vmem S1x2x8192 .bf16) (harg7 : arg7.IsWhole) (arg8 : Memref sig .tc .vmem S1x2x32x8192 .i8) (harg8 : arg8.IsWhole) (arg9 : Memref sig .tc .vmem S1x2x8192 .bf16) (harg9 : arg9.IsWhole) (arg10 : Memref sig .tc .vmem S1x2x8192 .bf16) (harg10 : arg10.IsWhole) (arg11 : Memref sig .tc .vmem S1x64x64 .bf16) (harg11 : arg11.IsWhole) (v1 : BitVec 32) (k1_hw1 : k1_chk1 v1) (v3 : FVec Ideal S64x128 .bf16) (x3 : Vec Ideal S1x2x32x8192 .i8) (x4 x5 : Vec Ideal S1x2x8192 .bf16) (x6 : Vec Ideal S1x2x32x8192 .i8) (x7 x8 : Vec Ideal S1x2x8192 .bf16) (h : v1.toInt ≤ 8192) (ini : FVec Ideal S64x1 .f32 × FVec Ideal S64x1 .f32 × FVec Ideal S64x128 .f32) (r : Fin 64) (e : Fin 128)
    (hs : ∀ t, score v1 v3 x3 x4 x5 r t ≠ ⊤) {A : ℝ} {B : EReal} (hA : 0 ≤ A)
    (hi : Softmax.Inv (ini.1 (ix2 r 0)) (ini.2.1 (ix2 r 0)) (ini.2.2 (ix2 r e)) A B) : ∀ n, n ≤ (k1_t1_loop v1).trips →
    Softmax.Inv ((st_k1_t1 (F := Ideal) 𝒱 c bd i arg1 harg1 arg2 harg2 arg3 harg3 arg4 harg4 arg5 harg5 arg6 harg6 arg7 harg7 arg8 harg8 arg9 harg9 arg10 harg10 arg11 harg11 v1 k1_hw1 v3 (harg5.unread x3) (harg6.unread x4) (harg7.unread x5) (harg8.unread x6) (harg9.unread x7) (harg10.unread x8) ini n).1 (ix2 r 0)) ((st_k1_t1 (F := Ideal) 𝒱 c bd i arg1 harg1 arg2 harg2 arg3 harg3 arg4 harg4 arg5 harg5 arg6 harg6 arg7 harg7 arg8 harg8 arg9 harg9 arg10 harg10 arg11 harg11 v1 k1_hw1 v3 (harg5.unread x3) (harg6.unread x4) (harg7.unread x5) (harg8.unread x6) (harg9.unread x7) (harg10.unread x8) ini n).2.1 (ix2 r 0)) ((st_k1_t1 (F := Ideal) 𝒱 c bd i arg1 harg1 arg2 harg2 arg3 harg3 arg4 harg4 arg5 harg5 arg6 harg6 arg7 harg7 arg8 harg8 arg9 harg9 arg10 harg10 arg11 harg11 v1 k1_hw1 v3 (harg5.unread x3) (harg6.unread x4) (harg7.unread x5) (harg8.unread x6) (harg9.unread x7) (harg10.unread x8) ini n).2.2 (ix2 r e))
      (A + ∑ t ∈ Finset.range (1024 * n), gA v1 v3 x3 x4 x5 r t) (B + ∑ t ∈ Finset.range (1024 * n), gB v1 v3 x3 x4 x5 x6 x7 x8 r e t)
  | 0, _ => by
    rw [st_k1_t1_zero]
    simpa using hi
  | n + 1, hn => by
    have ih := loop 𝒱 c bd i arg1 harg1 arg2 harg2 arg3 harg3 arg4 harg4 arg5 harg5 arg6 harg6 arg7 harg7 arg8 harg8 arg9 harg9 arg10 harg10 arg11 harg11 v1 k1_hw1 v3 x3 x4 x5 x6 x7 x8 h ini r e hs hA hi n (by omega)
    rw [st_k1_t1_succ (F := Ideal) 𝒱 c bd i arg1 harg1 arg2 harg2 arg3 harg3 arg4 harg4 arg5 harg5 arg6 harg6 arg7 harg7 arg8 harg8 arg9 harg9 arg10 harg10 arg11 harg11 v1 k1_hw1 v3 (harg5.unread x3) (harg6.unread x4) (harg7.unread x5) (harg8.unread x6) (harg9.unread x7) (harg10.unread x8) ini ⟨n, hn⟩]
    have st := trip_step 𝒱 c bd i arg1 harg1 arg2 harg2 arg3 harg3 arg4 harg4 arg5 harg5 arg6 harg6 arg7 harg7 arg8 harg8 arg9 harg9 arg10 harg10 arg11 harg11 v1 k1_hw1 v3 x3 x4 x5 x6 x7 x8 ⟨n, hn⟩ _ h r e hs
      (add_nonneg hA (Finset.sum_nonneg fun t _ => by unfold gA; split; exacts [Softmax.W_nonneg _, le_rfl])) ih
    have hk := trip_lt h ⟨n, hn⟩
    dsimp only at hk
    have eA : ∑ t ∈ Finset.range (1024 * (n + 1)), gA v1 v3 x3 x4 x5 r t
        = ∑ t ∈ Finset.range (1024 * n), gA v1 v3 x3 x4 x5 r t + ∑ x : Fin 1024, Softmax.W (score v1 v3 x3 x4 x5 r (tok h ⟨n, hn⟩ x)) := by
      rw [Nat.mul_add_one, Finset.sum_range_add]
      refine congrArg _ (Finset.sum_range _ |>.trans (Finset.sum_congr rfl fun x _ => ?_))
      unfold gA
      exact dif_pos _
    have eB : ∑ t ∈ Finset.range (1024 * (n + 1)), gB v1 v3 x3 x4 x5 x6 x7 x8 r e t
        = ∑ t ∈ Finset.range (1024 * n), gB v1 v3 x3 x4 x5 x6 x7 x8 r e t
          + ∑ x : Fin 1024, (Softmax.W (score v1 v3 x3 x4 x5 r (tok h ⟨n, hn⟩ x)) : EReal) * cell x6 x7 x8 e (tok h ⟨n, hn⟩ x) := by
      rw [Nat.mul_add_one, Finset.sum_range_add]
      refine congrArg _ (Finset.sum_range _ |>.trans (Finset.sum_congr rfl fun x _ => ?_))
      unfold gB
      exact dif_pos _
    rw [eA, eB, ← add_assoc, ← add_assoc]
    exact st

theorem gA_zero {v : BitVec 32} (q : FVec Ideal S64x128 .bf16) (xc : Vec Ideal S1x2x32x8192 .i8) (xs xz : Vec Ideal S1x2x8192 .bf16)
    (r : Fin 64) (t : ℕ) (ht : v.toInt ≤ t) : gA v q xc xs xz r t = 0 := by
  unfold gA score
  split
  · rw [if_neg (by dsimp only; omega), Softmax.W_bot]
  · rfl

theorem gB_zero {v : BitVec 32} (q : FVec Ideal S64x128 .bf16) (xc : Vec Ideal S1x2x32x8192 .i8) (xs xz : Vec Ideal S1x2x8192 .bf16)
    (yc : Vec Ideal S1x2x32x8192 .i8) (ys yz : Vec Ideal S1x2x8192 .bf16)
    (r : Fin 64) (e : Fin 128) (t : ℕ) (ht : v.toInt ≤ t) : gB v q xc xs xz yc ys yz r e t = 0 := by
  unfold gB score
  split
  · rw [if_neg (by dsimp only; omega), Softmax.W_bot, EReal.coe_zero, zero_mul]
  · rfl

theorem covers {v : BitVec 32} (h : v.toInt ≤ 8192) : v.toInt ≤ (1024 * (k1_t1_loop v).trips : ℕ) := by
  rw [t1_trips h]
  unfold chunks
  by_cases hv : 0 ≤ v.toInt
  · have : 0 ≤ (v.toInt + 1023).tdiv 1024 := Int.tdiv_nonneg (by omega) (by norm_num)
    have e := Int.toNat_of_nonneg this
    rw [Int.tdiv_eq_ediv_of_nonneg (by omega)] at e ⊢
    omega
  · omega

theorem trips_le {v : BitVec 32} (h : v.toInt ≤ 8192) : 1024 * (k1_t1_loop v).trips ≤ 8192 := by
  rw [t1_trips h]; have := chunks_le h; omega

/-- After the last trip, the running state covers every cached token. -/
theorem loop_all (𝒱 : Variants) (c : Dev nD) (bd : Option 𝒱.V) (i : grid1.Coords) (arg1 : Memref sig .tc .smem S65 .i32) (harg1 : arg1.IsWhole) (arg2 : Memref sig .tc .vmem S1x64x128 .bf16) (harg2 : arg2.IsWhole) (arg3 : Memref sig .tc .vmem S1x8x128 .bf16) (harg3 : arg3.IsWhole) (arg4 : Memref sig .tc .vmem S1x8x128 .bf16) (harg4 : arg4.IsWhole) (arg5 : Memref sig .tc .vmem S1x2x32x8192 .i8) (harg5 : arg5.IsWhole) (arg6 : Memref sig .tc .vmem S1x2x8192 .bf16) (harg6 : arg6.IsWhole) (arg7 : Memref sig .tc .vmem S1x2x8192 .bf16) (harg7 : arg7.IsWhole) (arg8 : Memref sig .tc .vmem S1x2x32x8192 .i8) (harg8 : arg8.IsWhole) (arg9 : Memref sig .tc .vmem S1x2x8192 .bf16) (harg9 : arg9.IsWhole) (arg10 : Memref sig .tc .vmem S1x2x8192 .bf16) (harg10 : arg10.IsWhole) (arg11 : Memref sig .tc .vmem S1x64x64 .bf16) (harg11 : arg11.IsWhole) (v1 : BitVec 32) (k1_hw1 : k1_chk1 v1) (v3 : FVec Ideal S64x128 .bf16) (x3 : Vec Ideal S1x2x32x8192 .i8) (x4 x5 : Vec Ideal S1x2x8192 .bf16) (x6 : Vec Ideal S1x2x32x8192 .i8) (x7 x8 : Vec Ideal S1x2x8192 .bf16) (h : v1.toInt ≤ 8192) (ini : FVec Ideal S64x1 .f32 × FVec Ideal S64x1 .f32 × FVec Ideal S64x128 .f32) (r : Fin 64) (e : Fin 128)
    (hs : ∀ t, score v1 v3 x3 x4 x5 r t ≠ ⊤) {A : ℝ} {B : EReal} (hA : 0 ≤ A)
    (hi : Softmax.Inv (ini.1 (ix2 r 0)) (ini.2.1 (ix2 r 0)) (ini.2.2 (ix2 r e)) A B) :
    Softmax.Inv ((st_k1_t1 (F := Ideal) 𝒱 c bd i arg1 harg1 arg2 harg2 arg3 harg3 arg4 harg4 arg5 harg5 arg6 harg6 arg7 harg7 arg8 harg8 arg9 harg9 arg10 harg10 arg11 harg11 v1 k1_hw1 v3 (harg5.unread x3) (harg6.unread x4) (harg7.unread x5) (harg8.unread x6) (harg9.unread x7) (harg10.unread x8) ini (k1_t1_loop v1).trips).1 (ix2 r 0)) ((st_k1_t1 (F := Ideal) 𝒱 c bd i arg1 harg1 arg2 harg2 arg3 harg3 arg4 harg4 arg5 harg5 arg6 harg6 arg7 harg7 arg8 harg8 arg9 harg9 arg10 harg10 arg11 harg11 v1 k1_hw1 v3 (harg5.unread x3) (harg6.unread x4) (harg7.unread x5) (harg8.unread x6) (harg9.unread x7) (harg10.unread x8) ini (k1_t1_loop v1).trips).2.1 (ix2 r 0)) ((st_k1_t1 (F := Ideal) 𝒱 c bd i arg1 harg1 arg2 harg2 arg3 harg3 arg4 harg4 arg5 harg5 arg6 harg6 arg7 harg7 arg8 harg8 arg9 harg9 arg10 harg10 arg11 harg11 v1 k1_hw1 v3 (harg5.unread x3) (harg6.unread x4) (harg7.unread x5) (harg8.unread x6) (harg9.unread x7) (harg10.unread x8) ini (k1_t1_loop v1).trips).2.2 (ix2 r e))
      (A + ∑ t : Fin 8192, Softmax.W (score v1 v3 x3 x4 x5 r t))
      (B + ∑ t : Fin 8192, (Softmax.W (score v1 v3 x3 x4 x5 r t) : EReal) * cell x6 x7 x8 e t) := by
  have hl := loop 𝒱 c bd i arg1 harg1 arg2 harg2 arg3 harg3 arg4 harg4 arg5 harg5 arg6 harg6 arg7 harg7 arg8 harg8 arg9 harg9 arg10 harg10 arg11 harg11 v1 k1_hw1 v3 x3 x4 x5 x6 x7 x8 h ini r e hs hA hi _ le_rfl
  have hsub := Finset.range_subset_range.2 (trips_le h)
  have hc := covers h
  have eA : ∑ t ∈ Finset.range (1024 * (k1_t1_loop v1).trips), gA v1 v3 x3 x4 x5 r t = ∑ t : Fin 8192, Softmax.W (score v1 v3 x3 x4 x5 r t) := by
    rw [Finset.sum_subset hsub fun t _ ht => gA_zero _ _ _ _ _ t (by rw [Finset.mem_range] at ht; omega), Finset.sum_range]
    refine Finset.sum_congr rfl fun t _ => ?_
    unfold gA
    exact dif_pos t.isLt
  have eB : ∑ t ∈ Finset.range (1024 * (k1_t1_loop v1).trips), gB v1 v3 x3 x4 x5 x6 x7 x8 r e t
      = ∑ t : Fin 8192, (Softmax.W (score v1 v3 x3 x4 x5 r t) : EReal) * cell x6 x7 x8 e t := by
    rw [Finset.sum_subset hsub fun t _ ht => gB_zero _ _ _ _ _ _ _ _ _ t (by rw [Finset.mem_range] at ht; omega), Finset.sum_range]
    refine Finset.sum_congr rfl fun t _ => ?_
    unfold gB
    exact dif_pos t.isLt
  rw [← eA, ← eB]
  exact hl

end Cert.KernelIdeal.Trip
-- ==== Proof.KernelIdealAttnOut.lean ====
/-
  The attention kernel's output block over the extended reals, at an index: the weighted values over the sum of the
  weights, over the new tokens and the cached ones.
-/
module

public import proofs.«01_k».proof.Proof.KernelIdealTrip

@[expose] public section

set_option maxRecDepth 16384

noncomputable section

namespace Cert.KernelIdeal.AttnOut

open Cert.KernelIdeal Cert.KernelIdeal.Gen Cert.KernelIdeal.Run Cert.KernelIdeal.Attn Cert.KernelIdeal.Trip Cert.Words
open Idealize.ShloMosaic Idealize.ShloMosaic.TcCoe Idealize.SL.Sem

theorem load_q (M : Memref sig .tc .vmem S1x64x128 .bf16) (hM : M.IsWhole) (X : Vec Ideal S1x64x128 .bf16) :
    M.view.readAt (Elt Ideal) (Rect.unit (s := S1x64x128) ![0, 0, 0] S1x64x128.size inb_S1x64x128_S1x64x128_0_0_0).toLoadRect (hM.unread X) = X := by
  funext y
  rw [View.readAt_eq_ld, Memref.IsWhole.read_unread]
  refine View.ld_unit_apply_of X _ _ _ _ y fun a => ?_
  fin_cases a <;> simp

theorem load_n (M : Memref sig .tc .vmem S1x8x128 .bf16) (hM : M.IsWhole) (X : Vec Ideal S1x8x128 .bf16) :
    M.view.readAt (Elt Ideal) (Rect.unit (s := S1x8x128) ![0, 0, 0] S1x8x128.size inb_S1x8x128_S1x8x128_0_0_0).toLoadRect (hM.unread X) = X := by
  funext y
  rw [View.readAt_eq_ld, Memref.IsWhole.read_unread]
  refine View.ld_unit_apply_of X _ _ _ _ y fun a => ?_
  fin_cases a <;> simp

/-- The score of new token `u` against row `r`: `⊥` past the row's own token. -/
def newScore (x0 : Vec Ideal S1x64x128 .bf16) (x1 : Vec Ideal S1x8x128 .bf16) (r : Fin 64) (u : Fin 8) : EReal :=
  if u.val ≤ r.val % 4 then ∑ e : Fin 128, x0 (ix3 0 r e) * x1 (ix3 0 u e) else ⊥

theorem pay40_apply (x0 : Vec Ideal S1x64x128 .bf16) (r : Fin 64) (e : Fin 128) : k1_pay40 x0 (ix2 r e) = x0 (ix3 0 r e) := by
  pointwise [k1_pay40]

/-- The row's own token, among the four new ones: the row's number modulo 4, as the kernel computes it. -/
theorem causal : ∀ (r : Fin 64) (u : Fin 8), IntOp.cmpi CmpIPredicate.sle (BitVec.ofNat 32 u.val)
    (Scalar.select
          (IntOp.andi
            (IntOp.xori
              (IntOp.cmpi CmpIPredicate.slt
                (IntOp.remsi ArithUnit.vector (BitVec.ofNat 32 r.val)
                  (Scalar.select (Scalar.cmpi CmpIPredicate.eq 4#32 0#32) 1#32 4#32))
                0#32)
              (Scalar.cmpi CmpIPredicate.slt (Scalar.select (Scalar.cmpi CmpIPredicate.eq 4#32 0#32) 1#32 4#32) 0#32))
            (IntOp.cmpi CmpIPredicate.ne
              (IntOp.remsi ArithUnit.vector (BitVec.ofNat 32 r.val)
                (Scalar.select (Scalar.cmpi CmpIPredicate.eq 4#32 0#32) 1#32 4#32))
              0#32))
          (IntOp.addi
            (IntOp.remsi ArithUnit.vector (BitVec.ofNat 32 r.val)
              (Scalar.select (Scalar.cmpi CmpIPredicate.eq 4#32 0#32) 1#32 4#32))
            (Scalar.select (Scalar.cmpi CmpIPredicate.eq 4#32 0#32) 1#32 4#32))
          (IntOp.remsi ArithUnit.vector (BitVec.ofNat 32 r.val)
            (Scalar.select (Scalar.cmpi CmpIPredicate.eq 4#32 0#32) 1#32 4#32))) = if u.val ≤ r.val % 4 then 1#1 else 0#1 := by
  decide +kernel

theorem pay42_apply (x0 : Vec Ideal S1x64x128 .bf16) (x1 : Vec Ideal S1x8x128 .bf16) (r : Fin 64) (u : Fin 8) :
    k1_pay42 x0 x1 (ix2 r u) = newScore x0 x1 r u := by
  pointwise [k1_pay42]
  rw [causal r u]
  unfold newScore
  simp only [pay40_apply]
  split <;> rfl

theorem init_max (x0 : Vec Ideal S1x64x128 .bf16) (x1 : Vec Ideal S1x8x128 .bf16) (r : Fin 64) :
    k1_pay43 x0 x1 (ix2 r 0) = Finset.fold max ⊥ (newScore x0 x1 r) Finset.univ := by
  pointwise [k1_pay43]
  rw [lowest]
  exact congrArg (fun f => Finset.fold max (⊥ : EReal) f Finset.univ) (funext fun u => pay42_apply x0 x1 r u)

theorem pay44_apply (x0 : Vec Ideal S1x64x128 .bf16) (x1 : Vec Ideal S1x8x128 .bf16) (r : Fin 64) (u : Fin 8) :
    k1_pay44 x0 x1 (ix2 r u) = Ideal.exp2 ((newScore x0 x1 r u - Finset.fold max ⊥ (newScore x0 x1 r) Finset.univ) * Softmax.cs) := by
  rw [← init_max, ← pay42_apply]
  pointwise [k1_pay44]
  rfl

theorem init_sum (x0 : Vec Ideal S1x64x128 .bf16) (x1 : Vec Ideal S1x8x128 .bf16) (r : Fin 64) :
    k1_pay1 (k1_pay45 x0 x1) (ix2 r 0)
      = ∑ u : Fin 8, Ideal.exp2 ((newScore x0 x1 r u - Finset.fold max ⊥ (newScore x0 x1 r) Finset.univ) * Softmax.cs) := by
  pointwise [k1_pay1, k1_pay45]
  exact Finset.sum_congr rfl fun u _ => pay44_apply x0 x1 r u

theorem init_acc (x0 : Vec Ideal S1x64x128 .bf16) (x1 x2 : Vec Ideal S1x8x128 .bf16) (r : Fin 64) (e : Fin 128) :
    k1_pay2 (k1_pay41 x2) (k1_pay44 x0 x1) (ix2 r e)
      = ∑ u : Fin 8, Ideal.exp2 ((newScore x0 x1 r u - Finset.fold max ⊥ (newScore x0 x1 r) Finset.univ) * Softmax.cs) * x2 (ix3 0 u e) := by
  pointwise [k1_pay2, k1_pay41]
  exact Finset.sum_congr rfl fun u _ => congrArg (fun z : EReal => z * x2 (ix3 0 u e)) (pay44_apply x0 x1 r u)

/-- The sum of the weights of row `r`, and its weighted sum of lane `e`. -/
def den (v : BitVec 32) (x0 : Vec Ideal S1x64x128 .bf16) (x1 : Vec Ideal S1x8x128 .bf16) (x3 : Vec Ideal S1x2x32x8192 .i8)
    (x4 x5 : Vec Ideal S1x2x8192 .bf16) (r : Fin 64) : ℝ :=
  (∑ u : Fin 8, Softmax.W (newScore x0 x1 r u)) + ∑ t : Fin 8192, Softmax.W (score v (k1_pay40 x0) x3 x4 x5 r t)

def num (v : BitVec 32) (x0 : Vec Ideal S1x64x128 .bf16) (x1 x2 : Vec Ideal S1x8x128 .bf16) (x3 : Vec Ideal S1x2x32x8192 .i8) (x4 x5 : Vec Ideal S1x2x8192 .bf16) (x6 : Vec Ideal S1x2x32x8192 .i8) (x7 x8 : Vec Ideal S1x2x8192 .bf16) (r : Fin 64) (e : Fin 128) : EReal :=
  (∑ u : Fin 8, (Softmax.W (newScore x0 x1 r u) : EReal) * x2 (ix3 0 u e))
    + ∑ t : Fin 8192, (Softmax.W (score v (k1_pay40 x0) x3 x4 x5 r t) : EReal) * cell x6 x7 x8 e t

attribute [local irreducible] st_k1_t1 st_k1_t2 in
theorem final_eq (c : Dev nD) (i : grid1.Coords) (arg1 : Memref sig .tc .smem S65 .i32) (harg1 : arg1.IsWhole) (arg2 : Memref sig .tc .vmem S1x64x128 .bf16) (harg2 : arg2.IsWhole) (arg3 : Memref sig .tc .vmem S1x8x128 .bf16) (harg3 : arg3.IsWhole) (arg4 : Memref sig .tc .vmem S1x8x128 .bf16) (harg4 : arg4.IsWhole) (arg5 : Memref sig .tc .vmem S1x2x32x8192 .i8) (harg5 : arg5.IsWhole) (arg6 : Memref sig .tc .vmem S1x2x8192 .bf16) (harg6 : arg6.IsWhole) (arg7 : Memref sig .tc .vmem S1x2x8192 .bf16) (harg7 : arg7.IsWhole) (arg8 : Memref sig .tc .vmem S1x2x32x8192 .i8) (harg8 : arg8.IsWhole) (arg9 : Memref sig .tc .vmem S1x2x8192 .bf16) (harg9 : arg9.IsWhole) (arg10 : Memref sig .tc .vmem S1x2x8192 .bf16) (harg10 : arg10.IsWhole) (arg11 : Memref sig .tc .vmem S1x64x64 .bf16) (harg11 : arg11.IsWhole) (x0 : Vec Ideal S1x64x128 .bf16) (x1 x2 : Vec Ideal S1x8x128 .bf16) (x3 : Vec Ideal S1x2x32x8192 .i8) (x4 x5 : Vec Ideal S1x2x8192 .bf16) (x6 : Vec Ideal S1x2x32x8192 .i8) (x7 x8 : Vec Ideal S1x2x8192 .bf16) (v : BitVec 32) (h : v.toInt ≤ 8192) (hw : k1_chk1 v) (r : Fin 64) (e : Fin 128)
    (hn : ∀ u, newScore x0 x1 r u ≠ ⊤) (h0 : newScore x0 x1 r 0 ≠ ⊥) (hs : ∀ t, score v (k1_pay40 x0) x3 x4 x5 r t ≠ ⊤) :
    Ideal.div ((finalAttn (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 v hw).2.2 (ix2 r e)) ((finalAttn (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 v hw).2.1 (ix2 r 0))
      = num v x0 x1 x2 x3 x4 x5 x6 x7 x8 r e * (((den v x0 x1 x3 x4 x5 r)⁻¹ : ℝ) : EReal) := by
  have hpos : 0 < ∑ u : Fin 8, Softmax.W (newScore x0 x1 r u) :=
    Finset.sum_pos' (fun u _ => Softmax.W_nonneg _) ⟨0, Finset.mem_univ _, Softmax.W_pos _ h0⟩
  unfold finalAttn wholeAttn initAttn
  rw [load_q arg2 harg2 x0, load_n arg3 harg3 x1, load_n arg4 harg4 x2]
  have ht : Scf.trips (k1_t2_loop v).lb (k1_t2_loop v).ub (k1_t2_loop v).st = 0 := t2_trips v
  rw [ht, st_k1_t2_zero]
  have inv := loop_all Variants.none c none i arg1 harg1 arg2 harg2 arg3 harg3 arg4 harg4 arg5 harg5 arg6 harg6 arg7 harg7 arg8 harg8 arg9 harg9 arg10 harg10 arg11 harg11 v hw (k1_pay40 x0) x3 x4 x5 x6 x7 x8 h
    (k1_pay43 x0 x1, k1_pay1 (k1_pay45 x0 x1), k1_pay2 (k1_pay41 x2) (k1_pay44 x0 x1)) r e hs hpos.le (by
      dsimp only
      rw [init_max, init_sum, init_acc]
      exact Softmax.init (newScore x0 x1 r) (fun u => x2 (ix3 0 u e)) hn 0 h0)
  exact Softmax.final (add_pos_of_pos_of_nonneg hpos (Finset.sum_nonneg fun t _ => Softmax.W_nonneg _)) inv

/-- The lane of the weighted values that lane `d` of row `r` of the output reads. -/
def outLane (r : Fin 64) (d : Fin 64) : Fin 128 := if r.val < 32 then ⟨d.val, by omega⟩ else ⟨64 + d.val, by omega⟩

theorem pay15_apply (l : FVec Ideal S64x1 .f32) (a : FVec Ideal S64x128 .f32) (r d : Fin 64) :
    k1_pay15 l a (ix3 0 r d) = Ideal.div (a (ix2 r (outLane r d))) (l (ix2 r 0)) := by
  pointwise [k1_pay15]
  unfold outLane
  split
  · rfl
  · rename_i hr
    have e : (⟨32 + (r.val - 32), by omega⟩ : Fin 64) = r := Fin.ext (by show 32 + (r.val - 32) = r.val; omega)
    exact congrArg₂ Ideal.div (congrArg (fun y => a (ix2 y _)) e) (congrArg (fun y => l (ix2 y 0)) e)

theorem canon_one (p : Vec Ideal S1x64x64 .bf16) (y : S1x64x64.Idx) :
    View.canon [⟨Rect.unit (s := S1x64x64) ![0, 0, 0] S1x64x64.size inb_S1x64x64_S1x64x64_0_0_0, p⟩] y = p y := by
  refine View.canon_apply_of_pieces (Val := Elt Ideal) p _ ?_ y (coverAttn p y)
  intro pc hpc x
  rcases List.mem_cons.mp hpc with rfl | hpc
  · refine congrArg p (funext fun a => Fin.ext ?_)
    refine Eq.trans ?_ (Rect.idx_unit_val (s := S1x64x64) ![0, 0, 0] S1x64x64.size inb_S1x64x64_S1x64x64_0_0_0 x a).symm
    fin_cases a <;> simp
  · exact absurd hpc (List.not_mem_nil)

attribute [local irreducible] finalAttn in
/-- The output block at row `r`, lane `d`. -/
theorem out_apply (c : Dev nD) (i : grid1.Coords) (arg2 : Memref sig .tc .vmem S1x64x128 .bf16) (harg2 : arg2.IsWhole) (arg3 : Memref sig .tc .vmem S1x8x128 .bf16) (harg3 : arg3.IsWhole) (arg4 : Memref sig .tc .vmem S1x8x128 .bf16) (harg4 : arg4.IsWhole) (arg5 : Memref sig .tc .vmem S1x2x32x8192 .i8) (harg5 : arg5.IsWhole) (arg6 : Memref sig .tc .vmem S1x2x8192 .bf16) (harg6 : arg6.IsWhole) (arg7 : Memref sig .tc .vmem S1x2x8192 .bf16) (harg7 : arg7.IsWhole) (arg8 : Memref sig .tc .vmem S1x2x32x8192 .i8) (harg8 : arg8.IsWhole) (arg9 : Memref sig .tc .vmem S1x2x8192 .bf16) (harg9 : arg9.IsWhole) (arg10 : Memref sig .tc .vmem S1x2x8192 .bf16) (harg10 : arg10.IsWhole) (arg11 : Memref sig .tc .vmem S1x64x64 .bf16) (harg11 : arg11.IsWhole) (x0 : Vec Ideal S1x64x128 .bf16) (x1 x2 : Vec Ideal S1x8x128 .bf16) (x3 : Vec Ideal S1x2x32x8192 .i8) (x4 x5 : Vec Ideal S1x2x8192 .bf16) (x6 : Vec Ideal S1x2x32x8192 .i8) (x7 x8 : Vec Ideal S1x2x8192 .bf16) (xt0 : TbBuf1 (F := Ideal) c tbM1_0) (v : BitVec 32) (hw : k1_chk1 (tbM1_0.view.readAt (Elt Ideal) (Rect.unit (s := S65) (k1_off1 i) S1.size (k1_off1_inb i)).toLoadRect xt0 (Shape.Idx.first (numel1_S1.symm ▸ Nat.one_pos))))
    (hv : tbM1_0.view.readAt (Elt Ideal) (Rect.unit (s := S65) (k1_off1 i) S1.size (k1_off1_inb i)).toLoadRect xt0 (Shape.Idx.first (numel1_S1.symm ▸ Nat.one_pos)) = v)
    (h : v.toInt ≤ 8192) (r d : Fin 64)
    (hn : ∀ u, newScore x0 x1 r u ≠ ⊤) (h0 : newScore x0 x1 r 0 ≠ ⊥) (hs : ∀ t, score v (k1_pay40 x0) x3 x4 x5 r t ≠ ⊤) :
    outAttn (F := Ideal) c i tbM1_0 htbM1_0 arg2 harg2 arg3 harg3 arg4 harg4 arg5 harg5 arg6 harg6 arg7 harg7 arg8 harg8 arg9 harg9 arg10 harg10 arg11 harg11 x0 x1 x2 x3 x4 x5 x6 x7 x8 xt0 hw (ix3 0 r d)
      = num v x0 x1 x2 x3 x4 x5 x6 x7 x8 r (outLane r d) * (((den v x0 x1 x3 x4 x5 r)⁻¹ : ℝ) : EReal) := by
  subst hv
  unfold outAttn
  refine (canon_one _ _).trans ((pay15_apply _ _ r d).trans ?_)
  exact final_eq c i tbM1_0 htbM1_0 arg2 harg2 arg3 harg3 arg4 harg4 arg5 harg5 arg6 harg6 arg7 harg7 arg8 harg8 arg9 harg9 arg10 harg10 arg11 harg11 x0 x1 x2 x3 x4 x5 x6 x7 x8 _ h hw r (outLane r d) hn h0 hs

end Cert.KernelIdeal.AttnOut
-- ==== Proof.Attend.lean ====
/-
  Attention of one query row over the cached tokens and the new ones, as a formula both programs come to.
-/
module

public import proofs.«01_k».proof.Proof.Softmax
public import proofs.«01_k».proof.Proof.Unpack

@[expose] public section

noncomputable section

namespace Cert.Spec

open Idealize.ShloMosaic

/-- The score of the new token `u` against the query `q` of token `s`: later tokens are masked. -/
def fresh (q : Fin 64 → EReal) (k : Fin 4 → Fin 64 → EReal) (s u : Fin 4) : EReal :=
  if u.val ≤ s.val then ∑ d, q d * k u d else ⊥

/-- The score of the cached token `t` against the query `q`: tokens from the row's length on are masked. -/
def past (q : Fin 64 → EReal) (k : Fin 8192 → Fin 64 → EReal) (v : BitVec 32) (t : Fin 8192) : EReal :=
  if (t.val : ℤ) < v.toInt then ∑ d, q d * k t d else ⊥

/-- The weighted mean of the values. -/
def attend (fN vN : Fin 4 → EReal) (fC vC : Fin 8192 → EReal) : EReal :=
  ((∑ u, (Softmax.W (fN u) : EReal) * vN u) + ∑ t, (Softmax.W (fC t) : EReal) * vC t)
    * ((((∑ u, Softmax.W (fN u)) + ∑ t, Softmax.W (fC t))⁻¹ : ℝ) : EReal)

variable {q : Fin 64 → EReal} (hq : ∀ d, Fin' (q d))

include hq in
theorem dot_fin {k : Fin 64 → EReal} (hk : ∀ d, Fin' (k d)) : Fin' (∑ d, q d * k d) :=
  Fin'.sum _ _ fun d => (hq d).mul (hk d)

include hq in
theorem fresh_ne_top {k : Fin 4 → Fin 64 → EReal} (hk : ∀ u d, Fin' (k u d)) (s u : Fin 4) : fresh q k s u ≠ ⊤ := by
  unfold fresh
  split
  · exact (dot_fin hq (hk u)).1
  · exact bot_ne_top

include hq in
theorem fresh_zero {k : Fin 4 → Fin 64 → EReal} (hk : ∀ u d, Fin' (k u d)) (s : Fin 4) : fresh q k s 0 ≠ ⊥ := by
  unfold fresh
  rw [if_pos (show (0 : Fin 4).val ≤ s.val from Nat.zero_le _)]
  exact (dot_fin hq (hk 0)).2

include hq in
theorem past_ne_top {k : Fin 8192 → Fin 64 → EReal} (hk : ∀ t d, Fin' (k t d)) (v : BitVec 32) (t : Fin 8192) : past q k v t ≠ ⊤ := by
  unfold past
  split
  · exact (dot_fin hq (hk t)).1
  · exact bot_ne_top

end Cert.Spec
-- ==== Proof.KernelIdealAttnHead.lean ====
/-
  The attention body's value at one query row, with the two heads' lanes told apart.

  The body keeps both heads side by side on 128 lanes, a query row being zero on the other head's lanes; its eight rows of
  new tokens are four tokens and four rows of padding, which the causal mask leaves out.
-/
module

public import proofs.«01_k».proof.Proof.KernelIdealAttnOut
public import proofs.«01_k».proof.Proof.Attend

@[expose] public section

noncomputable section

namespace Cert.KernelIdeal.AttnHead

open Cert.KernelIdeal Cert.KernelIdeal.Gen Cert.KernelIdeal.Trip Cert.KernelIdeal.AttnOut
open Idealize.ShloMosaic

/-- Head `h`'s lane `d` among the 128. -/
def hl (h : Fin 2) (d : Fin 64) : Fin 128 := ⟨h.val * 64 + d.val, by omega⟩

/-- The query row of batch row's head `h`, group member `g`, token `s`. -/
def qrow (h : Fin 2) (g : Fin 8) (s : Fin 4) : Fin 64 := ⟨h.val * 32 + g.val * 4 + s.val, by omega⟩

theorem qrow_mod (h : Fin 2) (g : Fin 8) (s : Fin 4) : (qrow h g s).val % 4 = s.val := by
  show (h.val * 32 + g.val * 4 + s.val) % 4 = s.val; omega

theorem outLane_eq (h : Fin 2) (g : Fin 8) (s : Fin 4) (d : Fin 64) : outLane (qrow h g s) d = hl h d := by
  have e : (qrow h g s).val = h.val * 32 + g.val * 4 + s.val := rfl
  unfold outLane
  rw [e]
  fin_cases h
  · rw [if_pos (by show 0 * 32 + g.val * 4 + s.val < 32; omega)]
    exact Fin.ext (by show d.val = 0 * 64 + d.val; omega)
  · rw [if_neg (by show ¬ (1 * 32 + g.val * 4 + s.val < 32); omega)]
    exact Fin.ext (by show 64 + d.val = 1 * 64 + d.val; omega)

/-- A sum against a row that is `q` on head `h`'s lanes and zero on the other's. -/
theorem sum_lanes (h : Fin 2) (q : Fin 64 → EReal) (x y : Fin 128 → EReal)
    (hx : ∀ d, x (hl h d) = q d) (hz : ∀ (h' : Fin 2) d, h' ≠ h → x (hl h' d) = 0) :
    ∑ e, x e * y e = ∑ d, q d * y (hl h d) := by
  have split : ∑ e : Fin 128, x e * y e = (∑ d, x (hl 0 d) * y (hl 0 d)) + ∑ d, x (hl 1 d) * y (hl 1 d) := by
    refine (Fin.sum_univ_add (a := 64) (b := 64) fun e => x e * y e).trans (congrArg₂ (· + ·) ?_ ?_)
    · refine Finset.sum_congr rfl fun d _ => ?_
      have e : (Fin.castAdd 64 d : Fin 128) = hl 0 d := Fin.ext (by show d.val = 0 * 64 + d.val; omega)
      rw [e]
    · refine Finset.sum_congr rfl fun d _ => ?_
      have e : (Fin.natAdd 64 d : Fin 128) = hl 1 d := Fin.ext (by show 64 + d.val = 1 * 64 + d.val; omega)
      rw [e]
  rw [split]
  fin_cases h
  · have z : ∑ d, x (hl 1 d) * y (hl 1 d) = 0 := Finset.sum_eq_zero fun d _ => by rw [hz 1 d (by decide), zero_mul]
    rw [z, add_zero]
    exact Finset.sum_congr rfl fun d _ => by rw [← hx d]; rfl
  · have z : ∑ d, x (hl 0 d) * y (hl 0 d) = 0 := Finset.sum_eq_zero fun d _ => by rw [hz 0 d (by decide), zero_mul]
    rw [z, zero_add]
    exact Finset.sum_congr rfl fun d _ => by rw [← hx d]; rfl

theorem cell_hl (xc : Vec Ideal S1x2x32x8192 .i8) (xs xz : Vec Ideal S1x2x8192 .bf16) (h : Fin 2) (d : Fin 64) (t : Fin 8192) :
    cell xc xs xz (hl h d) t = lane xc xs xz h d t := by
  unfold cell
  fin_cases h
  · refine (dif_pos (show (hl 0 d).val < 64 by show 0 * 64 + d.val < 64; omega)).trans ?_
    exact congrArg (fun z => lane xc xs xz 0 z t) (Fin.ext (by show 0 * 64 + d.val = d.val; omega))
  · refine (dif_neg (show ¬ (hl 1 d).val < 64 by show ¬ (1 * 64 + d.val < 64); omega)).trans ?_
    exact congrArg (fun z => lane xc xs xz 1 z t) (Fin.ext (by show 1 * 64 + d.val - 64 = d.val; omega))

/-- A new token among the body's eight rows. -/
def up (u : Fin 4) : Fin 8 := ⟨u.val, by omega⟩

section

variable (h : Fin 2) (g : Fin 8) (s : Fin 4) (v : BitVec 32)
  {x0 : Vec Ideal S1x64x128 .bf16} {x1 x2 : Vec Ideal S1x8x128 .bf16} {x3 : Vec Ideal S1x2x32x8192 .i8}
  {x4 x5 : Vec Ideal S1x2x8192 .bf16} {x6 : Vec Ideal S1x2x32x8192 .i8} {x7 x8 : Vec Ideal S1x2x8192 .bf16}
  {q : Fin 64 → EReal} {kN vN : Fin 4 → Fin 64 → EReal} {kC vC : Fin 8192 → Fin 64 → EReal}
  (hx0 : ∀ d, (x0 : S1x64x128.Idx → EReal) (ix3 0 (qrow h g s) (hl h d)) = q d)
  (hz0 : ∀ (h' : Fin 2) d, h' ≠ h → (x0 : S1x64x128.Idx → EReal) (ix3 0 (qrow h g s) (hl h' d)) = 0)
  (hx1 : ∀ u d, (x1 : S1x8x128.Idx → EReal) (ix3 0 (up u) (hl h d)) = kN u d)
  (hx2 : ∀ u d, (x2 : S1x8x128.Idx → EReal) (ix3 0 (up u) (hl h d)) = vN u d)
  (hx3 : ∀ d t, lane x3 x4 x5 h d t = kC t d)
  (hx6 : ∀ d t, lane x6 x7 x8 h d t = vC t d)

include hx0 hz0 hx1 in
theorem new_up (u : Fin 4) : newScore x0 x1 (qrow h g s) (up u) = Spec.fresh q kN s u := by
  unfold newScore Spec.fresh
  rw [qrow_mod]
  refine if_congr Iff.rfl ?_ rfl
  refine (sum_lanes h q (fun e => (x0 : S1x64x128.Idx → EReal) (ix3 0 (qrow h g s) e))
    (fun e => (x1 : S1x8x128.Idx → EReal) (ix3 0 (up u) e)) hx0 hz0).trans ?_
  exact Finset.sum_congr rfl fun d _ => by rw [← hx1 u d]

theorem new_pad (u : Fin 4) : newScore x0 x1 (qrow h g s) (⟨4 + u.val, by omega⟩ : Fin 8) = ⊥ := by
  unfold newScore
  rw [qrow_mod]
  exact if_neg (by show ¬ (4 + u.val ≤ s.val); omega)

include hx0 hz0 hx3 in
theorem old (t : Fin 8192) : score v (k1_pay40 x0) x3 x4 x5 (qrow h g s) t = Spec.past q kC v t := by
  unfold score Spec.past
  refine if_congr Iff.rfl ?_ rfl
  refine (sum_lanes h q (fun e => (k1_pay40 x0 : S64x128.Idx → EReal) (ix2 (qrow h g s) e))
    (fun e => cell x3 x4 x5 e t) (fun d => (pay40_apply x0 _ _).trans (hx0 d))
    (fun h' d hne => (pay40_apply x0 _ _).trans (hz0 h' d hne))).trans ?_
  exact Finset.sum_congr rfl fun d _ => by rw [cell_hl, hx3]

theorem sum_eight {M : Type} [AddCommMonoid M] (f : Fin 8 → M) (hf : ∀ u : Fin 4, f ⟨4 + u.val, by omega⟩ = 0) :
    ∑ u, f u = ∑ u : Fin 4, f (up u) := by
  refine (Fin.sum_univ_add (a := 4) (b := 4) f).trans ?_
  have z : ∑ i : Fin 4, f (Fin.natAdd 4 i) = 0 := Finset.sum_eq_zero fun u _ => hf u
  rw [z, add_zero]
  rfl

include hx0 hz0 hx1 hx3 in
theorem den_eq : den v x0 x1 x3 x4 x5 (qrow h g s) =
    (∑ u, Softmax.W (Spec.fresh q kN s u)) + ∑ t, Softmax.W (Spec.past q kC v t) := by
  unfold den
  rw [sum_eight (fun u => Softmax.W (newScore x0 x1 (qrow h g s) u)) (fun u => by rw [new_pad, Softmax.W_bot])]
  exact congrArg₂ (· + ·) (Finset.sum_congr rfl fun u _ => by rw [new_up h g s hx0 hz0 hx1])
    (Finset.sum_congr rfl fun t _ => by rw [old h g s v hx0 hz0 hx3])

include hx0 hz0 hx1 hx2 hx3 hx6 in
theorem num_eq (d : Fin 64) : num v x0 x1 x2 x3 x4 x5 x6 x7 x8 (qrow h g s) (outLane (qrow h g s) d) =
    (∑ u, (Softmax.W (Spec.fresh q kN s u) : EReal) * vN u d) + ∑ t, (Softmax.W (Spec.past q kC v t) : EReal) * vC t d := by
  unfold num
  rw [outLane_eq, sum_eight (fun u => (Softmax.W (newScore x0 x1 (qrow h g s) u) : EReal) * (x2 : S1x8x128.Idx → EReal) (ix3 0 u (hl h d)))
    (fun u => by rw [new_pad, Softmax.W_bot, EReal.coe_zero, zero_mul])]
  exact congrArg₂ (fun y z : EReal => y + z) (Finset.sum_congr rfl fun u _ => by rw [new_up h g s hx0 hz0 hx1, hx2])
    (Finset.sum_congr rfl fun t _ => by rw [old h g s v hx0 hz0 hx3, cell_hl, hx6])

include hx0 hz0 hx1 hx2 hx3 hx6 in
theorem value (d : Fin 64) : num v x0 x1 x2 x3 x4 x5 x6 x7 x8 (qrow h g s) (outLane (qrow h g s) d)
      * (((den v x0 x1 x3 x4 x5 (qrow h g s))⁻¹ : ℝ) : EReal) =
    Spec.attend (Spec.fresh q kN s) (fun u => vN u d) (Spec.past q kC v) (fun t => vC t d) := by
  rw [num_eq h g s v hx0 hz0 hx1 hx2 hx3 hx6, den_eq h g s v hx0 hz0 hx1 hx3]
  rfl

include hx0 hz0 hx1 in
theorem new_ne_top (hq : ∀ d, Spec.Fin' (q d)) (hk : ∀ u d, Spec.Fin' (kN u d)) (u : Fin 8) :
    newScore x0 x1 (qrow h g s) u ≠ ⊤ := by
  by_cases hu : u.val < 4
  · have e : u = up ⟨u.val, hu⟩ := rfl
    rw [e, new_up h g s hx0 hz0 hx1]
    exact Spec.fresh_ne_top hq hk _ _
  · have e : u = ⟨4 + (⟨u.val - 4, by omega⟩ : Fin 4).val, by omega⟩ := Fin.ext (by show u.val = 4 + (u.val - 4); omega)
    rw [e, new_pad]
    exact bot_ne_top

include hx0 hz0 hx1 in
theorem new_zero (hq : ∀ d, Spec.Fin' (q d)) (hk : ∀ u d, Spec.Fin' (kN u d)) : newScore x0 x1 (qrow h g s) 0 ≠ ⊥ := by
  have e : (0 : Fin 8) = up 0 := rfl
  rw [e, new_up h g s hx0 hz0 hx1]
  exact Spec.fresh_zero hq hk _

include hx0 hz0 hx3 in
theorem old_ne_top (hq : ∀ d, Spec.Fin' (q d)) (hk : ∀ t d, Spec.Fin' (kC t d)) (t : Fin 8192) :
    score v (k1_pay40 x0) x3 x4 x5 (qrow h g s) t ≠ ⊤ := by
  rw [old h g s v hx0 hz0 hx3]
  exact Spec.past_ne_top hq hk _ _

end

end Cert.KernelIdeal.AttnHead
-- ==== Proof.KernelIdealAttnHost.lean ====
/-
  What the host hands the attention region, at an index, in terms of the launched arrays: the queries of the two heads side
  by side with zeros between, the four new tokens of each batch row, and the cache with the token axis last.
-/
module

public import proofs.«01_k».proof.Proof.KernelIdealRes
public import proofs.«01_k».proof.Proof.KernelIdealAttnHead
public import Idealize.ShloMosaic.Lib.StableHlo.RunRead

@[expose] public section

noncomputable section

namespace Cert.KernelIdeal.AttnHost

open Cert.KernelIdeal Cert.KernelIdeal.Gen Cert.KernelIdeal.Run Cert.KernelIdeal.AttnHead
open Idealize.ShloMosaic Idealize.ShloMosaic.TcCoe Idealize.SL.Sem

variable (m : (ℓ : Loc nD τ sig) → Buf (Elt Ideal) ℓ)

/-- The queries with each head's rows together, the group members and their tokens on one axis. -/
def rows (x : S65x4x16x64.Idx → EReal) : S65x2x32x64.Idx → EReal :=
  shapeCast _ (transpose S65x2x8x4x64 [0, 2, 3, 1, 4] (shapeCast _ x shapeCasts_S65x4x16x64_S65x4x2x8x64) transposes_S65x4x2x8x64_S65x2x8x4x64_0_2_3_1_4) shapeCasts_S65x2x8x4x64_S65x2x32x64

def zeros : S65x32x64.Idx → EReal :=
  broadcastInDim S65x32x64 ![] bcast_S_S65x32x64 (constant S_ .bf16 0x0000#16 : FVec Ideal S_ .bf16)

def head0 (y : S65x2x32x64.Idx → EReal) : S65x32x64.Idx → EReal :=
  shapeCast _ (extractStridedSlice S65x1x32x64 ![0, 0, 0, 0] y slices_S65x2x32x64_S65x1x32x64_0_0_0_0) shapeCasts_S65x1x32x64_S65x32x64

def head1 (y : S65x2x32x64.Idx → EReal) : S65x32x64.Idx → EReal :=
  shapeCast _ (extractStridedSlice S65x1x32x64 ![0, 1, 0, 0] y slices_S65x2x32x64_S65x1x32x64_0_1_0_0) shapeCasts_S65x1x32x64_S65x32x64

def lanes (x y : S65x32x64.Idx → EReal) : S65x32x128.Idx → EReal :=
  concatenate S65x32x128 2 [⟨S65x32x64, x⟩, ⟨S65x32x64, y⟩] concatenates_S65x32x64_S65x32x64_S65x32x128_d2

def heads (x y : S65x32x128.Idx → EReal) : S65x64x128.Idx → EReal :=
  concatenate S65x64x128 1 [⟨S65x32x128, x⟩, ⟨S65x32x128, y⟩] concatenates_S65x32x128_S65x32x128_S65x64x128_d1

theorem rows_apply (x : S65x4x16x64.Idx → EReal) (b : Fin 65) (h : Fin 2) (g : Fin 8) (s : Fin 4) (d : Fin 64) :
    rows x (ix4 b h ⟨g.val * 4 + s.val, by omega⟩ d) = x (ix4 b s ⟨h.val * 8 + g.val, by omega⟩ d) := by
  pointwise [rows]

theorem stack_apply (y : S65x2x32x64.Idx → EReal) (b : Fin 65) (r : Fin 64) (e : Fin 128) :
    heads (lanes (head0 y) zeros) (lanes zeros (head1 y)) (ix3 b r e) =
      if h : r.val < 32 then if h' : e.val < 64 then y (ix4 b 0 ⟨r.val, h⟩ ⟨e.val, h'⟩) else 0
      else if h' : e.val < 64 then 0 else y (ix4 b 1 ⟨r.val - 32, by omega⟩ ⟨e.val - 64, by omega⟩) := by
  pointwise [heads, lanes, head0, head1, zeros]

theorem v21 (c : Dev nD) : (V7 m (outsQ m) c (Proc.devRef .tc main_v21) : S65x64x128.Idx → EReal) =
    heads (lanes (head0 (rows (m ((c : Thread nD τ).loc main_arg0)))) zeros) (lanes zeros (head1 (rows (m ((c : Thread nD τ).loc main_arg0))))) := by
  after_reads_simp
  rfl

/-- The launched query of batch row `b`, head `h`, group member `g`, token `s`. -/
def query (c : Dev nD) (b : Fin 65) (h : Fin 2) (g : Fin 8) (s : Fin 4) : Fin 64 → EReal := fun d =>
  (m ((c : Thread nD τ).loc main_arg0) : S65x4x16x64.Idx → EReal) (ix4 b s ⟨h.val * 8 + g.val, by omega⟩ d)

theorem v21_own (c : Dev nD) (b : Fin 65) (h : Fin 2) (g : Fin 8) (s : Fin 4) (d : Fin 64) :
    (V7 m (outsQ m) c (Proc.devRef .tc main_v21) : S65x64x128.Idx → EReal) (ix3 b (qrow h g s) (hl h d)) = query m c b h g s d := by
  refine (congrFun (v21 m c) _).trans ((stack_apply _ b _ _).trans ?_)
  refine Eq.trans ?_ (rows_apply _ b h g s d)
  fin_cases h
  · refine (dif_pos (show (qrow 0 g s).val < 32 by show 0 * 32 + g.val * 4 + s.val < 32; omega)).trans ?_
    refine (dif_pos (show (hl 0 d).val < 64 by show 0 * 64 + d.val < 64; omega)).trans ?_
    exact congrArg₂ (fun r e => rows _ (ix4 b 0 r e)) (Fin.ext (by show 0 * 32 + g.val * 4 + s.val = _; simp)) (Fin.ext (by show 0 * 64 + d.val = d.val; omega))
  · refine (dif_neg (show ¬ (qrow 1 g s).val < 32 by show ¬ (1 * 32 + g.val * 4 + s.val < 32); omega)).trans ?_
    refine (dif_neg (show ¬ (hl 1 d).val < 64 by show ¬ (1 * 64 + d.val < 64); omega)).trans ?_
    exact congrArg₂ (fun r e => rows _ (ix4 b 1 r e)) (Fin.ext (by show 1 * 32 + g.val * 4 + s.val - 32 = g.val * 4 + s.val; omega)) (Fin.ext (by show 1 * 64 + d.val - 64 = d.val; omega))

theorem v21_other (c : Dev nD) (b : Fin 65) (h h' : Fin 2) (g : Fin 8) (s : Fin 4) (d : Fin 64) (hne : h' ≠ h) :
    (V7 m (outsQ m) c (Proc.devRef .tc main_v21) : S65x64x128.Idx → EReal) (ix3 b (qrow h g s) (hl h' d)) = (0 : EReal) := by
  refine (congrFun (v21 m c) _).trans ((stack_apply _ b _ _).trans ?_)
  fin_cases h <;> fin_cases h'
  · exact absurd rfl hne
  · refine (dif_pos (show (qrow 0 g s).val < 32 by show 0 * 32 + g.val * 4 + s.val < 32; omega)).trans ?_
    exact dif_neg (show ¬ (hl 1 d).val < 64 by show ¬ (1 * 64 + d.val < 64); omega)
  · refine (dif_neg (show ¬ (qrow 1 g s).val < 32 by show ¬ (1 * 32 + g.val * 4 + s.val < 32); omega)).trans ?_
    exact dif_pos (show (hl 0 d).val < 64 by show 0 * 64 + d.val < 64; omega)
  · exact absurd rfl hne

theorem v5 (c : Dev nD) (b : Fin 65) (u : Fin 4) (h : Fin 2) (d : Fin 64) :
    (V7 m (outsQ m) c (Proc.devRef .tc main_v5) : S65x8x128.Idx → EReal) (ix3 b (up u) (hl h d)) = Spec.back (Res.krow m c b u h) d := by
  refine (congrFun (show (V7 m (outsQ m) c (Proc.devRef .tc main_v5) : S65x8x128.Idx → EReal) =
    pad S65x8x128 ![0, 0, 0] ![0, 4, 0] ![0, 0, 0] (shapeCast S65x4x128 (transpose S65x4x2x64 [3, 0, 1, 2] (outsQ m 2 main_v2_6 c) transposes_S4x2x64x65_S65x4x2x64_3_0_1_2) shapeCasts_S65x4x2x64_S65x4x128)
      (sitofp (F := Ideal) .bf16 (constantI S_ 32 0#32)) pads_S65x4x128_S65x8x128_000_040_000 h_S_ from rfl) (ix3 b (up u) (hl h d))).trans ?_
  rw [Res.outs8]
  pointwise
  refine (dif_pos (show (up u).val < 4 from u.isLt)).trans ?_
  refine (Out.out0_8_apply _ _ _).trans ?_
  have e1 : (⟨(hl h d).val / 64, by have := (hl h d).isLt; omega⟩ : Fin 2) = h := Fin.ext (by show (h.val * 64 + d.val) / 64 = h.val; omega)
  have e2 : (⟨(hl h d).val % 64, by omega⟩ : Fin 64) = d := Fin.ext (by show (h.val * 64 + d.val) % 64 = d.val; omega)
  refine (congrArg₂ (fun h d => Spec.back (Out.row (V1 m c (Proc.devRef .tc main_v0)) u h b) d) e1 e2).trans ?_
  rw [Res.row_v0]

theorem v8 (c : Dev nD) (b : Fin 65) (u : Fin 4) (h : Fin 2) (d : Fin 64) :
    (V7 m (outsQ m) c (Proc.devRef .tc main_v8) : S65x8x128.Idx → EReal) (ix3 b (up u) (hl h d)) = Spec.back (Res.vrow m c b u h) d := by
  refine (congrFun (show (V7 m (outsQ m) c (Proc.devRef .tc main_v8) : S65x8x128.Idx → EReal) =
    pad S65x8x128 ![0, 0, 0] ![0, 4, 0] ![0, 0, 0] (shapeCast S65x4x128 (transpose S65x4x2x64 [3, 0, 1, 2] (outsQ m 2 main_v2_7 c) transposes_S4x2x64x65_S65x4x2x64_3_0_1_2) shapeCasts_S65x4x2x64_S65x4x128)
      (sitofp (F := Ideal) .bf16 (constantI S_ 32 0#32)) pads_S65x4x128_S65x8x128_000_040_000 h_S_ from rfl) (ix3 b (up u) (hl h d))).trans ?_
  rw [Res.outs9]
  pointwise
  refine (dif_pos (show (up u).val < 4 from u.isLt)).trans ?_
  refine (Out.out0_9_apply _ _ _).trans ?_
  have e1 : (⟨(hl h d).val / 64, by have := (hl h d).isLt; omega⟩ : Fin 2) = h := Fin.ext (by show (h.val * 64 + d.val) / 64 = h.val; omega)
  have e2 : (⟨(hl h d).val % 64, by omega⟩ : Fin 64) = d := Fin.ext (by show (h.val * 64 + d.val) % 64 = d.val; omega)
  refine (congrArg₂ (fun h d => Spec.back (Out.row (V1 m c (Proc.devRef .tc main_v1)) u h b) d) e1 e2).trans ?_
  rw [Res.row_v1]

theorem v22 (c : Dev nD) (b : Fin 65) (h : Fin 2) (j : Fin 32) (t : Fin 8192) :
    (V7 m (outsQ m) c (Proc.devRef .tc main_v22) : S65x2x32x8192.Idx → BitVec 8) (ix4 b h j t) =
      (m ((c : Thread nD τ).loc main_arg3) : S65x8192x2x32.Idx → BitVec 8) (ix4 b t h j) := by
  refine (congrFun (show (V7 m (outsQ m) c (Proc.devRef .tc main_v22) : S65x2x32x8192.Idx → BitVec 8) =
    transpose S65x2x32x8192 [0, 2, 3, 1] (m ((c : Thread nD τ).loc main_arg3)) transposes_S65x8192x2x32_S65x2x32x8192_0_2_3_1 from rfl) (ix4 b h j t)).trans ?_
  pointwise

theorem v27 (c : Dev nD) (b : Fin 65) (h : Fin 2) (j : Fin 32) (t : Fin 8192) :
    (V7 m (outsQ m) c (Proc.devRef .tc main_v27) : S65x2x32x8192.Idx → BitVec 8) (ix4 b h j t) =
      (m ((c : Thread nD τ).loc main_arg6) : S65x8192x2x32.Idx → BitVec 8) (ix4 b t h j) := by
  refine (congrFun (show (V7 m (outsQ m) c (Proc.devRef .tc main_v27) : S65x2x32x8192.Idx → BitVec 8) =
    transpose S65x2x32x8192 [0, 2, 3, 1] (m ((c : Thread nD τ).loc main_arg6)) transposes_S65x8192x2x32_S65x2x32x8192_0_2_3_1 from rfl) (ix4 b h j t)).trans ?_
  pointwise

theorem v24 (c : Dev nD) (b : Fin 65) (h : Fin 2) (t : Fin 8192) :
    (V7 m (outsQ m) c (Proc.devRef .tc main_v24) : S65x2x8192.Idx → EReal) (ix3 b h t) =
      (m ((c : Thread nD τ).loc main_arg4) : S65x8192x2x1.Idx → EReal) (ix4 b t h 0) := by
  have e : (V7 m (outsQ m) c (Proc.devRef .tc main_v24) : S65x2x8192.Idx → EReal) =
      transpose S65x2x8192 [0, 2, 1] (shapeCast S65x8192x2 (m ((c : Thread nD τ).loc main_arg4)) shapeCasts_S65x8192x2x1_S65x8192x2) transposes_S65x8192x2_S65x2x8192_0_2_1 := by
    after_reads_simp
    rfl
  refine (congrFun e (ix3 b h t)).trans ?_
  pointwise

theorem v26 (c : Dev nD) (b : Fin 65) (h : Fin 2) (t : Fin 8192) :
    (V7 m (outsQ m) c (Proc.devRef .tc main_v26) : S65x2x8192.Idx → EReal) (ix3 b h t) =
      (m ((c : Thread nD τ).loc main_arg5) : S65x8192x2x1.Idx → EReal) (ix4 b t h 0) := by
  have e : (V7 m (outsQ m) c (Proc.devRef .tc main_v26) : S65x2x8192.Idx → EReal) =
      transpose S65x2x8192 [0, 2, 1] (shapeCast S65x8192x2 (m ((c : Thread nD τ).loc main_arg5)) shapeCasts_S65x8192x2x1_S65x8192x2) transposes_S65x8192x2_S65x2x8192_0_2_1 := by
    after_reads_simp
    rfl
  refine (congrFun e (ix3 b h t)).trans ?_
  pointwise

theorem v29 (c : Dev nD) (b : Fin 65) (h : Fin 2) (t : Fin 8192) :
    (V7 m (outsQ m) c (Proc.devRef .tc main_v29) : S65x2x8192.Idx → EReal) (ix3 b h t) =
      (m ((c : Thread nD τ).loc main_arg7) : S65x8192x2x1.Idx → EReal) (ix4 b t h 0) := by
  have e : (V7 m (outsQ m) c (Proc.devRef .tc main_v29) : S65x2x8192.Idx → EReal) =
      transpose S65x2x8192 [0, 2, 1] (shapeCast S65x8192x2 (m ((c : Thread nD τ).loc main_arg7)) shapeCasts_S65x8192x2x1_S65x8192x2) transposes_S65x8192x2_S65x2x8192_0_2_1 := by
    after_reads_simp
    rfl
  refine (congrFun e (ix3 b h t)).trans ?_
  pointwise

theorem v31 (c : Dev nD) (b : Fin 65) (h : Fin 2) (t : Fin 8192) :
    (V7 m (outsQ m) c (Proc.devRef .tc main_v31) : S65x2x8192.Idx → EReal) (ix3 b h t) =
      (m ((c : Thread nD τ).loc main_arg8) : S65x8192x2x1.Idx → EReal) (ix4 b t h 0) := by
  have e : (V7 m (outsQ m) c (Proc.devRef .tc main_v31) : S65x2x8192.Idx → EReal) =
      transpose S65x2x8192 [0, 2, 1] (shapeCast S65x8192x2 (m ((c : Thread nD τ).loc main_arg8)) shapeCasts_S65x8192x2x1_S65x8192x2) transposes_S65x8192x2_S65x2x8192_0_2_1 := by
    after_reads_simp
    rfl
  refine (congrFun e (ix3 b h t)).trans ?_
  pointwise

end Cert.KernelIdeal.AttnHost
-- ==== Proof.KernelIdealAttnWin.lean ====
/-
  The attention region's windows: window `w`'s block at grid point `t` is row `t` of its array, and the array the region
  writes holds, in row `t`, what the body leaves at point `t`.
-/
module

public import proofs.«01_k».proof.Proof.KernelIdealRun
public import Idealize.ShloMosaic.Lib.Pipeline.ValueKit

@[expose] public section

noncomputable section

namespace Cert.KernelIdeal.AttnWin

open Cert.KernelIdeal Cert.KernelIdeal.Gen Cert.KernelIdeal.Run
open Idealize.ShloMosaic Idealize.ShloMosaic.TcCoe Idealize.SL.Sem

variable (W : Dev nD → Valuation τ sig (Elt Ideal))

theorem pt0 : ∀ t : Fin grid1.N, cc1_transform_0 (grid1.coords t) = ![t.val, 0, 0] := by decide +kernel

theorem blk0 (a : (pcfg1 (F := Ideal)).Adm) (c : Dev nD) (t : Fin (cfg1 a).N) (r : Fin 64) (e : Fin 128) :
    (Attn.iblk W a c 0 t : S1x64x128.Idx → EReal) (ix3 0 r e) = (W c (Proc.devRef .tc main_v21) : S65x64x128.Idx → EReal) (ix3 t r e) := by
  blk_simp [Attn.iblk]
  refine congrArg (W c (Proc.devRef .tc main_v21) : S65x64x128.Idx → EReal) (funext fun i => Fin.ext ?_)
  refine (Pipeline.Window.rect_emb_val ((cfg1 a).win 0) t (ix3 0 r e) i rfl).trans ?_
  refine (congrArg (fun z => z * S1x64x128.size i + ((ix3 (0 : Fin 1) r e : S1x64x128.Idx) i : ℕ)) (congrFun (pt0 t) i)).trans ?_
  fin_cases i <;> simp

theorem pt1 : ∀ t : Fin grid1.N, cc1_transform_1 (grid1.coords t) = ![t.val, 0, 0] := by decide +kernel

theorem blk1 (a : (pcfg1 (F := Ideal)).Adm) (c : Dev nD) (t : Fin (cfg1 a).N) (r : Fin 8) (e : Fin 128) :
    (Attn.iblk W a c 1 t : S1x8x128.Idx → EReal) (ix3 0 r e) = (W c (Proc.devRef .tc main_v5) : S65x8x128.Idx → EReal) (ix3 t r e) := by
  blk_simp [Attn.iblk]
  refine congrArg (W c (Proc.devRef .tc main_v5) : S65x8x128.Idx → EReal) (funext fun i => Fin.ext ?_)
  refine (Pipeline.Window.rect_emb_val ((cfg1 a).win 1) t (ix3 0 r e) i rfl).trans ?_
  refine (congrArg (fun z => z * S1x8x128.size i + ((ix3 (0 : Fin 1) r e : S1x8x128.Idx) i : ℕ)) (congrFun (pt1 t) i)).trans ?_
  fin_cases i <;> simp

theorem pt2 : ∀ t : Fin grid1.N, cc1_transform_2 (grid1.coords t) = ![t.val, 0, 0] := by decide +kernel

theorem blk2 (a : (pcfg1 (F := Ideal)).Adm) (c : Dev nD) (t : Fin (cfg1 a).N) (r : Fin 8) (e : Fin 128) :
    (Attn.iblk W a c 2 t : S1x8x128.Idx → EReal) (ix3 0 r e) = (W c (Proc.devRef .tc main_v8) : S65x8x128.Idx → EReal) (ix3 t r e) := by
  blk_simp [Attn.iblk]
  refine congrArg (W c (Proc.devRef .tc main_v8) : S65x8x128.Idx → EReal) (funext fun i => Fin.ext ?_)
  refine (Pipeline.Window.rect_emb_val ((cfg1 a).win 2) t (ix3 0 r e) i rfl).trans ?_
  refine (congrArg (fun z => z * S1x8x128.size i + ((ix3 (0 : Fin 1) r e : S1x8x128.Idx) i : ℕ)) (congrFun (pt2 t) i)).trans ?_
  fin_cases i <;> simp

theorem pt3 : ∀ t : Fin grid1.N, cc1_transform_3 (grid1.coords t) = ![t.val, 0, 0, 0] := by decide +kernel

theorem blk3 (a : (pcfg1 (F := Ideal)).Adm) (c : Dev nD) (t : Fin (cfg1 a).N) (h : Fin 2) (j : Fin 32) (k : Fin 8192) :
    (Attn.iblk W a c 3 t : S1x2x32x8192.Idx → BitVec 8) (ix4 0 h j k) = (W c (Proc.devRef .tc main_v22) : S65x2x32x8192.Idx → BitVec 8) (ix4 t h j k) := by
  blk_simp [Attn.iblk]
  refine congrArg (W c (Proc.devRef .tc main_v22) : S65x2x32x8192.Idx → BitVec 8) (funext fun i => Fin.ext ?_)
  refine (Pipeline.Window.rect_emb_val ((cfg1 a).win 3) t (ix4 0 h j k) i rfl).trans ?_
  refine (congrArg (fun z => z * S1x2x32x8192.size i + ((ix4 (0 : Fin 1) h j k : S1x2x32x8192.Idx) i : ℕ)) (congrFun (pt3 t) i)).trans ?_
  fin_cases i <;> simp

theorem pt4 : ∀ t : Fin grid1.N, cc1_transform_4 (grid1.coords t) = ![t.val, 0, 0] := by decide +kernel

theorem blk4 (a : (pcfg1 (F := Ideal)).Adm) (c : Dev nD) (t : Fin (cfg1 a).N) (h : Fin 2) (k : Fin 8192) :
    (Attn.iblk W a c 4 t : S1x2x8192.Idx → EReal) (ix3 0 h k) = (W c (Proc.devRef .tc main_v24) : S65x2x8192.Idx → EReal) (ix3 t h k) := by
  blk_simp [Attn.iblk]
  refine congrArg (W c (Proc.devRef .tc main_v24) : S65x2x8192.Idx → EReal) (funext fun i => Fin.ext ?_)
  refine (Pipeline.Window.rect_emb_val ((cfg1 a).win 4) t (ix3 0 h k) i rfl).trans ?_
  refine (congrArg (fun z => z * S1x2x8192.size i + ((ix3 (0 : Fin 1) h k : S1x2x8192.Idx) i : ℕ)) (congrFun (pt4 t) i)).trans ?_
  fin_cases i <;> simp

theorem pt5 : ∀ t : Fin grid1.N, cc1_transform_5 (grid1.coords t) = ![t.val, 0, 0] := by decide +kernel

theorem blk5 (a : (pcfg1 (F := Ideal)).Adm) (c : Dev nD) (t : Fin (cfg1 a).N) (h : Fin 2) (k : Fin 8192) :
    (Attn.iblk W a c 5 t : S1x2x8192.Idx → EReal) (ix3 0 h k) = (W c (Proc.devRef .tc main_v26) : S65x2x8192.Idx → EReal) (ix3 t h k) := by
  blk_simp [Attn.iblk]
  refine congrArg (W c (Proc.devRef .tc main_v26) : S65x2x8192.Idx → EReal) (funext fun i => Fin.ext ?_)
  refine (Pipeline.Window.rect_emb_val ((cfg1 a).win 5) t (ix3 0 h k) i rfl).trans ?_
  refine (congrArg (fun z => z * S1x2x8192.size i + ((ix3 (0 : Fin 1) h k : S1x2x8192.Idx) i : ℕ)) (congrFun (pt5 t) i)).trans ?_
  fin_cases i <;> simp

theorem pt6 : ∀ t : Fin grid1.N, cc1_transform_6 (grid1.coords t) = ![t.val, 0, 0, 0] := by decide +kernel

theorem blk6 (a : (pcfg1 (F := Ideal)).Adm) (c : Dev nD) (t : Fin (cfg1 a).N) (h : Fin 2) (j : Fin 32) (k : Fin 8192) :
    (Attn.iblk W a c 6 t : S1x2x32x8192.Idx → BitVec 8) (ix4 0 h j k) = (W c (Proc.devRef .tc main_v27) : S65x2x32x8192.Idx → BitVec 8) (ix4 t h j k) := by
  blk_simp [Attn.iblk]
  refine congrArg (W c (Proc.devRef .tc main_v27) : S65x2x32x8192.Idx → BitVec 8) (funext fun i => Fin.ext ?_)
  refine (Pipeline.Window.rect_emb_val ((cfg1 a).win 6) t (ix4 0 h j k) i rfl).trans ?_
  refine (congrArg (fun z => z * S1x2x32x8192.size i + ((ix4 (0 : Fin 1) h j k : S1x2x32x8192.Idx) i : ℕ)) (congrFun (pt6 t) i)).trans ?_
  fin_cases i <;> simp

theorem pt7 : ∀ t : Fin grid1.N, cc1_transform_7 (grid1.coords t) = ![t.val, 0, 0] := by decide +kernel

theorem blk7 (a : (pcfg1 (F := Ideal)).Adm) (c : Dev nD) (t : Fin (cfg1 a).N) (h : Fin 2) (k : Fin 8192) :
    (Attn.iblk W a c 7 t : S1x2x8192.Idx → EReal) (ix3 0 h k) = (W c (Proc.devRef .tc main_v29) : S65x2x8192.Idx → EReal) (ix3 t h k) := by
  blk_simp [Attn.iblk]
  refine congrArg (W c (Proc.devRef .tc main_v29) : S65x2x8192.Idx → EReal) (funext fun i => Fin.ext ?_)
  refine (Pipeline.Window.rect_emb_val ((cfg1 a).win 7) t (ix3 0 h k) i rfl).trans ?_
  refine (congrArg (fun z => z * S1x2x8192.size i + ((ix3 (0 : Fin 1) h k : S1x2x8192.Idx) i : ℕ)) (congrFun (pt7 t) i)).trans ?_
  fin_cases i <;> simp

theorem pt8 : ∀ t : Fin grid1.N, cc1_transform_8 (grid1.coords t) = ![t.val, 0, 0] := by decide +kernel

theorem blk8 (a : (pcfg1 (F := Ideal)).Adm) (c : Dev nD) (t : Fin (cfg1 a).N) (h : Fin 2) (k : Fin 8192) :
    (Attn.iblk W a c 8 t : S1x2x8192.Idx → EReal) (ix3 0 h k) = (W c (Proc.devRef .tc main_v31) : S65x2x8192.Idx → EReal) (ix3 t h k) := by
  blk_simp [Attn.iblk]
  refine congrArg (W c (Proc.devRef .tc main_v31) : S65x2x8192.Idx → EReal) (funext fun i => Fin.ext ?_)
  refine (Pipeline.Window.rect_emb_val ((cfg1 a).win 8) t (ix3 0 h k) i rfl).trans ?_
  refine (congrArg (fun z => z * S1x2x8192.size i + ((ix3 (0 : Fin 1) h k : S1x2x8192.Idx) i : ℕ)) (congrFun (pt8 t) i)).trans ?_
  fin_cases i <;> simp

theorem pt9 : ∀ t : Fin grid1.N, cc1_transform_9 (grid1.coords t) = ![t.val, 0, 0] := by decide +kernel

/-- Contents of the tables, for a fact about the windows that does not depend on them. -/
def noTable : (pcfg1 (F := Ideal)).Adm := ⟨fun j => match j with | 0 => fun _ => (0#32 : BitVec 32), trivial⟩

theorem covers0 : ((cfg1 noTable).win 9).Covers := by decide +kernel

/-- The output's blocks cover its array, whatever the tables hold. -/
theorem covers (a : (pcfg1 (F := Ideal)).Adm) : ((cfg1 a).win 9).Covers := covers0

theorem emb9 (a : (pcfg1 (F := Ideal)).Adm) (t : Fin (cfg1 a).N) (r d : Fin 64) :
    ((((cfg1 a).win 9).blk t).view.emb (ix3 (0 : Fin 1) r d : S1x64x64.Idx) : S65x64x64.Idx) = ix3 t r d := by
  refine funext fun i => Fin.ext ?_
  refine (Pipeline.Window.rect_emb_val ((cfg1 a).win 9) t (ix3 (0 : Fin 1) r d : S1x64x64.Idx) i rfl).trans ?_
  refine (congrArg (fun z => z * S1x64x64.size i + ((ix3 (0 : Fin 1) r d : S1x64x64.Idx) i : ℕ)) (congrFun (pt9 t) i)).trans ?_
  fin_cases i <;> simp

theorem cell3 (y : S1x64x64.Idx) : ∃ r d : Fin 64, y = ix3 0 r d := by
  refine ⟨y 1, y 2, funext fun i => ?_⟩
  fin_cases i
  · refine Fin.ext ?_
    have : (y 0).val < 1 := (y 0).isLt
    show (y 0).val = 0
    omega
  · rfl
  · rfl

/-- The array written, from what each point leaves at each index of its block. -/
theorem arr (a : (pcfg1 (F := Ideal)).Adm) (hH : Attn.Hyps a) (c : Dev nD) (G : S65x64x64.Idx → EReal)
    (hG : ∀ (t : Fin (cfg1 a).N) (r d : Fin 64), (Attn.outAt W a hH c t : S1x64x64.Idx → EReal) (ix3 0 r d) = G (ix3 t r d)) :
    (Attn.dat W a hH c).arrAt 9 (cfg1 a).N = G := by
  refine (Attn.dat W a hH c).arrAt_eq_of_covers 9 G (covers a) (fun t hf y => ?_)
  blk_simp
  rw [Attn.after1_9]
  obtain ⟨r, d, hy⟩ := cell3 y
  exact (congrArg (Attn.outAt W a hH c t : S1x64x64.Idx → EReal) hy).trans <| (hG t r d).trans <|
    (congrArg G (emb9 a t r d)).symm.trans (congrArg (fun z : S1x64x64.Idx => G (((((cfg1 a).win 9).blk t).view.emb z : S65x64x64.Idx))) hy.symm)

end Cert.KernelIdeal.AttnWin
-- ==== Proof.KernelIdealAttnRes.lean ====
/-
  The kernel program's attention result, at an index, in terms of the launched arrays.
-/
module

public import proofs.«01_k».proof.Proof.KernelIdealAttnHost
public import proofs.«01_k».proof.Proof.KernelIdealAttnWin

@[expose] public section

noncomputable section

namespace Cert.KernelIdeal.AttnRes

open Cert.KernelIdeal Cert.KernelIdeal.Gen Cert.KernelIdeal.Run Cert.KernelIdeal.AttnHead Cert.KernelIdeal.AttnHost
open Cert.KernelIdeal.AttnWin Cert.KernelIdeal.AttnOut
open Idealize.ShloMosaic Idealize.ShloMosaic.TcCoe Idealize.SL.Sem

variable (m : (ℓ : Loc nD τ sig) → Buf (Elt Ideal) ℓ)

/-- The cached key of batch row `b`, head `h`, token `t`, at lane `d`. -/
def kold (c : Dev nD) (b : Fin 65) (h : Fin 2) (t : Fin 8192) (d : Fin 64) : EReal :=
  Spec.deq (fun j => (m ((c : Thread nD τ).loc main_arg3) : S65x8192x2x32.Idx → BitVec 8) (ix4 b t h j))
    ((m ((c : Thread nD τ).loc main_arg4) : S65x8192x2x1.Idx → EReal) (ix4 b t h 0))
    ((m ((c : Thread nD τ).loc main_arg5) : S65x8192x2x1.Idx → EReal) (ix4 b t h 0)) d

/-- The cached value. -/
def vold (c : Dev nD) (b : Fin 65) (h : Fin 2) (t : Fin 8192) (d : Fin 64) : EReal :=
  Spec.deq (fun j => (m ((c : Thread nD τ).loc main_arg6) : S65x8192x2x32.Idx → BitVec 8) (ix4 b t h j))
    ((m ((c : Thread nD τ).loc main_arg7) : S65x8192x2x1.Idx → EReal) (ix4 b t h 0))
    ((m ((c : Thread nD τ).loc main_arg8) : S65x8192x2x1.Idx → EReal) (ix4 b t h 0)) d

/-- The batch row's length. -/
def len (c : Dev nD) (b : Fin 65) : BitVec 32 := (m ((c : Thread nD τ).loc main_arg9) : S65.Idx → BitVec 32) (Idealize.ShloMosaic.ix1 b)

/-- The queries, the new keys, and the cached keys' scales and zeros are finite. -/
structure Fine : Prop where
  x : ∀ (c : Dev nD) i, Spec.Fin' ((m ((c : Thread nD τ).loc main_arg0) : S65x4x16x64.Idx → EReal) i)
  k : ∀ (c : Dev nD) i, Spec.Fin' ((m ((c : Thread nD τ).loc main_arg1) : S65x4x2x64.Idx → EReal) i)
  scale : ∀ (c : Dev nD) i, Spec.Fin' ((m ((c : Thread nD τ).loc main_arg4) : S65x8192x2x1.Idx → EReal) i)
  zero : ∀ (c : Dev nD) i, Spec.Fin' ((m ((c : Thread nD τ).loc main_arg5) : S65x8192x2x1.Idx → EReal) i)

section

variable {m} (hf : Fine m) (c : Dev nD) (b : Fin 65) (h : Fin 2)

include hf in
theorem query_fin (g : Fin 8) (s : Fin 4) (d : Fin 64) : Spec.Fin' (query m c b h g s d) := hf.x c _

include hf in
theorem knew_fin (u : Fin 4) (d : Fin 64) : Spec.Fin' (Spec.back (Res.krow m c b u h) d) := Spec.back_fin _ (fun _ => hf.k c _) d

include hf in
theorem kold_fin (t : Fin 8192) (d : Fin 64) : Spec.Fin' (kold m c b h t d) := Spec.deq_fin _ (hf.scale c _) (hf.zero c _) d

end

/-- The attention of one query, as the formula. -/
def out (c : Dev nD) (b : Fin 65) (h : Fin 2) (g : Fin 8) (s : Fin 4) (d : Fin 64) : EReal :=
  Spec.attend (Spec.fresh (query m c b h g s) (fun u => Spec.back (Res.krow m c b u h)) s)
    (fun u => Spec.back (Res.vrow m c b u h) d)
    (Spec.past (query m c b h g s) (kold m c b h) (len m c b)) (fun t => vold m c b h t d)

theorem pt : ∀ t : Fin grid1.N, k1_off1 (grid1.coords t) = ![t.val] := by decide +kernel

/-- The length the body loads at point `t`. -/
theorem start_eq (c : Dev nD) (t : Fin (cfg1 (tab m)).N) :
    Attn.tbM1_0.view.readAt (Elt Ideal) (Rect.unit (s := S65) (k1_off1 (grid1.coords t)) S1.size (k1_off1_inb (grid1.coords t))).toLoadRect ((tab m).1 0)
      (Shape.Idx.first (numel1_S1.symm ▸ Nat.one_pos)) = len m c t := by
  obtain rfl : c = 0 := Subsingleton.elim _ _
  refine congrArg (m (((0 : Dev nD) : Thread nD τ).loc main_arg9) : S65.Idx → BitVec 32) (funext fun i => Fin.ext ?_)
  fin_cases i
  show k1_off1 (grid1.coords t) 0 + 1 * 0 = t.val
  rw [pt t]
  rfl

section

variable {m} (hs : Short m) (hf : Fine m) (c : Dev nD)

include hf in
theorem point (t : Fin (cfg1 (tab m)).N) (h : Fin 2) (g : Fin 8) (s : Fin 4) (d : Fin 64) :
    (Attn.outAt (V7 m (outsQ m)) (tab m) (hyps m hs) c t : S1x64x64.Idx → EReal) (ix3 0 (qrow h g s) d) = out m c t h g s d := by
  have hx0 : ∀ e, (Attn.iblk (V7 m (outsQ m)) (tab m) c 0 t : S1x64x128.Idx → EReal) (ix3 0 (qrow h g s) (hl h e)) = query m c t h g s e :=
    fun e => (blk0 _ _ c t _ _).trans (v21_own m c t h g s e)
  have hz0 : ∀ (h' : Fin 2) e, h' ≠ h → (Attn.iblk (V7 m (outsQ m)) (tab m) c 0 t : S1x64x128.Idx → EReal) (ix3 0 (qrow h g s) (hl h' e)) = (0 : EReal) :=
    fun h' e hne => (blk0 _ _ c t _ _).trans (v21_other m c t h h' g s e hne)
  have hx1 : ∀ u e, (Attn.iblk (V7 m (outsQ m)) (tab m) c 1 t : S1x8x128.Idx → EReal) (ix3 0 (up u) (hl h e)) = Spec.back (Res.krow m c t u h) e :=
    fun u e => (blk1 _ _ c t _ _).trans (v5 m c t u h e)
  have hx2 : ∀ u e, (Attn.iblk (V7 m (outsQ m)) (tab m) c 2 t : S1x8x128.Idx → EReal) (ix3 0 (up u) (hl h e)) = Spec.back (Res.vrow m c t u h) e :=
    fun u e => (blk2 _ _ c t _ _).trans (v8 m c t u h e)
  have hx3 : ∀ e k, Trip.lane (Attn.iblk (V7 m (outsQ m)) (tab m) c 3 t) (Attn.iblk (V7 m (outsQ m)) (tab m) c 4 t) (Attn.iblk (V7 m (outsQ m)) (tab m) c 5 t) h e k = kold m c t h k e := by
    intro e k
    have e3 : (fun j : Fin 32 => (Attn.iblk (V7 m (outsQ m)) (tab m) c 3 t : S1x2x32x8192.Idx → BitVec 8) (ix4 0 h j k)) = _ :=
      funext fun j => (blk3 _ _ c t h j k).trans (v22 m c t h j k)
    have e4 := (blk4 (V7 m (outsQ m)) (tab m) c t h k).trans (v24 m c t h k)
    have e5 := (blk5 (V7 m (outsQ m)) (tab m) c t h k).trans (v26 m c t h k)
    unfold Trip.lane kold
    rw [e3, e4, e5]
  have hx6 : ∀ e k, Trip.lane (Attn.iblk (V7 m (outsQ m)) (tab m) c 6 t) (Attn.iblk (V7 m (outsQ m)) (tab m) c 7 t) (Attn.iblk (V7 m (outsQ m)) (tab m) c 8 t) h e k = vold m c t h k e := by
    intro e k
    have e3 : (fun j : Fin 32 => (Attn.iblk (V7 m (outsQ m)) (tab m) c 6 t : S1x2x32x8192.Idx → BitVec 8) (ix4 0 h j k)) = _ :=
      funext fun j => (blk6 _ _ c t h j k).trans (v27 m c t h j k)
    have e4 := (blk7 (V7 m (outsQ m)) (tab m) c t h k).trans (v29 m c t h k)
    have e5 := (blk8 (V7 m (outsQ m)) (tab m) c t h k).trans (v31 m c t h k)
    unfold Trip.lane vold
    rw [e3, e4, e5]
  have hq := query_fin hf c t h g s
  have hk := knew_fin hf c t h
  have hc := kold_fin hf c t h
  unfold Attn.outAt
  refine (out_apply c (grid1.coords t) _ _ _ _ _ _ _ _ _ _ _ _ _ _ _ _ _ _ _ _ _ _ _ _ _ _ _ _ _ _ (len m c t) _ (start_eq m c t) (hs c _) (qrow h g s) d
    (new_ne_top h g s hx0 hz0 hx1 hq hk) (new_zero h g s hx0 hz0 hx1 hq hk) (old_ne_top h g s (len m c t) hx0 hz0 hx3 hq hc)).trans ?_
  exact value h g s (len m c t) hx0 hz0 hx1 hx2 hx3 hx6 d

theorem split (r : Fin 64) : ∃ (h : Fin 2) (g : Fin 8) (s : Fin 4), r = qrow h g s :=
  ⟨⟨r.val / 32, by omega⟩, ⟨r.val / 4 % 8, by omega⟩, ⟨r.val % 4, by omega⟩, Fin.ext (by show r.val = r.val / 32 * 32 + r.val / 4 % 8 * 4 + r.val % 4; omega)⟩

/-- The attention region's output array. -/
def whole (y : S65x64x64.Idx) : EReal :=
  out m c (y 0) ⟨(y 1).val / 32, by have : (y 1).val < 64 := (y 1).isLt; omega⟩ ⟨(y 1).val / 4 % 8, by omega⟩ ⟨(y 1).val % 4, by omega⟩ (y 2)

theorem whole_apply (b : Fin 65) (h : Fin 2) (g : Fin 8) (s : Fin 4) (d : Fin 64) :
    whole (m := m) c (ix3 b (qrow h g s) d) = out m c b h g s d := by
  have e1 : (⟨(qrow h g s).val / 32, by have := (qrow h g s).isLt; omega⟩ : Fin 2) = h := Fin.ext (by show (h.val * 32 + g.val * 4 + s.val) / 32 = h.val; omega)
  have e2 : (⟨(qrow h g s).val / 4 % 8, by omega⟩ : Fin 8) = g := Fin.ext (by show (h.val * 32 + g.val * 4 + s.val) / 4 % 8 = g.val; omega)
  have e3 : (⟨(qrow h g s).val % 4, by omega⟩ : Fin 4) = s := Fin.ext (qrow_mod h g s)
  show out m c b ⟨(qrow h g s).val / 32, _⟩ ⟨(qrow h g s).val / 4 % 8, _⟩ ⟨(qrow h g s).val % 4, _⟩ d = _
  rw [e1, e2, e3]

include hf in
theorem arr9 : (Attn.dat (V7 m (outsQ m)) (tab m) (hyps m hs) c).arrAt 9 (cfg1 (tab m)).N = whole (m := m) c := by
  refine arr (V7 m (outsQ m)) (tab m) (hyps m hs) c (whole (m := m) c) fun t r d => ?_
  obtain ⟨h, g, s, rfl⟩ := split r
  exact (point hs hf c t h g s d).trans (whole_apply c t h g s d).symm

include hf in
theorem outs32 : outs m hs 8 main_v32 c = whole (m := m) c :=
  (Pipeline.afterRegion_arr (Attn.dat (V7 m (outsQ m)) (tab m) (hyps m hs) c) (V7 m (outsQ m) c) winFacts1.arr_inj 9).trans (arr9 hs hf c)

theorem unstack (w : S65x64x64.Idx → EReal) (b : Fin 65) (s : Fin 4) (k : Fin 1024) :
    shapeCast S65x4x1024 (transpose S65x4x2x8x64 [0, 3, 1, 2, 4] (shapeCast S65x2x8x4x64 w shapeCasts_S65x64x64_S65x2x8x4x64) transposes_S65x2x8x4x64_S65x4x2x8x64_0_3_1_2_4) shapeCasts_S65x4x2x8x64_S65x4x1024 (ix3 b s k) =
      w (ix3 b (qrow ⟨k.val / 512, by omega⟩ ⟨k.val / 64 % 8, by omega⟩ s) ⟨k.val % 64, by omega⟩) := by
  pointwise
  rfl

include hf in
theorem v35_apply (b : Fin 65) (s : Fin 4) (k : Fin 1024) :
    (V9 m (outs m hs) c (Proc.devRef .tc main_v35) : S65x4x1024.Idx → EReal) (ix3 b s k) =
      out m c b ⟨k.val / 512, by omega⟩ ⟨k.val / 64 % 8, by omega⟩ s ⟨k.val % 64, by omega⟩ := by
  refine (congrFun (show (V9 m (outs m hs) c (Proc.devRef .tc main_v35) : S65x4x1024.Idx → EReal) =
    shapeCast S65x4x1024 (transpose S65x4x2x8x64 [0, 3, 1, 2, 4] (shapeCast S65x2x8x4x64 (outs m hs 8 main_v32 c) shapeCasts_S65x64x64_S65x2x8x4x64) transposes_S65x2x8x4x64_S65x4x2x8x64_0_3_1_2_4) shapeCasts_S65x4x2x8x64_S65x4x1024 from rfl) (ix3 b s k)).trans ?_
  refine (unstack _ b s k).trans ?_
  rw [outs32 hs hf]
  exact whole_apply c b _ _ s _

end

end Cert.KernelIdeal.AttnRes
-- ==== Proof.ReferenceIdealRes.lean ====
/-
  The reference's quantiser at an index, in terms of the row of 64 numbers it comes from.
-/
module

public import proofs.«01_k».proof.Proof.Gen.ReferenceIdeal.Run
public import proofs.«01_k».proof.Proof.Spec

@[expose] public section

noncomputable section

namespace Cert.ReferenceIdeal.Res

open Cert.ReferenceIdeal Cert.ReferenceIdeal.Gen Cert.ReferenceIdeal.Value
open Idealize.ShloMosaic Idealize.ShloMosaic.StableHlo

variable (V0 : Valuation τ sig (Elt Ideal))

/-- The row of new keys of batch row `b`, token `s`, head `h`. -/
def krow (b : Fin 65) (s : Fin 4) (h : Fin 2) : Fin 64 → EReal := fun k =>
  (V0 (Proc.devRef .tc main_arg1) : S65x4x2x64.Idx → EReal) (ix4 b s h k)

/-- The row of new values. -/
def vrow (b : Fin 65) (s : Fin 4) (h : Fin 2) : Fin 64 → EReal := fun k =>
  (V0 (Proc.devRef .tc main_arg2) : S65x4x2x64.Idx → EReal) (ix4 b s h k)

theorem kmin_apply (b : Fin 65) (s : Fin 4) (h : Fin 2) :
    (res_main_v2 V0 : S65x4x2x1.Idx → EReal) (ix4 b s h 0) = Spec.rowMin (krow V0 b s h) := by
  pointwise [res_main_v2, res_main_v1]
  exact (Shape.ReducesTo.fold_fiber_r5_a4 Gen.reducesTo_S65x4x2x1x64_S65x4x2x1_d4 (ix4 b s h 0) (min : EReal → EReal → EReal) _ _).trans rfl

theorem kmax_apply (b : Fin 65) (s : Fin 4) (h : Fin 2) :
    (res_main_v3 V0 : S65x4x2x1.Idx → EReal) (ix4 b s h 0) = Spec.rowMax (krow V0 b s h) := by
  pointwise [res_main_v3, res_main_v1]
  exact (Shape.ReducesTo.fold_fiber_r5_a4 Gen.reducesTo_S65x4x2x1x64_S65x4x2x1_d4 (ix4 b s h 0) (max : EReal → EReal → EReal) _ _).trans rfl

theorem kscale_apply (b : Fin 65) (s : Fin 4) (h : Fin 2) :
    (res_main_v9 V0 : S65x4x2x1.Idx → EReal) (ix4 b s h 0) = Spec.scale (krow V0 b s h) := by
  pointwise [res_main_v9]
  rw [kmin_apply, kmax_apply]
  have e : (id (constant (F := Ideal) S_ FTy.f32 1065353216#32) ix0 : EReal) = 1 := by
    show constant (F := Ideal) S_ FTy.f32 1065353216#32 ix0 = (1 : EReal)
    pointwise
  rw [e]
  rfl

theorem kzero_apply (b : Fin 65) (s : Fin 4) (h : Fin 2) :
    (res_main_v10 V0 : S65x4x2x1.Idx → EReal) (ix4 b s h 0) = Spec.rowMin (krow V0 b s h) := by
  pointwise [res_main_v10]
  exact kmin_apply V0 b s h

theorem kword_apply (b : Fin 65) (s : Fin 4) (h : Fin 2) (d : Fin 64) :
    (res_main_v22 V0 : S65x4x2x64.Idx → BitVec 32) (ix4 b s h d) = Spec.word (krow V0 b s h) d := by
  pointwise [res_main_v22, res_main_v1]
  rw [kzero_apply, kscale_apply]
  rfl

/-- The packed codes, as the reference computes them from its words. -/
def kbyte : S65x4x2x32.Idx → BitVec 8 :=
  trunci 8 (ori (Host.slice S65x4x2x32 ![0, 0, 0, 0] ![1, 1, 1, 2] (res_main_v22 V0) slicesBy_S65x4x2x64_S65x4x2x32_0s1_0s1_0s1_0s2) (Host.shli (Host.slice S65x4x2x32 ![0, 0, 0, 1] ![1, 1, 1, 2] (res_main_v22 V0) slicesBy_S65x4x2x64_S65x4x2x32_0s1_0s1_0s1_1s2) (broadcastInDim S65x4x2x32 ![] bcast_S_S65x4x2x32 (constantI S_ 32 4#32)))) natLt_8_32

theorem kbyte_apply (b : Fin 65) (s : Fin 4) (h : Fin 2) (d : Fin 32) :
    kbyte V0 (ix4 b s h d) = Spec.byte (krow V0 b s h) d := by
  pointwise [kbyte]
  rw [kword_apply, kword_apply]
  have e0 : (⟨2 * d.val, by omega⟩ : Fin 64) = Spec.ev d := Fin.ext (Nat.mul_comm _ _)
  have e1 : (⟨1 + 2 * d.val, by omega⟩ : Fin 64) = Spec.od d := Fin.ext (by show 1 + 2 * d.val = d.val * 2 + 1; omega)
  rw [e0, e1]
  rfl

theorem vmin_apply (b : Fin 65) (s : Fin 4) (h : Fin 2) :
    (res_main_v31 V0 : S65x4x2x1.Idx → EReal) (ix4 b s h 0) = Spec.rowMin (vrow V0 b s h) := by
  pointwise [res_main_v31, res_main_v30]
  exact (Shape.ReducesTo.fold_fiber_r5_a4 Gen.reducesTo_S65x4x2x1x64_S65x4x2x1_d4 (ix4 b s h 0) (min : EReal → EReal → EReal) _ _).trans rfl

theorem vmax_apply (b : Fin 65) (s : Fin 4) (h : Fin 2) :
    (res_main_v32 V0 : S65x4x2x1.Idx → EReal) (ix4 b s h 0) = Spec.rowMax (vrow V0 b s h) := by
  pointwise [res_main_v32, res_main_v30]
  exact (Shape.ReducesTo.fold_fiber_r5_a4 Gen.reducesTo_S65x4x2x1x64_S65x4x2x1_d4 (ix4 b s h 0) (max : EReal → EReal → EReal) _ _).trans rfl

theorem vscale_apply (b : Fin 65) (s : Fin 4) (h : Fin 2) :
    (res_main_v38 V0 : S65x4x2x1.Idx → EReal) (ix4 b s h 0) = Spec.scale (vrow V0 b s h) := by
  pointwise [res_main_v38]
  rw [vmin_apply, vmax_apply]
  have e : (id (constant (F := Ideal) S_ FTy.f32 1065353216#32) ix0 : EReal) = 1 := by
    show constant (F := Ideal) S_ FTy.f32 1065353216#32 ix0 = (1 : EReal)
    pointwise
  rw [e]
  rfl

theorem vzero_apply (b : Fin 65) (s : Fin 4) (h : Fin 2) :
    (res_main_v39 V0 : S65x4x2x1.Idx → EReal) (ix4 b s h 0) = Spec.rowMin (vrow V0 b s h) := by
  pointwise [res_main_v39]
  exact vmin_apply V0 b s h

theorem vword_apply (b : Fin 65) (s : Fin 4) (h : Fin 2) (d : Fin 64) :
    (res_main_v51 V0 : S65x4x2x64.Idx → BitVec 32) (ix4 b s h d) = Spec.word (vrow V0 b s h) d := by
  pointwise [res_main_v51, res_main_v30]
  rw [vzero_apply, vscale_apply]
  rfl

/-- The packed codes, as the reference computes them from its words. -/
def vbyte : S65x4x2x32.Idx → BitVec 8 :=
  trunci 8 (ori (Host.slice S65x4x2x32 ![0, 0, 0, 0] ![1, 1, 1, 2] (res_main_v51 V0) slicesBy_S65x4x2x64_S65x4x2x32_0s1_0s1_0s1_0s2) (Host.shli (Host.slice S65x4x2x32 ![0, 0, 0, 1] ![1, 1, 1, 2] (res_main_v51 V0) slicesBy_S65x4x2x64_S65x4x2x32_0s1_0s1_0s1_1s2) (broadcastInDim S65x4x2x32 ![] bcast_S_S65x4x2x32 (constantI S_ 32 4#32)))) natLt_8_32

theorem vbyte_apply (b : Fin 65) (s : Fin 4) (h : Fin 2) (d : Fin 32) :
    vbyte V0 (ix4 b s h d) = Spec.byte (vrow V0 b s h) d := by
  pointwise [vbyte]
  rw [vword_apply, vword_apply]
  have e0 : (⟨2 * d.val, by omega⟩ : Fin 64) = Spec.ev d := Fin.ext (Nat.mul_comm _ _)
  have e1 : (⟨1 + 2 * d.val, by omega⟩ : Fin 64) = Spec.od d := Fin.ext (by show 1 + 2 * d.val = d.val * 2 + 1; omega)
  rw [e0, e1]
  rfl

end Cert.ReferenceIdeal.Res
-- ==== Proof.Halves.lean ====
/-
  A packed row read in its two halves: the even lanes from the low nibbles and the odd lanes from the high ones, and a sum
  over the 64 lanes as the sum over the even ones and the sum over the odd ones.
-/
module

public import proofs.«01_k».proof.Proof.Attend

@[expose] public section

noncomputable section

namespace Cert.Spec

open Idealize.ShloMosaic

theorem pairs (f : Fin 64 → EReal) :
    (∑ x : Fin 32, f ⟨2 * x.val, by omega⟩) + ∑ x : Fin 32, f ⟨1 + 2 * x.val, by omega⟩ = ∑ d, f d := by
  rw [← Finset.sum_add_distrib]
  refine Eq.symm ((Equiv.sum_comp (finProdFinEquiv (m := 32) (n := 2)) f).symm.trans ?_)
  rw [Fintype.sum_prod_type]
  refine Finset.sum_congr rfl fun x _ => ?_
  rw [Fin.sum_univ_two]
  exact congrArg₂ (fun y z : EReal => y + z) (congrArg f (Fin.ext (by simp [finProdFinEquiv])))
    (congrArg f (Fin.ext (by simp [finProdFinEquiv])))

theorem shr_host (w : BitVec 32) : IntOp.shrsi ArithUnit.host w 4#32 = IntOp.shrsi ArithUnit.vector w 4#32 := rfl

theorem deq_lo (codes : Fin 32 → BitVec 8) (sc ze : EReal) (d : Fin 64) (j : Fin 32) (hd : d.val % 2 < 1) (hj : j.val = d.val / 2) :
    (FloatOps.sitofp (F := Ideal) FTy.bf16 (IntOp.andi (BitVec.setWidth 32 (codes j)) 15#32) : EReal) * sc + ze = deq codes sc ze d := by
  have e : j = ⟨d.val / 2, by omega⟩ := Fin.ext hj
  unfold deq unpack
  rw [if_pos hd, e]
  rfl

theorem deq_hi (codes : Fin 32 → BitVec 8) (sc ze : EReal) (d : Fin 64) (j : Fin 32) (hd : ¬ d.val % 2 < 1) (hj : j.val = d.val / 2) :
    (FloatOps.sitofp (F := Ideal) FTy.bf16 (IntOp.shrsi ArithUnit.host (BitVec.setWidth 32 (codes j)) 4#32) : EReal) * sc + ze = deq codes sc ze d := by
  have e : j = ⟨d.val / 2, by omega⟩ := Fin.ext hj
  unfold deq unpack
  rw [if_neg hd, e, shr_host]
  rfl

theorem term_lo (codes : Fin 32 → BitVec 8) (sc ze : EReal) (d : Fin 64) (j : Fin 32) (p : EReal) (hd : d.val % 2 < 1) (hj : j.val = d.val / 2) :
    ((FloatOps.sitofp (F := Ideal) FTy.bf16 (IntOp.andi (BitVec.setWidth 32 (codes j)) 15#32) : EReal) * sc + ze) * p = deq codes sc ze d * p := by
  rw [deq_lo codes sc ze d j hd hj]

theorem term_hi (codes : Fin 32 → BitVec 8) (sc ze : EReal) (d : Fin 64) (j : Fin 32) (p : EReal) (hd : ¬ d.val % 2 < 1) (hj : j.val = d.val / 2) :
    ((FloatOps.sitofp (F := Ideal) FTy.bf16 (IntOp.shrsi ArithUnit.host (BitVec.setWidth 32 (codes j)) 4#32) : EReal) * sc + ze) * p
      = deq codes sc ze d * p := by
  rw [deq_hi codes sc ze d j hd hj]

/-- A query against a packed row, half by half. -/
theorem halves (codes : Fin 32 → BitVec 8) (sc ze : EReal) (q : Fin 64 → EReal) :
    (∑ x : Fin 32, ((FloatOps.sitofp (F := Ideal) FTy.bf16 (IntOp.andi (BitVec.setWidth 32 (codes x)) 15#32) : EReal) * sc + ze) * q ⟨2 * x.val, by omega⟩)
      + ∑ x : Fin 32, ((FloatOps.sitofp (F := Ideal) FTy.bf16 (IntOp.shrsi ArithUnit.host (BitVec.setWidth 32 (codes x)) 4#32) : EReal) * sc + ze) * q ⟨1 + 2 * x.val, by omega⟩
      = ∑ d, q d * deq codes sc ze d := by
  rw [← pairs]
  refine congrArg₂ (fun y z : EReal => y + z) (Finset.sum_congr rfl fun x _ => ?_) (Finset.sum_congr rfl fun x _ => ?_)
  · rw [deq_lo codes sc ze ⟨2 * x.val, by omega⟩ x (by show 2 * x.val % 2 < 1; omega) (by show x.val = 2 * x.val / 2; omega), mul_comm]
  · rw [deq_hi codes sc ze ⟨1 + 2 * x.val, by omega⟩ x (by show ¬ ((1 + 2 * x.val) % 2 < 1); omega) (by show x.val = (1 + 2 * x.val) / 2; omega), mul_comm]

theorem bot_eighth : (⊥ : EReal) * ((1 / 8 : ℝ) : EReal) = ⊥ := EReal.bot_mul_coe_of_pos (by norm_num)

theorem eighth_ne_top {x : EReal} (h : x ≠ ⊤) : x * ((1 / 8 : ℝ) : EReal) ≠ ⊤ := by
  by_cases hb : x = ⊥
  · rw [hb, bot_eighth]; exact bot_ne_top
  · exact (Fin'.mul ⟨h, hb⟩ (fin_coe _)).1

theorem eighth_ne_bot {x : EReal} (h : x ≠ ⊤) (hb : x ≠ ⊥) : x * ((1 / 8 : ℝ) : EReal) ≠ ⊥ := (Fin'.mul ⟨h, hb⟩ (fin_coe _)).2

theorem ofBits_eighth : Ideal.ofBits .f32 1040187392#32 = ((1 / 8 : ℝ) : EReal) := by
  simp [Ideal.ofBits, Ideal.ieee]
  rw [← EReal.coe_mul]
  norm_num

theorem ofBits_bot : Ideal.ofBits .f32 4286578688#32 = ⊥ := by
  simp [Ideal.ofBits, Ideal.ieee]

theorem fin_toInt (n : Nat) (h : n < 2 ^ 31) : (BitVec.ofNat 32 n).toInt = (n : ℤ) := by
  rw [BitVec.toInt_eq_toNat_cond, BitVec.toNat_ofNat, Nat.mod_eq_of_lt (by omega), if_pos (by omega)]

/-- The scaled and masked score of a cached token. -/
theorem past_select (q : Fin 64 → EReal) (k : Fin 8192 → Fin 64 → EReal) (v : BitVec 32) (t : Fin 8192) (X y e : EReal)
    (hX : X = ∑ d, q d * k t d) (hy : y = ((1 / 8 : ℝ) : EReal)) (he : e = ⊥) :
    Scalar.select (IntOp.cmpi .slt (BitVec.ofNat 32 t.val) v) (X * y) e = past q k v t * ((1 / 8 : ℝ) : EReal) := by
  subst hX hy he
  have ht := fin_toInt t.val (by omega)
  unfold past
  by_cases hlt : (t.val : ℤ) < v.toInt
  · have : IntOp.cmpi .slt (BitVec.ofNat 32 t.val) v = 1#1 := by
      unfold IntOp.cmpi
      simp [BitVec.slt, ht, hlt]
    rw [this, if_pos hlt]
    rfl
  · have : IntOp.cmpi .slt (BitVec.ofNat 32 t.val) v = 0#1 := by
      unfold IntOp.cmpi
      simp [BitVec.slt, ht, hlt]
    rw [this, if_neg hlt, bot_eighth]
    rfl

theorem sle_four : ∀ s u : Fin 4, IntOp.cmpi .sle (BitVec.ofNat 32 u.val) (BitVec.ofNat 32 s.val) = if u.val ≤ s.val then 1#1 else 0#1 := by
  decide +kernel

/-- The scaled and masked score of a new token. -/
theorem fresh_select (q : Fin 64 → EReal) (k : Fin 4 → Fin 64 → EReal) (s u : Fin 4) (X y e : EReal)
    (hX : X = ∑ d, q d * k u d) (hy : y = ((1 / 8 : ℝ) : EReal)) (he : e = ⊥) :
    Scalar.select (IntOp.cmpi .sle (BitVec.ofNat 32 u.val) (BitVec.ofNat 32 s.val)) (X * y) e = fresh q k s u * ((1 / 8 : ℝ) : EReal) := by
  subst hX hy he
  unfold fresh
  rw [sle_four]
  split
  · rfl
  · rw [bot_eighth]; rfl

/-- The greatest of the scaled scores is a real number. -/
theorem max_real {a b : Nat} (fC : Fin a → EReal) (fN : Fin b → EReal) (hC : ∀ t, fC t ≠ ⊤) (hN : ∀ u, fN u ≠ ⊤) (u0 : Fin b) (h0 : fN u0 ≠ ⊥) :
    ∃ M : ℝ, max (Finset.fold max (⊥ : EReal) (fun t => fC t * ((1 / 8 : ℝ) : EReal)) Finset.univ)
      (Finset.fold max (⊥ : EReal) (fun u => fN u * ((1 / 8 : ℝ) : EReal)) Finset.univ) = (M : EReal) := by
  refine fin_iff.mp ⟨?_, ?_⟩
  · refine ne_of_lt (max_lt ?_ ?_)
    · exact (Finset.fold_max_lt _).mpr ⟨bot_lt_top, fun t _ => lt_top_iff_ne_top.mpr (eighth_ne_top (hC t))⟩
    · exact (Finset.fold_max_lt _).mpr ⟨bot_lt_top, fun u _ => lt_top_iff_ne_top.mpr (eighth_ne_top (hN u))⟩
  · refine ne_of_gt (lt_of_lt_of_le (bot_lt_iff_ne_bot.mpr (eighth_ne_bot (hN u0) h0)) (le_max_of_le_right ?_))
    exact (Finset.le_fold_max _).mpr (Or.inr ⟨u0, Finset.mem_univ _, le_rfl⟩)

end Cert.Spec
-- ==== Proof.ReferenceIdealScores.lean ====
/-
  The reference's scaled and masked scores at an index: a query against a cached key, and against a new key.
-/
module

public import proofs.«01_k».proof.Proof.ReferenceIdealRes
public import proofs.«01_k».proof.Proof.Halves

@[expose] public section

noncomputable section

namespace Cert.ReferenceIdeal.AttnRes

open Cert.ReferenceIdeal Cert.ReferenceIdeal.Gen Cert.ReferenceIdeal.Value Cert.ReferenceIdeal.Res
open Idealize.ShloMosaic Idealize.ShloMosaic.StableHlo

variable (V0 : Valuation τ sig (Elt Ideal))

/-- The query of batch row `b`, token `s`, head `h`, group `g`. -/
def query (b : Fin 65) (h : Fin 2) (g : Fin 8) (s : Fin 4) (d : Fin 64) : EReal :=
  (V0 (Proc.devRef .tc main_arg0) : S65x4x16x64.Idx → EReal) (ix4 b s ⟨h.val * 8 + g.val, by omega⟩ d)

/-- The cached key of batch row `b`, head `h`, token `t`, at lane `d`. -/
def kold (b : Fin 65) (h : Fin 2) (t : Fin 8192) (d : Fin 64) : EReal :=
  Spec.deq (fun j => (V0 (Proc.devRef .tc main_arg3) : S65x8192x2x32.Idx → BitVec 8) (ix4 b t h j))
    ((V0 (Proc.devRef .tc main_arg4) : S65x8192x2x1.Idx → EReal) (ix4 b t h 0))
    ((V0 (Proc.devRef .tc main_arg5) : S65x8192x2x1.Idx → EReal) (ix4 b t h 0)) d

/-- The cached value. -/
def vold (b : Fin 65) (h : Fin 2) (t : Fin 8192) (d : Fin 64) : EReal :=
  Spec.deq (fun j => (V0 (Proc.devRef .tc main_arg6) : S65x8192x2x32.Idx → BitVec 8) (ix4 b t h j))
    ((V0 (Proc.devRef .tc main_arg7) : S65x8192x2x1.Idx → EReal) (ix4 b t h 0))
    ((V0 (Proc.devRef .tc main_arg8) : S65x8192x2x1.Idx → EReal) (ix4 b t h 0)) d

/-- The batch row's length. -/
def len (b : Fin 65) : BitVec 32 := (V0 (Proc.devRef .tc main_arg9) : S65.Idx → BitVec 32) (ix1 b)

/-- The packed new key, as the attention reads it. -/
def kpack (b : Fin 65) (u : Fin 4) (h : Fin 2) (x : Fin 32) : BitVec 8 :=
  BitVec.setWidth 8 (IntOp.ori ((res_main_v22 V0 : S65x4x2x64.Idx → BitVec 32) (ix4 b u h ⟨2 * x.val, by omega⟩))
    (IntOp.shli ArithUnit.host ((res_main_v22 V0 : S65x4x2x64.Idx → BitVec 32) (ix4 b u h ⟨1 + 2 * x.val, by omega⟩)) 4#32))

theorem kpack_eq (b : Fin 65) (u : Fin 4) (h : Fin 2) : kpack V0 b u h = Spec.byte (krow V0 b u h) := by
  funext x
  unfold kpack
  rw [kword_apply, kword_apply]
  have e0 : (⟨2 * x.val, by omega⟩ : Fin 64) = Spec.ev x := Fin.ext (Nat.mul_comm _ _)
  have e1 : (⟨1 + 2 * x.val, by omega⟩ : Fin 64) = Spec.od x := Fin.ext (by show 1 + 2 * x.val = x.val * 2 + 1; omega)
  rw [e0, e1]
  rfl

/-- The packed new value. -/
def vpack (b : Fin 65) (u : Fin 4) (h : Fin 2) (x : Fin 32) : BitVec 8 :=
  BitVec.setWidth 8 (IntOp.ori ((res_main_v51 V0 : S65x4x2x64.Idx → BitVec 32) (ix4 b u h ⟨2 * x.val, by omega⟩))
    (IntOp.shli ArithUnit.host ((res_main_v51 V0 : S65x4x2x64.Idx → BitVec 32) (ix4 b u h ⟨1 + 2 * x.val, by omega⟩)) 4#32))

theorem vpack_eq (b : Fin 65) (u : Fin 4) (h : Fin 2) : vpack V0 b u h = Spec.byte (vrow V0 b u h) := by
  funext x
  unfold vpack
  rw [vword_apply, vword_apply]
  have e0 : (⟨2 * x.val, by omega⟩ : Fin 64) = Spec.ev x := Fin.ext (Nat.mul_comm _ _)
  have e1 : (⟨1 + 2 * x.val, by omega⟩ : Fin 64) = Spec.od x := Fin.ext (by show 1 + 2 * x.val = x.val * 2 + 1; omega)
  rw [e0, e1]
  rfl

theorem knew_deq (b : Fin 65) (u : Fin 4) (h : Fin 2) (d : Fin 64) :
    Spec.deq (kpack V0 b u h) ((res_main_v9 V0 : S65x4x2x1.Idx → EReal) (ix4 b u h 0)) ((res_main_v10 V0 : S65x4x2x1.Idx → EReal) (ix4 b u h 0)) d
      = Spec.back (krow V0 b u h) d := by
  rw [kpack_eq, kscale_apply, kzero_apply, Spec.deq_byte]

theorem vnew_deq (b : Fin 65) (u : Fin 4) (h : Fin 2) (d : Fin 64) :
    Spec.deq (vpack V0 b u h) ((res_main_v38 V0 : S65x4x2x1.Idx → EReal) (ix4 b u h 0)) ((res_main_v39 V0 : S65x4x2x1.Idx → EReal) (ix4 b u h 0)) d
      = Spec.back (vrow V0 b u h) d := by
  rw [vpack_eq, vscale_apply, vzero_apply, Spec.deq_byte]

theorem v173_apply (b : Fin 65) (h : Fin 2) (g : Fin 8) (s : Fin 4) (t : Fin 8192) :
    (res_main_v173 V0 : S65x2x8x4x8192.Idx → EReal) (ix5 b h g s t)
      = Spec.past (query V0 b h g s) (kold V0 b h) (len V0 b) t * ((1 / 8 : ℝ) : EReal) := by
  pointwise [res_main_v173, res_main_v102, res_main_v100, res_main_v101, res_main_v143, res_main_v144, res_main_v142]
  exact Spec.past_select (query V0 b h g s) (kold V0 b h) (len V0 b) t _ _ _ (Spec.halves _ _ _ (query V0 b h g s)) Spec.ofBits_eighth Spec.ofBits_bot

theorem v174_apply (b : Fin 65) (h : Fin 2) (g : Fin 8) (s u : Fin 4) :
    (res_main_v174 V0 : S65x2x8x4x4.Idx → EReal) (ix5 b h g s u)
      = Spec.fresh (query V0 b h g s) (fun u => Spec.back (krow V0 b u h)) s u * ((1 / 8 : ℝ) : EReal) := by
  pointwise [res_main_v174, res_main_v60, res_main_v58, res_main_v59, res_main_v143, res_main_v144, res_main_v142]
  refine Spec.fresh_select (query V0 b h g s) (fun u => Spec.back (krow V0 b u h)) s u _ _ _
    ((Spec.halves (kpack V0 b u h) _ _ (query V0 b h g s)).trans ?_) Spec.ofBits_eighth Spec.ofBits_bot
  exact Finset.sum_congr rfl fun d _ => congrArg (fun y : EReal => query V0 b h g s d * y) (knew_deq V0 b u h d)

end Cert.ReferenceIdeal.AttnRes
-- ==== Proof.ReferenceIdealSoftmax.lean ====
/-
  The reference's softmax at an index: the greatest score, the exponentials, and the weights they are divided into.
-/
module

public import proofs.«01_k».proof.Proof.ReferenceIdealScores

@[expose] public section

noncomputable section

namespace Cert.ReferenceIdeal.AttnRes

open Cert.ReferenceIdeal Cert.ReferenceIdeal.Gen Cert.ReferenceIdeal.Value Cert.ReferenceIdeal.Res
open Idealize.ShloMosaic Idealize.ShloMosaic.StableHlo

/-- A maximum along the last of five axes. -/
theorem rmax {n0 n1 n2 n3 n4 : Nat} {u : Shape} (f : EReal → EReal → EReal) (hf : f = max)
    (x : (⟨5, ![n0, n1, n2, n3, n4]⟩ : Shape).Idx → EReal) (init : u.Idx → EReal)
    (h : (⟨5, ![n0, n1, n2, n3, n4]⟩ : Shape).ReducesTo [4] (⟨4, ![n0, n1, n2, n3]⟩ : Shape)) (hu : 0 < u.numel)
    (i0 : Fin n0) (i1 : Fin n1) (i2 : Fin n2) (i3 : Fin n3) :
    Host.reduce f x init h hu (ix4 i0 i1 i2 i3)
      = Finset.fold max (init (Shape.Idx.first hu)) (fun t : Fin n4 => x (ix5 i0 i1 i2 i3 t)) Finset.univ := by
  subst hf
  exact (Host.reduce_eq_fold _ x init h hu _).trans (Shape.ReducesTo.fold_fiber_r5_a4 h _ _ _ _)

variable (V0 : Valuation τ sig (Elt Ideal))

/-- The scores of the cached tokens. -/
def s173 (b : Fin 65) (h : Fin 2) (g : Fin 8) (s : Fin 4) (t : Fin 8192) : EReal := (res_main_v173 V0 : S65x2x8x4x8192.Idx → EReal) (ix5 b h g s t)

/-- The scores of the new tokens. -/
def s174 (b : Fin 65) (h : Fin 2) (g : Fin 8) (s u : Fin 4) : EReal := (res_main_v174 V0 : S65x2x8x4x4.Idx → EReal) (ix5 b h g s u)

/-- The greatest score. -/
def s178 (b : Fin 65) (h : Fin 2) (g : Fin 8) (s : Fin 4) : EReal := (res_main_v178 V0 : S65x2x8x4x1.Idx → EReal) (ix5 b h g s 0)

/-- The exponentials of the cached tokens. -/
def s181 (b : Fin 65) (h : Fin 2) (g : Fin 8) (s : Fin 4) (t : Fin 8192) : EReal := (res_main_v181 V0 : S65x2x8x4x8192.Idx → EReal) (ix5 b h g s t)

/-- The exponentials of the new tokens. -/
def s184 (b : Fin 65) (h : Fin 2) (g : Fin 8) (s u : Fin 4) : EReal := (res_main_v184 V0 : S65x2x8x4x4.Idx → EReal) (ix5 b h g s u)

/-- One over the sum of the exponentials. -/
def s190 (b : Fin 65) (h : Fin 2) (g : Fin 8) (s : Fin 4) : EReal := (res_main_v190 V0 : S65x2x8x4x1.Idx → EReal) (ix5 b h g s 0)

/-- The weights of the cached tokens. -/
def s193 (b : Fin 65) (h : Fin 2) (g : Fin 8) (s : Fin 4) (t : Fin 8192) : EReal := (res_main_v193 V0 : S65x2x8x4x8192.Idx → EReal) (ix5 b h g s t)

/-- The weights of the new tokens. -/
def s196 (b : Fin 65) (h : Fin 2) (g : Fin 8) (s u : Fin 4) : EReal := (res_main_v196 V0 : S65x2x8x4x4.Idx → EReal) (ix5 b h g s u)

theorem column (X Y : S65x2x8x4.Idx → EReal) (b : Fin 65) (h : Fin 2) (g : Fin 8) (s : Fin 4) :
    (broadcastInDim S65x2x8x4x1 ![0, 1, 2, 3] bcast_S65x2x8x4_S65x2x8x4x1_0_1_2_3 (maximumf (F := Ideal) (φ := .f32) X Y) : S65x2x8x4x1.Idx → EReal) (ix5 b h g s 0)
      = max (X (ix4 b h g s)) (Y (ix4 b h g s)) := by
  pointwise

theorem first_bot : (constant (F := Ideal) S_ .f32 0xFF800000#32 : S_.Idx → EReal) (Shape.Idx.first h_S_) = ⊥ := by
  show Ideal.ofBits .f32 4286578688#32 = ⊥
  exact Spec.ofBits_bot

theorem s178_apply (b : Fin 65) (h : Fin 2) (g : Fin 8) (s : Fin 4) :
    s178 V0 b h g s = max (Finset.fold max (⊥ : EReal) (fun t : Fin 8192 => s173 V0 b h g s t) Finset.univ)
        (Finset.fold max (⊥ : EReal) (fun u : Fin 4 => s174 V0 b h g s u) Finset.univ) := by
  unfold s178 s173 s174 res_main_v178
  generalize res_main_v173 V0 = x
  generalize res_main_v174 V0 = y
  have ex := rmax _ rfl x (constant (F := Ideal) S_ .f32 0xFF800000#32) reducesTo_S65x2x8x4x8192_S65x2x8x4_d4 h_S_ b h g s
  have ey := rmax _ rfl y (constant (F := Ideal) S_ .f32 0xFF800000#32) reducesTo_S65x2x8x4x4_S65x2x8x4_d4 h_S_ b h g s
  rw [first_bot] at ex ey
  rw [← ex, ← ey]
  generalize Host.reduce _ x _ _ _ = X
  generalize Host.reduce _ y _ _ _ = Y
  exact column X Y b h g s

theorem s181_apply (b : Fin 65) (h : Fin 2) (g : Fin 8) (s : Fin 4) (t : Fin 8192) :
    s181 V0 b h g s t = Ideal.exp (s173 V0 b h g s t - s178 V0 b h g s) := by
  unfold s181 s173 s178
  pointwise [res_main_v181]

theorem s184_apply (b : Fin 65) (h : Fin 2) (g : Fin 8) (s u : Fin 4) :
    s184 V0 b h g s u = Ideal.exp (s174 V0 b h g s u - s178 V0 b h g s) := by
  unfold s184 s174 s178
  pointwise [res_main_v184]

theorem s190_apply (b : Fin 65) (h : Fin 2) (g : Fin 8) (s : Fin 4) :
    s190 V0 b h g s = Ideal.div 1 ((∑ t, s181 V0 b h g s t) + ∑ u, s184 V0 b h g s u) := by
  unfold s190 s181 s184
  pointwise [res_main_v190]

theorem s193_apply (b : Fin 65) (h : Fin 2) (g : Fin 8) (s : Fin 4) (t : Fin 8192) :
    s193 V0 b h g s t = s181 V0 b h g s t * s190 V0 b h g s := by
  unfold s193 s181 s190
  pointwise [res_main_v193]

theorem s196_apply (b : Fin 65) (h : Fin 2) (g : Fin 8) (s u : Fin 4) :
    s196 V0 b h g s u = s184 V0 b h g s u * s190 V0 b h g s := by
  unfold s196 s184 s190
  pointwise [res_main_v196]

theorem s173_eq (b : Fin 65) (h : Fin 2) (g : Fin 8) (s : Fin 4) (t : Fin 8192) :
    s173 V0 b h g s t = Spec.past (query V0 b h g s) (kold V0 b h) (len V0 b) t * ((1 / 8 : ℝ) : EReal) := v173_apply V0 b h g s t

theorem s174_eq (b : Fin 65) (h : Fin 2) (g : Fin 8) (s u : Fin 4) :
    s174 V0 b h g s u = Spec.fresh (query V0 b h g s) (fun u => Spec.back (krow V0 b u h)) s u * ((1 / 8 : ℝ) : EReal) := v174_apply V0 b h g s u

/-- The attention of one query, as the formula. -/
def out (b : Fin 65) (h : Fin 2) (g : Fin 8) (s : Fin 4) (d : Fin 64) : EReal :=
  Spec.attend (Spec.fresh (query V0 b h g s) (fun u => Spec.back (krow V0 b u h)) s)
    (fun u => Spec.back (vrow V0 b u h) d)
    (Spec.past (query V0 b h g s) (kold V0 b h) (len V0 b)) (fun t => vold V0 b h t d)

/-- The queries, the new keys and the cached keys are finite. -/
structure Fine : Prop where
  query : ∀ b h g s d, Spec.Fin' (query V0 b h g s d)
  knew : ∀ b u h d, Spec.Fin' (Spec.back (krow V0 b u h) d)
  kold : ∀ b h t d, Spec.Fin' (kold V0 b h t d)

variable {V0}

theorem sums_eq (hf : Fine V0) (b : Fin 65) (h : Fin 2) (g : Fin 8) (s : Fin 4) (vC : Fin 8192 → EReal) (vN : Fin 4 → EReal) :
    (∑ t, vC t * s193 V0 b h g s t)
      + ∑ u, vN u * s196 V0 b h g s u
      = Spec.attend (Spec.fresh (query V0 b h g s) (fun u => Spec.back (krow V0 b u h)) s) vN
          (Spec.past (query V0 b h g s) (kold V0 b h) (len V0 b)) vC := by
  have hN : ∀ u, Spec.fresh (query V0 b h g s) (fun u => Spec.back (krow V0 b u h)) s u ≠ ⊤ :=
    Spec.fresh_ne_top (hf.query b h g s) (fun u => hf.knew b u h) s
  have hC : ∀ t, Spec.past (query V0 b h g s) (kold V0 b h) (len V0 b) t ≠ ⊤ :=
    Spec.past_ne_top (hf.query b h g s) (hf.kold b h) (len V0 b)
  have h0 : Spec.fresh (query V0 b h g s) (fun u => Spec.back (krow V0 b u h)) s 0 ≠ ⊥ :=
    Spec.fresh_zero (hf.query b h g s) (fun u => hf.knew b u h) s
  have e178 := s178_apply V0 b h g s
  simp only [s173_eq, s174_eq] at e178
  simp only [s193_apply, s196_apply, s190_apply, s181_apply, s184_apply, s173_eq, s174_eq, e178]
  generalize Spec.fresh (query V0 b h g s) (fun u => Spec.back (krow V0 b u h)) s = fN at *
  generalize Spec.past (query V0 b h g s) (kold V0 b h) (len V0 b) = fC at *
  obtain ⟨M, hM⟩ := Spec.max_real fC fN hC hN 0 h0
  rw [hM]
  have hpos : 0 < (∑ i, Softmax.W (fN i)) + ∑ i, Softmax.W (fC i) :=
    add_pos_of_pos_of_nonneg (Finset.sum_pos' (fun i _ => Softmax.W_nonneg _) ⟨0, Finset.mem_univ _, Softmax.W_pos _ h0⟩)
      (Finset.sum_nonneg fun i _ => Softmax.W_nonneg _)
  refine Eq.trans ?_ (Softmax.reference fN vN fC vC hN hC hpos M)
  exact congrArg₂ (fun y z : EReal => y + z) (Finset.sum_congr rfl fun t _ => mul_comm _ _) (Finset.sum_congr rfl fun u _ => mul_comm _ _)

end Cert.ReferenceIdeal.AttnRes
-- ==== Proof.ReferenceIdealAttnRes.lean ====
/-
  The reference's attention result, at an index, in terms of the launched arrays.
-/
module

public import proofs.«01_k».proof.Proof.ReferenceIdealSoftmax

@[expose] public section

noncomputable section

namespace Cert.ReferenceIdeal.AttnRes

open Cert.ReferenceIdeal Cert.ReferenceIdeal.Gen Cert.ReferenceIdeal.Value Cert.ReferenceIdeal.Res
open Idealize.ShloMosaic Idealize.ShloMosaic.StableHlo

section

variable {F : FTy → Type} [FloatOps F]

/-- The attention result, as the program composes it. -/
def vlast (V0 : Valuation τ sig (Elt F)) : (Proc.devRef .tc main_v211 : DevRef τ sig).ty.Contents (Elt F) :=
  truncf .bf16 (shapeCast _ (concatenate S65x4x2x8x32x2 5 [⟨S65x4x2x8x32x1, (broadcastInDim S65x4x2x8x32x1 ![0, 1, 2, 3, 4] bcast_S65x4x2x8x32_S65x4x2x8x32x1_0_1_2_3_4 (addf (transpose S65x4x2x8x32 [0, 4, 1, 3, 2] (Host.dotGeneral dot_S65x8192x2x32_S65x2x8x4x8192_S65x2x32x8x4_1_4_3_23_02_01 none (shapeCast _ (addf (mulf (shapeCast _ (sitofp .bf16 (andi (res_main_v123 V0) (broadcastInDim S65x8192x2x32 ![] bcast_S_S65x8192x2x32 (constantI S_ 32 15#32)))) shapeCasts_S65x8192x2x32_S65x8192x2x1x32) (broadcastInDim S65x8192x2x1x32 ![0, 1, 2, 3, 4] bcast_S65x8192x2x1x1_S65x8192x2x1x32_0_1_2_3_4 (res_main_v121 V0))) (broadcastInDim S65x8192x2x1x32 ![0, 1, 2, 3, 4] bcast_S65x8192x2x1x1_S65x8192x2x1x32_0_1_2_3_4 (res_main_v122 V0))) shapeCasts_S65x8192x2x1x32_S65x8192x2x32) (res_main_v193 V0)) transposes_S65x2x32x8x4_S65x4x2x8x32_0_4_1_3_2) (transpose S65x4x2x8x32 [0, 4, 1, 3, 2] (Host.dotGeneral dot_S65x4x2x32_S65x2x8x4x4_S65x2x32x8x4_1_4_3_23_02_01 none (shapeCast _ (addf (mulf (shapeCast _ (sitofp .bf16 (andi (res_main_v81 V0) (broadcastInDim S65x4x2x32 ![] bcast_S_S65x4x2x32 (constantI S_ 32 15#32)))) shapeCasts_S65x4x2x32_S65x4x2x1x32) (broadcastInDim S65x4x2x1x32 ![0, 1, 2, 3, 4] bcast_S65x4x2x1x1_S65x4x2x1x32_0_1_2_3_4 (res_main_v79 V0))) (broadcastInDim S65x4x2x1x32 ![0, 1, 2, 3, 4] bcast_S65x4x2x1x1_S65x4x2x1x32_0_1_2_3_4 (res_main_v80 V0))) shapeCasts_S65x4x2x1x32_S65x4x2x32) (res_main_v196 V0)) transposes_S65x2x32x8x4_S65x4x2x8x32_0_4_1_3_2)))⟩, ⟨S65x4x2x8x32x1, (broadcastInDim S65x4x2x8x32x1 ![0, 1, 2, 3, 4] bcast_S65x4x2x8x32_S65x4x2x8x32x1_0_1_2_3_4 (addf (transpose S65x4x2x8x32 [0, 4, 1, 3, 2] (Host.dotGeneral dot_S65x8192x2x32_S65x2x8x4x8192_S65x2x32x8x4_1_4_3_23_02_01 none (shapeCast _ (addf (mulf (shapeCast _ (sitofp .bf16 (Host.shrsi (res_main_v123 V0) (broadcastInDim S65x8192x2x32 ![] bcast_S_S65x8192x2x32 (constantI S_ 32 4#32)))) shapeCasts_S65x8192x2x32_S65x8192x2x1x32) (broadcastInDim S65x8192x2x1x32 ![0, 1, 2, 3, 4] bcast_S65x8192x2x1x1_S65x8192x2x1x32_0_1_2_3_4 (res_main_v121 V0))) (broadcastInDim S65x8192x2x1x32 ![0, 1, 2, 3, 4] bcast_S65x8192x2x1x1_S65x8192x2x1x32_0_1_2_3_4 (res_main_v122 V0))) shapeCasts_S65x8192x2x1x32_S65x8192x2x32) (res_main_v193 V0)) transposes_S65x2x32x8x4_S65x4x2x8x32_0_4_1_3_2) (transpose S65x4x2x8x32 [0, 4, 1, 3, 2] (Host.dotGeneral dot_S65x4x2x32_S65x2x8x4x4_S65x2x32x8x4_1_4_3_23_02_01 none (shapeCast _ (addf (mulf (shapeCast _ (sitofp .bf16 (Host.shrsi (res_main_v81 V0) (broadcastInDim S65x4x2x32 ![] bcast_S_S65x4x2x32 (constantI S_ 32 4#32)))) shapeCasts_S65x4x2x32_S65x4x2x1x32) (broadcastInDim S65x4x2x1x32 ![0, 1, 2, 3, 4] bcast_S65x4x2x1x1_S65x4x2x1x32_0_1_2_3_4 (res_main_v79 V0))) (broadcastInDim S65x4x2x1x32 ![0, 1, 2, 3, 4] bcast_S65x4x2x1x1_S65x4x2x1x32_0_1_2_3_4 (res_main_v80 V0))) shapeCasts_S65x4x2x1x32_S65x4x2x32) (res_main_v196 V0)) transposes_S65x2x32x8x4_S65x4x2x8x32_0_4_1_3_2)))⟩] concatenates_S65x4x2x8x32x1_S65x4x2x8x32x1_S65x4x2x8x32x2_d5) shapeCasts_S65x4x2x8x32x2_S65x4x1024) bitsLt_bf16_f32

end

variable (V0 : Valuation τ sig (Elt Ideal))

set_option maxHeartbeats 2000000 in
/-- The attention as sums over the cached and the new tokens of value times weight. -/
theorem vlast_sums (b : Fin 65) (s : Fin 4) (k : Fin 1024) :
    (vlast V0 : S65x4x1024.Idx → EReal) (ix3 b s k)
      = (∑ t : Fin 8192, vold V0 b ⟨k.val / 512, by omega⟩ t ⟨k.val % 64, by omega⟩ * s193 V0 b ⟨k.val / 512, by omega⟩ ⟨k.val / 64 % 8, by omega⟩ s t)
        + ∑ u : Fin 4, Spec.back (vrow V0 b u ⟨k.val / 512, by omega⟩) ⟨k.val % 64, by omega⟩
          * s196 V0 b ⟨k.val / 512, by omega⟩ ⟨k.val / 64 % 8, by omega⟩ s u := by
  pointwise [vlast, res_main_v81, res_main_v79, res_main_v80, res_main_v121, res_main_v122, res_main_v123]
  by_cases hk : k.val % 2 < 1
  · have hd : (⟨k.val % 64, by omega⟩ : Fin 64).val % 2 < 1 := by show k.val % 64 % 2 < 1; omega
    have hj : (⟨k.val / 2 % 32, by omega⟩ : Fin 32).val = (⟨k.val % 64, by omega⟩ : Fin 64).val / 2 := by show k.val / 2 % 32 = k.val % 64 / 2; omega
    refine (dif_pos hk).trans ?_
    refine congrArg₂ (fun y z : EReal => y + z) (Finset.sum_congr rfl fun t _ => ?_) (Finset.sum_congr rfl fun u _ => ?_)
    · exact Spec.term_lo (fun j => (V0 (Proc.devRef .tc main_arg6) : S65x8192x2x32.Idx → BitVec 8) (ix4 b t ⟨k.val / 512, by omega⟩ j)) _ _ _ _ _ hd hj
    · exact (Spec.term_lo (vpack V0 b u ⟨k.val / 512, by omega⟩) _ _ _ _ _ hd hj).trans
        (congrArg (fun y : EReal => y * s196 V0 b ⟨k.val / 512, by omega⟩ ⟨k.val / 64 % 8, by omega⟩ s u) (vnew_deq V0 b u _ _))
  · have hd : ¬ (⟨k.val % 64, by omega⟩ : Fin 64).val % 2 < 1 := by show ¬ k.val % 64 % 2 < 1; omega
    have hj : (⟨k.val / 2 % 32, by omega⟩ : Fin 32).val = (⟨k.val % 64, by omega⟩ : Fin 64).val / 2 := by show k.val / 2 % 32 = k.val % 64 / 2; omega
    refine (dif_neg hk).trans ?_
    refine congrArg₂ (fun y z : EReal => y + z) (Finset.sum_congr rfl fun t _ => ?_) (Finset.sum_congr rfl fun u _ => ?_)
    · exact Spec.term_hi (fun j => (V0 (Proc.devRef .tc main_arg6) : S65x8192x2x32.Idx → BitVec 8) (ix4 b t ⟨k.val / 512, by omega⟩ j)) _ _ _ _ _ hd hj
    · exact (Spec.term_hi (vpack V0 b u ⟨k.val / 512, by omega⟩) _ _ _ _ _ hd hj).trans
        (congrArg (fun y : EReal => y * s196 V0 b ⟨k.val / 512, by omega⟩ ⟨k.val / 64 % 8, by omega⟩ s u) (vnew_deq V0 b u _ _))

variable {V0}

theorem vlast_apply (hf : Fine V0) (b : Fin 65) (s : Fin 4) (k : Fin 1024) :
    (vlast V0 : S65x4x1024.Idx → EReal) (ix3 b s k)
      = out V0 b ⟨k.val / 512, by omega⟩ ⟨k.val / 64 % 8, by omega⟩ s ⟨k.val % 64, by omega⟩ :=
  (vlast_sums V0 b s k).trans (sums_eq hf b ⟨k.val / 512, by omega⟩ ⟨k.val / 64 % 8, by omega⟩ s
    (fun t => vold V0 b ⟨k.val / 512, by omega⟩ t ⟨k.val % 64, by omega⟩)
    (fun u => Spec.back (vrow V0 b u ⟨k.val / 512, by omega⟩) ⟨k.val % 64, by omega⟩))

end Cert.ReferenceIdeal.AttnRes
-- ==== Proof.Algebraic.lean ====
/-
  The value claim: from launches that agree on the ten arguments, the kernel program's seven results are the reference's.
  Each pair is compared at an index, where both are the same formula of the launched arrays.
-/
module

public import proofs.«01_k».proof.Proof.Frames
public import proofs.«01_k».proof.Proof.KernelIdealAttnRes
public import proofs.«01_k».proof.Proof.ReferenceIdealAttnRes

@[expose] public section

set_option maxRecDepth 16384

noncomputable section

namespace Cert.Claims

open Idealize.ShloMosaic Idealize.ShloMosaic.TcCoe Idealize.ShloMosaic.StableHlo Idealize.SL.Sem

theorem ext3 {α : Type} {n0 n1 n2 : Nat} {x y : (⟨3, ![n0, n1, n2]⟩ : Shape).Idx → α} (h : ∀ a b c, x (ix3 a b c) = y (ix3 a b c)) : x = y :=
  funext fun j => by rw [ix3_eta j |>.symm]; exact h _ _ _

theorem ext4 {α : Type} {n0 n1 n2 n3 : Nat} {x y : (⟨4, ![n0, n1, n2, n3]⟩ : Shape).Idx → α} (h : ∀ a b c d, x (ix4 a b c d) = y (ix4 a b c d)) : x = y :=
  funext fun j => by rw [ix4_eta j |>.symm]; exact h _ _ _ _

theorem ext4_one {α : Type} {n0 n1 n2 : Nat} {x y : (⟨4, ![n0, n1, n2, 1]⟩ : Shape).Idx → α} (h : ∀ a b c, x (ix4 a b c 0) = y (ix4 a b c 0)) : x = y :=
  ext4 fun a b c d => by rw [Subsingleton.elim d 0]; exact h a b c

theorem deq_congr {a a' : Fin 32 → BitVec 8} {s s' z z' : EReal} (ha : a = a') (hs : s = s') (hz : z = z') (d : Fin 64) :
    Spec.deq a s z d = Spec.deq a' s' z' d := by rw [ha, hs, hz]

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two launches hold the same ten arguments. -/
def Agree : Prop := ∀ c : Dev Cert.KernelIdeal.nD,
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

variable {m m'} (hag : Agree m m') (c : Dev Cert.KernelIdeal.nD)

include hag

theorem query_eq : Cert.ReferenceIdeal.AttnRes.query (launchContents m' c) = Cert.KernelIdeal.AttnHost.query m c := by
  funext b h g s d
  exact congrFun (hag c).1 (ix4 b s ⟨h.val * 8 + g.val, by omega⟩ d)

theorem krow_eq : Cert.ReferenceIdeal.Res.krow (launchContents m' c) = Cert.KernelIdeal.Res.krow m c := by
  funext b s h d
  exact congrFun (hag c).2.1 (ix4 b s h d)

theorem vrow_eq : Cert.ReferenceIdeal.Res.vrow (launchContents m' c) = Cert.KernelIdeal.Res.vrow m c := by
  funext b s h d
  exact congrFun (hag c).2.2.1 (ix4 b s h d)

theorem kold_eq : Cert.ReferenceIdeal.AttnRes.kold (launchContents m' c) = Cert.KernelIdeal.AttnRes.kold m c := by
  funext b h t d
  have e3 := fun j : Fin 32 => congrFun (hag c).2.2.2.1 (ix4 b t h j)
  have e4 := congrFun (hag c).2.2.2.2.1 (ix4 b t h 0)
  have e5 := congrFun (hag c).2.2.2.2.2.1 (ix4 b t h 0)
  exact deq_congr (funext e3) e4 e5 d

theorem vold_eq : Cert.ReferenceIdeal.AttnRes.vold (launchContents m' c) = Cert.KernelIdeal.AttnRes.vold m c := by
  funext b h t d
  have e6 := fun j : Fin 32 => congrFun (hag c).2.2.2.2.2.2.1 (ix4 b t h j)
  have e7 := congrFun (hag c).2.2.2.2.2.2.2.1 (ix4 b t h 0)
  have e8 := congrFun (hag c).2.2.2.2.2.2.2.2.1 (ix4 b t h 0)
  exact deq_congr (funext e6) e7 e8 d

theorem len_eq : Cert.ReferenceIdeal.AttnRes.len (launchContents m' c) = Cert.KernelIdeal.AttnRes.len m c := by
  funext b
  exact congrFun (hag c).2.2.2.2.2.2.2.2.2 (ix1 b)

theorem out_eq : Cert.ReferenceIdeal.AttnRes.out (launchContents m' c) = Cert.KernelIdeal.AttnRes.out m c := by
  unfold Cert.ReferenceIdeal.AttnRes.out Cert.KernelIdeal.AttnRes.out
  rw [query_eq hag c, krow_eq hag c, vrow_eq hag c, kold_eq hag c, vold_eq hag c, len_eq hag c]

theorem fine_eq (hf : Cert.KernelIdeal.AttnRes.Fine m) : Cert.ReferenceIdeal.AttnRes.Fine (launchContents m' c) where
  query := fun b h g s d => by
    rw [query_eq hag c]
    exact Cert.KernelIdeal.AttnRes.query_fin hf c b h g s d
  knew := fun b u h d => by
    rw [krow_eq hag c]
    exact Cert.KernelIdeal.AttnRes.knew_fin hf c b h u d
  kold := fun b h t d => by
    rw [kold_eq hag c]
    exact Cert.KernelIdeal.AttnRes.kold_fin hf c b h t d

variable (hs : Cert.KernelIdeal.Run.Short (F := Ideal) m)

theorem res0 (hf : Cert.KernelIdeal.AttnRes.Fine m) :
    (Cert.ReferenceIdeal.AttnRes.vlast (launchContents m' c) : Cert.ReferenceIdeal.S65x4x1024.Idx → EReal)
      = (Cert.KernelIdeal.Gen.V9 m (Cert.KernelIdeal.Run.outs m hs) c (Proc.devRef .tc Cert.KernelIdeal.main_v35) : Cert.KernelIdeal.S65x4x1024.Idx → EReal) :=
  ext3 fun b s k => ((Cert.ReferenceIdeal.AttnRes.vlast_apply (fine_eq hag c hf) b s k).trans
    (by rw [out_eq hag c])).trans (Cert.KernelIdeal.AttnRes.v35_apply hs hf c b s k).symm

theorem res1 : (Cert.ReferenceIdeal.Res.kbyte (launchContents m' c) : Cert.ReferenceIdeal.S65x4x2x32.Idx → BitVec 8)
      = (Cert.KernelIdeal.Gen.V9 m (Cert.KernelIdeal.Run.outs m hs) c (Proc.devRef .tc Cert.KernelIdeal.main_v36) : Cert.KernelIdeal.S65x4x2x32.Idx → BitVec 8) :=
  ext4 fun b s h d => ((Cert.ReferenceIdeal.Res.kbyte_apply _ b s h d).trans (by rw [krow_eq hag c])).trans
    (Cert.KernelIdeal.Res.v36_apply m hs c b s h d).symm

theorem res2 : (Cert.ReferenceIdeal.Value.res_main_v9 (launchContents m' c) : Cert.ReferenceIdeal.S65x4x2x1.Idx → EReal)
      = (Cert.KernelIdeal.Gen.V9 m (Cert.KernelIdeal.Run.outs m hs) c (Proc.devRef .tc Cert.KernelIdeal.main_v38) : Cert.KernelIdeal.S65x4x2x1.Idx → EReal) :=
  ext4_one fun b s h => ((Cert.ReferenceIdeal.Res.kscale_apply _ b s h).trans (by rw [krow_eq hag c])).trans
    (Cert.KernelIdeal.Res.v38_apply m hs c b s h).symm

theorem res3 : (Cert.ReferenceIdeal.Value.res_main_v10 (launchContents m' c) : Cert.ReferenceIdeal.S65x4x2x1.Idx → EReal)
      = (Cert.KernelIdeal.Gen.V9 m (Cert.KernelIdeal.Run.outs m hs) c (Proc.devRef .tc Cert.KernelIdeal.main_v40) : Cert.KernelIdeal.S65x4x2x1.Idx → EReal) :=
  ext4_one fun b s h => ((Cert.ReferenceIdeal.Res.kzero_apply _ b s h).trans (by rw [krow_eq hag c])).trans
    (Cert.KernelIdeal.Res.v40_apply m hs c b s h).symm

theorem res4 : (Cert.ReferenceIdeal.Res.vbyte (launchContents m' c) : Cert.ReferenceIdeal.S65x4x2x32.Idx → BitVec 8)
      = (Cert.KernelIdeal.Gen.V9 m (Cert.KernelIdeal.Run.outs m hs) c (Proc.devRef .tc Cert.KernelIdeal.main_v41) : Cert.KernelIdeal.S65x4x2x32.Idx → BitVec 8) :=
  ext4 fun b s h d => ((Cert.ReferenceIdeal.Res.vbyte_apply _ b s h d).trans (by rw [vrow_eq hag c])).trans
    (Cert.KernelIdeal.Res.v41_apply m hs c b s h d).symm

theorem res5 : (Cert.ReferenceIdeal.Value.res_main_v38 (launchContents m' c) : Cert.ReferenceIdeal.S65x4x2x1.Idx → EReal)
      = (Cert.KernelIdeal.Gen.V9 m (Cert.KernelIdeal.Run.outs m hs) c (Proc.devRef .tc Cert.KernelIdeal.main_v43) : Cert.KernelIdeal.S65x4x2x1.Idx → EReal) :=
  ext4_one fun b s h => ((Cert.ReferenceIdeal.Res.vscale_apply _ b s h).trans (by rw [vrow_eq hag c])).trans
    (Cert.KernelIdeal.Res.v43_apply m hs c b s h).symm

theorem res6 : (Cert.ReferenceIdeal.Value.res_main_v39 (launchContents m' c) : Cert.ReferenceIdeal.S65x4x2x1.Idx → EReal)
      = (Cert.KernelIdeal.Gen.V9 m (Cert.KernelIdeal.Run.outs m hs) c (Proc.devRef .tc Cert.KernelIdeal.main_v45) : Cert.KernelIdeal.S65x4x2x1.Idx → EReal) :=
  ext4_one fun b s h => ((Cert.ReferenceIdeal.Res.vzero_apply _ b s h).trans (by rw [vrow_eq hag c])).trans
    (Cert.KernelIdeal.Res.v45_apply m hs c b s h).symm

end

/-- The finiteness of the queries, the new keys and the cached keys' scales and zeros, off `finite_keys`. -/
theorem fine_of_finite {m : (ℓ : Loc Cert.KernelIdeal.nD Cert.KernelIdeal.τ Cert.KernelIdeal.sig) → Buf (Elt Ideal) ℓ}
    (hpre : Cert.Pre_KernelIdeal_finite_keys m) : Cert.KernelIdeal.AttnRes.Fine m where
  x := fun c i => (Cert.Pre.finite_of_fn (hpre c)).2.1 i
  k := fun c i => (Cert.Pre.finite_of_fn (hpre c)).2.2.1 i
  scale := fun c i => (Cert.Pre.finite_of_fn (hpre c)).2.2.2.1 i
  zero := fun c i => (Cert.Pre.finite_of_fn (hpre c)).2.2.2.2 i

theorem algebraic : Cert.algebraic_KernelIdeal_ReferenceIdeal_pre_finite_keys := fun m g m' g' hpre hagree => by
  have hs := short_of_finite hpre
  have hf := fine_of_finite hpre
  have hag : Agree m m' := hagree
  refine ⟨fun c => Cert.KernelIdeal.Gen.V9 m (Cert.KernelIdeal.Run.outs m hs) c (Proc.devRef .tc Cert.KernelIdeal.main_v35),
    fun c => Cert.KernelIdeal.Gen.V9 m (Cert.KernelIdeal.Run.outs m hs) c (Proc.devRef .tc Cert.KernelIdeal.main_v36),
    fun c => Cert.KernelIdeal.Gen.V9 m (Cert.KernelIdeal.Run.outs m hs) c (Proc.devRef .tc Cert.KernelIdeal.main_v38),
    fun c => Cert.KernelIdeal.Gen.V9 m (Cert.KernelIdeal.Run.outs m hs) c (Proc.devRef .tc Cert.KernelIdeal.main_v40),
    fun c => Cert.KernelIdeal.Gen.V9 m (Cert.KernelIdeal.Run.outs m hs) c (Proc.devRef .tc Cert.KernelIdeal.main_v41),
    fun c => Cert.KernelIdeal.Gen.V9 m (Cert.KernelIdeal.Run.outs m hs) c (Proc.devRef .tc Cert.KernelIdeal.main_v43),
    fun c => Cert.KernelIdeal.Gen.V9 m (Cert.KernelIdeal.Run.outs m hs) c (Proc.devRef .tc Cert.KernelIdeal.main_v45), ?_, ?_⟩
  · refine (θ_run Cert.KernelIdeal.defs _ _).mono (fun r hr c => ?_) (Cert.KernelIdeal.Run.run m hs g)
    exact ⟨hr.1 c (Proc.devRef .tc Cert.KernelIdeal.main_v35) (Finset.mem_filter.mpr ⟨StableHlo.devRef_mem_tcRefs Cert.KernelIdeal.main_v35, by decide⟩),
      hr.1 c (Proc.devRef .tc Cert.KernelIdeal.main_v36) (Finset.mem_filter.mpr ⟨StableHlo.devRef_mem_tcRefs Cert.KernelIdeal.main_v36, by decide⟩),
      hr.1 c (Proc.devRef .tc Cert.KernelIdeal.main_v38) (Finset.mem_filter.mpr ⟨StableHlo.devRef_mem_tcRefs Cert.KernelIdeal.main_v38, by decide⟩),
      hr.1 c (Proc.devRef .tc Cert.KernelIdeal.main_v40) (Finset.mem_filter.mpr ⟨StableHlo.devRef_mem_tcRefs Cert.KernelIdeal.main_v40, by decide⟩),
      hr.1 c (Proc.devRef .tc Cert.KernelIdeal.main_v41) (Finset.mem_filter.mpr ⟨StableHlo.devRef_mem_tcRefs Cert.KernelIdeal.main_v41, by decide⟩),
      hr.1 c (Proc.devRef .tc Cert.KernelIdeal.main_v43) (Finset.mem_filter.mpr ⟨StableHlo.devRef_mem_tcRefs Cert.KernelIdeal.main_v43, by decide⟩),
      hr.1 c (Proc.devRef .tc Cert.KernelIdeal.main_v45) (Finset.mem_filter.mpr ⟨StableHlo.devRef_mem_tcRefs Cert.KernelIdeal.main_v45, by decide⟩),
      Cert.KernelIdeal.Run.args_eq hs hr.1 c⟩
  · refine (θ_run Cert.ReferenceIdeal.defs _ _).mono (fun r h c => ?_) (Cert.ReferenceIdeal.Value.run (F := Ideal) m' g')
    obtain ⟨h0, h1, h2, h3, h4, h5, h6, hargs⟩ := h c
    exact ⟨h0.trans (res0 hag c hs hf), h1.trans (res1 hag c hs), h2.trans (res2 hag c hs), h3.trans (res3 hag c hs),
      h4.trans (res4 hag c hs), h5.trans (res5 hag c hs), h6.trans (res6 hag c hs), hargs⟩

end Cert.Claims

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_short_cache
public import proofs.«01_k».proof.Proof.Gen.Pre_finite_keys
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_short_cache.Gen.facts,
    Cert.Pre_finite_keys.Gen.facts, Claims.frame_p, Claims.frame_pi, Claims.frame_pi_finite, Claims.frame_ri,
    Claims.frame_ri_finite, Claims.preserves, Claims.algebraic⟩

end Cert.Proof

end
